-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v3)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v3) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v19) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v2_0)) (v1 : (c : Dev Cert.OutIdeal.nD) → Buf (Elt Ideal) ((c.tc : Thread Cert.OutIdeal.nD Cert.OutIdeal.τ).loc Cert.OutIdeal.main_v2_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2_0) = v0 c
          ∧ r.2.mem ((c.tc : Thread Cert.OutIdeal.nD Cert.OutIdeal.τ).loc Cert.OutIdeal.main_v2_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_v16) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)) →
    ∃ (v0 : (c : Dev Cert.MergeIdeal.nD) → Buf (Elt Ideal) ((c.tc : Thread Cert.MergeIdeal.nD Cert.MergeIdeal.τ).loc Cert.MergeIdeal.main_v7)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v7) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v52) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)) →
    ∃ (v0 : (c : Dev Cert.InIdeal.nD) → Buf (Elt Ideal) ((c.tc : Thread Cert.InIdeal.nD Cert.InIdeal.τ).loc Cert.InIdeal.main_v10_0)) (v1 : (c : Dev Cert.InIdeal.nD) → Buf (Elt Ideal) ((c.tc : Thread Cert.InIdeal.nD Cert.InIdeal.τ).loc Cert.InIdeal.main_v10_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v10_0) = v0 c
          ∧ r.2.mem ((c.tc : Thread Cert.InIdeal.nD Cert.InIdeal.τ).loc Cert.InIdeal.main_v10_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v22) = v0 c
          ∧ r.2.mem ((c.tc : Thread Cert.InRefIdeal.nD Cert.InRefIdeal.τ).loc Cert.InRefIdeal.main_v23) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)
      ∧ m' ((c.tc : Thread Cert.MixRefIdeal.nD Cert.MixRefIdeal.τ).loc Cert.MixRefIdeal.main_arg13) = m ((c.tc : Thread Cert.MixIdeal.nD Cert.MixIdeal.τ).loc Cert.MixIdeal.main_arg13)) →
    ∃ (v0 : (c : Dev Cert.MixIdeal.nD) → Buf (Elt Ideal) ((c.tc : Thread Cert.MixIdeal.nD Cert.MixIdeal.τ).loc Cert.MixIdeal.main_v0_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0_2) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v48) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
          ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpRefIdeal : Cert.MlpRefIdeal.Facts) (hOut : Cert.Out.Facts) (hOutIdeal : Cert.OutIdeal.Facts) (hOutRefIdeal : Cert.OutRefIdeal.Facts) (hMerge : Cert.Merge.Facts) (hMergeIdeal : Cert.MergeIdeal.Facts) (hMergeRefIdeal : Cert.MergeRefIdeal.Facts) (hIn : Cert.In.Facts) (hInIdeal : Cert.InIdeal.Facts) (hInRefIdeal : Cert.InRefIdeal.Facts) (hMix : Cert.Mix.Facts) (hMixIdeal : Cert.MixIdeal.Facts) (hMixRefIdeal : Cert.MixRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mlp (hMlp := hMlp)
    ∧ quiescent_MlpIdeal (hMlpIdeal := hMlpIdeal)
    ∧ quiescent_MlpRefIdeal (hMlpRefIdeal := hMlpRefIdeal)
    ∧ quiescent_Out (hOut := hOut)
    ∧ quiescent_OutIdeal (hOutIdeal := hOutIdeal)
    ∧ quiescent_OutRefIdeal (hOutRefIdeal := hOutRefIdeal)
    ∧ quiescent_Merge (hMerge := hMerge)
    ∧ quiescent_MergeIdeal (hMergeIdeal := hMergeIdeal)
    ∧ quiescent_MergeRefIdeal (hMergeRefIdeal := hMergeRefIdeal)
    ∧ quiescent_In (hIn := hIn)
    ∧ quiescent_InIdeal (hInIdeal := hInIdeal)
    ∧ quiescent_InRefIdeal (hInRefIdeal := hInRefIdeal)
    ∧ quiescent_Mix (hMix := hMix)
    ∧ quiescent_MixIdeal (hMixIdeal := hMixIdeal)
    ∧ quiescent_MixRefIdeal (hMixRefIdeal := hMixRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Mlp_MlpIdeal
    ∧ algebraic_MlpIdeal_MlpRefIdeal (hMlpIdeal := hMlpIdeal) (hMlpRefIdeal := hMlpRefIdeal)
    ∧ preserves_Out_OutIdeal
    ∧ algebraic_OutIdeal_OutRefIdeal (hOutIdeal := hOutIdeal) (hOutRefIdeal := hOutRefIdeal)
    ∧ preserves_Merge_MergeIdeal
    ∧ algebraic_MergeIdeal_MergeRefIdeal (hMergeIdeal := hMergeIdeal) (hMergeRefIdeal := hMergeRefIdeal)
    ∧ preserves_In_InIdeal
    ∧ algebraic_InIdeal_InRefIdeal (hInIdeal := hInIdeal) (hInRefIdeal := hInRefIdeal)
    ∧ preserves_Mix_MixIdeal
    ∧ algebraic_MixIdeal_MixRefIdeal (hMixIdeal := hMixIdeal) (hMixRefIdeal := hMixRefIdeal)
-- ==== Pre_finite.lean ====
abbrev S32768x1536 : Shape := ⟨2, ![32768, 1536]⟩
abbrev S32768x128 : Shape := ⟨2, ![32768, 128]⟩
abbrev S_ : Shape := ⟨0, ![]⟩

class Facts : Prop where
  bcast_S_S32768x1536 : S_.BroadcastsInDim S32768x1536 (![] : Fin 0 → Fin S32768x1536.rank)
  reducesTo_S32768x1536_S_d0_1 : S32768x1536.ReducesTo [0, 1] S_
  h_S_ : 0 < S_.numel
  bcast_S_S32768x128 : S_.BroadcastsInDim S32768x128 (![] : Fin 0 → Fin S32768x128.rank)
  reducesTo_S32768x128_S_d0_1 : S32768x128.ReducesTo [0, 1] S_

variable [Facts]

def fn {F : FTy → Type} [FloatOps F] (main_arg0 : FVec F S32768x1536 .f32) (main_arg1 : FVec F S32768x128 .f32) : IVec S_ 1 :=
  let main_v0 : FVec F S32768x1536 .f32 := Host.absf main_arg0
  let main_cst : FVec F S_ .f32 := constant S_ .f32 0x7F800000#32
  let main_v1 : FVec F S32768x1536 .f32 := broadcastInDim S32768x1536 ![] bcast_S_S32768x1536 main_cst
  let main_v2 : IVec S32768x1536 1 := cmpf .olt main_v0 main_v1
  let main_c : IVec S_ 1 := constantI S_ 1 1#1
  let main_v3 : IVec S_ 1 := (fun x v => Host.reduce IntOp.andi x v reducesTo_S32768x1536_S_d0_1 h_S_) main_v2 main_c
  let main_v4 : FVec F S32768x128 .f32 := Host.absf main_arg1
  let main_cst_0 : FVec F S_ .f32 := constant S_ .f32 0x7F800000#32
  let main_v5 : FVec F S32768x128 .f32 := broadcastInDim S32768x128 ![] bcast_S_S32768x128 main_cst_0
  let main_v6 : IVec S32768x128 1 := cmpf .olt main_v4 main_v5
  let main_c_1 : IVec S_ 1 := constantI S_ 1 1#1
  let main_v7 : IVec S_ 1 := (fun x v => Host.reduce IntOp.andi x v reducesTo_S32768x128_S_d0_1 h_S_) main_v6 main_c_1
  let main_v8 : IVec S_ 1 := andi main_v3 main_v7
  main_v8
-- ==== Kernel.lean ====
abbrev S32768x1536 : Shape := ⟨2, ![32768, 1536]⟩
abbrev S32768x128 : Shape := ⟨2, ![32768, 128]⟩
abbrev S128x32768 : Shape := ⟨2, ![128, 32768]⟩
abbrev S32768x512 : Shape := ⟨2, ![32768, 512]⟩
abbrev S256x1536 : Shape := ⟨2, ![256, 1536]⟩
abbrev S256x128 : Shape := ⟨2, ![256, 128]⟩
abbrev S128x256 : Shape := ⟨2, ![128, 256]⟩
abbrev S256x512 : Shape := ⟨2, ![256, 512]⟩
abbrev S2x4x128x128 : Shape := ⟨4, ![2, 4, 128, 128]⟩
abbrev S128x1 : Shape := ⟨2, ![128, 1]⟩
abbrev S128x128 : Shape := ⟨2, ![128, 128]⟩
abbrev S1x1x128x128 : Shape := ⟨4, ![1, 1, 128, 128]⟩
abbrev S1x128 : Shape := ⟨2, ![1, 128]⟩
abbrev S1x1 : Shape := ⟨2, ![1, 1]⟩
abbrev S64x128 : Shape := ⟨2, ![64, 128]⟩
abbrev S64x64 : Shape := ⟨2, ![64, 64]⟩
abbrev S128x64 : Shape := ⟨2, ![128, 64]⟩

abbrev nBuf : Space → Nat
  | .hbm => 5
  | .vmem => 17
  | .smem => 0
  | _ => 0

abbrev bufTy : (tb : Table) → Fin (tcTables nBuf tb) → BufTy
  | .hbm, ⟨0, _⟩ => ⟨S32768x1536, .f32⟩
  | .hbm, ⟨1, _⟩ => ⟨S32768x128, .f32⟩
  | .hbm, ⟨2, _⟩ => ⟨S128x32768, .f32⟩
  | .hbm, ⟨3, _⟩ => ⟨S32768x512, .f32⟩
  | .hbm, ⟨4, _⟩ => ⟨S32768x512, .f32⟩
  | .local _ .vmem, ⟨0, _⟩ => ⟨S256x1536, .f32⟩
  | .local _ .vmem, ⟨1, _⟩ => ⟨S256x1536, .f32⟩
  | .local _ .vmem, ⟨2, _⟩ => ⟨S256x128, .f32⟩
  | .local _ .vmem, ⟨3, _⟩ => ⟨S256x128, .f32⟩
  | .local _ .vmem, ⟨4, _⟩ => ⟨S128x256, .f32⟩
  | .local _ .vmem, ⟨5, _⟩ => ⟨S128x256, .f32⟩
  | .local _ .vmem, ⟨6, _⟩ => ⟨S256x1536, .f32⟩
  | .local _ .vmem, ⟨7, _⟩ => ⟨S256x1536, .f32⟩
  | .local _ .vmem, ⟨8, _⟩ => ⟨S256x128, .f32⟩
  | .local _ .vmem, ⟨9, _⟩ => ⟨S256x128, .f32⟩
  | .local _ .vmem, ⟨10, _⟩ => ⟨S128x256, .f32⟩
  | .local _ .vmem, ⟨11, _⟩ => ⟨S128x256, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S2x4x128x128, .f32⟩
  | _, _ => ⟨S32768x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![c0_i32.toNat, v3.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S32768x1536 : Shape := ⟨2, ![32768, 1536]⟩
abbrev S32768x128 : Shape := ⟨2, ![32768, 128]⟩
abbrev S8x4096x3x4x128 : Shape := ⟨5, ![8, 4096, 3, 4, 128]⟩
abbrev S32768x16 : Shape := ⟨2, ![32768, 16]⟩
abbrev S8x4096x2x2x4 : Shape := ⟨5, ![8, 4096, 2, 2, 4]⟩
abbrev S1x8x4096x3x4x128 : Shape := ⟨6, ![1, 8, 4096, 3, 4, 128]⟩
abbrev S2x8x4096x3x4x128 : Shape := ⟨6, ![2, 8, 4096, 3, 4, 128]⟩
abbrev S8x4096x1x1x4 : Shape := ⟨5, ![8, 4096, 1, 1, 4]⟩
abbrev S8x4096x4 : Shape := ⟨3, ![8, 4096, 4]⟩
abbrev S1x8x4096x4 : Shape := ⟨4, ![1, 8, 4096, 4]⟩
abbrev S2x8x4096x4 : Shape := ⟨4, ![2, 8, 4096, 4]⟩
abbrev S2x8x64x64x4 : Shape := ⟨5, ![2, 8, 64, 64, 4]⟩
abbrev S2x8x64x63x4 : Shape := ⟨5, ![2, 8, 64, 63, 4]⟩
abbrev S_ : Shape := ⟨0, ![]⟩
abbrev S4096x2x8x3x4x128 : Shape := ⟨6, ![4096, 2, 8, 3, 4, 128]⟩
abbrev S4096x2x8x4 : Shape := ⟨4, ![4096, 2, 8, 4]⟩
abbrev S2x8x4x128x128 : Shape := ⟨5, ![2, 8, 4, 128, 128]⟩
abbrev S4096x2x8x4x128 : Shape := ⟨5, ![4096, 2, 8, 4, 128]⟩
abbrev S1x2x8x3x4x128 : Shape := ⟨6, ![1, 2, 8, 3, 4, 128]⟩
abbrev S2x8x3x4x128 : Shape := ⟨5, ![2, 8, 3, 4, 128]⟩
abbrev S1x2x8x4 : Shape := ⟨4, ![1, 2, 8, 4]⟩
abbrev S2x8x4 : Shape := ⟨3, ![2, 8, 4]⟩
abbrev S2x8x1x4x128 : Shape := ⟨5, ![2, 8, 1, 4, 128]⟩
abbrev S2x8x4x128 : Shape := ⟨4, ![2, 8, 4, 128]⟩
abbrev S2x8x4x1x1 : Shape := ⟨5, ![2, 8, 4, 1, 1]⟩
abbrev S2x8x4x128x1 : Shape := ⟨5, ![2, 8, 4, 128, 1]⟩
abbrev S2x8x4x1x128 : Shape := ⟨5, ![2, 8, 4, 1, 128]⟩
abbrev S1x2x8x4x128 : Shape := ⟨5, ![1, 2, 8, 4, 128]⟩
abbrev S2x8x4096x4x128 : Shape := ⟨5, ![2, 8, 4096, 4, 128]⟩
abbrev S1x8x4096x4x128 : Shape := ⟨5, ![1, 8, 4096, 4, 128]⟩
abbrev S8x4096x4x128 : Shape := ⟨4, ![8, 4096, 4, 128]⟩
abbrev S32768x512 : Shape := ⟨2, ![32768, 512]⟩

abbrev nBuf : Space → Nat
  | .hbm => 111
  | .vmem => 0
  | .smem => 0
  | _ => 0

abbrev bufTy : (tb : Table) → Fin (tcTables nBuf tb) → BufTy
  | .hbm, ⟨0, _⟩ => ⟨S32768x1536, .f32⟩
  | .hbm, ⟨1, _⟩ => ⟨S32768x128, .f32⟩
  | .hbm, ⟨2, _⟩ => ⟨S8x4096x3x4x128, .f32⟩
  | .hbm, ⟨3, _⟩ => ⟨S32768x16, .f32⟩
  | .hbm, ⟨4, _⟩ => ⟨S8x4096x2x2x4, .f32⟩
  | .hbm, ⟨5, _⟩ => ⟨S8x4096x3x4x128, .f32⟩
  | .hbm, ⟨6, _⟩ => ⟨S1x8x4096x3x4x128, .f32⟩
  | .hbm, ⟨7, _⟩ => ⟨S1x8x4096x3x4x128, .f32⟩
  | .hbm, ⟨8, _⟩ => ⟨S2x8x4096x3x4x128, .f32⟩
  | .hbm, ⟨9, _⟩ => ⟨S8x4096x1x1x4, .f32⟩
  | .hbm, ⟨10, _⟩ => ⟨S8x4096x4, .f32⟩
  | .hbm, ⟨11, _⟩ => ⟨S8x4096x1x1x4, .f32⟩
  | .hbm, ⟨12, _⟩ => ⟨S8x4096x4, .f32⟩
  | .hbm, ⟨13, _⟩ => ⟨S8x4096x4, .f32⟩
  | .hbm, ⟨14, _⟩ => ⟨S1x8x4096x4, .f32⟩
  | .hbm, ⟨15, _⟩ => ⟨S1x8x4096x4, .f32⟩
  | .hbm, ⟨16, _⟩ => ⟨S2x8x4096x4, .f32⟩
  | .hbm, ⟨17, _⟩ => ⟨S8x4096x1x1x4, .f32⟩
  | .hbm, ⟨18, _⟩ => ⟨S8x4096x4, .f32⟩
  | .hbm, ⟨19, _⟩ => ⟨S8x4096x1x1x4, .f32⟩
  | .hbm, ⟨20, _⟩ => ⟨S8x4096x4, .f32⟩
  | .hbm, ⟨21, _⟩ => ⟨S8x4096x4, .f32⟩
  | .hbm, ⟨22, _⟩ => ⟨S1x8x4096x4, .f32⟩
  | .hbm, ⟨23, _⟩ => ⟨S1x8x4096x4, .f32⟩
  | .hbm, ⟨24, _⟩ => ⟨S2x8x4096x4, .f32⟩
  | .hbm, ⟨25, _⟩ => ⟨S2x8x64x64x4, .f32⟩
  | .hbm, ⟨26, _⟩ => ⟨S2x8x64x63x4, .f32⟩
  | .hbm, ⟨27, _⟩ => ⟨S_, .i32⟩
  | .hbm, ⟨28, _⟩ => ⟨S_, .f32⟩
  | .hbm, ⟨29, _⟩ => ⟨S2x8x64x64x4, .f32⟩
  | .hbm, ⟨30, _⟩ => ⟨S2x8x64x64x4, .f32⟩
  | .hbm, ⟨31, _⟩ => ⟨S2x8x4096x4, .f32⟩
  | .hbm, ⟨32, _⟩ => ⟨S4096x2x8x3x4x128, .f32⟩
  | .hbm, ⟨33, _⟩ => ⟨S4096x2x8x4, .f32⟩
  | .hbm, ⟨34, _⟩ => ⟨S4096x2x8x4, .f32⟩
  | .hbm, ⟨35, _⟩ => ⟨S_, .f32⟩
  | .hbm, ⟨36, _⟩ => ⟨S2x8x4x128x128, .f32⟩
  | .hbm, ⟨37, _⟩ => ⟨S_, .f32⟩
  | .hbm, ⟨38, _⟩ => ⟨S4096x2x8x4x128, .f32⟩
  | .hbm, ⟨39, _⟩ => ⟨S_, .i32⟩
  | .hbm, ⟨40, _⟩ => ⟨S4096x2x8x3x4x128, .f32⟩
  | .hbm, ⟨41, _⟩ => ⟨S4096x2x8x4, .f32⟩
  | .hbm, ⟨42, _⟩ => ⟨S4096x2x8x4, .f32⟩
  | .hbm, ⟨43, _⟩ => ⟨S_, .i32⟩
  | .hbm, ⟨44, _⟩ => ⟨S2x8x4x128x128, .f32⟩
  | .hbm, ⟨45, _⟩ => ⟨S4096x2x8x4x128, .f32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1x2x8x3x4x128, .f32⟩
  | .hbm, ⟨54, _⟩ => ⟨S2x8x3x4x128, .f32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S1x2x8x4, .f32⟩
  | .hbm, ⟨59, _⟩ => ⟨S2x8x4, .f32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S1x2x8x4, .f32⟩
  | .hbm, ⟨64, _⟩ => ⟨S2x8x4, .f32⟩
  | .hbm, ⟨65, _⟩ => ⟨S2x8x1x4x128, .f32⟩
  | .hbm, ⟨66, _⟩ => ⟨S2x8x4x128, .f32⟩
  | .hbm, ⟨67, _⟩ => ⟨S2x8x1x4x128, .f32⟩
  | .hbm, ⟨68, _⟩ => ⟨S2x8x4x128, .f32⟩
  | .hbm, ⟨69, _⟩ => ⟨S2x8x1x4x128, .f32⟩
  | .hbm, ⟨70, _⟩ => ⟨S2x8x4x128, .f32⟩
  | .hbm, ⟨71, _⟩ => ⟨S2x8x4, .f32⟩
  | .hbm, ⟨72, _⟩ => ⟨S2x8x4x1x1, .f32⟩
  | .hbm, ⟨73, _⟩ => ⟨S2x8x4x1x1, .f32⟩
  | .hbm, ⟨74, _⟩ => ⟨S2x8x4x128x1, .f32⟩
  | .hbm, ⟨75, _⟩ => ⟨S2x8x4x128x1, .f32⟩
  | .hbm, ⟨76, _⟩ => ⟨S2x8x4x128x1, .f32⟩
  | .hbm, ⟨77, _⟩ => ⟨S2x8x4x128, .f32⟩
  | .hbm, ⟨78, _⟩ => ⟨S2x8x4x1x128, .f32⟩
  | .hbm, ⟨79, _⟩ => ⟨S2x8x4x128x128, .f32⟩
  | .hbm, ⟨80, _⟩ => ⟨S2x8x4x128x128, .f32⟩
  | .hbm, ⟨81, _⟩ => ⟨S2x8x4x128x128, .f32⟩
  | .hbm, ⟨82, _⟩ => ⟨S2x8x4x128x128, .f32⟩
  | .hbm, ⟨83, _⟩ => ⟨S2x8x4x128x128, .f32⟩
  | .hbm, ⟨84, _⟩ => ⟨S2x8x4x128x128, .f32⟩
  | .hbm, ⟨85, _⟩ => ⟨S2x8x4x1x1, .f32⟩
  | .hbm, ⟨86, _⟩ => ⟨S2x8x4x128x1, .f32⟩
  | .hbm, ⟨87, _⟩ => ⟨S2x8x4x128x1, .f32⟩
  | .hbm, ⟨88, _⟩ => ⟨S2x8x4x128x1, .f32⟩
  | .hbm, ⟨89, _⟩ => ⟨S2x8x4x1x128, .f32⟩
  | .hbm, ⟨90, _⟩ => ⟨S2x8x4x128x128, .f32⟩
  | .hbm, ⟨91, _⟩ => ⟨S2x8x4x128x128, .f32⟩
  | .hbm, ⟨92, _⟩ => ⟨S2x8x4x128x128, .f32⟩
  | .hbm, ⟨93, _⟩ => ⟨S2x8x4x128x128, .f32⟩
  | .hbm, ⟨94, _⟩ => ⟨S2x8x4x128, .f32⟩
  | .hbm, ⟨95, _⟩ => ⟨S1x2x8x4x128, .f32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S4096x2x8x4x128, .f32⟩
  | .hbm, ⟨101, _⟩ => ⟨S_, .i32⟩
  | .hbm, ⟨102, _⟩ => ⟨S_, .i32⟩
  | .hbm, ⟨103, _⟩ => ⟨S2x8x4096x4x128, .f32⟩
  | .hbm, ⟨104, _⟩ => ⟨S1x8x4096x4x128, .f32⟩
  | .hbm, ⟨105, _⟩ => ⟨S8x4096x4x128, .f32⟩
  | .hbm, ⟨106, _⟩ => ⟨S32768x512, .f32⟩
  | .hbm, ⟨107, _⟩ => ⟨S1x8x4096x4x128, .f32⟩
  | .hbm, ⟨108, _⟩ => ⟨S1x8x4096x4x128, .f32⟩
  | .hbm, ⟨109, _⟩ => ⟨S8x4096x4x128, .f32⟩
  | .hbm, ⟨110, _⟩ => ⟨S32768x512, .f32⟩
  | _, _ => ⟨S32768x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_c : Ref sig .tc := ⟨.hbm, 27, rfl⟩
abbrev main_call0_v0 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_cst : Ref sig .tc := ⟨.hbm, 35, rfl⟩
abbrev main_v31 : Ref sig .tc := ⟨.hbm, 36, rfl⟩
abbrev main_cst_0 : Ref sig .tc := ⟨.hbm, 37, rfl⟩
abbrev main_v32 : Ref sig .tc := ⟨.hbm, 38, rfl⟩
abbrev main_c_1 : Ref sig .tc := ⟨.hbm, 39, rfl⟩
abbrev main_v33_0 : Ref sig .tc := ⟨.hbm, 40, rfl⟩
abbrev main_v33_1 : Ref sig .tc := ⟨.hbm, 41, rfl⟩
abbrev main_v33_2 : Ref sig .tc := ⟨.hbm, 42, rfl⟩
abbrev main_v33_3 : Ref sig .tc := ⟨.hbm, 43, rfl⟩
abbrev main_v33_4 : Ref sig .tc := ⟨.hbm, 44, rfl⟩
abbrev main_v33_5 : Ref sig .tc := ⟨.hbm, 45, rfl⟩
abbrev main_while0c_c_7 : Ref sig .tc := ⟨.hbm, 46, rfl⟩
abbrev main_while0c_v42 : Ref sig .tc := ⟨.hbm, 47, rfl⟩
abbrev main_while0b_call1_c : Ref sig .tc := ⟨.hbm, 48, rfl⟩
abbrev main_while0b_call1_c_0 : Ref sig .tc := ⟨.hbm, 49, rfl⟩
abbrev main_while0b_call1_c_1 : Ref sig .tc := ⟨.hbm, 50, rfl⟩
abbrev main_while0b_call1_c_2 : Ref sig .tc := ⟨.hbm, 51, rfl⟩
abbrev main_while0b_call1_c_3 : Ref sig .tc := ⟨.hbm, 52, rfl⟩
abbrev main_while0b_call1_v0 : Ref sig .tc := ⟨.hbm, 53, rfl⟩
abbrev main_while0b_v42 : Ref sig .tc := ⟨.hbm, 54, rfl⟩
abbrev main_while0b_call2_c : Ref sig .tc := ⟨.hbm, 55, rfl⟩
abbrev main_while0b_call2_c_0 : Ref sig .tc := ⟨.hbm, 56, rfl⟩
abbrev main_while0b_call2_c_1 : Ref sig .tc := ⟨.hbm, 57, rfl⟩
abbrev main_while0b_call2_v0 : Ref sig .tc := ⟨.hbm, 58, rfl⟩
abbrev main_while0b_v43 : Ref sig .tc := ⟨.hbm, 59, rfl⟩
abbrev main_while0b_call3_c : Ref sig .tc := ⟨.hbm, 60, rfl⟩
abbrev main_while0b_call3_c_0 : Ref sig .tc := ⟨.hbm, 61, rfl⟩
abbrev main_while0b_call3_c_1 : Ref sig .tc := ⟨.hbm, 62, rfl⟩
abbrev main_while0b_call3_v0 : Ref sig .tc := ⟨.hbm, 63, rfl⟩
abbrev main_while0b_v44 : Ref sig .tc := ⟨.hbm, 64, rfl⟩
abbrev main_while0b_v45 : Ref sig .tc := ⟨.hbm, 65, rfl⟩
abbrev main_while0b_v46 : Ref sig .tc := ⟨.hbm, 66, rfl⟩
abbrev main_while0b_v47 : Ref sig .tc := ⟨.hbm, 67, rfl⟩
abbrev main_while0b_v48 : Ref sig .tc := ⟨.hbm, 68, rfl⟩
abbrev main_while0b_v49 : Ref sig .tc := ⟨.hbm, 69, rfl⟩
abbrev main_while0b_v50 : Ref sig .tc := ⟨.hbm, 70, rfl⟩
abbrev main_while0b_v51 : Ref sig .tc := ⟨.hbm, 71, rfl⟩
abbrev main_while0b_v52 : Ref sig .tc := ⟨.hbm, 72, rfl⟩
abbrev main_while0b_v53 : Ref sig .tc := ⟨.hbm, 73, rfl⟩
abbrev main_while0b_v54 : Ref sig .tc := ⟨.hbm, 74, rfl⟩
abbrev main_while0b_v55 : Ref sig .tc := ⟨.hbm, 75, rfl⟩
abbrev main_while0b_v56 : Ref sig .tc := ⟨.hbm, 76, rfl⟩
abbrev main_while0b_v57 : Ref sig .tc := ⟨.hbm, 77, rfl⟩
abbrev main_while0b_v58 : Ref sig .tc := ⟨.hbm, 78, rfl⟩
abbrev main_while0b_v59 : Ref sig .tc := ⟨.hbm, 79, rfl⟩
abbrev main_while0b_v60 : Ref sig .tc := ⟨.hbm, 80, rfl⟩
abbrev main_while0b_v61 : Ref sig .tc := ⟨.hbm, 81, rfl⟩
abbrev main_while0b_v62 : Ref sig .tc := ⟨.hbm, 82, rfl⟩
abbrev main_while0b_v63 : Ref sig .tc := ⟨.hbm, 83, rfl⟩
abbrev main_while0b_v64 : Ref sig .tc := ⟨.hbm, 84, rfl⟩
abbrev main_while0b_v65 : Ref sig .tc := ⟨.hbm, 85, rfl⟩
abbrev main_while0b_v66 : Ref sig .tc := ⟨.hbm, 86, rfl⟩
abbrev main_while0b_v67 : Ref sig .tc := ⟨.hbm, 87, rfl⟩
abbrev main_while0b_v68 : Ref sig .tc := ⟨.hbm, 88, rfl⟩
abbrev main_while0b_v69 : Ref sig .tc := ⟨.hbm, 89, rfl⟩
abbrev main_while0b_v70 : Ref sig .tc := ⟨.hbm, 90, rfl⟩
abbrev main_while0b_v71 : Ref sig .tc := ⟨.hbm, 91, rfl⟩
abbrev main_while0b_v72 : Ref sig .tc := ⟨.hbm, 92, rfl⟩
abbrev main_while0b_v73 : Ref sig .tc := ⟨.hbm, 93, rfl⟩
abbrev main_while0b_v74 : Ref sig .tc := ⟨.hbm, 94, rfl⟩
abbrev main_while0b_call4_v0 : Ref sig .tc := ⟨.hbm, 95, rfl⟩
abbrev main_while0b_call4_c : Ref sig .tc := ⟨.hbm, 96, rfl⟩
abbrev main_while0b_call4_c_0 : Ref sig .tc := ⟨.hbm, 97, rfl⟩
abbrev main_while0b_call4_c_1 : Ref sig .tc := ⟨.hbm, 98, rfl⟩
abbrev main_while0b_call4_c_2 : Ref sig .tc := ⟨.hbm, 99, rfl⟩
abbrev main_while0b_v75 : Ref sig .tc := ⟨.hbm, 100, rfl⟩
abbrev main_while0b_c_7 : Ref sig .tc := ⟨.hbm, 101, rfl⟩
abbrev main_while0b_v76 : Ref sig .tc := ⟨.hbm, 102, rfl⟩
abbrev main_v34 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩

abbrev nD : Nat := 1
abbrev τ : Topo := Topo.v7x

variable {F : FTy → Type} [FloatOps F]

abbrev main_while0_count : Scf.Loop 32 := ⟨0#32, 4096#32, 1#32⟩
-- ==== Mlp.lean ====
abbrev S32768x2048 : Shape := ⟨2, ![32768, 2048]⟩
abbrev S2048x8192 : Shape := ⟨2, ![2048, 8192]⟩
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S2048x1024 : Shape := ⟨2, ![2048, 1024]⟩
abbrev S1024x2048 : Shape := ⟨2, ![1024, 2048]⟩
abbrev S512x1024 : Shape := ⟨2, ![512, 1024]⟩
abbrev S512x512 : Shape := ⟨2, ![512, 512]⟩
abbrev S1024x512 : Shape := ⟨2, ![1024, 512]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S2048x8192, .bf16⟩
  | .hbm, ⟨6, _⟩ => ⟨S8192x2048, .bf16⟩
  | .hbm, ⟨7, _⟩ => ⟨S1x2048, .f32⟩
  | .hbm, ⟨8, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x1024, .bf16⟩
  | .local _ .vmem, ⟨5, _⟩ => ⟨S2048x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpRefIdeal.lean ====
abbrev S32768x2048 : Shape := ⟨2, ![32768, 2048]⟩
abbrev S2048x8192 : Shape := ⟨2, ![2048, 8192]⟩
abbrev S8192x2048 : Shape := ⟨2, ![8192, 2048]⟩
abbrev S2048 : Shape := ⟨1, ![2048]⟩
abbrev S32768x8192 : Shape := ⟨2, ![32768, 8192]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 29
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S32768x2048, .f32⟩
  | .hbm, ⟨6, _⟩ => ⟨S32768x8192, .f32⟩
  | .hbm, ⟨7, _⟩ => ⟨S_, .f32⟩
  | .hbm, ⟨8, _⟩ => ⟨S32768x8192, .f32⟩
  | .hbm, ⟨9, _⟩ => ⟨S32768x8192, .f32⟩
  | .hbm, ⟨10, _⟩ => ⟨S32768x8192, .f32⟩
  | .hbm, ⟨11, _⟩ => ⟨S32768x2048, .f32⟩
  | .hbm, ⟨12, _⟩ => ⟨S32768x2048, .f32⟩
  | .hbm, ⟨13, _⟩ => ⟨S32768x2048, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x2048, .f32⟩
  | .hbm, ⟨25, _⟩ => ⟨S32768x2048, .f32⟩
  | .hbm, ⟨26, _⟩ => ⟨S1x2048, .f32⟩
  | .hbm, ⟨27, _⟩ => ⟨S32768x2048, .f32⟩
  | .hbm, ⟨28, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Out.lean ====
abbrev S32768x2048 : Shape := ⟨2, ![32768, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S2048x2048, .f32⟩
  | .hbm, ⟨3, _⟩ => ⟨S2048, .f32⟩
  | .hbm, ⟨4, _⟩ => ⟨S2048x2048, .bf16⟩
  | .hbm, ⟨5, _⟩ => ⟨S1x2048, .f32⟩
  | .hbm, ⟨6, _⟩ => ⟨S32768x2048, .f32⟩
  | .hbm, ⟨7, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutRefIdeal.lean ====
abbrev S32768x2048 : Shape := ⟨2, ![32768, 2048]⟩
abbrev S2048x2048 : Shape := ⟨2, ![2048, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S2048x2048, .f32⟩
  | .hbm, ⟨3, _⟩ => ⟨S2048, .f32⟩
  | .hbm, ⟨4, _⟩ => ⟨S32768x2048, .f32⟩
  | .hbm, ⟨5, _⟩ => ⟨S32768x2048, .f32⟩
  | .hbm, ⟨6, _⟩ => ⟨S32768x2048, .f32⟩
  | .hbm, ⟨7, _⟩ => ⟨S32768x2048, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S1x2048, .f32⟩
  | .hbm, ⟨21, _⟩ => ⟨S32768x2048, .f32⟩
  | .hbm, ⟨22, _⟩ => ⟨S32768x2048, .f32⟩
  | .hbm, ⟨23, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Merge.lean ====
abbrev S32768x2048 : Shape := ⟨2, ![32768, 2048]⟩
abbrev S32768x512 : Shape := ⟨2, ![32768, 512]⟩
abbrev S32768x4736 : Shape := ⟨2, ![32768, 4736]⟩
abbrev S128 : Shape := ⟨1, ![128]⟩
abbrev S2048x12816 : Shape := ⟨2, ![2048, 12816]⟩
abbrev S512x2048 : Shape := ⟨2, ![512, 2048]⟩
abbrev S1x128 : Shape := ⟨2, ![1, 128]⟩
abbrev S2048x8192 : Shape := ⟨2, ![2048, 8192]⟩
abbrev S512x512 : Shape := ⟨2, ![512, 512]⟩
abbrev S2048x512 : Shape := ⟨2, ![2048, 512]⟩
abbrev S512x128 : Shape := ⟨2, ![512, 128]⟩
abbrev S512 : Shape := ⟨1, ![512]⟩
abbrev S512x1 : Shape := ⟨2, ![512, 1]⟩

abbrev nBuf : Space → Nat
  | .hbm => 21
  | .vmem => 34
  | .smem => 0
  | _ => 0

abbrev bufTy : (tb : Table) → Fin (tcTables nBuf tb) → BufTy
  | .hbm, ⟨0, _⟩ => ⟨S32768x2048, .bf16⟩
  | .hbm, ⟨1, _⟩ => ⟨S32768x512, .bf16⟩
  | .hbm, ⟨2, _⟩ => ⟨S32768x512, .f32⟩
  | .hbm, ⟨3, _⟩ => ⟨S32768x512, .f32⟩
  | .hbm, ⟨4, _⟩ => ⟨S32768x4736, .f32⟩
  | .hbm, ⟨5, _⟩ => ⟨S128, .f32⟩
  | .hbm, ⟨6, _⟩ => ⟨S32768x512, .bf16⟩
  | .hbm, ⟨7, _⟩ => ⟨S32768x512, .bf16⟩
  | .hbm, ⟨8, _⟩ => ⟨S2048x12816, .f32⟩
  | .hbm, ⟨9, _⟩ => ⟨S512x2048, .f32⟩
  | .hbm, ⟨10, _⟩ => ⟨S512x2048, .f32⟩
  | .hbm, ⟨11, _⟩ => ⟨S512x2048, .f32⟩
  | .hbm, ⟨12, _⟩ => ⟨S512x2048, .f32⟩
  | .hbm, ⟨13, _⟩ => ⟨S512x2048, .bf16⟩
  | .hbm, ⟨14, _⟩ => ⟨S512x2048, .bf16⟩
  | .hbm, ⟨15, _⟩ => ⟨S512x2048, .bf16⟩
  | .hbm, ⟨16, _⟩ => ⟨S512x2048, .bf16⟩
  | .hbm, ⟨17, _⟩ => ⟨S1x128, .f32⟩
  | .hbm, ⟨18, _⟩ => ⟨S2048x8192, .f32⟩
  | .hbm, ⟨19, _⟩ => ⟨S2048x8192, .bf16⟩
  | .hbm, ⟨20, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x128, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S2048x512, .bf16⟩
  | .local _ .vmem, ⟨16, _⟩ => ⟨S2048x512, .bf16⟩
  | .local _ .vmem, ⟨17, _⟩ => ⟨S2048x512, .bf16⟩
  | .local _ .vmem, ⟨18, _⟩ => ⟨S2048x512, .bf16⟩
  | .local _ .vmem, ⟨19, _⟩ => ⟨S2048x512, .bf16⟩
  | .local _ .vmem, ⟨20, _⟩ => ⟨S2048x512, .bf16⟩
  | .local _ .vmem, ⟨21, _⟩ => ⟨S2048x512, .bf16⟩
  | .local _ .vmem, ⟨22, _⟩ => ⟨S2048x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | .local _ .vmem, ⟨32, _⟩ => ⟨S512x512, .bf16⟩
  | .local _ .vmem, ⟨33, _⟩ => ⟨S512x512, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S2048x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S2048x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== MergeRefIdeal.lean ====
abbrev S32768x2048 : Shape := ⟨2, ![32768, 2048]⟩
abbrev S32768x512 : Shape := ⟨2, ![32768, 512]⟩
abbrev S32768x4736 : Shape := ⟨2, ![32768, 4736]⟩
abbrev S128 : Shape := ⟨1, ![128]⟩
abbrev S2048x12816 : Shape := ⟨2, ![2048, 12816]⟩
abbrev S512x2048 : Shape := ⟨2, ![512, 2048]⟩
abbrev S32768x4x128 : Shape := ⟨3, ![32768, 4, 128]⟩
abbrev S_ : Shape := ⟨0, ![]⟩
abbrev S32768x4 : Shape := ⟨2, ![32768, 4]⟩
abbrev S32768x4x1 : Shape := ⟨3, ![32768, 4, 1]⟩
abbrev S1x1x128 : Shape := ⟨3, ![1, 1, 128]⟩
abbrev S2048x8192 : Shape := ⟨2, ![2048, 8192]⟩
abbrev S32768x8192 : Shape := ⟨2, ![32768, 8192]⟩
abbrev S32768x4x2048 : Shape := ⟨3, ![32768, 4, 2048]⟩
abbrev S32768x1x2048 : Shape := ⟨3, ![32768, 1, 2048]⟩

abbrev nBuf : Space → Nat
  | .hbm => 79
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x512, .bf16⟩
  | .hbm, ⟨2, _⟩ => ⟨S32768x512, .f32⟩
  | .hbm, ⟨3, _⟩ => ⟨S32768x512, .f32⟩
  | .hbm, ⟨4, _⟩ => ⟨S32768x4736, .f32⟩
  | .hbm, ⟨5, _⟩ => ⟨S128, .f32⟩
  | .hbm, ⟨6, _⟩ => ⟨S32768x512, .bf16⟩
  | .hbm, ⟨7, _⟩ => ⟨S32768x512, .bf16⟩
  | .hbm, ⟨8, _⟩ => ⟨S2048x12816, .f32⟩
  | .hbm, ⟨9, _⟩ => ⟨S512x2048, .f32⟩
  | .hbm, ⟨10, _⟩ => ⟨S512x2048, .f32⟩
  | .hbm, ⟨11, _⟩ => ⟨S512x2048, .f32⟩
  | .hbm, ⟨12, _⟩ => ⟨S512x2048, .f32⟩
  | .hbm, ⟨13, _⟩ => ⟨S32768x512, .f32⟩
  | .hbm, ⟨14, _⟩ => ⟨S32768x4x128, .f32⟩
  | .hbm, ⟨15, _⟩ => ⟨S32768x4x128, .f32⟩
  | .hbm, ⟨16, _⟩ => ⟨S_, .f32⟩
  | .hbm, ⟨17, _⟩ => ⟨S32768x4, .f32⟩
  | .hbm, ⟨18, _⟩ => ⟨S32768x4x1, .f32⟩
  | .hbm, ⟨19, _⟩ => ⟨S_, .f32⟩
  | .hbm, ⟨20, _⟩ => ⟨S32768x4x1, .f32⟩
  | .hbm, ⟨21, _⟩ => ⟨S32768x4x1, .f32⟩
  | .hbm, ⟨22, _⟩ => ⟨S_, .f32⟩
  | .hbm, ⟨23, _⟩ => ⟨S32768x4x1, .f32⟩
  | .hbm, ⟨24, _⟩ => ⟨S32768x4x1, .f32⟩
  | .hbm, ⟨25, _⟩ => ⟨S32768x4x1, .f32⟩
  | .hbm, ⟨26, _⟩ => ⟨S32768x4x128, .f32⟩
  | .hbm, ⟨27, _⟩ => ⟨S32768x4x128, .f32⟩
  | .hbm, ⟨28, _⟩ => ⟨S1x1x128, .f32⟩
  | .hbm, ⟨29, _⟩ => ⟨S32768x4x128, .f32⟩
  | .hbm, ⟨30, _⟩ => ⟨S32768x4x128, .f32⟩
  | .hbm, ⟨31, _⟩ => ⟨S32768x512, .f32⟩
  | .hbm, ⟨32, _⟩ => ⟨S32768x4x128, .f32⟩
  | .hbm, ⟨33, _⟩ => ⟨S32768x4x128, .f32⟩
  | .hbm, ⟨34, _⟩ => ⟨S32768x4x128, .f32⟩
  | .hbm, ⟨35, _⟩ => ⟨S_, .f32⟩
  | .hbm, ⟨36, _⟩ => ⟨S32768x4x128, .f32⟩
  | .hbm, ⟨37, _⟩ => ⟨S32768x4x128, .f32⟩
  | .hbm, ⟨38, _⟩ => ⟨S_, .f32⟩
  | .hbm, ⟨39, _⟩ => ⟨S32768x4x128, .f32⟩
  | .hbm, ⟨40, _⟩ => ⟨S32768x4x128, .f32⟩
  | .hbm, ⟨41, _⟩ => ⟨S32768x4x128, .f32⟩
  | .hbm, ⟨42, _⟩ => ⟨S32768x4x128, .f32⟩
  | .hbm, ⟨43, _⟩ => ⟨S32768x512, .f32⟩
  | .hbm, ⟨44, _⟩ => ⟨S32768x2048, .f32⟩
  | .hbm, ⟨45, _⟩ => ⟨S2048x8192, .f32⟩
  | .hbm, ⟨46, _⟩ => ⟨S32768x8192, .f32⟩
  | .hbm, ⟨47, _⟩ => ⟨S32768x8192, .f32⟩
  | .hbm, ⟨48, _⟩ => ⟨S32768x8192, .f32⟩
  | .hbm, ⟨49, _⟩ => ⟨S_, .f32⟩
  | .hbm, ⟨50, _⟩ => ⟨S32768x8192, .f32⟩
  | .hbm, ⟨51, _⟩ => ⟨S32768x8192, .f32⟩
  | .hbm, ⟨52, _⟩ => ⟨S_, .f32⟩
  | .hbm, ⟨53, _⟩ => ⟨S32768x8192, .f32⟩
  | .hbm, ⟨54, _⟩ => ⟨S32768x8192, .f32⟩
  | .hbm, ⟨55, _⟩ => ⟨S32768x4x2048, .f32⟩
  | .hbm, ⟨56, _⟩ => ⟨S32768x512, .f32⟩
  | .hbm, ⟨57, _⟩ => ⟨S32768x2048, .f32⟩
  | .hbm, ⟨58, _⟩ => ⟨S32768x2048, .f32⟩
  | .hbm, ⟨59, _⟩ => ⟨S32768x512, .f32⟩
  | .hbm, ⟨60, _⟩ => ⟨S32768x2048, .f32⟩
  | .hbm, ⟨61, _⟩ => ⟨S32768x512, .f32⟩
  | .hbm, ⟨62, _⟩ => ⟨S32768x2048, .f32⟩
  | .hbm, ⟨63, _⟩ => ⟨S32768x1x2048, .f32⟩
  | .hbm, ⟨64, _⟩ => ⟨S32768x2048, .f32⟩
  | .hbm, ⟨65, _⟩ => ⟨S32768x2048, .f32⟩
  | .hbm, ⟨66, _⟩ => ⟨S32768x1x2048, .f32⟩
  | .hbm, ⟨67, _⟩ => ⟨S32768x2048, .f32⟩
  | .hbm, ⟨68, _⟩ => ⟨S32768x2048, .f32⟩
  | .hbm, ⟨69, _⟩ => ⟨S32768x2048, .f32⟩
  | .hbm, ⟨70, _⟩ => ⟨S32768x1x2048, .f32⟩
  | .hbm, ⟨71, _⟩ => ⟨S32768x2048, .f32⟩
  | .hbm, ⟨72, _⟩ => ⟨S32768x2048, .f32⟩
  | .hbm, ⟨73, _⟩ => ⟨S32768x2048, .f32⟩
  | .hbm, ⟨74, _⟩ => ⟨S32768x1x2048, .f32⟩
  | .hbm, ⟨75, _⟩ => ⟨S32768x2048, .f32⟩
  | .hbm, ⟨76, _⟩ => ⟨S32768x2048, .f32⟩
  | .hbm, ⟨77, _⟩ => ⟨S32768x2048, .f32⟩
  | .hbm, ⟨78, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_2 : Ref sig .tc := ⟨.hbm, 49, rfl⟩
abbrev main_v25 : Ref sig .tc := ⟨.hbm, 50, rfl⟩
abbrev main_v26 : Ref sig .tc := ⟨.hbm, 51, rfl⟩
abbrev main_cst_3 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩

abbrev nD : Nat := 1
abbrev τ : Topo := Topo.v7x

variable {F : FTy → Type} [FloatOps F]
-- ==== In.lean ====
abbrev S32768x2048 : Shape := ⟨2, ![32768, 2048]⟩
abbrev S2048 : Shape := ⟨1, ![2048]⟩
abbrev S2048x12816 : Shape := ⟨2, ![2048, 12816]⟩
abbrev S2048x1536 : Shape := ⟨2, ![2048, 1536]⟩
abbrev S2048x512 : Shape := ⟨2, ![2048, 512]⟩
abbrev S2048x1024 : Shape := ⟨2, ![2048, 1024]⟩
abbrev S2048x16 : Shape := ⟨2, ![2048, 16]⟩
abbrev S_ : Shape := ⟨0, ![]⟩
abbrev S2048x112 : Shape := ⟨2, ![2048, 112]⟩
abbrev S2048x4736 : Shape := ⟨2, ![2048, 4736]⟩
abbrev S1x2048 : Shape := ⟨2, ![1, 2048]⟩
abbrev S32768x4736 : Shape := ⟨2, ![32768, 4736]⟩
abbrev S512x2048 : Shape := ⟨2, ![512, 2048]⟩
abbrev S512x4736 : Shape := ⟨2, ![512, 4736]⟩
abbrev S256x2048 : Shape := ⟨2, ![256, 2048]⟩
abbrev S256 : Shape := ⟨1, ![256]⟩
abbrev S256x1 : Shape := ⟨2, ![256, 1]⟩
abbrev S256x1536 : Shape := ⟨2, ![256, 1536]⟩
abbrev S256x512 : Shape := ⟨2, ![256, 512]⟩
abbrev S256x1024 : Shape := ⟨2, ![256, 1024]⟩
abbrev S2048x128 : Shape := ⟨2, ![2048, 128]⟩
abbrev S256x128 : Shape := ⟨2, ![256, 128]⟩

abbrev nBuf : Space → Nat
  | .hbm => 16
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x12816, .f32⟩
  | .hbm, ⟨3, _⟩ => ⟨S2048x1536, .f32⟩
  | .hbm, ⟨4, _⟩ => ⟨S2048x512, .f32⟩
  | .hbm, ⟨5, _⟩ => ⟨S2048x1024, .f32⟩
  | .hbm, ⟨6, _⟩ => ⟨S2048x1024, .f32⟩
  | .hbm, ⟨7, _⟩ => ⟨S2048x512, .f32⟩
  | .hbm, ⟨8, _⟩ => ⟨S2048x16, .f32⟩
  | .hbm, ⟨9, _⟩ => ⟨S_, .f32⟩
  | .hbm, ⟨10, _⟩ => ⟨S2048x112, .f32⟩
  | .hbm, ⟨11, _⟩ => ⟨S2048x4736, .f32⟩
  | .hbm, ⟨12, _⟩ => ⟨S2048x4736, .bf16⟩
  | .hbm, ⟨13, _⟩ => ⟨S1x2048, .f32⟩
  | .hbm, ⟨14, _⟩ => ⟨S32768x4736, .f32⟩
  | .hbm, ⟨15, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x4736, .bf16⟩
  | .local _ .vmem, ⟨4, _⟩ => ⟨S512x4736, .f32⟩
  | .local _ .vmem, ⟨5, _⟩ => ⟨S512x4736, .f32⟩
  | .local _ .vmem, ⟨6, _⟩ => ⟨S512x2048, .bf16⟩
  | .local _ .vmem, ⟨7, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4736 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4736 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InRefIdeal.lean ====
abbrev S32768x2048 : Shape := ⟨2, ![32768, 2048]⟩
abbrev S2048 : Shape := ⟨1, ![2048]⟩
abbrev S2048x12816 : Shape := ⟨2, ![2048, 12816]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x12816 : Shape := ⟨2, ![32768, 12816]⟩
abbrev S32768x512 : Shape := ⟨2, ![32768, 512]⟩
abbrev S32768x1536 : Shape := ⟨2, ![32768, 1536]⟩
abbrev S32768x16 : Shape := ⟨2, ![32768, 16]⟩
abbrev S32768x1024 : Shape := ⟨2, ![32768, 1024]⟩
abbrev S32768x8192 : Shape := ⟨2, ![32768, 8192]⟩
abbrev S32768x112 : Shape := ⟨2, ![32768, 112]⟩
abbrev S32768x4736 : Shape := ⟨2, ![32768, 4736]⟩

abbrev nBuf : Space → Nat
  | .hbm => 31
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x12816, .f32⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S32768x12816, .f32⟩
  | .hbm, ⟨20, _⟩ => ⟨S32768x512, .f32⟩
  | .hbm, ⟨21, _⟩ => ⟨S32768x1536, .f32⟩
  | .hbm, ⟨22, _⟩ => ⟨S32768x512, .f32⟩
  | .hbm, ⟨23, _⟩ => ⟨S32768x16, .f32⟩
  | .hbm, ⟨24, _⟩ => ⟨S32768x1024, .f32⟩
  | .hbm, ⟨25, _⟩ => ⟨S32768x1024, .f32⟩
  | .hbm, ⟨26, _⟩ => ⟨S32768x8192, .f32⟩
  | .hbm, ⟨27, _⟩ => ⟨S_, .f32⟩
  | .hbm, ⟨28, _⟩ => ⟨S32768x112, .f32⟩
  | .hbm, ⟨29, _⟩ => ⟨S32768x4736, .f32⟩
  | .hbm, ⟨30, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Mix.lean ====
abbrev S32768x4736 : Shape := ⟨2, ![32768, 4736]⟩
abbrev S4x128x128 : Shape := ⟨3, ![4, 128, 128]⟩
abbrev S1x512 : Shape := ⟨2, ![1, 512]⟩
abbrev S4x1536 : Shape := ⟨2, ![4, 1536]⟩
abbrev S1x128 : Shape := ⟨2, ![1, 128]⟩
abbrev S31x512 : Shape := ⟨2, ![31, 512]⟩
abbrev S128x512 : Shape := ⟨2, ![128, 512]⟩
abbrev S32768x512 : Shape := ⟨2, ![32768, 512]⟩
abbrev S32768x1536 : Shape := ⟨2, ![32768, 1536]⟩
abbrev S32768x128 : Shape := ⟨2, ![32768, 128]⟩
abbrev S128x32768 : Shape := ⟨2, ![128, 32768]⟩
abbrev S512x1536 : Shape := ⟨2, ![512, 1536]⟩
abbrev S16x1536 : Shape := ⟨2, ![16, 1536]⟩
abbrev S512x512 : Shape := ⟨2, ![512, 512]⟩
abbrev S16x512 : Shape := ⟨2, ![16, 512]⟩
abbrev S512x1024 : Shape := ⟨2, ![512, 1024]⟩
abbrev S16x1024 : Shape := ⟨2, ![16, 1024]⟩
abbrev S512x128 : Shape := ⟨2, ![512, 128]⟩
abbrev S544x1536 : Shape := ⟨2, ![544, 1536]⟩
abbrev S544x512 : Shape := ⟨2, ![544, 512]⟩
abbrev S7x536x512 : Shape := ⟨3, ![7, 536, 512]⟩
abbrev S512x1 : Shape := ⟨2, ![512, 1]⟩
abbrev S1x128x128 : Shape := ⟨3, ![1, 128, 128]⟩
abbrev S128x128 : Shape := ⟨2, ![128, 128]⟩
abbrev S536x512 : Shape := ⟨2, ![536, 512]⟩
abbrev S1x536x512 : Shape := ⟨3, ![1, 536, 512]⟩
abbrev S1x512x512 : Shape := ⟨3, ![1, 512, 512]⟩
abbrev S512 : Shape := ⟨1, ![512]⟩
abbrev S1x1536 : Shape := ⟨2, ![1, 1536]⟩

abbrev nBuf : Space → Nat
  | .hbm => 20
  | .vmem => 51
  | .smem => 0
  | _ => 0

abbrev bufTy : (tb : Table) → Fin (tcTables nBuf tb) → BufTy
  | .hbm, ⟨0, _⟩ => ⟨S32768x4736, .f32⟩
  | .hbm, ⟨1, _⟩ => ⟨S4x128x128, .bf16⟩
  | .hbm, ⟨2, _⟩ => ⟨S1x512, .f32⟩
  | .hbm, ⟨3, _⟩ => ⟨S4x1536, .f32⟩
  | .hbm, ⟨4, _⟩ => ⟨S1x128, .f32⟩
  | .hbm, ⟨5, _⟩ => ⟨S1x128, .f32⟩
  | .hbm, ⟨6, _⟩ => ⟨S31x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S4x128x128, .bf16⟩
  | .hbm, ⟨13, _⟩ => ⟨S128x512, .f32⟩
  | .hbm, ⟨14, _⟩ => ⟨S32768x512, .bf16⟩
  | .hbm, ⟨15, _⟩ => ⟨S32768x512, .bf16⟩
  | .hbm, ⟨16, _⟩ => ⟨S32768x512, .bf16⟩
  | .hbm, ⟨17, _⟩ => ⟨S32768x1536, .f32⟩
  | .hbm, ⟨18, _⟩ => ⟨S32768x128, .f32⟩
  | .hbm, ⟨19, _⟩ => ⟨S128x32768, .f32⟩
  | .local _ .vmem, ⟨0, _⟩ => ⟨S512x1536, .f32⟩
  | .local _ .vmem, ⟨1, _⟩ => ⟨S512x1536, .f32⟩
  | .local _ .vmem, ⟨2, _⟩ => ⟨S16x1536, .f32⟩
  | .local _ .vmem, ⟨3, _⟩ => ⟨S16x1536, .f32⟩
  | .local _ .vmem, ⟨4, _⟩ => ⟨S16x1536, .f32⟩
  | .local _ .vmem, ⟨5, _⟩ => ⟨S16x1536, .f32⟩
  | .local _ .vmem, ⟨6, _⟩ => ⟨S512x512, .f32⟩
  | .local _ .vmem, ⟨7, _⟩ => ⟨S512x512, .f32⟩
  | .local _ .vmem, ⟨8, _⟩ => ⟨S16x512, .f32⟩
  | .local _ .vmem, ⟨9, _⟩ => ⟨S16x512, .f32⟩
  | .local _ .vmem, ⟨10, _⟩ => ⟨S16x512, .f32⟩
  | .local _ .vmem, ⟨11, _⟩ => ⟨S16x512, .f32⟩
  | .local _ .vmem, ⟨12, _⟩ => ⟨S512x1024, .f32⟩
  | .local _ .vmem, ⟨13, _⟩ => ⟨S512x1024, .f32⟩
  | .local _ .vmem, ⟨14, _⟩ => ⟨S16x1024, .f32⟩
  | .local _ .vmem, ⟨15, _⟩ => ⟨S16x1024, .f32⟩
  | .local _ .vmem, ⟨16, _⟩ => ⟨S16x1024, .f32⟩
  | .local _ .vmem, ⟨17, _⟩ => ⟨S16x1024, .f32⟩
  | .local _ .vmem, ⟨18, _⟩ => ⟨S512x1024, .f32⟩
  | .local _ .vmem, ⟨19, _⟩ => ⟨S512x1024, .f32⟩
  | .local _ .vmem, ⟨20, _⟩ => ⟨S512x128, .f32⟩
  | .local _ .vmem, ⟨21, _⟩ => ⟨S512x128, .f32⟩
  | .local _ .vmem, ⟨22, _⟩ => ⟨S4x128x128, .bf16⟩
  | .local _ .vmem, ⟨23, _⟩ => ⟨S1x512, .f32⟩
  | .local _ .vmem, ⟨24, _⟩ => ⟨S4x1536, .f32⟩
  | .local _ .vmem, ⟨25, _⟩ => ⟨S1x128, .f32⟩
  | .local _ .vmem, ⟨26, _⟩ => ⟨S1x128, .f32⟩
  | .local _ .vmem, ⟨27, _⟩ => ⟨S31x512, .f32⟩
  | .local _ .vmem, ⟨28, _⟩ => ⟨S1x512, .f32⟩
  | .local _ .vmem, ⟨29, _⟩ => ⟨S1x512, .f32⟩
  | .local _ .vmem, ⟨30, _⟩ => ⟨S1x512, .f32⟩
  | .local _ .vmem, ⟨31, _⟩ => ⟨S1x512, .f32⟩
  | .local _ .vmem, ⟨32, _⟩ => ⟨S1x512, .f32⟩
  | .local _ .vmem, ⟨33, _⟩ => ⟨S4x128x128, .bf16⟩
  | .local _ .vmem, ⟨34, _⟩ => ⟨S128x512, .f32⟩
  | .local _ .vmem, ⟨35, _⟩ => ⟨S512x512, .bf16⟩
  | .local _ .vmem, ⟨36, _⟩ => ⟨S512x512, .bf16⟩
  | .local _ .vmem, ⟨37, _⟩ => ⟨S512x512, .bf16⟩
  | .local _ .vmem, ⟨38, _⟩ => ⟨S512x512, .bf16⟩
  | .local _ .vmem, ⟨39, _⟩ => ⟨S512x512, .bf16⟩
  | .local _ .vmem, ⟨40, _⟩ => ⟨S512x512, .bf16⟩
  | .local _ .vmem, ⟨41, _⟩ => ⟨S512x1536, .f32⟩
  | .local _ .vmem, ⟨42, _⟩ => ⟨S512x1536, .f32⟩
  | .local _ .vmem, ⟨43, _⟩ => ⟨S512x128, .f32⟩
  | .local _ .vmem, ⟨44, _⟩ => ⟨S512x128, .f32⟩
  | .local _ .vmem, ⟨45, _⟩ => ⟨S128x512, .f32⟩
  | .local _ .vmem, ⟨46, _⟩ => ⟨S128x512, .f32⟩
  | .local _ .vmem, ⟨47, _⟩ => ⟨S544x1536, .f32⟩
  | .local _ .vmem, ⟨48, _⟩ => ⟨S544x512, .f32⟩
  | .local _ .vmem, ⟨49, _⟩ => ⟨S544x512, .f32⟩
  | .local _ .vmem, ⟨50, _⟩ => ⟨S7x536x512, .f32⟩
  | _, _ => ⟨S32768x4736, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v0_4 : Ref sig .tc := ⟨.hbm, 18, rfl⟩
abbrev main_v0_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg22_0 : Ref sig .tc := ⟨.vmem, 33, rfl⟩
abbrev cc0_stg23_0 : Ref sig .tc := ⟨.vmem, 34, rfl⟩
abbrev cc0_stg24_0 : Ref sig .tc := ⟨.vmem, 35, rfl⟩
abbrev cc0_stg24_1 : Ref sig .tc := ⟨.vmem, 36, rfl⟩
abbrev cc0_stg25_0 : Ref sig .tc := ⟨.vmem, 37, rfl⟩
abbrev cc0_stg25_1 : Ref sig .tc := ⟨.vmem, 38, rfl⟩
abbrev cc0_stg26_0 : Ref sig .tc := ⟨.vmem, 39, rfl⟩
abbrev cc0_stg26_1 : Ref sig .tc := ⟨.vmem, 40, rfl⟩
abbrev cc0_stg27_0 : Ref sig .tc := ⟨.vmem, 41, rfl⟩
abbrev cc0_stg27_1 : Ref sig .tc := ⟨.vmem, 42, rfl⟩
abbrev cc0_stg28_0 : Ref sig .tc := ⟨.vmem, 43, rfl⟩
abbrev cc0_stg28_1 : Ref sig .tc := ⟨.vmem, 44, rfl⟩
abbrev cc0_stg29_0 : Ref sig .tc := ⟨.vmem, 45, rfl⟩
abbrev cc0_stg29_1 : Ref sig .tc := ⟨.vmem, 46, rfl⟩
abbrev cc0_scratch0 : Ref sig .tc := ⟨.vmem, 47, rfl⟩
abbrev cc0_scratch1 : Ref sig .tc := ⟨.vmem, 48, rfl⟩
abbrev cc0_scratch2 : Ref sig .tc := ⟨.vmem, 49, rfl⟩
abbrev cc0_scratch3 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem20_0 : DmaSem sig := 31
abbrev cc0_sem21_0 : DmaSem sig := 32
abbrev cc0_sem22_0 : DmaSem sig := 33
abbrev cc0_sem23_0 : DmaSem sig := 34
abbrev cc0_sem24_0 : DmaSem sig := 35
abbrev cc0_sem24_1 : DmaSem sig := 36
abbrev cc0_sem25_0 : DmaSem sig := 37
abbrev cc0_sem25_1 : DmaSem sig := 38
abbrev cc0_sem26_0 : DmaSem sig := 39
abbrev cc0_sem26_1 : DmaSem sig := 40
abbrev cc0_sem27_0 : DmaSem sig := 41
abbrev cc0_sem27_1 : DmaSem sig := 42
abbrev cc0_sem28_0 : DmaSem sig := 43
abbrev cc0_sem28_1 : DmaSem sig := 44
abbrev cc0_sem29_0 : DmaSem sig := 45
abbrev cc0_sem29_1 : DmaSem sig := 46

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c3_i32 : BitVec 32 := 3#32
  let c0_i32 : BitVec 32 := 0#32
  ![v2.toNat, c3_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c2_i32 : BitVec 32 := 2#32
  let c0_i32 : BitVec 32 := 0#32
  ![v2.toNat, c2_i32.toNat]

def cc0_transform_9 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_10 (i : grid0.Coords) : Fin 2 → Nat :=
  let arg0 : BitVec 32 := BitVec.ofNat 32 (i 0).val
  let c36_i32 : BitVec 32 := 36#32
  let c0_i32 : BitVec 32 := 0#32
  ![arg0.toNat, c36_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x1536 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S31x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S4x128x128 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S128x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S512x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S512x512 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S512x512 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S512x1536 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S512x128 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S128x512 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]
-- ==== MixRefIdeal.lean ====
abbrev S32768x4736 : Shape := ⟨2, ![32768, 4736]⟩
abbrev S4x128x128 : Shape := ⟨3, ![4, 128, 128]⟩
abbrev S1x512 : Shape := ⟨2, ![1, 512]⟩
abbrev S4x1536 : Shape := ⟨2, ![4, 1536]⟩
abbrev S1x128 : Shape := ⟨2, ![1, 128]⟩
abbrev S31x512 : Shape := ⟨2, ![31, 512]⟩
abbrev S128x512 : Shape := ⟨2, ![128, 512]⟩
abbrev S32768x1024 : Shape := ⟨2, ![32768, 1024]⟩
abbrev S_ : Shape := ⟨0, ![]⟩
abbrev S32768x512 : Shape := ⟨2, ![32768, 512]⟩
abbrev S32768 : Shape := ⟨1, ![32768]⟩
abbrev S32768x1 : Shape := ⟨2, ![32768, 1]⟩
abbrev S256x128x4x128 : Shape := ⟨4, ![256, 128, 4, 128]⟩
abbrev S4x256x128x128 : Shape := ⟨4, ![4, 256, 128, 128]⟩
abbrev S256x128x512 : Shape := ⟨3, ![256, 128, 512]⟩
abbrev S1x128x512 : Shape := ⟨3, ![1, 128, 512]⟩

abbrev nBuf : Space → Nat
  | .hbm => 72
  | .vmem => 0
  | .smem => 0
  | _ => 0

abbrev bufTy : (tb : Table) → Fin (tcTables nBuf tb) → BufTy
  | .hbm, ⟨0, _⟩ => ⟨S32768x4736, .f32⟩
  | .hbm, ⟨1, _⟩ => ⟨S4x128x128, .bf16⟩
  | .hbm, ⟨2, _⟩ => ⟨S1x512, .f32⟩
  | .hbm, ⟨3, _⟩ => ⟨S4x1536, .f32⟩
  | .hbm, ⟨4, _⟩ => ⟨S1x128, .f32⟩
  | .hbm, ⟨5, _⟩ => ⟨S1x128, .f32⟩
  | .hbm, ⟨6, _⟩ => ⟨S31x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S4x128x128, .bf16⟩
  | .hbm, ⟨13, _⟩ => ⟨S128x512, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S_, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S_, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x512, .f32⟩
  | .hbm, ⟨33, _⟩ => ⟨S_, .f32⟩
  | .hbm, ⟨34, _⟩ => ⟨S32768, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S32768x512, .f32⟩
  | .hbm, ⟨40, _⟩ => ⟨S32768x512, .f32⟩
  | .hbm, ⟨41, _⟩ => ⟨S32768x512, .f32⟩
  | .hbm, ⟨42, _⟩ => ⟨S_, .f32⟩
  | .hbm, ⟨43, _⟩ => ⟨S32768, .f32⟩
  | .hbm, ⟨44, _⟩ => ⟨S32768x1, .f32⟩
  | .hbm, ⟨45, _⟩ => ⟨S_, .f32⟩
  | .hbm, ⟨46, _⟩ => ⟨S32768x1, .f32⟩
  | .hbm, ⟨47, _⟩ => ⟨S32768x1, .f32⟩
  | .hbm, ⟨48, _⟩ => ⟨S32768x512, .f32⟩
  | .hbm, ⟨49, _⟩ => ⟨S32768x512, .f32⟩
  | .hbm, ⟨50, _⟩ => ⟨S_, .f32⟩
  | .hbm, ⟨51, _⟩ => ⟨S32768x1, .f32⟩
  | .hbm, ⟨52, _⟩ => ⟨S32768x1, .f32⟩
  | .hbm, ⟨53, _⟩ => ⟨S32768x1, .f32⟩
  | .hbm, ⟨54, _⟩ => ⟨S32768x512, .f32⟩
  | .hbm, ⟨55, _⟩ => ⟨S32768x512, .f32⟩
  | .hbm, ⟨56, _⟩ => ⟨S32768x512, .f32⟩
  | .hbm, ⟨57, _⟩ => ⟨S32768x512, .f32⟩
  | .hbm, ⟨58, _⟩ => ⟨S32768x512, .f32⟩
  | .hbm, ⟨59, _⟩ => ⟨S32768x512, .f32⟩
  | .hbm, ⟨60, _⟩ => ⟨S256x128x4x128, .f32⟩
  | .hbm, ⟨61, _⟩ => ⟨S4x128x128, .f32⟩
  | .hbm, ⟨62, _⟩ => ⟨S4x256x128x128, .f32⟩
  | .hbm, ⟨63, _⟩ => ⟨S256x128x4x128, .f32⟩
  | .hbm, ⟨64, _⟩ => ⟨S256x128x512, .f32⟩
  | .hbm, ⟨65, _⟩ => ⟨S1x128x512, .f32⟩
  | .hbm, ⟨66, _⟩ => ⟨S256x128x512, .f32⟩
  | .hbm, ⟨67, _⟩ => ⟨S256x128x512, .f32⟩
  | .hbm, ⟨68, _⟩ => ⟨S32768x512, .f32⟩
  | .hbm, ⟨69, _⟩ => ⟨S32768x512, .f32⟩
  | .hbm, ⟨70, _⟩ => ⟨S32768x512, .f32⟩
  | .hbm, ⟨71, _⟩ => ⟨S32768x512, .bf16⟩
  | _, _ => ⟨S32768x4736, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_cst_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_cst_6 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_7 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩

abbrev nD : Nat := 1
abbrev τ : Topo := Topo.v7x

variable {F : FTy → Type} [FloatOps F]
-- ==== Proof.Items.lean ====
/- The gated delta rule of ONE head of ONE block of 128 positions, as the kernel computes it: the names of its
   intermediate values, in the order in which the kernel forms them. -/
module

public import proofs.«01_k».proof.Proof.Gen.KernelIdeal.Frame.RunB

@[expose] public section

noncomputable section

namespace Cert.GdnItem

open Idealize.ShloMosaic Cert.KernelIdeal Cert.KernelIdeal.Gen

variable {F : FTy → Type} [FloatOps F]

/-- Position `i` and position `j` lie in the same chunk of 64. -/
def same : IVec S128x128 1 :=
  cmpi .eq k0_pay3 (select (andi (cmpi .ne k0_pay5 (broadcast S128x128 1#32))
    (cmpi .ne (remsi (iota .tc S128x128 32 [1] iota_S128x128_d1_w32) (broadcast S128x128 64#32)) (broadcast S128x128 0#32)))
    (subi k0_pay4 (broadcast S128x128 1#32)) k0_pay4)
/-- Same chunk, column not after the row. -/
def maskF1 : IVec S128x128 1 := andi same (cmpi .sle (iota .tc S128x128 32 [1] iota_S128x128_d1_w32) (iota .tc S128x128 32 [0] iota_S128x128_d0_w32))
/-- Same chunk, column before the row. -/
def maskF2 : IVec S128x128 1 := andi same (cmpi .slt (iota .tc S128x128 32 [1] iota_S128x128_d1_w32) (iota .tc S128x128 32 [0] iota_S128x128_d0_w32))
/-- Same chunk, column not before the row. -/
def maskB1 : IVec S128x128 1 := andi same (cmpi .sge (iota .tc S128x128 32 [1] iota_S128x128_d1_w32) (iota .tc S128x128 32 [0] iota_S128x128_d0_w32))
/-- Same chunk, column after the row. -/
def maskB2 : IVec S128x128 1 := andi same (cmpi .sgt (iota .tc S128x128 32 [1] iota_S128x128_d1_w32) (iota .tc S128x128 32 [0] iota_S128x128_d0_w32))

/-- The pairwise decay of two positions. -/
def decay (m1 : IVec S128x128 1) (g : FVec F S128x1 .f32) (gr : FVec F S1x128 .f32) : FVec F S128x128 .f32 :=
  exp (select m1 (subf (broadcastTo S128x128 g broadcasts_S128x1_S128x128) (broadcastTo S128x128 gr broadcasts_S1x128_S128x128))
    (broadcast S128x128 (Scalar.ofBits .f32 0xFF800000#32)))
/-- Keys over queries, against the keys. -/
def kq (q k : FVec F S128x128 .f32) : FVec F S256x128 .f32 :=
  matmul dot_S256x128_S128x128_S256x128_1_1_0_0_n_n none
    (concatenate S256x128 0 [⟨S128x128, truncf .bf16 k bitsLt_bf16_f32⟩, ⟨S128x128, truncf .bf16 q bitsLt_bf16_f32⟩] concatenates_S128x128_S128x128_S256x128_d0)
    (truncf .bf16 k bitsLt_bf16_f32) (constant S256x128 .f32 0x00000000#32)
/-- The queries against the keys, decayed. -/
def qkm (q k dec : FVec F S128x128 .f32) : FVec F S128x128 .f32 :=
  mulf (extractStridedSlice S128x128 ![128, 0] (kq q k) slices_S256x128_o128_0_S128x128) dec
/-- The strictly triangular matrix whose geometric series the kernel sums. -/
def toff0 (m2 : IVec S128x128 1) (b : FVec F S128x1 .f32) (q k dec : FVec F S128x128 .f32) : FVec F S128x128 .f32 :=
  select m2 (subf (broadcast S128x128 (Scalar.ofBits .f32 0x00000000#32))
      (mulf (mulf (broadcastTo S128x128 b broadcasts_S128x1_S128x128) (extractStridedSlice S128x128 ![0, 0] (kq q k) slices_S256x128_o0_0_S128x128)) dec))
    (broadcast S128x128 (Scalar.ofBits .f32 0x00000000#32))
/-- The product of two square matrices, read as shorter words. -/
def mm (x y : FVec F S128x128 .bf16) : FVec F S128x128 .f32 :=
  matmul dot_S128x128_S128x128_S128x128_1_0_0_1_n_n none x y (constant S128x128 .f32 0x00000000#32)
/-- The shorter word. -/
def sh {s : Shape} (x : FVec F s .f32) : FVec F s .bf16 := truncf .bf16 x bitsLt_bf16_f32
/-- One doubling of the series: `t + p + t p`. -/
def dbl (t p : FVec F S128x128 .f32) : FVec F S128x128 .f32 := addf (addf t p) (mm (sh t) (sh p))
/-- The square of a matrix. -/
def sq (p : FVec F S128x128 .f32) : FVec F S128x128 .f32 := mm (sh p) (sh p)
/-- Five doublings of the series. -/
def series (t : FVec F S128x128 .f32) : FVec F S128x128 .f32 :=
  dbl (dbl (dbl (dbl (dbl t (sq t)) (sq (sq t))) (sq (sq (sq t)))) (sq (sq (sq (sq t))))) (sq (sq (sq (sq (sq t)))))
/-- The weighted values beside the weighted keys. -/
def rhs (k v : FVec F S128x128 .f32) (b g : FVec F S128x1 .f32) : FVec F S128x256 .f32 :=
  concatenate S128x256 1 [⟨S128x128, mulf v (broadcastTo S128x128 b broadcasts_S128x1_S128x128)⟩,
    ⟨S128x128, mulf k (broadcastTo S128x128 (mulf b (exp g)) broadcasts_S128x1_S128x128)⟩] concatenates_S128x128_S128x128_S128x256_d1
/-- The system solved: the series applied to the right-hand sides. -/
def uw (t : FVec F S128x128 .f32) (r : FVec F S128x256 .f32) : FVec F S128x256 .f32 :=
  addf r (matmul dot_S128x128_S128x256_S128x256_1_0_0_1_n_n none (sh t) (sh r) (constant S128x256 .f32 0x00000000#32))
/-- The decayed queries. -/
def qg (q : FVec F S128x128 .f32) (g : FVec F S128x1 .f32) : FVec F S128x128 .f32 :=
  mulf q (broadcastTo S128x128 (exp g) broadcasts_S128x1_S128x128)
/-- The keys decayed to the end of their chunk, transposed. -/
def kgt (k : FVec F S128x128 .f32) (g : FVec F S128x1 .f32) (gl0 gl1 : FVec F S1x1 .f32) : FVec F S128x128 .f32 :=
  transpose S128x128 [1, 0] (mulf k (broadcastTo S128x128 (exp (subf (select
    (cmpi .slt (iota .tc S128x1 32 [0] iota_S128x1_d0_w32) (broadcast S128x1 64#32))
    (broadcastTo S128x1 (shapeCast S1x1 gl0 shapeCasts_S1x1_S1x1) broadcasts_S1x1_S128x1)
    (broadcastTo S128x1 (shapeCast S1x1 gl1 shapeCasts_S1x1_S1x1) broadcasts_S1x1_S128x1)) g)) broadcasts_S128x1_S128x128))
    transposes_S128x128_p1_0_S128x128

/-- The weighted keys and the decayed queries of the first chunk, against the state. -/
def ws0 (u : FVec F S128x256 .f32) (qg s : FVec F S128x128 .f32) : FVec F S128x128 .f32 :=
  mm (sh (concatenate S128x128 0 [⟨S64x128, extractStridedSlice S64x128 ![0, 128] u slices_S128x256_o0_128_S64x128⟩,
    ⟨S64x128, extractStridedSlice S64x128 ![0, 0] qg slices_S128x128_o0_0_S64x128⟩] concatenates_S64x128_S64x128_S128x128_d0)) (sh s)
/-- The weighted keys and the decayed queries of the second chunk, against the state. -/
def ws1 (u : FVec F S128x256 .f32) (qg s : FVec F S128x128 .f32) : FVec F S128x128 .f32 :=
  mm (sh (concatenate S128x128 0 [⟨S64x128, extractStridedSlice S64x128 ![64, 128] u slices_S128x256_o64_128_S64x128⟩,
    ⟨S64x128, extractStridedSlice S64x128 ![64, 0] qg slices_S128x128_o64_0_S64x128⟩] concatenates_S64x128_S64x128_S128x128_d0)) (sh s)
/-- The corrected values of the first chunk. -/
def vn0 (u : FVec F S128x256 .f32) (ws : FVec F S128x128 .f32) : FVec F S64x128 .f32 :=
  subf (extractStridedSlice S64x128 ![0, 0] u slices_S128x256_o0_0_S64x128) (extractStridedSlice S64x128 ![0, 0] ws slices_S128x128_o0_0_S64x128)
/-- The corrected values of the second chunk. -/
def vn1 (u : FVec F S128x256 .f32) (ws : FVec F S128x128 .f32) : FVec F S64x128 .f32 :=
  subf (extractStridedSlice S64x128 ![64, 0] u slices_S128x256_o64_0_S64x128) (extractStridedSlice S64x128 ![0, 0] ws slices_S128x128_o0_0_S64x128)
/-- The results of the first chunk. -/
def oc0 (qk ws : FVec F S128x128 .f32) (vn : FVec F S64x128 .f32) : FVec F S64x128 .f32 :=
  addf (extractStridedSlice S64x128 ![64, 0] ws slices_S128x128_o64_0_S64x128)
    (matmul dot_S64x64_S64x128_S64x128_1_0_0_1_n_n none (sh (extractStridedSlice S64x64 ![0, 0] qk slices_S128x128_o0_0_S64x64)) (sh vn) (constant S64x128 .f32 0x00000000#32))
/-- The results of the second chunk. -/
def oc1 (qk ws : FVec F S128x128 .f32) (vn : FVec F S64x128 .f32) : FVec F S64x128 .f32 :=
  addf (extractStridedSlice S64x128 ![64, 0] ws slices_S128x128_o64_0_S64x128)
    (matmul dot_S64x64_S64x128_S64x128_1_0_0_1_n_n none (sh (extractStridedSlice S64x64 ![64, 64] qk slices_S128x128_o64_64_S64x64)) (sh vn) (constant S64x128 .f32 0x00000000#32))
/-- The state after the first chunk. -/
def st0 (s : FVec F S128x128 .f32) (gl : FVec F S1x1 .f32) (kt : FVec F S128x128 .f32) (vn : FVec F S64x128 .f32) : FVec F S128x128 .f32 :=
  addf (mulf s (broadcastTo S128x128 (exp gl) broadcasts_S1x1_S128x128))
    (matmul dot_S128x64_S64x128_S128x128_1_0_0_1_n_n none (sh (extractStridedSlice S128x64 ![0, 0] kt slices_S128x128_o0_0_S128x64)) (sh vn) (constant S128x128 .f32 0x00000000#32))
/-- The state after the second chunk. -/
def st1 (s : FVec F S128x128 .f32) (gl : FVec F S1x1 .f32) (kt : FVec F S128x128 .f32) (vn : FVec F S64x128 .f32) : FVec F S128x128 .f32 :=
  addf (mulf s (broadcastTo S128x128 (exp gl) broadcasts_S1x1_S128x128))
    (matmul dot_S128x64_S64x128_S128x128_1_0_0_1_n_n none (sh (extractStridedSlice S128x64 ![0, 64] kt slices_S128x128_o0_64_S128x64)) (sh vn) (constant S128x128 .f32 0x00000000#32))

/-- What a head reads of a block: its queries, keys and values, its weights, its cumulative decays as a column and as a
    row, and the cumulative decay of the last position of either chunk. -/
structure In (F : FTy → Type) where
  q : FVec F S128x128 .f32
  k : FVec F S128x128 .f32
  v : FVec F S128x128 .f32
  b : FVec F S128x1 .f32
  g : FVec F S128x1 .f32
  gr : FVec F S1x128 .f32
  gl0 : FVec F S1x1 .f32
  gl1 : FVec F S1x1 .f32

/-- The block's solved system. -/
def U (m1 m2 : IVec S128x128 1) (x : In F) : FVec F S128x256 .f32 :=
  uw (series (toff0 m2 x.b x.q x.k (decay m1 x.g x.gr))) (rhs x.k x.v x.b x.g)
/-- The block's decayed products of queries and keys. -/
def QK (m1 : IVec S128x128 1) (x : In F) : FVec F S128x128 .f32 := qkm x.q x.k (decay m1 x.g x.gr)
/-- One chunk's corrected values, from the state before it. -/
def V0 (m1 m2 : IVec S128x128 1) (x : In F) (s : FVec F S128x128 .f32) : FVec F S64x128 .f32 := vn0 (U m1 m2 x) (ws0 (U m1 m2 x) (qg x.q x.g) s)
/-- The other chunk's corrected values. -/
def V1 (m1 m2 : IVec S128x128 1) (x : In F) (s : FVec F S128x128 .f32) : FVec F S64x128 .f32 := vn1 (U m1 m2 x) (ws1 (U m1 m2 x) (qg x.q x.g) s)
/-- One chunk's results, from the state before it. -/
def O0 (m1 m2 : IVec S128x128 1) (x : In F) (s : FVec F S128x128 .f32) : FVec F S64x128 .f32 := oc0 (QK m1 x) (ws0 (U m1 m2 x) (qg x.q x.g) s) (V0 m1 m2 x s)
/-- The other chunk's results. -/
def O1 (m1 m2 : IVec S128x128 1) (x : In F) (s : FVec F S128x128 .f32) : FVec F S64x128 .f32 := oc1 (QK m1 x) (ws1 (U m1 m2 x) (qg x.q x.g) s) (V1 m1 m2 x s)
/-- The state after the first chunk's positions, from the state before. -/
def T0 (m1 m2 : IVec S128x128 1) (x : In F) (s : FVec F S128x128 .f32) : FVec F S128x128 .f32 := st0 s x.gl0 (kgt x.k x.g x.gl0 x.gl1) (V0 m1 m2 x s)
/-- The state after the second chunk's positions, from the state before. -/
def T1 (m1 m2 : IVec S128x128 1) (x : In F) (s : FVec F S128x128 .f32) : FVec F S128x128 .f32 := st1 s x.gl1 (kgt x.k x.g x.gl0 x.gl1) (V1 m1 m2 x s)

/-- Forward: the block's results. -/
def outF (x : In F) (s : FVec F S128x128 .f32) : FVec F S128x128 .f32 :=
  concatenate S128x128 0 [⟨S64x128, O0 maskF1 maskF2 x s⟩, ⟨S64x128, O1 maskF1 maskF2 x (T0 maskF1 maskF2 x s)⟩] concatenates_S64x128_S64x128_S128x128_d0
/-- Forward: the state the block leaves. -/
def stF (x : In F) (s : FVec F S128x128 .f32) : FVec F S128x128 .f32 := T1 maskF1 maskF2 x (T0 maskF1 maskF2 x s)
/-- Backward: the block's results. -/
def outB (x : In F) (s : FVec F S128x128 .f32) : FVec F S128x128 .f32 :=
  concatenate S128x128 0 [⟨S64x128, O0 maskB1 maskB2 x (T1 maskB1 maskB2 x s)⟩, ⟨S64x128, O1 maskB1 maskB2 x s⟩] concatenates_S64x128_S64x128_S128x128_d0
/-- Backward: the state the block leaves. -/
def stB (x : In F) (s : FVec F S128x128 .f32) : FVec F S128x128 .f32 := T0 maskB1 maskB2 x (T1 maskB1 maskB2 x s)

/-- A tile of 128 by 128 of a matrix, at a row and a column. -/
def tile {m n : ℕ} (x : Vec F ⟨2, ![m, n]⟩ .f32) (r c : ℕ) (h : ∀ a, (![r, c] : Fin 2 → ℕ) a + S128x128.size a ≤ (⟨2, ![m, n]⟩ : Shape).size a) : FVec F S128x128 .f32 :=
  View.ld x (Rect.unit (s := ⟨2, ![m, n]⟩) ![r, c] S128x128.size h)

/-- A tile of 128 by 128 fits. -/
theorem fits {m n r c : ℕ} (h1 : r + 128 ≤ m) (h2 : c + 128 ≤ n) : ∀ a, (![r, c] : Fin 2 → ℕ) a + S128x128.size a ≤ (⟨2, ![m, n]⟩ : Shape).size a := by
  intro a; match a with
  | ⟨0, _⟩ => exact h1
  | ⟨1, _⟩ => exact h2

/-- A column of a tile is a slice of it. -/
theorem colS {c : ℕ} (h : c + 1 ≤ 128) : S128x128.Slices ![0, c] S128x1 := by
  refine ⟨rfl, fun a => ?_⟩; match a with
  | ⟨0, _⟩ => exact Nat.le_refl 128
  | ⟨1, _⟩ => exact h
/-- A row of a tile is a slice of it. -/
theorem rowS {c : ℕ} (h : c + 1 ≤ 128) : S128x128.Slices ![c, 0] S1x128 := by
  refine ⟨rfl, fun a => ?_⟩; match a with
  | ⟨0, _⟩ => exact h
  | ⟨1, _⟩ => exact Nat.le_refl 128
/-- An element of a tile is a slice of it. -/
theorem eltS {r c : ℕ} (h1 : r + 1 ≤ 128) (h : c + 1 ≤ 128) : S128x128.Slices ![r, c] S1x1 := by
  refine ⟨rfl, fun a => ?_⟩; match a with
  | ⟨0, _⟩ => exact h1
  | ⟨1, _⟩ => exact h

/-- What head `h` reads, forward (`d = 0`, last positions 63 and 127) or backward (`d = 1`, last positions 0 and 64), of
    the block at row `r` of its window. -/
def inp (x0 : Vec F S256x1536 .f32) (x1 : Vec F S256x128 .f32) (x2 : Vec F S128x256 .f32) (d l0 l1 r h : ℕ) (hd : d < 2) (h0 : l0 < 128) (h1 : l1 < 128) (hr : r + 128 ≤ 256) (hh : h < 4) : In F where
  q := tile x0 r (128 * h) (fits hr (by omega))
  k := tile x0 r (512 + 128 * h) (fits hr (by omega))
  v := tile x0 r (1024 + 128 * h) (fits hr (by omega))
  b := extractStridedSlice S128x1 ![0, 4 * d + h] (tile x1 r 0 (fits hr (by omega))) (colS (by omega))
  g := extractStridedSlice S128x1 ![0, 8 + 4 * d + h] (tile x1 r 0 (fits hr (by omega))) (colS (by omega))
  gr := extractStridedSlice S1x128 ![8 + 4 * d + h, 0] (shapeCast S128x128 (tile x2 0 r (fits (by omega) hr)) shapeCasts_S128x128_S128x128) (rowS (by omega))
  gl0 := extractStridedSlice S1x1 ![l0, 8 + 4 * d + h] (tile x1 r 0 (fits hr (by omega))) (eltS h0 (by omega))
  gl1 := extractStridedSlice S1x1 ![l1, 8 + 4 * d + h] (tile x1 r 0 (fits hr (by omega))) (eltS h1 (by omega))

/-- Forward, block `r` of the window. -/
def inF (x0 : Vec F S256x1536 .f32) (x1 : Vec F S256x128 .f32) (x2 : Vec F S128x256 .f32) (r h : ℕ) (hr : r + 128 ≤ 256) (hh : h < 4) : In F :=
  inp x0 x1 x2 0 63 127 r h (by omega) (by omega) (by omega) hr hh
/-- Backward, block `r` of the window. -/
def inB (x0 : Vec F S256x1536 .f32) (x1 : Vec F S256x128 .f32) (x2 : Vec F S128x256 .f32) (r h : ℕ) (hr : r + 128 ≤ 256) (hh : h < 4) : In F :=
  inp x0 x1 x2 1 0 64 r h (by omega) (by omega) (by omega) hr hh

/-- The state of one direction and head, as the kernel reads it. -/
def stIn (xs : Vec F S2x4x128x128 .f32) (d h : ℕ) (hi : ∀ a, (![d, h, 0, 0] : Fin 4 → ℕ) a + S1x1x128x128.size a ≤ S2x4x128x128.size a) : FVec F S128x128 .f32 :=
  shapeCast S128x128 (View.ld xs (Rect.unit (s := S2x4x128x128) ![d, h, 0, 0] S1x1x128x128.size hi)) shapeCasts_S1x1x128x128_S128x128

/-- One direction and head of the state fits. -/
theorem stFits {d h : ℕ} (hd : d < 2) (hh : h < 4) : ∀ a, (![d, h, 0, 0] : Fin 4 → ℕ) a + S1x1x128x128.size a ≤ S2x4x128x128.size a := by
  intro a; match a with
  | ⟨0, _⟩ => exact hd
  | ⟨1, _⟩ => exact hh
  | ⟨2, _⟩ => exact Nat.le_refl 128
  | ⟨3, _⟩ => exact Nat.le_refl 128

end Cert.GdnItem

end
-- ==== Proof.Algebra.lean ====
/- The algebra of the gated delta rule over the reals: one token at a time, and a chunk at a time. -/
module

public import Mathlib.Data.Matrix.Mul
public import Mathlib.LinearAlgebra.Matrix.Defs
public import Mathlib.Analysis.SpecialFunctions.Exp
public import Mathlib.Tactic.NoncommRing
public import Mathlib.Tactic.Ring

@[expose] public section

noncomputable section

namespace Cert.GdnAlg

open Finset

variable {ι : Type} [Fintype ι]

/-- The state (one column of it) after `n` tokens of the gated delta rule, from the state `s`: token `t` decays the state by
    `exp (g t)`, takes out what the state answers to the key, and puts in the value. -/
def rst (g β : ℕ → ℝ) (k : ℕ → ι → ℝ) (v : ℕ → ℝ) (s : ι → ℝ) : ℕ → ι → ℝ
  | 0 => s
  | t + 1 => fun a => Real.exp (g t) * (rst g β k v s t a - β t * k t a * ∑ b, k t b * rst g β k v s t b) + β t * k t a * v t

/-- Running `m + n` tokens is running `m`, then the next `n`. -/
theorem rst_add (g β : ℕ → ℝ) (k : ℕ → ι → ℝ) (v : ℕ → ℝ) (s : ι → ℝ) (m n : ℕ) :
    rst g β k v s (m + n) = rst (fun t => g (m + t)) (fun t => β (m + t)) (fun t => k (m + t)) (fun t => v (m + t)) (rst g β k v s m) n := by
  induction n with
  | zero => rfl
  | succ n ih =>
    rw [← Nat.add_assoc]
    funext a
    simp only [rst, ih]

/-- Tokens that agree up to `n` leave the same state. -/
theorem rst_congr {g g' β β' : ℕ → ℝ} {k k' : ℕ → ι → ℝ} {v v' : ℕ → ℝ} {s s' : ι → ℝ} (n : ℕ)
    (hg : ∀ t < n, g t = g' t) (hb : ∀ t < n, β t = β' t) (hk : ∀ t < n, k t = k' t) (hv : ∀ t < n, v t = v' t) (hs : s = s') :
    rst g β k v s n = rst g' β' k' v' s' n := by
  subst hs
  induction n with
  | zero => rfl
  | succ n ih =>
    have := ih (fun t h => hg t (by omega)) (fun t h => hb t (by omega)) (fun t h => hk t (by omega)) (fun t h => hv t (by omega))
    funext a
    simp only [rst, this, hg n (by omega), hb n (by omega), hk n (by omega), hv n (by omega)]

/-- The cumulative decay before token `t` of a chunk. -/
def prev (γ : ℕ → ℝ) (t : ℕ) : ℝ := if t = 0 then 0 else γ (t - 1)

/-- **A chunk at a time.** With `d` the solution of the chunk's triangular system, the state after `t` tokens is the decayed
    initial state plus the decayed sum of the outer products of the keys with `d`. -/
theorem chunk_state (γ β : ℕ → ℝ) (k : ℕ → ι → ℝ) (v : ℕ → ℝ) (s : ι → ℝ) (d : ℕ → ℝ) (n : ℕ)
    (hd : ∀ t < n, d t = β t * v t - β t * Real.exp (γ t) * (∑ b, k t b * s b)
      - ∑ j ∈ range t, β t * (∑ b, k t b * k j b) * Real.exp (γ t - γ j) * d j) :
    ∀ t ≤ n, ∀ a, rst (fun t => γ t - prev γ t) β k v s t a
      = Real.exp (prev γ t) * s a + ∑ j ∈ range t, Real.exp (prev γ t - γ j) * k j a * d j := by
  intro t
  induction t with
  | zero => intro _ a; simp [rst, prev]
  | succ t ih =>
    intro ht a
    have ih' := ih (by omega)
    have hp : prev γ (t + 1) = γ t := by simp [prev]
    have e1 : ∀ x, Real.exp (γ t - prev γ t) * Real.exp (prev γ t - x) = Real.exp (γ t - x) := by
      intro x; rw [← Real.exp_add]; congr 1; ring
    have e0 : Real.exp (γ t - prev γ t) * Real.exp (prev γ t) = Real.exp (γ t) := by
      rw [← Real.exp_add]; congr 1; ring
    have hR : ∀ b, Real.exp (γ t - prev γ t) * rst (fun t => γ t - prev γ t) β k v s t b
        = Real.exp (γ t) * s b + ∑ j ∈ range t, Real.exp (γ t - γ j) * k j b * d j := by
      intro b
      rw [ih' b, mul_add, ← mul_assoc, e0, mul_sum]
      congr 1
      refine sum_congr rfl fun j _ => ?_
      rw [← mul_assoc, ← mul_assoc, e1]
    have hS : Real.exp (γ t - prev γ t) * ∑ b, k t b * rst (fun t => γ t - prev γ t) β k v s t b
        = Real.exp (γ t) * (∑ b, k t b * s b) + ∑ j ∈ range t, (∑ b, k t b * k j b) * Real.exp (γ t - γ j) * d j := by
      rw [mul_sum, mul_sum]
      have : ∀ b, Real.exp (γ t - prev γ t) * (k t b * rst (fun t => γ t - prev γ t) β k v s t b)
          = Real.exp (γ t) * (k t b * s b) + ∑ j ∈ range t, k t b * k j b * Real.exp (γ t - γ j) * d j := by
        intro b
        have := hR b
        calc _ = k t b * (Real.exp (γ t - prev γ t) * rst (fun t => γ t - prev γ t) β k v s t b) := by ring
          _ = _ := by
            rw [this, mul_add, mul_sum]
            congr 1
            · ring
            · exact sum_congr rfl fun j _ => by ring
      rw [sum_congr rfl fun b _ => this b, sum_add_distrib]
      congr 1
      rw [sum_comm]
      refine sum_congr rfl fun j _ => ?_
      rw [sum_mul, sum_mul]
    have key : rst (fun t => γ t - prev γ t) β k v s (t + 1) a
        = (Real.exp (γ t - prev γ t) * rst (fun t => γ t - prev γ t) β k v s t a)
          - β t * k t a * (Real.exp (γ t - prev γ t) * ∑ b, k t b * rst (fun t => γ t - prev γ t) β k v s t b) + β t * k t a * v t := by
      simp only [rst]; ring
    rw [key, hR, hS, hp, sum_range_succ, hd t (by omega), sub_self, Real.exp_zero]
    have : ∑ j ∈ range t, β t * (∑ b, k t b * k j b) * Real.exp (γ t - γ j) * d j
        = β t * ∑ j ∈ range t, (∑ b, k t b * k j b) * Real.exp (γ t - γ j) * d j := by
      rw [mul_sum]; exact sum_congr rfl fun j _ => by ring
    rw [this]; ring

/-- The answers to the queries, a chunk at a time. -/
theorem chunk_out (γ β : ℕ → ℝ) (k : ℕ → ι → ℝ) (v : ℕ → ℝ) (s : ι → ℝ) (d : ℕ → ℝ) (n : ℕ)
    (hd : ∀ t < n, d t = β t * v t - β t * Real.exp (γ t) * (∑ b, k t b * s b)
      - ∑ j ∈ range t, β t * (∑ b, k t b * k j b) * Real.exp (γ t - γ j) * d j) (t : ℕ) (ht : t < n) (q : ι → ℝ) :
    ∑ b, q b * rst (fun t => γ t - prev γ t) β k v s (t + 1) b
      = Real.exp (γ t) * (∑ b, q b * s b) + ∑ j ∈ range (t + 1), (∑ b, q b * k j b) * Real.exp (γ t - γ j) * d j := by
  have h := chunk_state γ β k v s d n hd (t + 1) (by omega)
  have hp : prev γ (t + 1) = γ t := by simp [prev]
  rw [hp] at h
  rw [sum_congr rfl fun b _ => by rw [h b, mul_add, mul_sum], sum_add_distrib, mul_sum]
  congr 1
  · exact sum_congr rfl fun b _ => by ring
  · rw [sum_comm]
    refine sum_congr rfl fun j _ => ?_
    rw [sum_mul, sum_mul]
    exact sum_congr rfl fun b _ => by ring

variable {n : Type} [Fintype n] [DecidableEq n]

/-- A power of a matrix that only goes up a rank goes up by as many ranks. -/
theorem pow_rank (T : Matrix n n ℝ) (ρ : n → ℕ) (h : ∀ i j, T i j ≠ 0 → ρ j < ρ i) :
    ∀ m i j, (T ^ m) i j ≠ 0 → ρ j + m ≤ ρ i := by
  intro m
  induction m with
  | zero =>
    intro i j hij
    rw [pow_zero] at hij
    by_cases e : i = j
    · subst e; omega
    · exact absurd (Matrix.one_apply_ne e) hij
  | succ m ih =>
    intro i j hij
    rw [pow_succ, Matrix.mul_apply] at hij
    obtain ⟨l, -, hl⟩ := exists_ne_zero_of_sum_ne_zero hij
    have h1 := ih i l (left_ne_zero_of_mul hl)
    have h2 := h l j (right_ne_zero_of_mul hl)
    omega

/-- A matrix that only goes up a rank below 64 has the 64th power zero. -/
theorem pow_64 (T : Matrix n n ℝ) (ρ : n → ℕ) (hρ : ∀ i, ρ i < 64) (h : ∀ i j, T i j ≠ 0 → ρ j < ρ i) : T ^ 64 = 0 := by
  ext i j
  by_contra hij
  have := pow_rank T ρ h 64 i j hij
  have := hρ i
  omega

/-- One doubling of the series. -/
def mdbl (t p : Matrix n n ℝ) : Matrix n n ℝ := t + p + t * p

/-- Five doublings. -/
def mseries (t : Matrix n n ℝ) : Matrix n n ℝ :=
  mdbl (mdbl (mdbl (mdbl (mdbl t (t * t)) ((t * t) * (t * t))) (((t * t) * (t * t)) * ((t * t) * (t * t))))
    ((((t * t) * (t * t)) * ((t * t) * (t * t))) * (((t * t) * (t * t)) * ((t * t) * (t * t)))))
    (((((t * t) * (t * t)) * ((t * t) * (t * t))) * (((t * t) * (t * t)) * ((t * t) * (t * t)))) *
      ((((t * t) * (t * t)) * ((t * t) * (t * t))) * (((t * t) * (t * t)) * ((t * t) * (t * t)))))

/-- **The doublings invert.** When the 64th power of `T` is zero, `1` plus the series inverts `1 - T`. -/
theorem series_inv (T : Matrix n n ℝ) (h : T ^ 64 = 0) : (1 - T) * (1 + mseries T) = 1 := by
  have e : ∀ t p : Matrix n n ℝ, 1 + mdbl t p = (1 + t) * (1 + p) := by
    intro t p; unfold mdbl; noncomm_ring
  have e2 : T * T = T ^ 2 := (pow_two T).symm
  have step : ∀ m, (1 - T ^ m) * (1 + T ^ m) = 1 - T ^ (m + m) := by
    intro m
    rw [pow_add]; noncomm_ring
  unfold mseries
  rw [e, e, e, e, e]
  have p2 : T * T = T ^ 2 := (pow_two T).symm
  have p4 : T ^ 2 * T ^ 2 = T ^ 4 := by rw [← pow_add]
  have p8 : T ^ 4 * T ^ 4 = T ^ 8 := by rw [← pow_add]
  have p16 : T ^ 8 * T ^ 8 = T ^ 16 := by rw [← pow_add]
  have p32 : T ^ 16 * T ^ 16 = T ^ 32 := by rw [← pow_add]
  rw [p2, p4, p8, p16, p32]
  have s1 := step 1
  rw [pow_one] at s1
  simp only [← mul_assoc]
  rw [s1, step 2, step 4, step 8, step 16, step 32, h, sub_zero]

/-- So the series applied to a right-hand side solves the system. -/
theorem series_solve {m : Type} [Fintype m] (T : Matrix n n ℝ) (h : T ^ 64 = 0) (R : Matrix n m ℝ) :
    R + mseries T * R = R + T * (R + mseries T * R) := by
  have h1 : (1 - T) * ((1 + mseries T) * R) = R := by rw [← Matrix.mul_assoc, series_inv T h, Matrix.one_mul]
  have h2 : (1 + mseries T) * R = R + mseries T * R := by rw [Matrix.add_mul, Matrix.one_mul]
  rw [h2, Matrix.sub_mul, Matrix.one_mul] at h1
  exact sub_eq_iff_eq_add.mp h1

end Cert.GdnAlg

end
-- ==== Proof.Reads.lean ====
/- The kernel's intermediate values of one head and one block over the reals: what each operation makes of real arrays. -/
module

public import proofs.«01_k».proof.Proof.Items
public import proofs.«01_k».proof.Proof.Algebra
public import Idealize.ShloMosaic.Lib.Pointwise
public import Idealize.ShloMosaic.Lib.MatmulPlain
public import Idealize.ShloMosaic.Lib.ValueIdx

@[expose] public section

noncomputable section

namespace Cert.GdnItem

open Idealize.ShloMosaic Cert.KernelIdeal Cert.KernelIdeal.Gen Cert.GdnAlg

/-- A real matrix as an array of extended reals. -/
def co {m n : ℕ} {φ : FTy} (M : Matrix (Fin m) (Fin n) ℝ) : FVec Ideal ⟨2, ![m, n]⟩ φ := fun y => ((M (y 0) (y 1) : ℝ) : EReal)

/-- Read at two coordinates. -/
theorem co_apply {m n : ℕ} {φ : FTy} (M : Matrix (Fin m) (Fin n) ℝ) (i : Fin m) (j : Fin n) :
    (co M : FVec Ideal ⟨2, ![m, n]⟩ φ) (ix2 i j) = ((M i j : ℝ) : EReal) := rfl

/-- Arrays of two coordinates agree where they agree at all pairs. -/
theorem ext2 {m n : ℕ} {α : Type} {f g : (⟨2, ![m, n]⟩ : Shape).Idx → α} (h : ∀ i j, f (ix2 i j) = g (ix2 i j)) : f = g := by
  funext y
  rw [Idealize.ShloMosaic.eq_ix2 y]
  exact h _ _

/-- A real sum as an extended real. -/
theorem coe_sum' {ι : Type} (s : Finset ι) (f : ι → ℝ) : ((∑ i ∈ s, f i : ℝ) : EReal) = ∑ i ∈ s, ((f i : ℝ) : EReal) := by
  classical
  induction s using Finset.induction_on with
  | empty => simp
  | insert a s h ih => rw [Finset.sum_insert h, Finset.sum_insert h, EReal.coe_add, ih]

/-- A real sum of products as an extended real. -/
theorem coe_dot {n : ℕ} (f g : Fin n → ℝ) : ∑ k, ((f k : ℝ) : EReal) * ((g k : ℝ) : EReal) = ((∑ k, f k * g k : ℝ) : EReal) := by
  rw [coe_sum']; simp only [EReal.coe_mul]

/-- The product of two matrices of reals, onto zero. -/
theorem mm_plain {M K N : ℕ} {φ₁ φ₂ : FTy} (A : Matrix (Fin M) (Fin K) ℝ) (B : Matrix (Fin K) (Fin N) ℝ) :
    FloatOps.matmul (DotDims.plain M K N) none (co A : FVec Ideal ⟨2, ![M, K]⟩ φ₁) (co B : FVec Ideal ⟨2, ![K, N]⟩ φ₂)
      (constant ⟨2, ![M, N]⟩ .f32 0x00000000#32) = (co (A * B) : FVec Ideal ⟨2, ![M, N]⟩ .f32) := by
  refine ext2 fun i j => ?_
  refine (Ideal.matmul_plain_apply none _ _ _ i j).trans ?_
  simp only [ValueIdx.constant_apply, Ideal.ofBits_zero_f32, zero_add, Matrix.mul_apply]
  exact coe_dot _ _

/-- The product with a transposed right side. -/
theorem mm_tr {M K N : ℕ} {φ₁ φ₂ : FTy} (A : Matrix (Fin M) (Fin K) ℝ) (B : Matrix (Fin N) (Fin K) ℝ) :
    FloatOps.matmul (DotDims.transposedRhs M K N) none (co A : FVec Ideal ⟨2, ![M, K]⟩ φ₁) (co B : FVec Ideal ⟨2, ![N, K]⟩ φ₂)
      (constant ⟨2, ![M, N]⟩ .f32 0x00000000#32) = (co (fun i j => ∑ k, A i k * B j k) : FVec Ideal ⟨2, ![M, N]⟩ .f32) := by
  refine ext2 fun i j => ?_
  refine (Ideal.matmul_transposedRhs_apply none _ _ _ i j).trans ?_
  simp only [ValueIdx.constant_apply, Ideal.ofBits_zero_f32, zero_add]
  exact coe_dot _ _

/-- The shorter word of a real matrix is the same reals. -/
theorem sh_co {m n : ℕ} (A : Matrix (Fin m) (Fin n) ℝ) : (sh (co A) : FVec Ideal ⟨2, ![m, n]⟩ .bf16) = co A := rfl
/-- The kernel's square product. -/
theorem mm_co (A B : Matrix (Fin 128) (Fin 128) ℝ) : mm (F := Ideal) (co A) (co B) = co (A * B) := mm_plain A B
/-- One doubling. -/
theorem dbl_co (A B : Matrix (Fin 128) (Fin 128) ℝ) : dbl (F := Ideal) (co A) (co B) = co (mdbl A B) := by
  unfold dbl mdbl
  rw [sh_co, sh_co, mm_co]
  refine ext2 fun i j => ?_
  exact (by rw [EReal.coe_add, EReal.coe_add] : ((A i j : ℝ) : EReal) + (B i j : ℝ) + ((A * B) i j : ℝ) = (((A i j + B i j + (A * B) i j) : ℝ) : EReal))
/-- A square. -/
theorem sq_co (A : Matrix (Fin 128) (Fin 128) ℝ) : sq (F := Ideal) (co A) = co (A * A) := by unfold sq; rw [sh_co, mm_co]
/-- Five doublings. -/
theorem series_co (A : Matrix (Fin 128) (Fin 128) ℝ) : series (F := Ideal) (co A) = co (mseries A) := by
  unfold series mseries
  simp only [sq_co, dbl_co]

/-- A mask that holds where `p` does. -/
def IsMask (m : IVec S128x128 1) (p : Fin 128 → Fin 128 → Prop) [∀ i j, Decidable (p i j)] : Prop :=
  ∀ i j, m (ix2 i j) = if p i j then 1#1 else 0#1

/-- The decays where the mask holds, zero elsewhere. -/
def rdec (p : Fin 128 → Fin 128 → Prop) [∀ i j, Decidable (p i j)] (g : Fin 128 → ℝ) : Matrix (Fin 128) (Fin 128) ℝ :=
  fun i j => if p i j then Real.exp (g i - g j) else 0

/-- A column of reals. -/
def cc {m : ℕ} (g : Fin m → ℝ) : Matrix (Fin m) (Fin 1) ℝ := fun i _ => g i
/-- A row of reals. -/
def cr {m : ℕ} (g : Fin m → ℝ) : Matrix (Fin 1) (Fin m) ℝ := fun _ i => g i
/-- One real. -/
def c1 (g : ℝ) : Matrix (Fin 1) (Fin 1) ℝ := fun _ _ => g

/-- The pattern of minus infinity. -/
theorem bot_bits : Ideal.ofBits .f32 0xFF800000#32 = (⊥ : EReal) := by
  simp [Ideal.ofBits, Ideal.ieee]

/-- The decays of a block. -/
theorem decay_co (m1 : IVec S128x128 1) (p : Fin 128 → Fin 128 → Prop) [∀ i j, Decidable (p i j)] (h : IsMask m1 p) (g : Fin 128 → ℝ) :
    decay (F := Ideal) m1 (co (cc g)) (co (cr g)) = co (rdec p g) := by
  refine ext2 fun i j => ?_
  have hm := h i j
  pointwise [decay]
  rw [hm, bot_bits, co_apply, co_apply, co_apply]
  unfold rdec cc cr
  by_cases hp : p i j
  · rw [if_pos hp, if_pos hp]
    exact (by rw [← EReal.coe_sub]; rfl : Ideal.exp (((g i : ℝ) : EReal) - (g j : ℝ)) = ((Real.exp (g i - g j) : ℝ) : EReal))
  · rw [if_neg hp, if_neg hp]
    exact (rfl : Ideal.exp ⊥ = ((0 : ℝ) : EReal))

/-- The dot products of two lists of vectors. -/
def gram {m : ℕ} (q : Matrix (Fin m) (Fin 128) ℝ) (k : Matrix (Fin 128) (Fin 128) ℝ) : Matrix (Fin m) (Fin 128) ℝ := fun i j => ∑ a, q i a * k j a
/-- The queries against the keys, decayed. -/
def rqk (q k d : Matrix (Fin 128) (Fin 128) ℝ) : Matrix (Fin 128) (Fin 128) ℝ := fun i j => gram q k i j * d i j
/-- The decayed queries. -/
def rqg (q : Matrix (Fin 128) (Fin 128) ℝ) (g : Fin 128 → ℝ) : Matrix (Fin 128) (Fin 128) ℝ := fun i a => q i a * Real.exp (g i)
/-- The keys decayed to the end of their chunk, transposed. -/
def rkt (k : Matrix (Fin 128) (Fin 128) ℝ) (g : Fin 128 → ℝ) (l0 l1 : ℝ) : Matrix (Fin 128) (Fin 128) ℝ :=
  fun a i => k i a * Real.exp ((if i.val < 64 then l0 else l1) - g i)

/-- Keys over queries. -/
def rkq (q k : Matrix (Fin 128) (Fin 128) ℝ) : Matrix (Fin 256) (Fin 128) ℝ :=
  fun i a => if h : i.val < 128 then k ⟨i.val, h⟩ a else q ⟨i.val - 128, by omega⟩ a

/-- Keys over queries, against the keys. -/
theorem kq_co (q k : Matrix (Fin 128) (Fin 128) ℝ) :
   kq (F := Ideal) (co q) (co k) = co (gram (rkq q k) k) := by
  have e : (concatenate S256x128 0 [⟨S128x128, truncf .bf16 (co k : FVec Ideal S128x128 .f32) bitsLt_bf16_f32⟩, ⟨S128x128, truncf .bf16 (co q : FVec Ideal S128x128 .f32) bitsLt_bf16_f32⟩] concatenates_S128x128_S128x128_S256x128_d0 : FVec Ideal S256x128 .bf16)
     = co (rkq q k) := by
    refine ext2 fun i j => ?_
    pointwise
    rw [co_apply]
    unfold rkq
    split <;> rfl
  unfold kq
  rw [e]
  exact mm_tr _ _

/-- The queries against the keys, decayed. -/
theorem qkm_co (q k d : Matrix (Fin 128) (Fin 128) ℝ) :
    qkm (F := Ideal) (co q) (co k) (co d) = co (rqk q k d) := by
  unfold qkm
  rw [kq_co]
  refine ext2 fun i j => ?_
  pointwise
  simp only [co_apply]
  unfold rqk
  rw [EReal.coe_mul]
  congr 2
  exact Finset.sum_congr rfl fun a _ => by
    unfold rkq
    rw [dif_neg (by simp)]
    congr 2
    apply Fin.ext; simp

/-- The strictly triangular matrix of a block. -/
def rT (p1 p2 : Fin 128 → Fin 128 → Prop) [∀ i j, Decidable (p1 i j)] [∀ i j, Decidable (p2 i j)] (k : Matrix (Fin 128) (Fin 128) ℝ) (b g : Fin 128 → ℝ) :
    Matrix (Fin 128) (Fin 128) ℝ :=
  fun i j => if p2 i j then 0 - b i * gram k k i j * rdec p1 g i j else 0

/-- The strictly triangular matrix of a block. -/
theorem toff0_co (m2 : IVec S128x128 1) (p1 p2 : Fin 128 → Fin 128 → Prop) [∀ i j, Decidable (p1 i j)] [∀ i j, Decidable (p2 i j)] (h : IsMask m2 p2)
    (q k : Matrix (Fin 128) (Fin 128) ℝ) (b g : Fin 128 → ℝ) :
    toff0 (F := Ideal) m2 (co (cc b)) (co q) (co k) (co (rdec p1 g)) = co (rT p1 p2 k b g) := by
  unfold toff0
  rw [kq_co]
  refine ext2 fun i j => ?_
  have hm := h i j
  pointwise
  rw [hm]
  simp only [co_apply]
  unfold rT
  by_cases hp : p2 i j
  · rw [if_pos hp, if_pos hp]
    have e : (∑ a, rkq q k ⟨i.val, by omega⟩ a * k j a) = gram k k i j :=
      Finset.sum_congr rfl fun a _ => by unfold rkq; rw [dif_pos i.isLt]
    rw [EReal.coe_sub, EReal.coe_mul, EReal.coe_mul, ← e]
    rfl
  · rw [if_neg hp, if_neg hp]
    rfl

/-- The weighted values beside the weighted decayed keys. -/
def rrhs (k v : Matrix (Fin 128) (Fin 128) ℝ) (b g : Fin 128 → ℝ) : Matrix (Fin 128) (Fin 256) ℝ :=
  fun i j => if h : j.val < 128 then v i ⟨j.val, h⟩ * b i else k i ⟨j.val - 128, by omega⟩ * (b i * Real.exp (g i))

/-- The right-hand sides of a block. -/
theorem rhs_co (k v : Matrix (Fin 128) (Fin 128) ℝ) (b g : Fin 128 → ℝ) :
    rhs (F := Ideal) (co k) (co v) (co (cc b)) (co (cc g)) = co (rrhs k v b g) := by
  refine ext2 fun i j => ?_
  pointwise [rhs]
  simp only [co_apply]
  unfold rrhs
  split
  · rw [EReal.coe_mul]; rfl
  · rw [EReal.coe_mul, EReal.coe_mul]; rfl

/-- The system solved. -/
theorem uw_co (t : Matrix (Fin 128) (Fin 128) ℝ) (r : Matrix (Fin 128) (Fin 256) ℝ) :
    uw (F := Ideal) (co t) (co r) = co (r + t * r) := by
  unfold uw
  rw [sh_co, sh_co]
  have e : matmul dot_S128x128_S128x256_S128x256_1_0_0_1_n_n none (co t : FVec Ideal S128x128 .bf16) (co r : FVec Ideal S128x256 .bf16) (constant S128x256 .f32 0x00000000#32)
      = co (t * r) := mm_plain t r
  rw [e]
  refine ext2 fun i j => ?_
  exact (by rw [EReal.coe_add] : ((r i j : ℝ) : EReal) + ((t * r) i j : ℝ) = (((r i j + (t * r) i j) : ℝ) : EReal))

/-- The decayed queries. -/
theorem qg_co (q : Matrix (Fin 128) (Fin 128) ℝ) (g : Fin 128 → ℝ) :
    qg (F := Ideal) (co q) (co (cc g)) = co (rqg q g) := by
  refine ext2 fun i j => ?_
  pointwise [qg]
  simp only [co_apply]
  unfold rqg
  rw [EReal.coe_mul]; rfl

/-- The keys decayed to the end of their chunk, transposed. -/
theorem kgt_co (k : Matrix (Fin 128) (Fin 128) ℝ) (g : Fin 128 → ℝ) (l0 l1 : ℝ) :
    kgt (F := Ideal) (co k) (co (cc g)) (co (c1 l0)) (co (c1 l1)) = co (rkt k g l0 l1) := by
  refine ext2 fun a i => ?_
  pointwise [kgt]
  have hc : IntOp.cmpi CmpIPredicate.slt (BitVec.ofNat 32 i.val) 64#32 = if i.val < 64 then 1#1 else 0#1 :=
    (by decide +kernel : ∀ i : Fin 128, IntOp.cmpi CmpIPredicate.slt (BitVec.ofNat 32 i.val) 64#32 = if i.val < 64 then 1#1 else 0#1) i
  rw [hc]
  simp only [co_apply]
  unfold rkt
  by_cases h : i.val < 64
  · rw [if_pos h, if_pos h]
    exact (by rw [EReal.coe_mul, ← EReal.coe_sub]; rfl : ((k i a : ℝ) : EReal) * Ideal.exp (((l0 : ℝ) : EReal) - (g i : ℝ)) = (((k i a * Real.exp (l0 - g i)) : ℝ) : EReal))
  · rw [if_neg h, if_neg h]
    exact (by rw [EReal.coe_mul, ← EReal.coe_sub]; rfl : ((k i a : ℝ) : EReal) * Ideal.exp (((l1 : ℝ) : EReal) - (g i : ℝ)) = (((k i a * Real.exp (l1 - g i)) : ℝ) : EReal))

/-- Position `i` of the first chunk. -/
def ro0 (i : Fin 64) : Fin 128 := ⟨i.val, by omega⟩
/-- Position `i` of the second chunk. -/
def ro1 (i : Fin 64) : Fin 128 := ⟨64 + i.val, by omega⟩
/-- The left half. -/
def lo (i : Fin 128) : Fin 256 := ⟨i.val, by omega⟩
/-- The right half. -/
def hi (i : Fin 128) : Fin 256 := ⟨128 + i.val, by omega⟩

/-- Rows and columns picked from a matrix. -/
def pick {m n m' n' : ℕ} (A : Matrix (Fin m) (Fin n) ℝ) (f : Fin m' → Fin m) (g : Fin n' → Fin n) : Matrix (Fin m') (Fin n') ℝ := fun i j => A (f i) (g j)

/-- The weighted keys over the decayed queries of a chunk. -/
def rw0 (ro : Fin 64 → Fin 128) (u : Matrix (Fin 128) (Fin 256) ℝ) (qg : Matrix (Fin 128) (Fin 128) ℝ) : Matrix (Fin 128) (Fin 128) ℝ :=
  fun i a => if h : i.val < 64 then u (ro ⟨i.val, h⟩) (hi a) else qg (ro ⟨i.val - 64, by omega⟩) a

/-- The first chunk's. -/
theorem ws0_co (u : Matrix (Fin 128) (Fin 256) ℝ) (qg s : Matrix (Fin 128) (Fin 128) ℝ) :
    ws0 (F := Ideal) (co u) (co qg) (co s) = co (rw0 ro0 u qg * s) := by
  unfold ws0
  have e : (concatenate S128x128 0 [⟨S64x128, extractStridedSlice S64x128 ![0, 128] (co u : FVec Ideal S128x256 .f32) slices_S128x256_o0_128_S64x128⟩,
    ⟨S64x128, extractStridedSlice S64x128 ![0, 0] (co qg : FVec Ideal S128x128 .f32) slices_S128x128_o0_0_S64x128⟩] concatenates_S64x128_S64x128_S128x128_d0 : FVec Ideal S128x128 .f32)
     = co (rw0 ro0 u qg) := by
    refine ext2 fun i j => ?_
    pointwise
    rw [co_apply]
    unfold rw0
    split <;> rfl
  rw [e, sh_co, sh_co, mm_co]
/-- The second chunk's. -/
theorem ws1_co (u : Matrix (Fin 128) (Fin 256) ℝ) (qg s : Matrix (Fin 128) (Fin 128) ℝ) :
    ws1 (F := Ideal) (co u) (co qg) (co s) = co (rw0 ro1 u qg * s) := by
  unfold ws1
  have e : (concatenate S128x128 0 [⟨S64x128, extractStridedSlice S64x128 ![64, 128] (co u : FVec Ideal S128x256 .f32) slices_S128x256_o64_128_S64x128⟩,
    ⟨S64x128, extractStridedSlice S64x128 ![64, 0] (co qg : FVec Ideal S128x128 .f32) slices_S128x128_o64_0_S64x128⟩] concatenates_S64x128_S64x128_S128x128_d0 : FVec Ideal S128x128 .f32)
     = co (rw0 ro1 u qg) := by
    refine ext2 fun i j => ?_
    pointwise
    rw [co_apply]
    unfold rw0
    split <;> rfl
  rw [e, sh_co, sh_co, mm_co]

/-- A chunk's corrected values. -/
def rV (ro : Fin 64 → Fin 128) (u : Matrix (Fin 128) (Fin 256) ℝ) (s : Matrix (Fin 128) (Fin 128) ℝ) : Matrix (Fin 64) (Fin 128) ℝ :=
  fun i e => u (ro i) (lo e) - ∑ a, u (ro i) (hi a) * s a e

/-- The first chunk's corrected values. -/
theorem vn0_co (u : Matrix (Fin 128) (Fin 256) ℝ) (qg s : Matrix (Fin 128) (Fin 128) ℝ) :
    vn0 (F := Ideal) (co u) (co (rw0 ro0 u qg * s)) = co (rV ro0 u s) := by
  refine ext2 fun i e => ?_
  pointwise [vn0]
  simp only [co_apply]
  unfold rV
  rw [EReal.coe_sub, Matrix.mul_apply]
  congr 2
  exact Finset.sum_congr rfl fun a _ => by unfold rw0; rw [dif_pos i.isLt]
/-- The second chunk's corrected values. -/
theorem vn1_co (u : Matrix (Fin 128) (Fin 256) ℝ) (qg s : Matrix (Fin 128) (Fin 128) ℝ) :
    vn1 (F := Ideal) (co u) (co (rw0 ro1 u qg * s)) = co (rV ro1 u s) := by
  refine ext2 fun i e => ?_
  pointwise [vn1]
  simp only [co_apply]
  unfold rV
  rw [EReal.coe_sub, Matrix.mul_apply]
  congr 2
  exact Finset.sum_congr rfl fun a _ => by unfold rw0; rw [dif_pos i.isLt]

/-- A chunk's results. -/
def rO (ro : Fin 64 → Fin 128) (qk qg s : Matrix (Fin 128) (Fin 128) ℝ) (v : Matrix (Fin 64) (Fin 128) ℝ) : Matrix (Fin 64) (Fin 128) ℝ :=
  fun i e => (∑ a, qg (ro i) a * s a e) + ∑ j, qk (ro i) (ro j) * v j e

/-- The first chunk's results. -/
theorem oc0_co (qk qg s : Matrix (Fin 128) (Fin 128) ℝ) (u : Matrix (Fin 128) (Fin 256) ℝ) (v : Matrix (Fin 64) (Fin 128) ℝ) :
    oc0 (F := Ideal) (co qk) (co (rw0 ro0 u qg * s)) (co v) = co (rO ro0 qk qg s v) := by
  unfold oc0
  have e1 : (extractStridedSlice S64x64 ![0, 0] (co qk : FVec Ideal S128x128 .f32) slices_S128x128_o0_0_S64x64 : FVec Ideal S64x64 .f32)
      = co (pick qk ro0 ro0) := by
    refine ext2 fun i j => ?_
    pointwise
    rfl
  have e2 : matmul dot_S64x64_S64x128_S64x128_1_0_0_1_n_n none (co (pick qk ro0 ro0) : FVec Ideal S64x64 .bf16) (co v : FVec Ideal S64x128 .bf16) (constant S64x128 .f32 0x00000000#32)
      = co (pick qk ro0 ro0 * v) := mm_plain _ v
  rw [e1, sh_co, sh_co, e2]
  refine ext2 fun i e => ?_
  pointwise
  simp only [co_apply]
  unfold rO
  rw [EReal.coe_add, Matrix.mul_apply, Matrix.mul_apply]
  congr 2
  exact Finset.sum_congr rfl fun a _ => by
    unfold rw0; rw [dif_neg (by simp)]; congr 2; apply Fin.ext; simp [ro0]
/-- The second chunk's results. -/
theorem oc1_co (qk qg s : Matrix (Fin 128) (Fin 128) ℝ) (u : Matrix (Fin 128) (Fin 256) ℝ) (v : Matrix (Fin 64) (Fin 128) ℝ) :
    oc1 (F := Ideal) (co qk) (co (rw0 ro1 u qg * s)) (co v) = co (rO ro1 qk qg s v) := by
  unfold oc1
  have e1 : (extractStridedSlice S64x64 ![64, 64] (co qk : FVec Ideal S128x128 .f32) slices_S128x128_o64_64_S64x64 : FVec Ideal S64x64 .f32)
      = co (pick qk ro1 ro1) := by
    refine ext2 fun i j => ?_
    pointwise
    rfl
  have e2 : matmul dot_S64x64_S64x128_S64x128_1_0_0_1_n_n none (co (pick qk ro1 ro1) : FVec Ideal S64x64 .bf16) (co v : FVec Ideal S64x128 .bf16) (constant S64x128 .f32 0x00000000#32)
      = co (pick qk ro1 ro1 * v) := mm_plain _ v
  rw [e1, sh_co, sh_co, e2]
  refine ext2 fun i e => ?_
  pointwise
  simp only [co_apply]
  unfold rO
  rw [EReal.coe_add, Matrix.mul_apply, Matrix.mul_apply]
  congr 2
  exact Finset.sum_congr rfl fun a _ => by
    unfold rw0; rw [dif_neg (by simp)]; congr 2; apply Fin.ext; simp [ro1]

/-- The state after a chunk. -/
def rS (ro : Fin 64 → Fin 128) (s : Matrix (Fin 128) (Fin 128) ℝ) (l : ℝ) (kt : Matrix (Fin 128) (Fin 128) ℝ) (v : Matrix (Fin 64) (Fin 128) ℝ) : Matrix (Fin 128) (Fin 128) ℝ :=
  fun a e => s a e * Real.exp l + ∑ j, kt a (ro j) * v j e

/-- The state after the first chunk. -/
theorem st0_co (s kt : Matrix (Fin 128) (Fin 128) ℝ) (l : ℝ) (v : Matrix (Fin 64) (Fin 128) ℝ) :
    st0 (F := Ideal) (co s) (co (c1 l)) (co kt) (co v) = co (rS ro0 s l kt v) := by
  unfold st0
  have e1 : (extractStridedSlice S128x64 ![0, 0] (co kt : FVec Ideal S128x128 .f32) slices_S128x128_o0_0_S128x64 : FVec Ideal S128x64 .f32)
      = co (pick kt id ro0) := by
    refine ext2 fun i j => ?_
    pointwise
    rfl
  have e2 : matmul dot_S128x64_S64x128_S128x128_1_0_0_1_n_n none (co (pick kt id ro0) : FVec Ideal S128x64 .bf16) (co v : FVec Ideal S64x128 .bf16) (constant S128x128 .f32 0x00000000#32)
      = co (pick kt id ro0 * v) := mm_plain _ v
  rw [e1, sh_co, sh_co, e2]
  refine ext2 fun i e => ?_
  pointwise
  simp only [co_apply]
  unfold rS
  rw [EReal.coe_add, EReal.coe_mul, Matrix.mul_apply]
  rfl
/-- The state after the second chunk. -/
theorem st1_co (s kt : Matrix (Fin 128) (Fin 128) ℝ) (l : ℝ) (v : Matrix (Fin 64) (Fin 128) ℝ) :
    st1 (F := Ideal) (co s) (co (c1 l)) (co kt) (co v) = co (rS ro1 s l kt v) := by
  unfold st1
  have e1 : (extractStridedSlice S128x64 ![0, 64] (co kt : FVec Ideal S128x128 .f32) slices_S128x128_o0_64_S128x64 : FVec Ideal S128x64 .f32)
      = co (pick kt id ro1) := by
    refine ext2 fun i j => ?_
    pointwise
    rfl
  have e2 : matmul dot_S128x64_S64x128_S128x128_1_0_0_1_n_n none (co (pick kt id ro1) : FVec Ideal S128x64 .bf16) (co v : FVec Ideal S64x128 .bf16) (constant S128x128 .f32 0x00000000#32)
      = co (pick kt id ro1 * v) := mm_plain _ v
  rw [e1, sh_co, sh_co, e2]
  refine ext2 fun i e => ?_
  pointwise
  simp only [co_apply]
  unfold rS
  rw [EReal.coe_add, EReal.coe_mul, Matrix.mul_apply]
  rfl

end Cert.GdnItem

end
-- ==== Proof.Chunk.lean ====
/- One chunk of the kernel, over the reals, is 64 tokens of the gated delta rule. -/
module

public import proofs.«01_k».proof.Proof.Reads

@[expose] public section

noncomputable section

namespace Cert.GdnItem

open Cert.GdnAlg Finset

/-- An order of 64 positions in which a chunk is run through: the masks name what comes before. -/
structure Ord (p1 p2 : Fin 128 → Fin 128 → Prop) (ro : Fin 64 → Fin 128) (p : ℕ → Fin 128) : Prop where
  inj : ∀ a < 64, ∀ b < 64, p a = p b → a = b
  h1 : ∀ t < 64, ∀ l, p1 (p t) l ↔ ∃ j < t + 1, l = p j
  h2 : ∀ t < 64, ∀ l, p2 (p t) l ↔ ∃ j < t, l = p j
  sum : ∀ f : Fin 128 → ℝ, ∑ j, f (ro j) = ∑ t ∈ range 64, f (p t)

/-- A sum over the positions before a token is a sum over the tokens before it. -/
theorem sum_before (p : ℕ → Fin 128) (inj : ∀ a < 64, ∀ b < 64, p a = p b → a = b) (P : Fin 128 → Prop) [DecidablePred P] (t : ℕ) (ht : t ≤ 64)
    (h : ∀ l, P l ↔ ∃ j < t, l = p j) (f : Fin 128 → ℝ) :
    ∑ l, (if P l then f l else 0) = ∑ j ∈ range t, f (p j) := by
  rw [← Finset.sum_filter]
  have e : (univ.filter P) = (range t).image p := by
    ext l
    simp only [mem_filter, mem_univ, true_and, mem_image, mem_range, h]
    exact ⟨fun ⟨j, hj, e⟩ => ⟨j, hj, e.symm⟩, fun ⟨j, hj, e⟩ => ⟨j, hj, e.symm⟩⟩
  rw [e, Finset.sum_image]
  intro a ha b hb hab
  have ha' := mem_range.mp ha
  have hb' := mem_range.mp hb
  exact inj a (by omega) b (by omega) hab

/-- A block's real inputs. -/
structure RIn where
  q : Matrix (Fin 128) (Fin 128) ℝ
  k : Matrix (Fin 128) (Fin 128) ℝ
  v : Matrix (Fin 128) (Fin 128) ℝ
  b : Fin 128 → ℝ
  g : Fin 128 → ℝ

variable (p1 p2 : Fin 128 → Fin 128 → Prop) [∀ i j, Decidable (p1 i j)] [∀ i j, Decidable (p2 i j)]

/-- A block's solved system. -/
def rU (x : RIn) : Matrix (Fin 128) (Fin 256) ℝ :=
  rrhs x.k x.v x.b x.g + mseries (rT p1 p2 x.k x.b x.g) * rrhs x.k x.v x.b x.g

/-- A position's corrected value, from a state. -/
def rD (x : RIn) (s : Matrix (Fin 128) (Fin 128) ℝ) (i e : Fin 128) : ℝ :=
  rU p1 p2 x i (lo e) - ∑ a, rU p1 p2 x i (hi a) * s a e

variable (ρ : Fin 128 → ℕ) (hρ : ∀ i, ρ i < 64) (hp : ∀ i j, p2 i j → ρ j < ρ i)

include hρ hp in
/-- The system is solved. -/
theorem rU_eq (x : RIn) (i : Fin 128) (c : Fin 256) :
    rU p1 p2 x i c = rrhs x.k x.v x.b x.g i c + ∑ l, rT p1 p2 x.k x.b x.g i l * rU p1 p2 x l c := by
  have h : (rT p1 p2 x.k x.b x.g) ^ 64 = 0 := pow_64 _ ρ hρ fun i j hij => by
    refine hp i j ?_
    by_contra hn
    exact hij (by unfold rT; rw [if_neg hn])
  have e := series_solve _ h (rrhs x.k x.v x.b x.g)
  have e' := congrFun (congrFun e i) c
  unfold rU
  rw [e', Matrix.add_apply, Matrix.mul_apply]

include hρ hp in
/-- The corrected values solve the chunk's triangular system. -/
theorem rD_eq (x : RIn) (s : Matrix (Fin 128) (Fin 128) ℝ) (i e : Fin 128) :
    rD p1 p2 x s i e = x.b i * x.v i e - x.b i * Real.exp (x.g i) * (∑ a, x.k i a * s a e)
      + ∑ l, rT p1 p2 x.k x.b x.g i l * rD p1 p2 x s l e := by
  have h1 : rrhs x.k x.v x.b x.g i (lo e) = x.v i e * x.b i := by
    unfold rrhs lo; rw [dif_pos e.isLt]
  have h2 : ∀ a, rrhs x.k x.v x.b x.g i (hi a) = x.k i a * (x.b i * Real.exp (x.g i)) := by
    intro a
    unfold rrhs hi; rw [dif_neg (by simp)]
    congr 2
    apply Fin.ext; simp
  have h3 : ∑ a, (∑ l, rT p1 p2 x.k x.b x.g i l * rU p1 p2 x l (hi a)) * s a e
      = ∑ l, rT p1 p2 x.k x.b x.g i l * ∑ a, rU p1 p2 x l (hi a) * s a e := by
    rw [sum_congr rfl fun a _ => sum_mul _ _ _, sum_comm]
    refine sum_congr rfl fun l _ => ?_
    rw [mul_sum]
    exact sum_congr rfl fun a _ => by ring
  have h4 : ∑ a, x.k i a * (x.b i * Real.exp (x.g i)) * s a e = x.b i * Real.exp (x.g i) * ∑ a, x.k i a * s a e := by
    rw [mul_sum]
    exact sum_congr rfl fun a _ => by ring
  have h5 : ∑ a, rU p1 p2 x i (hi a) * s a e = x.b i * Real.exp (x.g i) * (∑ a, x.k i a * s a e)
      + ∑ l, rT p1 p2 x.k x.b x.g i l * ∑ a, rU p1 p2 x l (hi a) * s a e := by
    rw [← h3, ← h4, ← sum_add_distrib]
    refine sum_congr rfl fun a _ => ?_
    rw [rU_eq p1 p2 ρ hρ hp x i (hi a), h2 a, add_mul]
  have h6 : ∑ l, rT p1 p2 x.k x.b x.g i l * rD p1 p2 x s l e
      = ∑ l, rT p1 p2 x.k x.b x.g i l * rU p1 p2 x l (lo e) - ∑ l, rT p1 p2 x.k x.b x.g i l * ∑ a, rU p1 p2 x l (hi a) * s a e := by
    rw [← sum_sub_distrib]
    exact sum_congr rfl fun l _ => by unfold rD; rw [mul_sub]
  rw [h6]
  unfold rD
  rw [h5, rU_eq p1 p2 ρ hρ hp x i (lo e), h1]
  ring

variable (ro : Fin 64 → Fin 128) (p : ℕ → Fin 128) (ho : Ord p1 p2 ro p)

include hρ hp ho in
/-- The same, in the chunk's order. -/
theorem rD_seq (x : RIn) (s : Matrix (Fin 128) (Fin 128) ℝ) (e : Fin 128) (t : ℕ) (ht : t < 64) :
    rD p1 p2 x s (p t) e = x.b (p t) * x.v (p t) e - x.b (p t) * Real.exp (x.g (p t)) * (∑ a, x.k (p t) a * s a e)
      - ∑ j ∈ range t, x.b (p t) * (∑ a, x.k (p t) a * x.k (p j) a) * Real.exp (x.g (p t) - x.g (p j)) * rD p1 p2 x s (p j) e := by
  rw [rD_eq p1 p2 ρ hρ hp x s (p t) e, sub_eq_add_neg _ (∑ j ∈ range t, _)]
  congr 1
  rw [← sum_before p ho.inj (p2 (p t)) t (by omega) (ho.h2 t ht)
    (fun l => x.b (p t) * (∑ a, x.k (p t) a * x.k l a) * Real.exp (x.g (p t) - x.g l) * rD p1 p2 x s l e), ← sum_neg_distrib]
  refine sum_congr rfl fun l _ => ?_
  unfold rT
  by_cases hl : p2 (p t) l
  · rw [if_pos hl, if_pos hl]
    have h1 : p1 (p t) l := by
      obtain ⟨j, hj, e⟩ := (ho.h2 t ht l).mp hl
      exact (ho.h1 t ht l).mpr ⟨j, by omega, e⟩
    unfold rdec gram
    rw [if_pos h1]; ring
  · rw [if_neg hl, if_neg hl]; ring

/-- The chunk's tokens, as the gated delta rule reads them: the state after `n` of them, one column. -/
def chunkSt (x : RIn) (p : ℕ → Fin 128) (s : Matrix (Fin 128) (Fin 128) ℝ) (e : Fin 128) (n : ℕ) : Fin 128 → ℝ :=
  rst (fun t => x.g (p t) - prev (fun t => x.g (p t)) t) (fun t => x.b (p t)) (fun t => x.k (p t)) (fun t => x.v (p t) e) (fun a => s a e) n

/-- The state after `n` of the chunk's tokens. -/
def chunkS (x : RIn) (p : ℕ → Fin 128) (s : Matrix (Fin 128) (Fin 128) ℝ) (n : ℕ) : Matrix (Fin 128) (Fin 128) ℝ :=
  fun a e => chunkSt x p s e n a

include hρ hp ho in
/-- The state the kernel leaves after a chunk is the gated delta rule's after its 64 tokens. -/
theorem rS_eq (x : RIn) (s kt : Matrix (Fin 128) (Fin 128) ℝ) (l : ℝ) (hl : l = x.g (p 63)) (hkt : ∀ a j, kt a (ro j) = x.k (ro j) a * Real.exp (l - x.g (ro j))) :
    rS ro s l kt (rV ro (rU p1 p2 x) s) = chunkS x p s 64 := by
  subst hl
  funext a e
  unfold chunkS chunkSt
  rw [chunk_state (fun t => x.g (p t)) (fun t => x.b (p t)) (fun t => x.k (p t)) (fun t => x.v (p t) e) (fun a => s a e)
    (fun t => rD p1 p2 x s (p t) e) 64 (fun t ht => rD_seq p1 p2 ρ hρ hp ro p ho x s e t ht) 64 (le_refl _) a]
  unfold rS
  have hv : ∀ j, rV ro (rU p1 p2 x) s j e = rD p1 p2 x s (ro j) e := fun _ => rfl
  have hpr : prev (fun t => x.g (p t)) 64 = x.g (p 63) := by simp [prev]
  rw [hpr, sum_congr rfl fun j _ => by rw [hkt, hv j]]
  rw [ho.sum (fun l => x.k l a * Real.exp (x.g (p 63) - x.g l) * rD p1 p2 x s l e), mul_comm (s a e)]
  congr 1
  exact sum_congr rfl fun t _ => by ring

include hρ hp ho in
/-- The results of a chunk are the gated delta rule's answers to its queries. -/
theorem rO_eq (x : RIn) (s : Matrix (Fin 128) (Fin 128) ℝ) (i : Fin 64) (t : ℕ) (ht : t < 64) (hi : ro i = p t) (e : Fin 128) :
    rO ro (rqk x.q x.k (rdec p1 x.g)) (rqg x.q x.g) s (rV ro (rU p1 p2 x) s) i e = ∑ a, x.q (ro i) a * chunkSt x p s e (t + 1) a := by
  unfold chunkSt
  rw [chunk_out (fun t => x.g (p t)) (fun t => x.b (p t)) (fun t => x.k (p t)) (fun t => x.v (p t) e) (fun a => s a e)
    (fun t => rD p1 p2 x s (p t) e) 64 (fun t ht => rD_seq p1 p2 ρ hρ hp ro p ho x s e t ht) t ht (x.q (ro i))]
  unfold rO
  have hv : ∀ j, rV ro (rU p1 p2 x) s j e = rD p1 p2 x s (ro j) e := fun _ => rfl
  rw [hi]
  congr 1
  · unfold rqg
    rw [mul_sum]
    exact sum_congr rfl fun a _ => by ring
  · rw [sum_congr rfl fun j _ => by rw [hv j], ho.sum (fun l => rqk x.q x.k (rdec p1 x.g) (p t) l * rD p1 p2 x s l e)]
    rw [← sum_before p ho.inj (p1 (p t)) (t + 1) (by omega) (ho.h1 t ht)
      (fun l => (∑ b, x.q (p t) b * x.k l b) * Real.exp (x.g (p t) - x.g l) * rD p1 p2 x s l e)]
    rw [← sum_before p ho.inj (fun l => ∃ j < 64, l = p j) 64 (le_refl _) (fun _ => Iff.rfl) (fun l => rqk x.q x.k (rdec p1 x.g) (p t) l * rD p1 p2 x s l e)]
    refine sum_congr rfl fun l _ => ?_
    unfold rqk rdec gram
    by_cases hl : p1 (p t) l
    · have h2 : ∃ j < 64, l = p j := by
        obtain ⟨j, hj, e⟩ := (ho.h1 t ht l).mp hl
        exact ⟨j, by omega, e⟩
      rw [if_pos h2, if_pos hl, if_pos hl]
    · rw [if_neg hl, if_neg hl, mul_zero, zero_mul, ite_self]

end Cert.GdnItem

end
-- ==== Proof.Masks.lean ====
/- Where the four masks of the kernel hold. -/
module

public import proofs.«01_k».proof.Proof.Reads

@[expose] public section

noncomputable section

namespace Cert.GdnItem

open Idealize.ShloMosaic Cert.KernelIdeal Cert.KernelIdeal.Gen Cert.GdnAlg Finset

/-- Same chunk, column not after the row. -/
abbrev pF1 (i j : Fin 128) : Prop := i.val / 64 = j.val / 64 ∧ j.val ≤ i.val
/-- Same chunk, column before the row. -/
abbrev pF2 (i j : Fin 128) : Prop := i.val / 64 = j.val / 64 ∧ j.val < i.val
/-- Same chunk, column not before the row. -/
abbrev pB1 (i j : Fin 128) : Prop := i.val / 64 = j.val / 64 ∧ i.val ≤ j.val
/-- Same chunk, column after the row. -/
abbrev pB2 (i j : Fin 128) : Prop := i.val / 64 = j.val / 64 ∧ i.val < j.val

/-- The chunk of a column. -/
def colDiv : IVec S128x128 32 :=
  select (andi (cmpi .ne k0_pay5 (broadcast S128x128 1#32))
    (cmpi .ne (remsi (iota .tc S128x128 32 [1] iota_S128x128_d1_w32) (broadcast S128x128 64#32)) (broadcast S128x128 0#32)))
    (subi k0_pay4 (broadcast S128x128 1#32)) k0_pay4

theorem row_chunk : ∀ i : Fin 128, k0_pay3 (ix2 i 0) = BitVec.ofNat 32 (i.val / 64) := by decide +kernel
theorem col_chunk : ∀ j : Fin 128, colDiv (ix2 0 j) = BitVec.ofNat 32 (j.val / 64) := by decide +kernel
theorem eq_words : ∀ a b : Fin 2, IntOp.cmpi .eq (BitVec.ofNat 32 a.val) (BitVec.ofNat 32 b.val) = if a.val = b.val then 1#1 else 0#1 := by decide +kernel
theorem sle_words : ∀ a b : Fin 128, IntOp.cmpi .sle (BitVec.ofNat 32 a.val) (BitVec.ofNat 32 b.val) = if a.val ≤ b.val then 1#1 else 0#1 := by decide +kernel
theorem slt_words : ∀ a b : Fin 128, IntOp.cmpi .slt (BitVec.ofNat 32 a.val) (BitVec.ofNat 32 b.val) = if a.val < b.val then 1#1 else 0#1 := by decide +kernel
theorem sge_words : ∀ a b : Fin 128, IntOp.cmpi .sge (BitVec.ofNat 32 a.val) (BitVec.ofNat 32 b.val) = if b.val ≤ a.val then 1#1 else 0#1 := by decide +kernel
theorem sgt_words : ∀ a b : Fin 128, IntOp.cmpi .sgt (BitVec.ofNat 32 a.val) (BitVec.ofNat 32 b.val) = if b.val < a.val then 1#1 else 0#1 := by decide +kernel

/-- Where the chunks agree. -/
theorem same_eq (i j : Fin 128) : same (ix2 i j) = if i.val / 64 = j.val / 64 then 1#1 else 0#1 := by
  have h : same (ix2 i j) = IntOp.cmpi .eq (k0_pay3 (ix2 i 0)) (colDiv (ix2 0 j)) := rfl
  rw [h, row_chunk, col_chunk]
  exact eq_words ⟨i.val / 64, by omega⟩ ⟨j.val / 64, by omega⟩

/-- Both of two conditions, as words. -/
theorem and_words (p q : Prop) [Decidable p] [Decidable q] : IntOp.andi (if p then 1#1 else 0#1) (if q then 1#1 else 0#1) = if p ∧ q then 1#1 else 0#1 := by
  by_cases hp : p <;> by_cases hq : q <;> simp [hp, hq] <;> rfl

theorem isF1 : IsMask maskF1 pF1 := fun i j => by
  have h : maskF1 (ix2 i j) = IntOp.andi (same (ix2 i j)) (IntOp.cmpi .sle (BitVec.ofNat 32 j.val) (BitVec.ofNat 32 i.val)) := by pointwise [maskF1]
  rw [h, same_eq, sle_words, and_words]
theorem isF2 : IsMask maskF2 pF2 := fun i j => by
  have h : maskF2 (ix2 i j) = IntOp.andi (same (ix2 i j)) (IntOp.cmpi .slt (BitVec.ofNat 32 j.val) (BitVec.ofNat 32 i.val)) := by pointwise [maskF2]
  rw [h, same_eq, slt_words, and_words]
theorem isB1 : IsMask maskB1 pB1 := fun i j => by
  have h : maskB1 (ix2 i j) = IntOp.andi (same (ix2 i j)) (IntOp.cmpi .sge (BitVec.ofNat 32 j.val) (BitVec.ofNat 32 i.val)) := by pointwise [maskB1]
  rw [h, same_eq, sge_words, and_words]
theorem isB2 : IsMask maskB2 pB2 := fun i j => by
  have h : maskB2 (ix2 i j) = IntOp.andi (same (ix2 i j)) (IntOp.cmpi .sgt (BitVec.ofNat 32 j.val) (BitVec.ofNat 32 i.val)) := by pointwise [maskB2]
  rw [h, same_eq, sgt_words, and_words]

end Cert.GdnItem

end
-- ==== Proof.Block.lean ====
/- One block of the kernel, over the reals, is 128 tokens of the gated delta rule, in either direction. -/
module

public import proofs.«01_k».proof.Proof.Chunk
public import proofs.«01_k».proof.Proof.Masks

@[expose] public section

noncomputable section

namespace Cert.GdnItem

open Idealize.ShloMosaic Cert.KernelIdeal Cert.KernelIdeal.Gen Cert.GdnAlg Finset

/-- Forward: token `t` of a block is position `t`. -/
def fwd (t : ℕ) : Fin 128 := ⟨t % 128, by omega⟩
/-- Backward: token `t` of a block is position `127 - t`. -/
def bwd (t : ℕ) : Fin 128 := ⟨127 - t % 128, by omega⟩

/-- The decay of token `t`: the difference of the cumulative decays inside its chunk. -/
def dl (γ : ℕ → ℝ) (t : ℕ) : ℝ := γ t - if t % 64 = 0 then 0 else γ (t - 1)

/-- The state of one column after `n` tokens of a block. -/
def blkSt (x : RIn) (P : ℕ → Fin 128) (s : Matrix (Fin 128) (Fin 128) ℝ) (e : Fin 128) (n : ℕ) : Fin 128 → ℝ :=
  rst (dl fun t => x.g (P t)) (fun t => x.b (P t)) (fun t => x.k (P t)) (fun t => x.v (P t) e) (fun a => s a e) n
/-- The state after `n` tokens of a block. -/
def blkS (x : RIn) (P : ℕ → Fin 128) (s : Matrix (Fin 128) (Fin 128) ℝ) (n : ℕ) : Matrix (Fin 128) (Fin 128) ℝ := fun a e => blkSt x P s e n a
/-- The answers of a block; position `i` is token `τ i`. -/
def blkO (x : RIn) (P : ℕ → Fin 128) (τ : Fin 128 → ℕ) (s : Matrix (Fin 128) (Fin 128) ℝ) : Matrix (Fin 128) (Fin 128) ℝ :=
  fun i e => ∑ a, x.q i a * blkSt x P s e (τ i + 1) a

/-- The first chunk of a block is its first 64 tokens. -/
theorem chunk_first (x : RIn) (P : ℕ → Fin 128) (s : Matrix (Fin 128) (Fin 128) ℝ) (e : Fin 128) (n : ℕ) (hn : n ≤ 64) :
    chunkSt x P s e n = blkSt x P s e n := by
  unfold chunkSt blkSt
  refine rst_congr n (fun t ht => ?_) (fun _ _ => rfl) (fun _ _ => rfl) (fun _ _ => rfl) rfl
  unfold dl prev
  congr 1
  by_cases h : t = 0
  · subst h; rfl
  · rw [if_neg h, if_neg (by omega)]

/-- The second chunk of a block is its last 64 tokens. -/
theorem chunk_second (x : RIn) (P : ℕ → Fin 128) (s s' : Matrix (Fin 128) (Fin 128) ℝ) (e : Fin 128) (hs : ∀ a, s' a e = chunkSt x P s e 64 a) (n : ℕ) (hn : n ≤ 64) :
    chunkSt x (fun t => P (64 + t)) s' e n = blkSt x P s e (64 + n) := by
  unfold blkSt
  rw [rst_add]
  unfold chunkSt
  refine rst_congr n (fun t ht => ?_) (fun _ _ => rfl) (fun _ _ => rfl) (fun _ _ => rfl) ?_
  · unfold dl prev
    congr 1
    by_cases h : t = 0
    · subst h; rfl
    · rw [if_neg h, if_neg (by omega)]
      exact congrArg (fun n => x.g (P n)) (by omega : 64 + (t - 1) = 64 + t - 1)
  · funext a
    rw [hs a, chunk_first x P s e 64 (le_refl _)]
    rfl

/-- Rank of a position in its chunk, forward. -/
def rkF (i : Fin 128) : ℕ := i.val % 64
/-- Rank of a position in its chunk, backward. -/
def rkB (i : Fin 128) : ℕ := 63 - i.val % 64

theorem rkF_lt (i : Fin 128) : rkF i < 64 := by unfold rkF; omega
theorem rkB_lt (i : Fin 128) : rkB i < 64 := by unfold rkB; omega
theorem rkF_p (i j : Fin 128) (h : pF2 i j) : rkF j < rkF i := by unfold rkF; obtain ⟨h1, h2⟩ := h; omega
theorem rkB_p (i j : Fin 128) (h : pB2 i j) : rkB j < rkB i := by unfold rkB; obtain ⟨h1, h2⟩ := h; omega

/-- Forward, first chunk. -/
theorem ordF0 : Ord pF1 pF2 ro0 fwd where
  inj a ha b hb h := by have := congrArg Fin.val h; simp only [fwd] at this; omega
  h1 t ht l := by
    constructor
    · rintro ⟨h1, h2⟩; simp only [fwd] at h1 h2
      exact ⟨l.val, by omega, Fin.ext (by simp only [fwd]; omega)⟩
    · rintro ⟨j, hj, rfl⟩; constructor <;> simp only [fwd] <;> omega
  h2 t ht l := by
    constructor
    · rintro ⟨h1, h2⟩; simp only [fwd] at h1 h2
      exact ⟨l.val, by omega, Fin.ext (by simp only [fwd]; omega)⟩
    · rintro ⟨j, hj, rfl⟩; constructor <;> simp only [fwd] <;> omega
  sum f := by
    rw [Finset.sum_range]
    exact Finset.sum_congr rfl fun j _ => congrArg f (Fin.ext (by simp only [fwd, ro0]; omega))
/-- Forward, second chunk. -/
theorem ordF1 : Ord pF1 pF2 ro1 (fun t => fwd (64 + t)) where
  inj a ha b hb h := by have := congrArg Fin.val h; simp only [fwd] at this; omega
  h1 t ht l := by
    constructor
    · rintro ⟨h1, h2⟩; simp only [fwd] at h1 h2
      exact ⟨l.val - 64, by omega, Fin.ext (by simp only [fwd]; omega)⟩
    · rintro ⟨j, hj, rfl⟩; constructor <;> simp only [fwd] <;> omega
  h2 t ht l := by
    constructor
    · rintro ⟨h1, h2⟩; simp only [fwd] at h1 h2
      exact ⟨l.val - 64, by omega, Fin.ext (by simp only [fwd]; omega)⟩
    · rintro ⟨j, hj, rfl⟩; constructor <;> simp only [fwd] <;> omega
  sum f := by
    rw [Finset.sum_range]
    exact Finset.sum_congr rfl fun j _ => congrArg f (Fin.ext (by simp only [fwd, ro1]; omega))
/-- Backward, the chunk run first. -/
theorem ordB1 : Ord pB1 pB2 ro1 bwd where
  inj a ha b hb h := by have := congrArg Fin.val h; simp only [bwd] at this; omega
  h1 t ht l := by
    constructor
    · rintro ⟨h1, h2⟩; simp only [bwd] at h1 h2
      exact ⟨127 - l.val, by omega, Fin.ext (by simp only [bwd]; omega)⟩
    · rintro ⟨j, hj, rfl⟩; constructor <;> simp only [bwd] <;> omega
  h2 t ht l := by
    constructor
    · rintro ⟨h1, h2⟩; simp only [bwd] at h1 h2
      exact ⟨127 - l.val, by omega, Fin.ext (by simp only [bwd]; omega)⟩
    · rintro ⟨j, hj, rfl⟩; constructor <;> simp only [bwd] <;> omega
  sum f := by
    rw [← Finset.sum_range_reflect, Finset.sum_range]
    exact Finset.sum_congr rfl fun j _ => congrArg f (Fin.ext (by simp only [bwd, ro1]; omega))
/-- Backward, the chunk run second. -/
theorem ordB0 : Ord pB1 pB2 ro0 (fun t => bwd (64 + t)) where
  inj a ha b hb h := by have := congrArg Fin.val h; simp only [bwd] at this; omega
  h1 t ht l := by
    constructor
    · rintro ⟨h1, h2⟩; simp only [bwd] at h1 h2
      exact ⟨63 - l.val, by omega, Fin.ext (by simp only [bwd]; omega)⟩
    · rintro ⟨j, hj, rfl⟩; constructor <;> simp only [bwd] <;> omega
  h2 t ht l := by
    constructor
    · rintro ⟨h1, h2⟩; simp only [bwd] at h1 h2
      exact ⟨63 - l.val, by omega, Fin.ext (by simp only [bwd]; omega)⟩
    · rintro ⟨j, hj, rfl⟩; constructor <;> simp only [bwd] <;> omega
  sum f := by
    rw [← Finset.sum_range_reflect, Finset.sum_range]
    exact Finset.sum_congr rfl fun j _ => congrArg f (Fin.ext (by simp only [bwd, ro0]; omega))

/-- A block's inputs as the kernel reads them; `l0`, `l1` the last positions of the chunks. -/
def toIn (x : RIn) (l0 l1 : Fin 128) : In Ideal :=
  ⟨co x.q, co x.k, co x.v, co (cc x.b), co (cc x.g), co (cr x.g), co (c1 (x.g l0)), co (c1 (x.g l1))⟩

section
variable {m1 m2 : IVec S128x128 1} {p1 p2 : Fin 128 → Fin 128 → Prop} [∀ i j, Decidable (p1 i j)] [∀ i j, Decidable (p2 i j)]
  (h1 : IsMask m1 p1) (h2 : IsMask m2 p2) (x : RIn) (l0 l1 : Fin 128) (s : Matrix (Fin 128) (Fin 128) ℝ)
include h1 h2

theorem U_co : U m1 m2 (toIn x l0 l1) = co (rU p1 p2 x) := by
  unfold U toIn
  dsimp only
  rw [decay_co m1 p1 h1, toff0_co m2 p1 p2 h2, series_co, rhs_co, uw_co]
  rfl
omit h2 in
theorem QK_co : QK m1 (toIn x l0 l1) = co (rqk x.q x.k (rdec p1 x.g)) := by
  unfold QK toIn
  dsimp only
  rw [decay_co m1 p1 h1, qkm_co]
theorem V0_co : V0 m1 m2 (toIn x l0 l1) (co s) = co (rV ro0 (rU p1 p2 x) s) := by
  unfold V0
  rw [U_co h1 h2]
  unfold toIn
  dsimp only
  rw [qg_co, ws0_co, vn0_co]
theorem V1_co : V1 m1 m2 (toIn x l0 l1) (co s) = co (rV ro1 (rU p1 p2 x) s) := by
  unfold V1
  rw [U_co h1 h2]
  unfold toIn
  dsimp only
  rw [qg_co, ws1_co, vn1_co]
theorem O0_co : O0 m1 m2 (toIn x l0 l1) (co s) = co (rO ro0 (rqk x.q x.k (rdec p1 x.g)) (rqg x.q x.g) s (rV ro0 (rU p1 p2 x) s)) := by
  unfold O0
  rw [V0_co h1 h2, QK_co h1, U_co h1 h2]
  unfold toIn
  dsimp only
  rw [qg_co, ws0_co, oc0_co]
theorem O1_co : O1 m1 m2 (toIn x l0 l1) (co s) = co (rO ro1 (rqk x.q x.k (rdec p1 x.g)) (rqg x.q x.g) s (rV ro1 (rU p1 p2 x) s)) := by
  unfold O1
  rw [V1_co h1 h2, QK_co h1, U_co h1 h2]
  unfold toIn
  dsimp only
  rw [qg_co, ws1_co, oc1_co]
theorem T0_co : T0 m1 m2 (toIn x l0 l1) (co s) = co (rS ro0 s (x.g l0) (rkt x.k x.g (x.g l0) (x.g l1)) (rV ro0 (rU p1 p2 x) s)) := by
  unfold T0
  rw [V0_co h1 h2]
  unfold toIn
  dsimp only
  rw [kgt_co, st0_co]
theorem T1_co : T1 m1 m2 (toIn x l0 l1) (co s) = co (rS ro1 s (x.g l1) (rkt x.k x.g (x.g l0) (x.g l1)) (rV ro1 (rU p1 p2 x) s)) := by
  unfold T1
  rw [V1_co h1 h2]
  unfold toIn
  dsimp only
  rw [kgt_co, st1_co]
end

/-- Two chunks' rows, one over the other. -/
def stk (a b : Matrix (Fin 64) (Fin 128) ℝ) : Matrix (Fin 128) (Fin 128) ℝ := fun i e => if h : i.val < 64 then a ⟨i.val, h⟩ e else b ⟨i.val - 64, by omega⟩ e

/-- The halves of a block put together. -/
theorem halves (a b : Matrix (Fin 64) (Fin 128) ℝ) :
    (concatenate S128x128 0 [⟨S64x128, (co a : FVec Ideal S64x128 .f32)⟩, ⟨S64x128, (co b : FVec Ideal S64x128 .f32)⟩] concatenates_S64x128_S64x128_S128x128_d0 : FVec Ideal S128x128 .f32)
      = co (stk a b) := by
  refine ext2 fun i j => ?_
  pointwise
  simp only [co_apply]
  unfold stk
  split <;> rfl

/-- Forward: the state after the first chunk. -/
theorem T0F (x : RIn) (s : Matrix (Fin 128) (Fin 128) ℝ) :
    T0 maskF1 maskF2 (toIn x 63 127) (co s) = co (blkS x fwd s 64) := by
  rw [T0_co isF1 isF2,
    rS_eq pF1 pF2 rkF rkF_lt rkF_p ro0 fwd ordF0 x s _ _ (congrArg x.g (by decide)) (fun a j => by unfold rkt; rw [if_pos (by simp [ro0])])]
  refine congrArg co ?_
  funext a e
  exact congrFun (chunk_first x fwd s e 64 (le_refl _)) a

/-- **Forward, the state**: a block leaves the gated delta rule's state after its 128 tokens. -/
theorem stF_co (x : RIn) (s : Matrix (Fin 128) (Fin 128) ℝ) :
    stF (toIn x 63 127) (co s) = co (blkS x fwd s 128) := by
  unfold stF
  rw [T0F, T1_co isF1 isF2,
    rS_eq pF1 pF2 rkF rkF_lt rkF_p ro1 (fun t => fwd (64 + t)) ordF1 x _ _ _ (congrArg x.g (by decide)) (fun a j => by unfold rkt; rw [if_neg (by simp [ro1])])]
  refine congrArg co ?_
  funext a e
  exact congrFun (chunk_second x fwd s _ e (fun a => (congrFun (chunk_first x fwd s e 64 (le_refl _)) a).symm) 64 (le_refl _)) a

/-- **Forward, the results**: a block's results are the gated delta rule's answers to its 128 queries. -/
theorem outF_co (x : RIn) (s : Matrix (Fin 128) (Fin 128) ℝ) :
    outF (toIn x 63 127) (co s) = co (blkO x fwd (fun i => i.val) s) := by
  unfold outF
  rw [T0F, O0_co isF1 isF2, O1_co isF1 isF2, halves]
  refine congrArg co ?_
  funext i e
  unfold blkO stk
  split
  · rename_i h
    rw [rO_eq pF1 pF2 rkF rkF_lt rkF_p ro0 fwd ordF0 x s ⟨i.val, h⟩ i.val h (Fin.ext (by simp only [fwd, ro0]; omega)) e,
      chunk_first x fwd s e _ (by omega)]
    rfl
  · rename_i h
    rw [rO_eq pF1 pF2 rkF rkF_lt rkF_p ro1 (fun t => fwd (64 + t)) ordF1 x _ ⟨i.val - 64, by omega⟩ (i.val - 64) (by omega) (Fin.ext (by simp only [fwd, ro1]; omega)) e,
      chunk_second x fwd s _ e (fun a => (congrFun (chunk_first x fwd s e 64 (le_refl _)) a).symm) _ (by omega)]
    rw [show 64 + (i.val - 64 + 1) = i.val + 1 by omega, show ro1 ⟨i.val - 64, by omega⟩ = i from Fin.ext (by simp only [ro1]; omega)]

/-- Backward: the state after the chunk run first. -/
theorem T1B (x : RIn) (s : Matrix (Fin 128) (Fin 128) ℝ) :
    T1 maskB1 maskB2 (toIn x 0 64) (co s) = co (blkS x bwd s 64) := by
  rw [T1_co isB1 isB2,
    rS_eq pB1 pB2 rkB rkB_lt rkB_p ro1 bwd ordB1 x s _ _ (congrArg x.g (by decide)) (fun a j => by unfold rkt; rw [if_neg (by simp [ro1])])]
  refine congrArg co ?_
  funext a e
  exact congrFun (chunk_first x bwd s e 64 (le_refl _)) a

/-- **Backward, the state**: a block leaves the gated delta rule's state after its 128 tokens, last position first. -/
theorem stB_co (x : RIn) (s : Matrix (Fin 128) (Fin 128) ℝ) :
    stB (toIn x 0 64) (co s) = co (blkS x bwd s 128) := by
  unfold stB
  rw [T1B, T0_co isB1 isB2,
    rS_eq pB1 pB2 rkB rkB_lt rkB_p ro0 (fun t => bwd (64 + t)) ordB0 x _ _ _ (congrArg x.g (by decide)) (fun a j => by unfold rkt; rw [if_pos (by simp [ro0])])]
  refine congrArg co ?_
  funext a e
  exact congrFun (chunk_second x bwd s _ e (fun a => (congrFun (chunk_first x bwd s e 64 (le_refl _)) a).symm) 64 (le_refl _)) a

/-- **Backward, the results**: a block's results are the gated delta rule's answers to its 128 queries, last position first. -/
theorem outB_co (x : RIn) (s : Matrix (Fin 128) (Fin 128) ℝ) :
    outB (toIn x 0 64) (co s) = co (blkO x bwd (fun i => 127 - i.val) s) := by
  unfold outB
  rw [T1B, O0_co isB1 isB2, O1_co isB1 isB2, halves]
  refine congrArg co ?_
  funext i e
  unfold blkO stk
  split
  · rename_i h
    rw [rO_eq pB1 pB2 rkB rkB_lt rkB_p ro0 (fun t => bwd (64 + t)) ordB0 x _ ⟨i.val, h⟩ (63 - i.val) (by omega) (Fin.ext (by simp only [bwd, ro0]; omega)) e,
      chunk_second x bwd s _ e (fun a => (congrFun (chunk_first x bwd s e 64 (le_refl _)) a).symm) _ (by omega)]
    rw [show 64 + (63 - i.val + 1) = 127 - i.val + 1 by omega]
    rfl
  · rename_i h
    rw [rO_eq pB1 pB2 rkB rkB_lt rkB_p ro1 bwd ordB1 x s ⟨i.val - 64, by omega⟩ (127 - i.val) (by omega) (Fin.ext (by simp only [bwd, ro1]; omega)) e,
      chunk_first x bwd s e _ (by omega)]
    rw [show ro1 ⟨i.val - 64, by omega⟩ = i from Fin.ext (by simp only [ro1]; omega)]

end Cert.GdnItem

end
-- ==== Proof.Pieces.lean ====
/- What the kernel's body stores at one grid point: the two result blocks and the carried state, as the head-by-head
   terms of `Items`. -/
module

public import proofs.«01_k».proof.Proof.Items
public import Idealize.ShloMosaic.Lib.Pipeline.Value

@[expose] public section

set_option maxRecDepth 16384

noncomputable section

namespace Cert.GdnItem

open Idealize.ShloMosaic Idealize.ShloMosaic.TcCoe Idealize.ShloMosaic.Tactic Cert.KernelIdeal Cert.KernelIdeal.Gen

variable {F : FTy → Type} [FloatOps F]

/-- A rectangle of 128 by 128 of a result block. -/
def oRect (r c : ℕ) (h1 : r + 128 ≤ 256) (h2 : c + 128 ≤ 512) : Rect S256x512 :=
  Rect.unit (s := S256x512) ![r, c] S128x128.size (fits h1 h2)
/-- One direction and head of the carried state. -/
def sRect (d h : ℕ) (hd : d < 2) (hh : h < 4) : Rect S2x4x128x128 :=
  Rect.unit (s := S2x4x128x128) ![d, h, 0, 0] S1x1x128x128.size (stFits hd hh)

variable (x0 : Vec F S256x1536 .f32) (x1 : Vec F S256x128 .f32) (x2 : Vec F S128x256 .f32)

/-- The forward results of a head: the first block's, then the second's from the state the first left. -/
def oF0 (s : FVec F S128x128 .f32) (h : ℕ) (hh : h < 4) : FVec F S128x128 .f32 := outF (inF x0 x1 x2 0 h (by omega) hh) s
/-- The forward results of the second block. -/
def oF1 (s : FVec F S128x128 .f32) (h : ℕ) (hh : h < 4) : FVec F S128x128 .f32 := outF (inF x0 x1 x2 128 h (by omega) hh) (stF (inF x0 x1 x2 0 h (by omega) hh) s)
/-- The forward state after both blocks. -/
def sF (s : FVec F S128x128 .f32) (h : ℕ) (hh : h < 4) : FVec F S128x128 .f32 := stF (inF x0 x1 x2 128 h (by omega) hh) (stF (inF x0 x1 x2 0 h (by omega) hh) s)
/-- The backward results of a head: the second block's. -/
def oB1 (s : FVec F S128x128 .f32) (h : ℕ) (hh : h < 4) : FVec F S128x128 .f32 := outB (inB x0 x1 x2 128 h (by omega) hh) s
/-- The backward results of the first block, from the state the second left. -/
def oB0 (s : FVec F S128x128 .f32) (h : ℕ) (hh : h < 4) : FVec F S128x128 .f32 := outB (inB x0 x1 x2 0 h (by omega) hh) (stB (inB x0 x1 x2 128 h (by omega) hh) s)
/-- The backward state after both blocks. -/
def sB (s : FVec F S128x128 .f32) (h : ℕ) (hh : h < 4) : FVec F S128x128 .f32 := stB (inB x0 x1 x2 0 h (by omega) hh) (stB (inB x0 x1 x2 128 h (by omega) hh) s)

/-- The forward block's stores, last first. -/
def piecesF (s : ℕ → FVec F S128x128 .f32) : List (View.Piece (Elt F) S256x512 .f32) :=
  [⟨oRect 128 384 (by omega) (by omega), oF1 x0 x1 x2 (s 3) 3 (by omega)⟩,
   ⟨oRect 128 256 (by omega) (by omega), oF1 x0 x1 x2 (s 2) 2 (by omega)⟩,
   ⟨oRect 128 128 (by omega) (by omega), oF1 x0 x1 x2 (s 1) 1 (by omega)⟩,
   ⟨oRect 128 0 (by omega) (by omega), oF1 x0 x1 x2 (s 0) 0 (by omega)⟩,
   ⟨oRect 0 384 (by omega) (by omega), oF0 x0 x1 x2 (s 3) 3 (by omega)⟩,
   ⟨oRect 0 256 (by omega) (by omega), oF0 x0 x1 x2 (s 2) 2 (by omega)⟩,
   ⟨oRect 0 128 (by omega) (by omega), oF0 x0 x1 x2 (s 1) 1 (by omega)⟩,
   ⟨oRect 0 0 (by omega) (by omega), oF0 x0 x1 x2 (s 0) 0 (by omega)⟩]
/-- The backward block's stores, last first. -/
def piecesB (s : ℕ → FVec F S128x128 .f32) : List (View.Piece (Elt F) S256x512 .f32) :=
  [⟨oRect 0 384 (by omega) (by omega), oB0 x0 x1 x2 (s 3) 3 (by omega)⟩,
   ⟨oRect 0 256 (by omega) (by omega), oB0 x0 x1 x2 (s 2) 2 (by omega)⟩,
   ⟨oRect 0 128 (by omega) (by omega), oB0 x0 x1 x2 (s 1) 1 (by omega)⟩,
   ⟨oRect 0 0 (by omega) (by omega), oB0 x0 x1 x2 (s 0) 0 (by omega)⟩,
   ⟨oRect 128 384 (by omega) (by omega), oB1 x0 x1 x2 (s 3) 3 (by omega)⟩,
   ⟨oRect 128 256 (by omega) (by omega), oB1 x0 x1 x2 (s 2) 2 (by omega)⟩,
   ⟨oRect 128 128 (by omega) (by omega), oB1 x0 x1 x2 (s 1) 1 (by omega)⟩,
   ⟨oRect 128 0 (by omega) (by omega), oB1 x0 x1 x2 (s 0) 0 (by omega)⟩]
/-- The carried state's stores, last first. -/
def piecesS (x3 : Vec F S256x1536 .f32) (x4 : Vec F S256x128 .f32) (x5 : Vec F S128x256 .f32) (s s' : ℕ → FVec F S128x128 .f32) : List (View.Piece (Elt F) S2x4x128x128 .f32) :=
  [⟨sRect 1 3 (by omega) (by omega), shapeCast S1x1x128x128 (sB x3 x4 x5 (s' 3) 3 (by omega)) shapeCasts_S128x128_S1x1x128x128⟩,
   ⟨sRect 1 2 (by omega) (by omega), shapeCast S1x1x128x128 (sB x3 x4 x5 (s' 2) 2 (by omega)) shapeCasts_S128x128_S1x1x128x128⟩,
   ⟨sRect 1 1 (by omega) (by omega), shapeCast S1x1x128x128 (sB x3 x4 x5 (s' 1) 1 (by omega)) shapeCasts_S128x128_S1x1x128x128⟩,
   ⟨sRect 1 0 (by omega) (by omega), shapeCast S1x1x128x128 (sB x3 x4 x5 (s' 0) 0 (by omega)) shapeCasts_S128x128_S1x1x128x128⟩,
   ⟨sRect 0 3 (by omega) (by omega), shapeCast S1x1x128x128 (sF x0 x1 x2 (s 3) 3 (by omega)) shapeCasts_S128x128_S1x1x128x128⟩,
   ⟨sRect 0 2 (by omega) (by omega), shapeCast S1x1x128x128 (sF x0 x1 x2 (s 2) 2 (by omega)) shapeCasts_S128x128_S1x1x128x128⟩,
   ⟨sRect 0 1 (by omega) (by omega), shapeCast S1x1x128x128 (sF x0 x1 x2 (s 1) 1 (by omega)) shapeCasts_S128x128_S1x1x128x128⟩,
   ⟨sRect 0 0 (by omega) (by omega), shapeCast S1x1x128x128 (sF x0 x1 x2 (s 0) 0 (by omega)) shapeCasts_S128x128_S1x1x128x128⟩]

/-- The carried state as the heads read it. -/
def heads (xs : Vec F S2x4x128x128 .f32) (d : ℕ) (hd : d < 2) (h : ℕ) : FVec F S128x128 .f32 :=
  if hh : h < 4 then stIn xs d h (stFits hd hh) else broadcast S128x128 (Scalar.ofBits .f32 0x00000000#32)

set_option maxHeartbeats 8000000 in
/-- list6_B at a later point. -/
theorem list6_B (c : Dev nD) (i : grid0.Coords) (arg2 : Memref sig .tc .vmem S256x1536 .f32) (harg2 : arg2.IsWhole) (arg3 : Memref sig .tc .vmem S256x128 .f32) (harg3 : arg3.IsWhole) (arg4 : Memref sig .tc .vmem S128x256 .f32) (harg4 : arg4.IsWhole) (arg5 : Memref sig .tc .vmem S256x1536 .f32) (harg5 : arg5.IsWhole) (arg6 : Memref sig .tc .vmem S256x128 .f32) (harg6 : arg6.IsWhole) (arg7 : Memref sig .tc .vmem S128x256 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S2x4x128x128 .f32) (harg10 : arg10.IsWhole) (hc0 : ¬cond0_0 i)
    (x0 : Vec F S256x1536 .f32) (x1 : Vec F S256x128 .f32) (x2 : Vec F S128x256 .f32) (x3 : Vec F S256x1536 .f32) (x4 : Vec F S256x128 .f32) (x5 : Vec F S128x256 .f32) (xs0 : Vec F S2x4x128x128 .f32) :
    (kernelRun0_B c i arg2 harg2 arg3 harg3 arg4 harg4 arg5 harg5 arg6 harg6 arg7 harg7 arg8 harg8 arg9 harg9 arg10 harg10 hc0 x0 x1 x2 x3 x4 x5 xs0).1 = piecesF x0 x1 x2 (heads xs0 0 (by omega)) := by
  have e : (kernelRun0_B c i arg2 harg2 arg3 harg3 arg4 harg4 arg5 harg5 arg6 harg6 arg7 harg7 arg8 harg8 arg9 harg9 arg10 harg10 hc0 x0 x1 x2 x3 x4 x5 xs0).1 = piecesF (arg2.view.read (Elt F) (harg2.unread x0)) (arg3.view.read (Elt F) (harg3.unread x1)) (arg4.view.read (Elt F) (harg4.unread x2)) (heads (arg10.view.read (Elt F) (harg10.unread xs0)) 0 (by omega)) := by sl_kernel_rfl
  rw [e]
  simp only [harg2.read_unread, harg3.read_unread, harg4.read_unread, harg5.read_unread, harg6.read_unread, harg7.read_unread, harg10.read_unread]

set_option maxHeartbeats 8000000 in
/-- list7_B at a later point. -/
theorem list7_B (c : Dev nD) (i : grid0.Coords) (arg2 : Memref sig .tc .vmem S256x1536 .f32) (harg2 : arg2.IsWhole) (arg3 : Memref sig .tc .vmem S256x128 .f32) (harg3 : arg3.IsWhole) (arg4 : Memref sig .tc .vmem S128x256 .f32) (harg4 : arg4.IsWhole) (arg5 : Memref sig .tc .vmem S256x1536 .f32) (harg5 : arg5.IsWhole) (arg6 : Memref sig .tc .vmem S256x128 .f32) (harg6 : arg6.IsWhole) (arg7 : Memref sig .tc .vmem S128x256 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S2x4x128x128 .f32) (harg10 : arg10.IsWhole) (hc0 : ¬cond0_0 i)
    (x0 : Vec F S256x1536 .f32) (x1 : Vec F S256x128 .f32) (x2 : Vec F S128x256 .f32) (x3 : Vec F S256x1536 .f32) (x4 : Vec F S256x128 .f32) (x5 : Vec F S128x256 .f32) (xs0 : Vec F S2x4x128x128 .f32) :
    (kernelRun0_B c i arg2 harg2 arg3 harg3 arg4 harg4 arg5 harg5 arg6 harg6 arg7 harg7 arg8 harg8 arg9 harg9 arg10 harg10 hc0 x0 x1 x2 x3 x4 x5 xs0).2.1 = piecesB x3 x4 x5 (heads xs0 1 (by omega)) := by
  have e : (kernelRun0_B c i arg2 harg2 arg3 harg3 arg4 harg4 arg5 harg5 arg6 harg6 arg7 harg7 arg8 harg8 arg9 harg9 arg10 harg10 hc0 x0 x1 x2 x3 x4 x5 xs0).2.1 = piecesB (arg5.view.read (Elt F) (harg5.unread x3)) (arg6.view.read (Elt F) (harg6.unread x4)) (arg7.view.read (Elt F) (harg7.unread x5)) (heads (arg10.view.read (Elt F) (harg10.unread xs0)) 1 (by omega)) := by sl_kernel_rfl
  rw [e]
  simp only [harg2.read_unread, harg3.read_unread, harg4.read_unread, harg5.read_unread, harg6.read_unread, harg7.read_unread, harg10.read_unread]

set_option maxHeartbeats 8000000 in
/-- listS_B at a later point. -/
theorem listS_B (c : Dev nD) (i : grid0.Coords) (arg2 : Memref sig .tc .vmem S256x1536 .f32) (harg2 : arg2.IsWhole) (arg3 : Memref sig .tc .vmem S256x128 .f32) (harg3 : arg3.IsWhole) (arg4 : Memref sig .tc .vmem S128x256 .f32) (harg4 : arg4.IsWhole) (arg5 : Memref sig .tc .vmem S256x1536 .f32) (harg5 : arg5.IsWhole) (arg6 : Memref sig .tc .vmem S256x128 .f32) (harg6 : arg6.IsWhole) (arg7 : Memref sig .tc .vmem S128x256 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S2x4x128x128 .f32) (harg10 : arg10.IsWhole) (hc0 : ¬cond0_0 i)
    (x0 : Vec F S256x1536 .f32) (x1 : Vec F S256x128 .f32) (x2 : Vec F S128x256 .f32) (x3 : Vec F S256x1536 .f32) (x4 : Vec F S256x128 .f32) (x5 : Vec F S128x256 .f32) (xs0 : Vec F S2x4x128x128 .f32) :
    (kernelRun0_B c i arg2 harg2 arg3 harg3 arg4 harg4 arg5 harg5 arg6 harg6 arg7 harg7 arg8 harg8 arg9 harg9 arg10 harg10 hc0 x0 x1 x2 x3 x4 x5 xs0).2.2.1 = piecesS x0 x1 x2 x3 x4 x5 (heads xs0 0 (by omega)) (heads xs0 1 (by omega)) := by
  have e : (kernelRun0_B c i arg2 harg2 arg3 harg3 arg4 harg4 arg5 harg5 arg6 harg6 arg7 harg7 arg8 harg8 arg9 harg9 arg10 harg10 hc0 x0 x1 x2 x3 x4 x5 xs0).2.2.1 = piecesS (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (heads (arg10.view.read (Elt F) (harg10.unread xs0)) 0 (by omega)) (heads (arg10.view.read (Elt F) (harg10.unread xs0)) 1 (by omega)) := by sl_kernel_rfl
  rw [e]
  simp only [harg2.read_unread, harg3.read_unread, harg4.read_unread, harg5.read_unread, harg6.read_unread, harg7.read_unread, harg10.read_unread]

/-- The whole state fits itself. -/
theorem zInb : ∀ a, (![0, 0, 0, 0] : Fin 4 → ℕ) a + S2x4x128x128.size a ≤ S2x4x128x128.size a := by
  intro a; match a with
  | ⟨0, _⟩ => exact Nat.le_refl 2
  | ⟨1, _⟩ => exact Nat.le_refl 4
  | ⟨2, _⟩ => exact Nat.le_refl 128
  | ⟨3, _⟩ => exact Nat.le_refl 128
/-- Every origin coordinate is zero. -/
theorem zOff : (![0, 0, 0, 0] : Fin 4 → ℕ) = fun _ => 0 := by funext a; fin_cases a <;> rfl
/-- A state just written whole reads as what was written. -/
theorem zRead (v : View sig .tc .vmem S2x4x128x128 .f32) (w : Vec F S2x4x128x128 .f32) :
    v.read (Elt F) (v.writes (Elt F) v.junk [⟨Rect.unit (s := S2x4x128x128) ![0, 0, 0, 0] S2x4x128x128.size zInb, w⟩]) = w := by
  have h : ∀ y : S2x4x128x128.Idx, ∃ p ∈ [(⟨Rect.unit (s := S2x4x128x128) ![0, 0, 0, 0] S2x4x128x128.size zInb, w⟩ : View.Piece (Elt F) S2x4x128x128 .f32)], y ∈ p.1.set :=
    fun y => ⟨_, List.mem_singleton_self _, View.mem_set_unit_zero zOff zInb y⟩
  rw [View.read_writes_eq_canon v _ _ h]
  exact View.canon_cons_unit_zero zOff zInb w []

set_option maxHeartbeats 8000000 in
/-- list6_A at a first point: the state read is zero. -/
theorem list6_A (c : Dev nD) (i : grid0.Coords) (arg2 : Memref sig .tc .vmem S256x1536 .f32) (harg2 : arg2.IsWhole) (arg3 : Memref sig .tc .vmem S256x128 .f32) (harg3 : arg3.IsWhole) (arg4 : Memref sig .tc .vmem S128x256 .f32) (harg4 : arg4.IsWhole) (arg5 : Memref sig .tc .vmem S256x1536 .f32) (harg5 : arg5.IsWhole) (arg6 : Memref sig .tc .vmem S256x128 .f32) (harg6 : arg6.IsWhole) (arg7 : Memref sig .tc .vmem S128x256 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S2x4x128x128 .f32) (harg10 : arg10.IsWhole) (hc0 : cond0_0 i)
    (x0 : Vec F S256x1536 .f32) (x1 : Vec F S256x128 .f32) (x2 : Vec F S128x256 .f32) (x3 : Vec F S256x1536 .f32) (x4 : Vec F S256x128 .f32) (x5 : Vec F S128x256 .f32) :
    (kernelRun0_A c i arg2 harg2 arg3 harg3 arg4 harg4 arg5 harg5 arg6 harg6 arg7 harg7 arg8 harg8 arg9 harg9 arg10 harg10 hc0 x0 x1 x2 x3 x4 x5).1 = piecesF x0 x1 x2 (heads (k0_pay2 (F := F)) 0 (by omega)) := by
  have e : (kernelRun0_A c i arg2 harg2 arg3 harg3 arg4 harg4 arg5 harg5 arg6 harg6 arg7 harg7 arg8 harg8 arg9 harg9 arg10 harg10 hc0 x0 x1 x2 x3 x4 x5).1 = piecesF (arg2.view.read (Elt F) (harg2.unread x0)) (arg3.view.read (Elt F) (harg3.unread x1)) (arg4.view.read (Elt F) (harg4.unread x2)) (heads (arg10.view.read (Elt F) (arg10.view.writes (Elt F) arg10.view.junk [⟨Rect.unit (s := S2x4x128x128) ![0, 0, 0, 0] S2x4x128x128.size zInb, (k0_pay2 (F := F))⟩])) 0 (by omega)) := by sl_kernel_rfl
  rw [e, zRead]
  simp only [harg2.read_unread, harg3.read_unread, harg4.read_unread, harg5.read_unread, harg6.read_unread, harg7.read_unread]

set_option maxHeartbeats 8000000 in
/-- list7_A at a first point: the state read is zero. -/
theorem list7_A (c : Dev nD) (i : grid0.Coords) (arg2 : Memref sig .tc .vmem S256x1536 .f32) (harg2 : arg2.IsWhole) (arg3 : Memref sig .tc .vmem S256x128 .f32) (harg3 : arg3.IsWhole) (arg4 : Memref sig .tc .vmem S128x256 .f32) (harg4 : arg4.IsWhole) (arg5 : Memref sig .tc .vmem S256x1536 .f32) (harg5 : arg5.IsWhole) (arg6 : Memref sig .tc .vmem S256x128 .f32) (harg6 : arg6.IsWhole) (arg7 : Memref sig .tc .vmem S128x256 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S2x4x128x128 .f32) (harg10 : arg10.IsWhole) (hc0 : cond0_0 i)
    (x0 : Vec F S256x1536 .f32) (x1 : Vec F S256x128 .f32) (x2 : Vec F S128x256 .f32) (x3 : Vec F S256x1536 .f32) (x4 : Vec F S256x128 .f32) (x5 : Vec F S128x256 .f32) :
    (kernelRun0_A c i arg2 harg2 arg3 harg3 arg4 harg4 arg5 harg5 arg6 harg6 arg7 harg7 arg8 harg8 arg9 harg9 arg10 harg10 hc0 x0 x1 x2 x3 x4 x5).2.1 = piecesB x3 x4 x5 (heads (k0_pay2 (F := F)) 1 (by omega)) := by
  have e : (kernelRun0_A c i arg2 harg2 arg3 harg3 arg4 harg4 arg5 harg5 arg6 harg6 arg7 harg7 arg8 harg8 arg9 harg9 arg10 harg10 hc0 x0 x1 x2 x3 x4 x5).2.1 = piecesB (arg5.view.read (Elt F) (harg5.unread x3)) (arg6.view.read (Elt F) (harg6.unread x4)) (arg7.view.read (Elt F) (harg7.unread x5)) (heads (arg10.view.read (Elt F) (arg10.view.writes (Elt F) arg10.view.junk [⟨Rect.unit (s := S2x4x128x128) ![0, 0, 0, 0] S2x4x128x128.size zInb, (k0_pay2 (F := F))⟩])) 1 (by omega)) := by sl_kernel_rfl
  rw [e, zRead]
  simp only [harg2.read_unread, harg3.read_unread, harg4.read_unread, harg5.read_unread, harg6.read_unread, harg7.read_unread]

set_option maxHeartbeats 8000000 in
/-- listS_A at a first point: the state read is zero. -/
theorem listS_A (c : Dev nD) (i : grid0.Coords) (arg2 : Memref sig .tc .vmem S256x1536 .f32) (harg2 : arg2.IsWhole) (arg3 : Memref sig .tc .vmem S256x128 .f32) (harg3 : arg3.IsWhole) (arg4 : Memref sig .tc .vmem S128x256 .f32) (harg4 : arg4.IsWhole) (arg5 : Memref sig .tc .vmem S256x1536 .f32) (harg5 : arg5.IsWhole) (arg6 : Memref sig .tc .vmem S256x128 .f32) (harg6 : arg6.IsWhole) (arg7 : Memref sig .tc .vmem S128x256 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S2x4x128x128 .f32) (harg10 : arg10.IsWhole) (hc0 : cond0_0 i)
    (x0 : Vec F S256x1536 .f32) (x1 : Vec F S256x128 .f32) (x2 : Vec F S128x256 .f32) (x3 : Vec F S256x1536 .f32) (x4 : Vec F S256x128 .f32) (x5 : Vec F S128x256 .f32) :
    (kernelRun0_A c i arg2 harg2 arg3 harg3 arg4 harg4 arg5 harg5 arg6 harg6 arg7 harg7 arg8 harg8 arg9 harg9 arg10 harg10 hc0 x0 x1 x2 x3 x4 x5).2.2.1 = piecesS x0 x1 x2 x3 x4 x5 (heads (k0_pay2 (F := F)) 0 (by omega)) (heads (k0_pay2 (F := F)) 1 (by omega)) ++ [⟨Rect.unit (s := S2x4x128x128) ![0, 0, 0, 0] S2x4x128x128.size zInb, (k0_pay2 (F := F))⟩] := by
  have e : (kernelRun0_A c i arg2 harg2 arg3 harg3 arg4 harg4 arg5 harg5 arg6 harg6 arg7 harg7 arg8 harg8 arg9 harg9 arg10 harg10 hc0 x0 x1 x2 x3 x4 x5).2.2.1 = piecesS (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (heads (arg10.view.read (Elt F) (arg10.view.writes (Elt F) arg10.view.junk [⟨Rect.unit (s := S2x4x128x128) ![0, 0, 0, 0] S2x4x128x128.size zInb, (k0_pay2 (F := F))⟩])) 0 (by omega)) (heads (arg10.view.read (Elt F) (arg10.view.writes (Elt F) arg10.view.junk [⟨Rect.unit (s := S2x4x128x128) ![0, 0, 0, 0] S2x4x128x128.size zInb, (k0_pay2 (F := F))⟩])) 1 (by omega)) ++ [⟨Rect.unit (s := S2x4x128x128) ![0, 0, 0, 0] S2x4x128x128.size zInb, (k0_pay2 (F := F))⟩] := by sl_kernel_rfl
  rw [e, zRead]
  simp only [harg2.read_unread, harg3.read_unread, harg4.read_unread, harg5.read_unread, harg6.read_unread, harg7.read_unread]

end Cert.GdnItem

end
-- ==== Proof.Grid.lean ====
/- What one grid point of the kernel stores, over real arguments: the gated delta rule of the whole sequence at the
   point's tokens. -/
module

public import proofs.«01_k».proof.Proof.Block
public import proofs.«01_k».proof.Proof.Pieces
public import Idealize.ShloMosaic.Lib.Pipeline.ValueKit

@[expose] public section

noncomputable section

namespace Cert.GdnItem

open Idealize.ShloMosaic Idealize.ShloMosaic.Tactic Cert.KernelIdeal Cert.KernelIdeal.Gen Cert.GdnAlg Finset

variable (X A : ℕ → ℕ → ℝ)

/-- The row of token `τ` of a sequence: forward in order, backward from the last. -/
def pos (d b τ : ℕ) : ℕ := if d = 0 then 4096 * b + τ else 4096 * b + (4095 - τ)

/-- The state of one sequence, direction and head after `n` tokens, one column. -/
def gst (d b h e n : ℕ) : Fin 128 → ℝ :=
  rst (dl fun τ => A (pos d b τ) (8 + 4 * d + h)) (fun τ => A (pos d b τ) (4 * d + h)) (fun τ a => X (pos d b τ) (512 + 128 * h + a.val))
    (fun τ => X (pos d b τ) (1024 + 128 * h + e)) (fun _ => 0) n

/-- The same, the whole state. -/
def gS (d b h n : ℕ) : Matrix (Fin 128) (Fin 128) ℝ := fun a e => gst X A d b h e.val n a

/-- The token of a row. -/
def tok (d r : ℕ) : ℕ := if d = 0 then r % 4096 else 4095 - r % 4096

/-- **The gated delta rule**: the answer at row `r`, column `c` of a direction's result. -/
def res (d r c : ℕ) : ℝ := ∑ a : Fin 128, X r (128 * (c / 128) + a.val) * gst X A d (r / 4096) (c / 128) (c % 128) (tok d r + 1) a

/-- A head's inputs of the block at row `R`. -/
def blkIn (d h R : ℕ) : RIn where
  q i a := X (R + i.val) (128 * h + a.val)
  k i a := X (R + i.val) (512 + 128 * h + a.val)
  v i a := X (R + i.val) (1024 + 128 * h + a.val)
  b i := A (R + i.val) (4 * d + h)
  g i := A (R + i.val) (8 + 4 * d + h)

/-- Block `B` of a sequence carries the state on. -/
theorem blk_glob (d b h R B : ℕ) (P : ℕ → Fin 128) (hpos : ∀ t < 128, pos d b (128 * B + t) = R + (P t).val) (e : Fin 128) (n : ℕ) (hn : n ≤ 128) :
    blkSt (blkIn X A d h R) P (gS X A d b h (128 * B)) e n = gst X A d b h e.val (128 * B + n) := by
  unfold gst
  rw [rst_add]
  unfold blkSt
  refine rst_congr n (fun t ht => ?_) (fun t ht => ?_) (fun t ht => ?_) (fun t ht => ?_) rfl
  · unfold dl blkIn
    dsimp only
    rw [hpos t (by omega)]
    congr 1
    by_cases h0 : t % 64 = 0
    · rw [if_pos h0, if_pos (by omega)]
    · rw [if_neg h0, if_neg (by omega), show 128 * B + t - 1 = 128 * B + (t - 1) by omega, hpos (t - 1) (by omega)]
  · simp only [blkIn]; rw [hpos t (by omega)]
  · simp only [blkIn]; rw [hpos t (by omega)]
  · simp only [blkIn]; rw [hpos t (by omega)]

/-- … as a whole state. -/
theorem blkS_glob (d b h R B : ℕ) (P : ℕ → Fin 128) (hpos : ∀ t < 128, pos d b (128 * B + t) = R + (P t).val) :
    blkS (blkIn X A d h R) P (gS X A d b h (128 * B)) 128 = gS X A d b h (128 * (B + 1)) := by
  funext a e
  exact congrFun ((blk_glob X A d b h R B P hpos e 128 (le_refl _)).trans (by rw [show 128 * B + 128 = 128 * (B + 1) by ring])) a

/-- … and its answers. -/
theorem blkO_glob (d b h R B : ℕ) (P : ℕ → Fin 128) (τ : Fin 128 → ℕ) (hpos : ∀ t < 128, pos d b (128 * B + t) = R + (P t).val)
    (hτ : ∀ i, τ i < 128) (ht : ∀ i : Fin 128, tok d (R + i.val) = 128 * B + τ i) (hb : ∀ i : Fin 128, (R + i.val) / 4096 = b) (i e : Fin 128) :
    blkO (blkIn X A d h R) P τ (gS X A d b h (128 * B)) i e = res X A d (R + i.val) (128 * h + e.val) := by
  unfold blkO res
  rw [blk_glob X A d b h R B P hpos e (τ i + 1) (by have := hτ i; omega), hb i, ht i, show (128 * h + e.val) / 128 = h by omega, show (128 * h + e.val) % 128 = e.val by omega]
  rfl

section Window
variable {x0 : Vec Ideal S256x1536 .f32} {x1 : Vec Ideal S256x128 .f32} {x2 : Vec Ideal S128x256 .f32} {base : ℕ}
  (h0 : ∀ (i : Fin 256) (j : Fin 1536), x0 (ix2 i j) = ((X (base + i.val) j.val : ℝ) : EReal))
  (h1 : ∀ (i : Fin 256) (j : Fin 128), x1 (ix2 i j) = ((A (base + i.val) j.val : ℝ) : EReal))
  (h2 : ∀ (i : Fin 128) (j : Fin 256), x2 (ix2 i j) = ((A (base + j.val) i.val : ℝ) : EReal))

/-- A tile at two coordinates. -/
theorem tile_apply {F : FTy → Type} [FloatOps F] {m n : ℕ} (x : Vec F ⟨2, ![m, n]⟩ .f32) (r c : ℕ) (h) (hr : r + 128 ≤ m) (hc : c + 128 ≤ n) (i j : Fin 128) :
    tile x r c h (ix2 i j) = x (ix2 ⟨r + i.val, by omega⟩ ⟨c + j.val, by omega⟩) := by
  unfold tile
  rw [View.ld_apply]
  congr 1
  funext a
  apply Fin.ext
  refine (Rect.idx_unit_val _ _ _ _ a).trans ?_
  match a with
  | ⟨0, _⟩ => rfl
  | ⟨1, _⟩ => rfl

include h0 h1 h2 in
/-- What a head reads of a window is real. -/
theorem inp_eq (d r h : ℕ) (l0 l1 : Fin 128) (hd : d < 2) (hr : r + 128 ≤ 256) (hh : h < 4) :
    inp x0 x1 x2 d l0.val l1.val r h hd l0.isLt l1.isLt hr hh = toIn (blkIn X A d h (base + r)) l0 l1 := by
  have e0 : ∀ (c : ℕ) (hf) (hc : c + 128 ≤ 1536) (i j : Fin 128), tile x0 r c hf (ix2 i j) = ((X (base + r + i.val) (c + j.val) : ℝ) : EReal) := by
    intro c hf hc i j
    rw [tile_apply x0 r c hf hr hc, h0, Nat.add_assoc]
  have e1 : ∀ (hf) (i j : Fin 128), tile x1 r 0 hf (ix2 i j) = ((A (base + r + i.val) j.val : ℝ) : EReal) := by
    intro hf i j
    rw [tile_apply x1 r 0 hf hr (by omega), h1]; simp only [Nat.add_assoc, Nat.zero_add]
  have e2 : ∀ (hf) (i j : Fin 128), tile x2 0 r hf (ix2 i j) = ((A (base + r + j.val) i.val : ℝ) : EReal) := by
    intro hf i j
    rw [tile_apply x2 0 r hf (by omega) hr, h2]; simp only [Nat.add_assoc, Nat.zero_add]
  unfold inp toIn
  congr 1
  · refine ext2 fun i j => ?_
    rw [e0 _ _ (by omega)]; rfl
  · refine ext2 fun i j => ?_
    rw [e0 _ _ (by omega)]; rfl
  · refine ext2 fun i j => ?_
    rw [e0 _ _ (by omega)]; rfl
  · refine ext2 fun i j => ?_
    obtain rfl : j = 0 := Subsingleton.elim _ _
    refine (?_ : _ = tile x1 r 0 (fits hr (by omega)) (ix2 i ⟨4 * d + h, by omega⟩)).trans (e1 _ _ _)
    unfold extractStridedSlice
    congr 1
    funext a
    match a with
    | ⟨0, _⟩ => exact Fin.ext (Nat.zero_add _)
    | ⟨1, _⟩ => rfl
  · refine ext2 fun i j => ?_
    obtain rfl : j = 0 := Subsingleton.elim _ _
    refine (?_ : _ = tile x1 r 0 (fits hr (by omega)) (ix2 i ⟨8 + 4 * d + h, by omega⟩)).trans (e1 _ _ _)
    unfold extractStridedSlice
    congr 1
    funext a
    match a with
    | ⟨0, _⟩ => exact Fin.ext (Nat.zero_add _)
    | ⟨1, _⟩ => rfl
  · refine ext2 fun i j => ?_
    obtain rfl : i = 0 := Subsingleton.elim _ _
    refine (?_ : _ = tile x2 0 r (fits (by omega) hr) (ix2 ⟨8 + 4 * d + h, by omega⟩ j)).trans (e2 _ _ _)
    rw [shapeCast_self]
    unfold extractStridedSlice
    congr 1
    funext a
    match a with
    | ⟨0, _⟩ => rfl
    | ⟨1, _⟩ => exact Fin.ext (Nat.zero_add _)
  · refine ext2 fun i j => ?_
    obtain rfl : i = 0 := Subsingleton.elim _ _
    obtain rfl : j = 0 := Subsingleton.elim _ _
    refine (?_ : _ = tile x1 r 0 (fits hr (by omega)) (ix2 l0 ⟨8 + 4 * d + h, by omega⟩)).trans (e1 _ _ _)
    unfold extractStridedSlice
    congr 1
    funext a
    match a with
    | ⟨0, _⟩ => rfl
    | ⟨1, _⟩ => rfl
  · refine ext2 fun i j => ?_
    obtain rfl : i = 0 := Subsingleton.elim _ _
    obtain rfl : j = 0 := Subsingleton.elim _ _
    refine (?_ : _ = tile x1 r 0 (fits hr (by omega)) (ix2 l1 ⟨8 + 4 * d + h, by omega⟩)).trans (e1 _ _ _)
    unfold extractStridedSlice
    congr 1
    funext a
    match a with
    | ⟨0, _⟩ => rfl
    | ⟨1, _⟩ => rfl

variable (b i : ℕ) (hi : i < 16)

/-- Forward rows. -/
theorem pos_f (R B : ℕ) (hR : R = 4096 * b + 128 * B) : ∀ t < 128, pos 0 b (128 * B + t) = R + (fwd t).val := by
  intro t ht; unfold pos fwd; rw [if_pos rfl]; simp only; omega
/-- Backward rows. -/
theorem pos_b (R B : ℕ) (hB : B < 32) (hR : R = 4096 * b + (3968 - 128 * B)) : ∀ t < 128, pos 1 b (128 * B + t) = R + (bwd t).val := by
  intro t ht; unfold pos bwd; rw [if_neg (by decide)]; simp only; omega

include hi
variable (s : FVec Ideal S128x128 .f32) (h : ℕ) (hh : h < 4)

section F
variable (hb : base = 4096 * b + 256 * i) (hs : s = co (gS X A 0 b h (256 * i)))
include h0 h1 h2 hb hs

omit hi in
theorem stF0_eq : stF (inF x0 x1 x2 0 h (by omega) hh) s = co (gS X A 0 b h (128 * (2 * i + 1))) := by
  have e : inF x0 x1 x2 0 h (by omega) hh = toIn (blkIn X A 0 h (base + 0)) 63 127 := inp_eq X A h0 h1 h2 0 0 h 63 127 (by omega) (by omega) hh
  rw [e, hs, stF_co, show 256 * i = 128 * (2 * i) by ring, blkS_glob X A 0 b h _ (2 * i) fwd (pos_f b _ _ (by omega))]
omit hi in
theorem sF_eq : sF x0 x1 x2 s h hh = co (gS X A 0 b h (256 * (i + 1))) := by
  unfold sF
  have e : inF x0 x1 x2 128 h (by omega) hh = toIn (blkIn X A 0 h (base + 128)) 63 127 := inp_eq X A h0 h1 h2 0 128 h 63 127 (by omega) (by omega) hh
  rw [stF0_eq X A h0 h1 h2 b i s h hh hb hs, e, stF_co, blkS_glob X A 0 b h _ (2 * i + 1) fwd (pos_f b _ _ (by omega)), show 128 * (2 * i + 1 + 1) = 256 * (i + 1) by ring]
theorem oF0_eq (r c : Fin 128) : oF0 x0 x1 x2 s h hh (ix2 r c) = ((res X A 0 (base + r.val) (128 * h + c.val) : ℝ) : EReal) := by
  unfold oF0
  have e : inF x0 x1 x2 0 h (by omega) hh = toIn (blkIn X A 0 h (base + 0)) 63 127 := inp_eq X A h0 h1 h2 0 0 h 63 127 (by omega) (by omega) hh
  rw [e, hs, outF_co, show 256 * i = 128 * (2 * i) by ring, co_apply,
    blkO_glob X A 0 b h _ (2 * i) fwd _ (pos_f b _ _ (by omega)) (fun i => i.isLt) (fun r => by unfold tok; rw [if_pos rfl]; omega) (fun r => by omega)]
  rfl
theorem oF1_eq (r c : Fin 128) : oF1 x0 x1 x2 s h hh (ix2 r c) = ((res X A 0 (base + (128 + r.val)) (128 * h + c.val) : ℝ) : EReal) := by
  unfold oF1
  have e : inF x0 x1 x2 128 h (by omega) hh = toIn (blkIn X A 0 h (base + 128)) 63 127 := inp_eq X A h0 h1 h2 0 128 h 63 127 (by omega) (by omega) hh
  rw [stF0_eq X A h0 h1 h2 b i s h hh hb hs, e, outF_co, co_apply,
    blkO_glob X A 0 b h _ (2 * i + 1) fwd _ (pos_f b _ _ (by omega)) (fun i => i.isLt) (fun r => by unfold tok; rw [if_pos rfl]; omega) (fun r => by omega), Nat.add_assoc]
end F

section B
variable (hb : base = 4096 * b + (3840 - 256 * i)) (hs : s = co (gS X A 1 b h (256 * i)))
include h0 h1 h2 hb hs

theorem stB1_eq : stB (inB x0 x1 x2 128 h (by omega) hh) s = co (gS X A 1 b h (128 * (2 * i + 1))) := by
  have e : inB x0 x1 x2 128 h (by omega) hh = toIn (blkIn X A 1 h (base + 128)) 0 64 := inp_eq X A h0 h1 h2 1 128 h 0 64 (by omega) (by omega) hh
  rw [e, hs, stB_co, show 256 * i = 128 * (2 * i) by ring, blkS_glob X A 1 b h _ (2 * i) bwd (pos_b b _ _ (by omega) (by omega))]
theorem sB_eq : sB x0 x1 x2 s h hh = co (gS X A 1 b h (256 * (i + 1))) := by
  unfold sB
  have e : inB x0 x1 x2 0 h (by omega) hh = toIn (blkIn X A 1 h (base + 0)) 0 64 := inp_eq X A h0 h1 h2 1 0 h 0 64 (by omega) (by omega) hh
  rw [stB1_eq X A h0 h1 h2 b i hi s h hh hb hs, e, stB_co, blkS_glob X A 1 b h _ (2 * i + 1) bwd (pos_b b _ _ (by omega) (by omega)), show 128 * (2 * i + 1 + 1) = 256 * (i + 1) by ring]
theorem oB1_eq (r c : Fin 128) : oB1 x0 x1 x2 s h hh (ix2 r c) = ((res X A 1 (base + (128 + r.val)) (128 * h + c.val) : ℝ) : EReal) := by
  unfold oB1
  have e : inB x0 x1 x2 128 h (by omega) hh = toIn (blkIn X A 1 h (base + 128)) 0 64 := inp_eq X A h0 h1 h2 1 128 h 0 64 (by omega) (by omega) hh
  rw [e, hs, outB_co, show 256 * i = 128 * (2 * i) by ring, co_apply,
    blkO_glob X A 1 b h _ (2 * i) bwd _ (pos_b b _ _ (by omega) (by omega)) (fun i => by omega) (fun r => by unfold tok; rw [if_neg (by decide)]; omega) (fun r => by omega), Nat.add_assoc]
theorem oB0_eq (r c : Fin 128) : oB0 x0 x1 x2 s h hh (ix2 r c) = ((res X A 1 (base + r.val) (128 * h + c.val) : ℝ) : EReal) := by
  unfold oB0
  have e : inB x0 x1 x2 0 h (by omega) hh = toIn (blkIn X A 1 h (base + 0)) 0 64 := inp_eq X A h0 h1 h2 1 0 h 0 64 (by omega) (by omega) hh
  rw [stB1_eq X A h0 h1 h2 b i hi s h hh hb hs, e, outB_co, co_apply,
    blkO_glob X A 1 b h _ (2 * i + 1) bwd _ (pos_b b _ _ (by omega) (by omega)) (fun i => by omega) (fun r => by unfold tok; rw [if_neg (by decide)]; omega) (fun r => by omega)]
  rfl
end B
end Window

end Cert.GdnItem

end
-- ==== Proof.Point.lean ====
/- The values of one grid point's stores as whole blocks: the two result blocks and the carried state. -/
module

public import proofs.«01_k».proof.Proof.Grid
public import Idealize.ShloMosaic.Lib.Pipeline.CanonAppend

@[expose] public section

set_option maxRecDepth 16384

noncomputable section

namespace Cert.GdnItem

open Idealize.ShloMosaic Idealize.ShloMosaic.Tactic Cert.KernelIdeal Cert.KernelIdeal.Gen Cert.GdnAlg Finset

variable (X A : ℕ → ℕ → ℝ)

/-- The carried state of sequence `b` before its step `i`, as the kernel's scratch holds it. -/
def St (b i : ℕ) : Vec Ideal S2x4x128x128 .f32 := fun y =>
  ((gst X A (y 0).val b (y 1).val (y 3).val (256 * i) ⟨(y 2).val, (y 2).isLt⟩ : ℝ) : EReal)

/-- A head's state read out of the scratch. -/
theorem heads_eq (b i d h : ℕ) (hd : d < 2) (hh : h < 4) : heads (St X A b i) d hd h = co (gS X A d b h (256 * i)) := by
  unfold heads
  rw [dif_pos hh]
  refine ext2 fun r c => ?_
  unfold stIn
  rw [shapeCast_apply _ _ (ix2 r c) (ix4 (0 : Fin 1) (0 : Fin 1) r c) (by
    rw [Shape.rowMajor_val_four, Shape.rowMajor_val_two]; simp [ix2, ix4])]
  rw [View.ld_apply, co_apply]
  unfold St gS
  have e : ∀ a, ((Rect.unit (s := S2x4x128x128) ![d, h, 0, 0] S1x1x128x128.size (stFits hd hh)).idx (ix4 (0 : Fin 1) (0 : Fin 1) r c) a).val = (![d, h, 0, 0] : Fin 4 → ℕ) a + ((ix4 (0 : Fin 1) (0 : Fin 1) r c : S1x1x128x128.Idx) a).val :=
    fun a => Rect.idx_unit_val _ _ _ _ a
  have e0 : ((Rect.unit (s := S2x4x128x128) ![d, h, 0, 0] S1x1x128x128.size (stFits hd hh)).idx (ix4 (0 : Fin 1) (0 : Fin 1) r c) 0).val = d := (e 0).trans (Nat.add_zero d)
  have e1 : ((Rect.unit (s := S2x4x128x128) ![d, h, 0, 0] S1x1x128x128.size (stFits hd hh)).idx (ix4 (0 : Fin 1) (0 : Fin 1) r c) 1).val = h := (e 1).trans (Nat.add_zero h)
  have e2 : ((Rect.unit (s := S2x4x128x128) ![d, h, 0, 0] S1x1x128x128.size (stFits hd hh)).idx (ix4 (0 : Fin 1) (0 : Fin 1) r c) 2).val = r.val := (e 2).trans (Nat.zero_add _)
  have e3 : ((Rect.unit (s := S2x4x128x128) ![d, h, 0, 0] S1x1x128x128.size (stFits hd hh)).idx (ix4 (0 : Fin 1) (0 : Fin 1) r c) 3).val = c.val := (e 3).trans (Nat.zero_add _)
  simp only [e0, e1, e2, e3]

/-- A state stored whole by head reads at its two last coordinates. -/
theorem cast_state (M : Matrix (Fin 128) (Fin 128) ℝ) (x : S1x1x128x128.Idx) :
    shapeCast S1x1x128x128 (co M : FVec Ideal S128x128 .f32) shapeCasts_S128x128_S1x1x128x128 x = ((M ⟨(x 2).val, (x 2).isLt⟩ ⟨(x 3).val, (x 3).isLt⟩ : ℝ) : EReal) := by
  have h0 : (x 0).val = 0 := by have h : (x 0).val < 1 := (x 0).isLt; omega
  have h1 : (x 1).val = 0 := by have h : (x 1).val < 1 := (x 1).isLt; omega
  rw [shapeCast_apply (co M : FVec Ideal S128x128 .f32) _ x (ix2 ⟨(x 2).val, (x 2).isLt⟩ ⟨(x 3).val, (x 3).isLt⟩) (by
    rw [Shape.rowMajor_val_four, Shape.rowMajor_val_two]; simp [ix2, h0, h1]), co_apply]

section
variable {x0 : Vec Ideal S256x1536 .f32} {x1 : Vec Ideal S256x128 .f32} {x2 : Vec Ideal S128x256 .f32} {base : ℕ}
  (h0 : ∀ (i : Fin 256) (j : Fin 1536), x0 (ix2 i j) = ((X (base + i.val) j.val : ℝ) : EReal))
  (h1 : ∀ (i : Fin 256) (j : Fin 128), x1 (ix2 i j) = ((A (base + i.val) j.val : ℝ) : EReal))
  (h2 : ∀ (i : Fin 128) (j : Fin 256), x2 (ix2 i j) = ((A (base + j.val) i.val : ℝ) : EReal))
  (b i : ℕ) (hi : i < 16)

/-- A result block's value. -/
def outG (d base : ℕ) : Vec Ideal S256x512 .f32 := fun y => ((res X A d (base + (y 0).val) (y 1).val : ℝ) : EReal)

/-- A tile of a result block. -/
theorem tile_out (d base r c : ℕ) (hr : r + 128 ≤ 256) (hc : c + 128 ≤ 512) (w : FVec Ideal S128x128 .f32)
    (hw : ∀ i j : Fin 128, w (ix2 i j) = ((res X A d (base + (r + i.val)) (c + j.val) : ℝ) : EReal)) (x : S128x128.Idx) :
    w x = outG X A d base ((oRect r c hr hc).emb x) := by
  have e : x = ix2 ⟨(x 0).val, (x 0).isLt⟩ ⟨(x 1).val, (x 1).isLt⟩ := by
    funext a
    match a with
    | ⟨0, _⟩ => rfl
    | ⟨1, _⟩ => rfl
  have e0 : (((oRect r c hr hc).emb x) 0).val = r + (x 0).val := ValueKit.rect_emb_unit_val (s := S256x512) ![r, c] S128x128.size (fits hr hc) x 0
  have e1 : (((oRect r c hr hc).emb x) 1).val = c + (x 1).val := ValueKit.rect_emb_unit_val (s := S256x512) ![r, c] S128x128.size (fits hr hc) x 1
  unfold outG
  rw [e0, e1, ← hw ⟨(x 0).val, (x 0).isLt⟩ ⟨(x 1).val, (x 1).isLt⟩]
  exact congrArg w e

/-- A head's state of the scratch. -/
theorem tile_st (d h b i : ℕ) (hd : d < 2) (hh : h < 4) (w : FVec Ideal S128x128 .f32) (hw : w = co (gS X A d b h (256 * i))) (x : S1x1x128x128.Idx) :
    shapeCast S1x1x128x128 w shapeCasts_S128x128_S1x1x128x128 x = St X A b i ((sRect d h hd hh).emb x) := by
  have h0 : (x 0).val = 0 := by have h : (x 0).val < 1 := (x 0).isLt; omega
  have h1 : (x 1).val = 0 := by have h : (x 1).val < 1 := (x 1).isLt; omega
  have e : ∀ a, (((sRect d h hd hh).emb x) a).val = (![d, h, 0, 0] : Fin 4 → ℕ) a + (x a).val :=
    fun a => ValueKit.rect_emb_unit_val (s := S2x4x128x128) ![d, h, 0, 0] S1x1x128x128.size (stFits hd hh) x a
  have e0 : (((sRect d h hd hh).emb x) 0).val = d := (e 0).trans (by rw [h0]; rfl)
  have e1 : (((sRect d h hd hh).emb x) 1).val = h := (e 1).trans (by rw [h1]; rfl)
  have e2 : (((sRect d h hd hh).emb x) 2).val = (x 2).val := (e 2).trans (Nat.zero_add _)
  have e3 : (((sRect d h hd hh).emb x) 3).val = (x 3).val := (e 3).trans (Nat.zero_add _)
  rw [hw, cast_state]
  unfold St gS
  simp only [e0, e1, e2, e3]

/-- The forward stores cover the block. -/
theorem coverF (s : ℕ → FVec Ideal S128x128 .f32) (y : S256x512.Idx) : ∃ p ∈ piecesF x0 x1 x2 s, y ∈ p.1.set :=
  View.cover_of_tiledL (piecesF x0 x1 x2 s) S128x128.size (by sl_kernel_rfl) y
/-- The backward stores cover the block. -/
theorem coverB (s : ℕ → FVec Ideal S128x128 .f32) (y : S256x512.Idx) : ∃ p ∈ piecesB x0 x1 x2 s, y ∈ p.1.set :=
  View.cover_of_tiledL (piecesB x0 x1 x2 s) S128x128.size (by sl_kernel_rfl) y
/-- The state's stores cover the scratch, whatever came before. -/
theorem coverS {x3 : Vec Ideal S256x1536 .f32} {x4 : Vec Ideal S256x128 .f32} {x5 : Vec Ideal S128x256 .f32} (s s' : ℕ → FVec Ideal S128x128 .f32)
    (L : List (View.Piece (Elt Ideal) S2x4x128x128 .f32)) (y : S2x4x128x128.Idx) : ∃ p ∈ piecesS x0 x1 x2 x3 x4 x5 s s' ++ L, y ∈ p.1.set := by
  obtain ⟨p, hp, hy⟩ := View.cover_of_tiledL (piecesS x0 x1 x2 x3 x4 x5 s s') S1x1x128x128.size (by sl_kernel_rfl) y
  exact ⟨p, List.mem_append_left _ hp, hy⟩

include h0 h1 h2

/-- The forward result block of a point. -/
theorem canonF (hi : i < 16) (hb : base = 4096 * b + 256 * i) (s : ℕ → FVec Ideal S128x128 .f32) (hs : ∀ h < 4, s h = co (gS X A 0 b h (256 * i))) :
    View.canon (piecesF x0 x1 x2 s) = outG X A 0 base := by
  funext y
  refine View.canon_apply_of_pieces _ _ ?_ y (View.cover_of_tiledL (piecesF x0 x1 x2 s) S128x128.size (by sl_kernel_rfl) y)
  have f1 := fun h (hh : h < 4) => oF1_eq X A h0 h1 h2 b i hi (s h) h hh hb (hs h hh)
  have f0 := fun h (hh : h < 4) => oF0_eq X A h0 h1 h2 b i hi (s h) h hh hb (hs h hh)
  have f0' : ∀ h (hh : h < 4) (r c : Fin 128), oF0 x0 x1 x2 (s h) h hh (ix2 r c) = ((res X A 0 (base + (0 + r.val)) (128 * h + c.val) : ℝ) : EReal) :=
    fun h hh r c => by rw [f0 h hh r c, Nat.zero_add]
  simp only [piecesF, List.forall_mem_cons, List.not_mem_nil, false_imp_iff, implies_true, and_true]
  exact ⟨tile_out X A 0 base 128 384 _ _ _ (f1 3 (by omega)), tile_out X A 0 base 128 256 _ _ _ (f1 2 (by omega)), tile_out X A 0 base 128 128 _ _ _ (f1 1 (by omega)), tile_out X A 0 base 128 0 _ _ _ (f1 0 (by omega)),
    tile_out X A 0 base 0 384 _ _ _ (f0' 3 (by omega)), tile_out X A 0 base 0 256 _ _ _ (f0' 2 (by omega)), tile_out X A 0 base 0 128 _ _ _ (f0' 1 (by omega)), tile_out X A 0 base 0 0 _ _ _ (f0' 0 (by omega))⟩

/-- The backward result block of a point. -/
theorem canonB (hi : i < 16) (hb : base = 4096 * b + (3840 - 256 * i)) (s : ℕ → FVec Ideal S128x128 .f32) (hs : ∀ h < 4, s h = co (gS X A 1 b h (256 * i))) :
    View.canon (piecesB x0 x1 x2 s) = outG X A 1 base := by
  funext y
  refine View.canon_apply_of_pieces _ _ ?_ y (View.cover_of_tiledL (piecesB x0 x1 x2 s) S128x128.size (by sl_kernel_rfl) y)
  have f1 := fun h (hh : h < 4) => oB1_eq X A h0 h1 h2 b i hi (s h) h hh hb (hs h hh)
  have f0 := fun h (hh : h < 4) => oB0_eq X A h0 h1 h2 b i hi (s h) h hh hb (hs h hh)
  have f0' : ∀ h (hh : h < 4) (r c : Fin 128), oB0 x0 x1 x2 (s h) h hh (ix2 r c) = ((res X A 1 (base + (0 + r.val)) (128 * h + c.val) : ℝ) : EReal) :=
    fun h hh r c => by rw [f0 h hh r c, Nat.zero_add]
  simp only [piecesB, List.forall_mem_cons, List.not_mem_nil, false_imp_iff, implies_true, and_true]
  exact ⟨tile_out X A 1 base 0 384 _ _ _ (f0' 3 (by omega)), tile_out X A 1 base 0 256 _ _ _ (f0' 2 (by omega)), tile_out X A 1 base 0 128 _ _ _ (f0' 1 (by omega)), tile_out X A 1 base 0 0 _ _ _ (f0' 0 (by omega)),
    tile_out X A 1 base 128 384 _ _ _ (f1 3 (by omega)), tile_out X A 1 base 128 256 _ _ _ (f1 2 (by omega)), tile_out X A 1 base 128 128 _ _ _ (f1 1 (by omega)), tile_out X A 1 base 128 0 _ _ _ (f1 0 (by omega))⟩

/-- The carried state a point leaves, over whatever was stored before. -/
theorem canonS {x3 : Vec Ideal S256x1536 .f32} {x4 : Vec Ideal S256x128 .f32} {x5 : Vec Ideal S128x256 .f32} {base' : ℕ}
    (h3 : ∀ (i : Fin 256) (j : Fin 1536), x3 (ix2 i j) = ((X (base' + i.val) j.val : ℝ) : EReal))
    (h4 : ∀ (i : Fin 256) (j : Fin 128), x4 (ix2 i j) = ((A (base' + i.val) j.val : ℝ) : EReal))
    (h5 : ∀ (i : Fin 128) (j : Fin 256), x5 (ix2 i j) = ((A (base' + j.val) i.val : ℝ) : EReal))
    (hi : i < 16) (hb : base = 4096 * b + 256 * i) (hb' : base' = 4096 * b + (3840 - 256 * i)) (s s' : ℕ → FVec Ideal S128x128 .f32)
    (hs : ∀ h < 4, s h = co (gS X A 0 b h (256 * i))) (hs' : ∀ h < 4, s' h = co (gS X A 1 b h (256 * i))) (L : List (View.Piece (Elt Ideal) S2x4x128x128 .f32)) :
    View.canon (piecesS x0 x1 x2 x3 x4 x5 s s' ++ L) = St X A b (i + 1) := by
  funext y
  refine View.canon_append_of_pieces _ _ _ ?_ y (View.cover_of_tiledL (piecesS x0 x1 x2 x3 x4 x5 s s') S1x1x128x128.size (by sl_kernel_rfl) y)
  have f := fun h (hh : h < 4) => sF_eq X A h0 h1 h2 b i (s h) h hh hb (hs h hh)
  have g := fun h (hh : h < 4) => sB_eq X A h3 h4 h5 b i hi (s' h) h hh hb' (hs' h hh)
  simp only [piecesS, List.forall_mem_cons, List.not_mem_nil, false_imp_iff, implies_true, and_true]
  exact ⟨tile_st X A 1 3 b (i + 1) _ _ _ (g 3 (by omega)), tile_st X A 1 2 b (i + 1) _ _ _ (g 2 (by omega)), tile_st X A 1 1 b (i + 1) _ _ _ (g 1 (by omega)), tile_st X A 1 0 b (i + 1) _ _ _ (g 0 (by omega)),
    tile_st X A 0 3 b (i + 1) _ _ _ (f 3 (by omega)), tile_st X A 0 2 b (i + 1) _ _ _ (f 2 (by omega)), tile_st X A 0 1 b (i + 1) _ _ _ (f 1 (by omega)), tile_st X A 0 0 b (i + 1) _ _ _ (f 0 (by omega))⟩
end

end Cert.GdnItem

end
-- ==== Proof.KValue.lean ====
/- The kernel's two result arrays over real arguments: the gated delta rule, forward and backward. -/
module

public import proofs.«01_k».proof.Proof.Point
public import proofs.«01_k».proof.Proof.Gen.KernelIdeal.Value

@[expose] public section

set_option maxRecDepth 16384

noncomputable section

namespace Cert.GdnItem

open Idealize.ShloMosaic Idealize.ShloMosaic.TcCoe Idealize.ShloMosaic.Tactic Idealize.SL.Sem Cert.KernelIdeal Cert.KernelIdeal.Gen Cert.GdnAlg Finset

variable (m : (ℓ : Loc nD τ sig) → Buf (Elt Ideal) ℓ) (ρ : Dev nD → PrngReg) (X A : ℕ → ℕ → ℝ)

/-- The block a backward window reads and writes at a point. -/
def rb (t : ℕ) : ℕ := 16 * (t / 16) + (15 - t % 16)

theorem ix_0 : ∀ t : Fin cfg0.N, win0_0.index t = ![t.val, 0] := (by decide +kernel : ∀ t : Fin grid0.N, win0_0.index t = ![t.val, 0])
theorem ix_1 : ∀ t : Fin cfg0.N, win0_1.index t = ![t.val, 0] := (by decide +kernel : ∀ t : Fin grid0.N, win0_1.index t = ![t.val, 0])
theorem ix_2 : ∀ t : Fin cfg0.N, win0_2.index t = ![0, t.val] := (by decide +kernel : ∀ t : Fin grid0.N, win0_2.index t = ![0, t.val])
theorem ix_3 : ∀ t : Fin cfg0.N, win0_3.index t = ![rb t.val, 0] := (by decide +kernel : ∀ t : Fin grid0.N, win0_3.index t = ![rb t.val, 0])
theorem ix_4 : ∀ t : Fin cfg0.N, win0_4.index t = ![rb t.val, 0] := (by decide +kernel : ∀ t : Fin grid0.N, win0_4.index t = ![rb t.val, 0])
theorem ix_5 : ∀ t : Fin cfg0.N, win0_5.index t = ![0, rb t.val] := (by decide +kernel : ∀ t : Fin grid0.N, win0_5.index t = ![0, rb t.val])
theorem ix_6 : ∀ t : Fin cfg0.N, win0_6.index t = ![t.val, 0] := (by decide +kernel : ∀ t : Fin grid0.N, win0_6.index t = ![t.val, 0])
theorem ix_7 : ∀ t : Fin cfg0.N, win0_7.index t = ![rb t.val, 0] := (by decide +kernel : ∀ t : Fin grid0.N, win0_7.index t = ![rb t.val, 0])

/-- The arguments are real. -/
structure Real2 (c : Dev nD) : Prop where
  x : ∀ y : S32768x1536.Idx, (m ((c.tc : Thread nD τ).loc main_arg0) y : EReal) = ((X (y 0).val (y 1).val : ℝ) : EReal)
  a : ∀ y : S32768x128.Idx, (m ((c.tc : Thread nD τ).loc main_arg1) y : EReal) = ((A (y 0).val (y 1).val : ℝ) : EReal)

/-- The gates transposed, read at an index. -/
theorem gatesT (v : Vec Ideal S32768x128 .f32) (h) (y : S128x32768.Idx) : transpose S128x32768 [1, 0] v h y = v (ix2 ⟨(y 1).val, (y 1).isLt⟩ ⟨(y 0).val, (y 0).isLt⟩) :=
  transpose_apply _ _ _ _ _ (fun b => by
    match b with
    | ⟨0, _⟩ => rfl
    | ⟨1, _⟩ => rfl)

/-- The scratch starts at zero. -/
theorem zero_eq (b : ℕ) : (k0_pay2 (F := Ideal)) = St X A b 0 := by
  funext y
  unfold St gst
  simp only [rst, EReal.coe_zero]
  pointwise [k0_pay2]

variable {m X A}
variable {c : Dev nD} (hr : Real2 m X A c)
include hr

/-- Window 0 at a point. -/
theorem blk0 (t : Fin cfg0.N) (i : Fin 256) (j : Fin 1536) : iblk m c 0 t (ix2 i j) = ((X (256 * (t.val) + i.val) j.val : ℝ) : EReal) := by
  blk_simp [iblk]
  rw [V_main_arg0 m c, hr.x]
  congr 2
  · blk_simp [ix_0]
    simp [ix2, Nat.mul_comm]
  · blk_simp [ix_0]
/-- Window 1 at a point. -/
theorem blk1 (t : Fin cfg0.N) (i : Fin 256) (j : Fin 128) : iblk m c 1 t (ix2 i j) = ((A (256 * (t.val) + i.val) j.val : ℝ) : EReal) := by
  blk_simp [iblk]
  rw [V_main_arg1 m c, hr.a]
  congr 2
  · blk_simp [ix_1]
    simp [ix2, Nat.mul_comm]
  · blk_simp [ix_1]
/-- Window 3 at a point. -/
theorem blk3 (t : Fin cfg0.N) (i : Fin 256) (j : Fin 1536) : iblk m c 3 t (ix2 i j) = ((X (256 * (rb t.val) + i.val) j.val : ℝ) : EReal) := by
  blk_simp [iblk]
  rw [V_main_arg0 m c, hr.x]
  congr 2
  · blk_simp [ix_3]
    simp [ix2, Nat.mul_comm]
  · blk_simp [ix_3]
/-- Window 4 at a point. -/
theorem blk4 (t : Fin cfg0.N) (i : Fin 256) (j : Fin 128) : iblk m c 4 t (ix2 i j) = ((A (256 * (rb t.val) + i.val) j.val : ℝ) : EReal) := by
  blk_simp [iblk]
  rw [V_main_arg1 m c, hr.a]
  congr 2
  · blk_simp [ix_4]
    simp [ix2, Nat.mul_comm]
  · blk_simp [ix_4]
/-- Window 2 at a point: the gates lie transposed. -/
theorem blk2 (t : Fin cfg0.N) (i : Fin 128) (j : Fin 256) : iblk m c 2 t (ix2 i j) = ((A (256 * (t.val) + j.val) i.val : ℝ) : EReal) := by
  blk_simp [iblk]
  entry_read
  refine (gatesT _ _ _).trans ((hr.a _).trans ?_)
  congr 2
  · show (((win0_2.blk t).view.emb (ix2 i j)) 1).val = _
    blk_simp [ix_2]
    simp [ix2, Nat.mul_comm]
  · show (((win0_2.blk t).view.emb (ix2 i j)) 0).val = _
    blk_simp [ix_2]
/-- Window 5 at a point: the gates lie transposed. -/
theorem blk5 (t : Fin cfg0.N) (i : Fin 128) (j : Fin 256) : iblk m c 5 t (ix2 i j) = ((A (256 * (rb t.val) + j.val) i.val : ℝ) : EReal) := by
  blk_simp [iblk]
  entry_read
  refine (gatesT _ _ _).trans ((hr.a _).trans ?_)
  congr 2
  · show (((win0_5.blk t).view.emb (ix2 i j)) 1).val = _
    blk_simp [ix_5]
    simp [ix2, Nat.mul_comm]
  · show (((win0_5.blk t).view.emb (ix2 i j)) 0).val = _
    blk_simp [ix_5]

omit hr in
theorem base_f (n : ℕ) : 256 * n = 4096 * (n / 16) + 256 * (n % 16) := by omega
omit hr in
theorem base_b (n : ℕ) : 256 * rb n = 4096 * (n / 16) + (3840 - 256 * (n % 16)) := by unfold rb; omega

/-- What a point leaves: its two result blocks and the carried state. -/
theorem outs : ∀ (n : ℕ) (hn : n < cfg0.N), outsAt0 m c n hn = (outG X A 0 (256 * n), outG X A 1 (256 * rb n), St X A (n / 16) (n % 16 + 1)) := by
  intro n
  induction n using Nat.strong_induction_on with
  | _ n ih =>
  intro hn
  have hlt : n % 16 < 16 := Nat.mod_lt _ (by omega)
  by_cases h0 : n % 16 = 0
  · have hs := fun d (hd : d < 2) h (hh : h < 4) => (congrArg (fun z => heads z d hd h) (zero_eq X A (n / 16))).trans ((heads_eq X A (n / 16) 0 d h hd hh).trans (congrArg (fun k => co (gS X A d (n / 16) h (256 * k))) h0.symm))
    refine (outsAt0_A m c ⟨n, hn⟩ h0).trans (Prod.ext ?_ (Prod.ext ?_ ?_))
    · dsimp only
      unfold out0_A_6
      rw [list6_A]
      refine (View.read_writes_eq_canon _ _ _ (coverF _)).trans ?_
      exact canonF X A (blk0 hr ⟨n, hn⟩) (blk1 hr ⟨n, hn⟩) (blk2 hr ⟨n, hn⟩) (n / 16) (n % 16) hlt (base_f n) _ (hs 0 (by omega))
    · dsimp only
      unfold out0_A_7
      rw [list7_A]
      refine (View.read_writes_eq_canon _ _ _ (coverB _)).trans ?_
      exact canonB X A (blk3 hr ⟨n, hn⟩) (blk4 hr ⟨n, hn⟩) (blk5 hr ⟨n, hn⟩) (n / 16) (n % 16) hlt (base_b n) _ (hs 1 (by omega))
    · dsimp only
      unfold sout0_A_0
      rw [listS_A]
      refine (View.read_writes_eq_canon _ _ _ (coverS _ _ _)).trans ?_
      exact canonS X A (blk0 hr ⟨n, hn⟩) (blk1 hr ⟨n, hn⟩) (blk2 hr ⟨n, hn⟩) (n / 16) (n % 16) (blk3 hr ⟨n, hn⟩) (blk4 hr ⟨n, hn⟩) (blk5 hr ⟨n, hn⟩) hlt
        (base_f n) (base_b n) _ _ (hs 0 (by omega)) (hs 1 (by omega)) _
  · have hp : (outsAt0 m c (n - 1) (by omega)).2.2 = St X A (n / 16) (n % 16) := by
      rw [ih (n - 1) (by omega) (by omega)]
      show St X A ((n - 1) / 16) ((n - 1) % 16 + 1) = _
      rw [show (n - 1) / 16 = n / 16 by omega, show (n - 1) % 16 + 1 = n % 16 by omega]
    have hs := fun d (hd : d < 2) h (hh : h < 4) => (congrArg (fun z => heads z d hd h) hp).trans (heads_eq X A (n / 16) (n % 16) d h hd hh)
    refine (outsAt0_B m c ⟨n, hn⟩ h0).trans (Prod.ext ?_ (Prod.ext ?_ ?_))
    · dsimp only
      unfold out0_B_6
      rw [list6_B]
      refine (View.read_writes_eq_canon _ _ _ (coverF _)).trans ?_
      exact canonF X A (blk0 hr ⟨n, hn⟩) (blk1 hr ⟨n, hn⟩) (blk2 hr ⟨n, hn⟩) (n / 16) (n % 16) hlt (base_f n) _ (hs 0 (by omega))
    · dsimp only
      unfold out0_B_7
      rw [list7_B]
      refine (View.read_writes_eq_canon _ _ _ (coverB _)).trans ?_
      exact canonB X A (blk3 hr ⟨n, hn⟩) (blk4 hr ⟨n, hn⟩) (blk5 hr ⟨n, hn⟩) (n / 16) (n % 16) hlt (base_b n) _ (hs 1 (by omega))
    · dsimp only
      unfold sout0_B_0
      rw [listS_B, ← List.append_nil (piecesS _ _ _ _ _ _ _ _)]
      refine (View.read_writes_eq_canon _ _ _ (coverS _ _ _)).trans ?_
      exact canonS X A (blk0 hr ⟨n, hn⟩) (blk1 hr ⟨n, hn⟩) (blk2 hr ⟨n, hn⟩) (n / 16) (n % 16) (blk3 hr ⟨n, hn⟩) (blk4 hr ⟨n, hn⟩) (blk5 hr ⟨n, hn⟩) hlt
        (base_f n) (base_b n) _ _ (hs 0 (by omega)) (hs 1 (by omega)) _

/-- A result array of the kernel. -/
def arrG (X A : ℕ → ℕ → ℝ) (d : ℕ) : Vec Ideal S32768x512 .f32 := fun y => ((res X A d (y 0).val (y 1).val : ℝ) : EReal)

/-- The forward result. -/
theorem arr6 : (dats m 0 c).arrAt 6 cfg0.N = arrG X A 0 := by
  refine (dats m 0 c).arrAt_eq_of_covers 6 _ (by decide +kernel) fun t hf y => ?_
  have e0 : ((((cfg0.win 6).blk t).view.emb y) 0).val = 256 * t.val + (y 0).val := by
    blk_simp [ix_6]
    simp [Nat.mul_comm]
  have e1 : ((((cfg0.win 6).blk t).view.emb y) 1).val = (y 1).val := by
    blk_simp [ix_6]
  unfold arrG
  simp only [e0, e1]
  blk_simp
  rw [after0_6, outs hr t.val t.isLt]
  rfl
/-- The backward result. -/
theorem arr7 : (dats m 0 c).arrAt 7 cfg0.N = arrG X A 1 := by
  refine (dats m 0 c).arrAt_eq_of_covers 7 _ (by decide +kernel) fun t hf y => ?_
  have e0 : ((((cfg0.win 7).blk t).view.emb y) 0).val = 256 * rb t.val + (y 0).val := by
    blk_simp [ix_7]
    simp [Nat.mul_comm]
  have e1 : ((((cfg0.win 7).blk t).view.emb y) 1).val = (y 1).val := by
    blk_simp [ix_7]
  unfold arrG
  simp only [e0, e1]
  blk_simp
  rw [after0_7, outs hr t.val t.isLt]
  rfl

end Cert.GdnItem

end
-- ==== Proof.RefValue.lean ====
/- The reference's results over real arguments: its loop runs the gated delta rule token by token. -/
module

public import proofs.«01_k».proof.Proof.Grid
public import proofs.«01_k».proof.Proof.Gen.ReferenceIdeal.Step
public import Idealize.ShloMosaic.Lib.DynamicIndex
public import Idealize.ShloMosaic.Lib.Pipeline.Value

@[expose] public section

noncomputable section

namespace Cert.GdnRef

open Idealize.ShloMosaic Idealize.ShloMosaic.Tactic Cert.ReferenceIdeal Cert.ReferenceIdeal.Gen Cert.ReferenceIdeal.Step Cert.GdnItem Cert.GdnAlg Finset

variable {x0 : Vec Ideal S32768x1536 .f32} {x1 : Vec Ideal S32768x128 .f32} {X A : ℕ → ℕ → ℝ}

/-- The arguments are real. -/
structure Real2 (x0 : Vec Ideal S32768x1536 .f32) (x1 : Vec Ideal S32768x128 .f32) (X A : ℕ → ℕ → ℝ) : Prop where
  x : ∀ r c, x0 (ix2 r c) = ((X r.val c.val : ℝ) : EReal)
  a : ∀ r c, x1 (ix2 r c) = ((A r.val c.val : ℝ) : EReal)

variable (hr : Real2 x0 x1 X A)
include hr

/-- A token's queries, keys and values. -/
theorem xs_at (τ : Fin 4096) (d : Fin 2) (b : Fin 8) (s : Fin 3) (h : Fin 4) (a : Fin 128) :
    A_main_v28 (F := Ideal) x0 x1 (ix6 τ d b s h a) = ((X (pos d.val b.val τ.val) (512 * s.val + 128 * h.val + a.val) : ℝ) : EReal) := by
  pointwise [A_main_v28, A_main_v6, A_main_v5, A_main_v4, A_main_v3, A_main_v0]
  split
  · rename_i hd
    rw [hr.x]
    unfold pos
    rw [if_pos (by omega)]
    simp only [Nat.mul_comm]
  · rename_i hd
    rw [hr.x]
    unfold pos
    rw [if_neg (by omega)]
    simp [Nat.mul_comm, Fin.val_rev]

/-- A token's step size. -/
theorem be_at (τ : Fin 4096) (d : Fin 2) (b : Fin 8) (h : Fin 4) :
    A_main_v30 (F := Ideal) x0 x1 (ix4 τ d b h) = ((A (pos d.val b.val τ.val) (4 * d.val + h.val) : ℝ) : EReal) := by
  pointwise [A_main_v30, A_main_v14, A_main_v13, A_main_v12, A_main_v11, A_main_v10, A_main_v9, A_main_v8, A_main_v7, A_main_v2, A_main_v1]
  split
  · rename_i hd
    rw [hr.a]
    unfold pos
    rw [if_pos (by omega), show d.val = 0 by omega]
    simp [Nat.mul_comm]
  · rename_i hd
    rw [hr.a]
    unfold pos
    rw [if_neg (by omega), show d.val = 1 by omega]
    simp [Nat.mul_comm, Fin.val_rev]

/-- A token's log decay, summed inside its chunk. -/
theorem gc_at (τ : Fin 4096) (d : Fin 2) (b : Fin 8) (h : Fin 4) :
    A_main_v22 (F := Ideal) x0 x1 (ix4 d b τ h) = ((A (pos d.val b.val τ.val) (8 + 4 * d.val + h.val) : ℝ) : EReal) := by
  pointwise [A_main_v22, A_main_v21, A_main_v20, A_main_v19, A_main_v18, A_main_v17, A_main_v16, A_main_v15, A_main_v2, A_main_v1]
  split
  · rename_i hd
    rw [hr.a]
    unfold pos
    rw [if_pos (by omega), show d.val = 0 by omega]
    simp [Nat.mul_comm]
  · rename_i hd
    rw [hr.a]
    unfold pos
    rw [if_neg (by omega), show d.val = 1 by omega]
    simp [Nat.mul_comm, Fin.val_rev]

set_option maxHeartbeats 2000000 in
/-- A token's log decay. -/
theorem g_at (τ : Fin 4096) (d : Fin 2) (b : Fin 8) (h : Fin 4) :
    A_main_v29 (F := Ideal) x0 x1 (ix4 τ d b h) = ((dl (fun t => A (pos d.val b.val t) (8 + 4 * d.val + h.val)) τ.val : ℝ) : EReal) := by
  pointwise [A_main_v29, A_main_v27, A_main_v26, A_main_v25, A_main_v24, A_main_v23]
  have ht := τ.isLt
  have hz : (K_main_call0_v0 (F := Ideal) (Shape.Idx.first h_S_) : EReal) = ((0 : ℝ) : EReal) := by
    show (((BitVec.toInt 0#32 : ℤ) : ℝ) : EReal) = ((0 : ℝ) : EReal)
    simp
  have e1 : ∀ t : Fin 4096, (A_main_v22 (F := Ideal) x0 x1 (ix4 d b t h) : EReal) = ((A (pos d.val b.val t.val) (8 + 4 * d.val + h.val) : ℝ) : EReal) :=
    fun t => gc_at hr t d b h
  generalize K_main_call0_v0 (F := Ideal) (Shape.Idx.first h_S_) = z at hz ⊢
  generalize A_main_v22 (F := Ideal) x0 x1 = f at e1 ⊢
  subst hz
  by_cases h0 : τ.val % 64 = 0
  · have hd : dl (fun t => A (pos d.val b.val t) (8 + 4 * d.val + h.val)) τ.val = A (pos d.val b.val τ.val) (8 + 4 * d.val + h.val) - 0 := by
      unfold dl; rw [if_pos h0]
    rw [dif_neg (by omega), hd, e1]
    exact (EReal.coe_sub _ _).symm
  · have hd : dl (fun t => A (pos d.val b.val t) (8 + 4 * d.val + h.val)) τ.val
        = A (pos d.val b.val τ.val) (8 + 4 * d.val + h.val) - A (pos d.val b.val (τ.val - 1)) (8 + 4 * d.val + h.val) := by
      unfold dl; rw [if_neg h0]
    have e : τ.val / 64 * 64 + (τ.val % 64 - 1) = τ.val - 1 := by omega
    rw [dif_pos (show τ.val / 64 < 64 ∧ 1 ≤ τ.val % 64 ∧ τ.val % 64 - 1 < 63 by omega), hd, e1, e1]
    simp only [e]
    exact (EReal.coe_sub _ _).symm

omit hr

/-- A trip's start is in range. -/
theorem trip_start (j : ℕ) (hj : j < 4096) : (BitVec.ofNat 32 j).toInt = (j : ℤ) := Idealize.ShloMosaic.toInt_ofNat_of_lt (by omega)

/-- A trip reads its own token. -/
theorem b5_at (j : ℕ) (hj : j < 4096) (s : State Ideal) (d : Fin 2) (b : Fin 8) (q : Fin 3) (h : Fin 4) (e : Fin 128) :
    b5 j s (ix6 0 d b q h e) = s.main_v33_0 (ix6 ⟨j, hj⟩ d b q h e) := by
  unfold b5 b0 b1 b2 b3 b4
  refine (congrFun (Host.dynamicSlice_eq_extractStridedSlice S1x2x8x3x4x128 s.main_v33_0 _ ![j, 0, 0, 0, 0, 0] sliceFits_S4096x2x8x3x4x128_S1x2x8x3x4x128 ⟨rfl, fun a => by fin_cases a <;> simp <;> omega⟩ (fun a => by
    fin_cases a
    · exact trip_start j hj
    all_goals rfl)) _).trans ?_
  pointwise
/-- A trip reads its own log decay. -/
theorem b10_at (j : ℕ) (hj : j < 4096) (s : State Ideal) (d : Fin 2) (b : Fin 8) (h : Fin 4) :
    b10 j s (ix4 0 d b h) = s.main_v33_1 (ix4 ⟨j, hj⟩ d b h) := by
  unfold b10 b7 b8 b9
  refine (congrFun (Host.dynamicSlice_eq_extractStridedSlice S1x2x8x4 s.main_v33_1 _ ![j, 0, 0, 0] sliceFits_S4096x2x8x4_S1x2x8x4 ⟨rfl, fun a => by fin_cases a <;> simp <;> omega⟩ (fun a => by
    fin_cases a
    · exact trip_start j hj
    all_goals rfl)) _).trans ?_
  pointwise
/-- A trip reads its own step size. -/
theorem b15_at (j : ℕ) (hj : j < 4096) (s : State Ideal) (d : Fin 2) (b : Fin 8) (h : Fin 4) :
    b15 j s (ix4 0 d b h) = s.main_v33_2 (ix4 ⟨j, hj⟩ d b h) := by
  unfold b15 b12 b13 b14
  refine (congrFun (Host.dynamicSlice_eq_extractStridedSlice S1x2x8x4 s.main_v33_2 _ ![j, 0, 0, 0] sliceFits_S4096x2x8x4_S1x2x8x4 ⟨rfl, fun a => by fin_cases a <;> simp <;> omega⟩ (fun a => by
    fin_cases a
    · exact trip_start j hj
    all_goals rfl)) _).trans ?_
  pointwise
/-- A trip writes its own token's answers. -/
theorem b52_at (j : ℕ) (hj : j < 4096) (s : State Ideal) (τ : Fin 4096) (d : Fin 2) (b : Fin 8) (h : Fin 4) (e : Fin 128) :
    b52 j s (ix5 τ d b h e) = if τ.val = j then b46 j s (ix4 d b h e) else s.main_v33_5 (ix5 τ d b h e) := by
  have hτ := τ.isLt
  have hd := d.isLt
  have hb := b.isLt
  have hh := h.isLt
  have he := e.isLt
  unfold b52 b48 b49 b50 b51
  refine (congrFun (Host.dynamicUpdateSlice_eq_updateSlice s.main_v33_5 (b47 j s) _ updateFits_S4096x2x8x4x128_S1x2x8x4x128 ![j, 0, 0, 0, 0] (fun a => by
    fin_cases a
    · show (min (max (BitVec.ofNat 32 j).toInt 0) ((4096 - 1 : ℕ) : ℤ)).toNat = j
      rw [trip_start j hj]; omega
    all_goals rfl) ⟨rfl, fun a => by fin_cases a <;> simp <;> omega⟩) _).trans ?_
  pointwise [b47]
  exact dite_eq_ite.trans (if_congr (by omega) rfl rfl)

theorem b11_at (j : ℕ) (hj : j < 4096) (s : State Ideal) (d : Fin 2) (b : Fin 8) (h : Fin 4) :
    b11 j s (ix3 d b h) = s.main_v33_1 (ix4 ⟨j, hj⟩ d b h) := by
  pointwise [b11]
  exact b10_at j hj s d b h
theorem b16_at (j : ℕ) (hj : j < 4096) (s : State Ideal) (d : Fin 2) (b : Fin 8) (h : Fin 4) :
    b16 j s (ix3 d b h) = s.main_v33_2 (ix4 ⟨j, hj⟩ d b h) := by
  pointwise [b16]
  exact b15_at j hj s d b h
theorem b18_at (j : ℕ) (hj : j < 4096) (s : State Ideal) (d : Fin 2) (b : Fin 8) (h : Fin 4) (e : Fin 128) :
    b18 j s (ix4 d b h e) = s.main_v33_0 (ix6 ⟨j, hj⟩ d b 0 h e) := by
  pointwise [b18, b17, b6]
  exact b5_at j hj s d b 0 h e
theorem b20_at (j : ℕ) (hj : j < 4096) (s : State Ideal) (d : Fin 2) (b : Fin 8) (h : Fin 4) (e : Fin 128) :
    b20 j s (ix4 d b h e) = s.main_v33_0 (ix6 ⟨j, hj⟩ d b 1 h e) := by
  pointwise [b20, b19, b6]
  exact b5_at j hj s d b 1 h e
theorem b22_at (j : ℕ) (hj : j < 4096) (s : State Ideal) (d : Fin 2) (b : Fin 8) (h : Fin 4) (e : Fin 128) :
    b22 j s (ix4 d b h e) = s.main_v33_0 (ix6 ⟨j, hj⟩ d b 2 h e) := by
  pointwise [b22, b21, b6]
  exact b5_at j hj s d b 2 h e

/-- A trip's new state. -/
theorem b45_at (j : ℕ) (s : State Ideal) (d : Fin 2) (b : Fin 8) (h : Fin 4) (a e : Fin 128) :
    b45 j s (ix5 d b h a e) = Ideal.exp (b11 j s (ix3 d b h)) * (s.main_v33_4 (ix5 d b h a e) - b16 j s (ix3 d b h) * b20 j s (ix4 d b h a) *
      ∑ x : Fin 128, b20 j s (ix4 d b h x) * s.main_v33_4 (ix5 d b h x e)) + b16 j s (ix3 d b h) * b20 j s (ix4 d b h a) * b22 j s (ix4 d b h e) := by
  pointwise [b45, b44, b43, b42, b41,b40,b39,b38,b37,b36,b35,b34,b33,b32,b31,b30,b28,b27,b26,b25,b24,b23,b29]
/-- A trip's answers. -/
theorem b46_at (j : ℕ) (s : State Ideal) (d : Fin 2) (b : Fin 8) (h : Fin 4) (e : Fin 128) :
    b46 j s (ix4 d b h e) = ∑ x : Fin 128, b18 j s (ix4 d b h x) * b45 j s (ix5 d b h x e) := by
  pointwise [b46]

/-- What the loop's state is before trip `n`. -/
structure Inv (X A : ℕ → ℕ → ℝ) (n : ℕ) (s : State Ideal) : Prop where
  x : ∀ (τ : Fin 4096) (d : Fin 2) (b : Fin 8) (q : Fin 3) (h : Fin 4) (a : Fin 128),
    s.main_v33_0 (ix6 τ d b q h a) = ((X (pos d.val b.val τ.val) (512 * q.val + 128 * h.val + a.val) : ℝ) : EReal)
  g : ∀ (τ : Fin 4096) (d : Fin 2) (b : Fin 8) (h : Fin 4),
    s.main_v33_1 (ix4 τ d b h) = ((dl (fun t => A (pos d.val b.val t) (8 + 4 * d.val + h.val)) τ.val : ℝ) : EReal)
  b : ∀ (τ : Fin 4096) (d : Fin 2) (b : Fin 8) (h : Fin 4),
    s.main_v33_2 (ix4 τ d b h) = ((A (pos d.val b.val τ.val) (4 * d.val + h.val) : ℝ) : EReal)
  st : ∀ (d : Fin 2) (b : Fin 8) (h : Fin 4) (a e : Fin 128),
    s.main_v33_4 (ix5 d b h a e) = ((gst X A d.val b.val h.val e.val n a : ℝ) : EReal)
  out : ∀ (τ : Fin 4096) (d : Fin 2) (b : Fin 8) (h : Fin 4) (e : Fin 128), τ.val < n →
    s.main_v33_5 (ix5 τ d b h e) = ((∑ a : Fin 128, X (pos d.val b.val τ.val) (128 * h.val + a.val) * gst X A d.val b.val h.val e.val (τ.val + 1) a : ℝ) : EReal)

theorem inv_init (hr : Real2 x0 x1 X A) : Inv X A 0 (init x0 x1) where
  x := fun τ d b q h a => xs_at hr τ d b q h a
  g := fun τ d b h => g_at hr τ d b h
  b := fun τ d b h => be_at hr τ d b h
  st := fun d b h a e => by
    show K_main_v31 (F := Ideal) (ix5 d b h a e) = ((0 : ℝ) : EReal)
    pointwise [K_main_v31, K_main_cst]
    exact EReal.coe_zero.symm
  out := fun τ d b h e hn => absurd hn (Nat.not_lt_zero _)

/-- One trip keeps it. -/
theorem inv_step {n : ℕ} (hn : n < 4096) {s : State Ideal} (hi : Inv X A n s) : Inv X A (n + 1) (step n s) := by
  have st : ∀ (d : Fin 2) (b : Fin 8) (h : Fin 4) (a e : Fin 128),
      b45 n s (ix5 d b h a e) = ((gst X A d.val b.val h.val e.val (n + 1) a : ℝ) : EReal) := fun d b h a e => by
    rw [b45_at, b11_at n hn, b16_at n hn, b22_at n hn]
    simp only [b20_at n hn, hi.x, hi.g, hi.b, hi.st]
    show (Real.exp _ : EReal) * _ + _ = _
    simp only [← EReal.coe_mul, ← EReal.coe_sub, ← EReal.coe_add, ← coe_sum']
    refine congrArg _ ?_
    simp [gst, rst, add_assoc]
  exact {
    x := hi.x
    g := hi.g
    b := hi.b
    st := st
    out := fun τ d b h e hτ => by
      show b52 n s (ix5 τ d b h e) = _
      rw [b52_at n hn]
      split
      · rename_i h'
        rw [b46_at]
        simp only [st, b18_at n hn, hi.x]
        simp only [← EReal.coe_mul, ← coe_sum']
        simp [h']
      · exact hi.out τ d b h e (by omega) }

/-- After `n` trips it holds. -/
theorem inv_iter (hr : Real2 x0 x1 X A) (it : ℕ → State Ideal) (h0 : it 0 = init x0 x1) (hs : ∀ n, it (n + 1) = step n (it n)) :
    ∀ n, n ≤ 4096 → Inv X A n (it n)
  | 0, _ => h0 ▸ inv_init hr
  | n + 1, h => hs n ▸ inv_step (by omega) (inv_iter hr it h0 hs n (by omega))

/-- The forward result. -/
theorem res37 {s : State Ideal} (hi : Inv X A 4096 s) (r : Fin 32768) (c : Fin 512) :
    R_main_v37 s (ix2 r c) = ((res X A 0 r.val c.val : ℝ) : EReal) := by
  have hR := r.isLt
  have hC := c.isLt
  pointwise [R_main_v37]
  rw [hi.out _ _ _ _ _ (Fin.isLt _)]
  refine congrArg _ (Finset.sum_congr rfl fun a _ => ?_)
  have e : pos 0 (r.val / 4096) (r.val % 4096) = r.val := by unfold pos; rw [if_pos rfl]; omega
  simp [tok, e]

/-- The backward result. -/
theorem res41 {s : State Ideal} (hi : Inv X A 4096 s) (r : Fin 32768) (c : Fin 512) :
    R_main_v41 s (ix2 r c) = ((res X A 1 r.val c.val : ℝ) : EReal) := by
  have hR := r.isLt
  have hC := c.isLt
  pointwise [R_main_v41]
  simp
  rw [hi.out _ _ _ _ _ (Fin.isLt _)]
  refine congrArg _ (Finset.sum_congr rfl fun a _ => ?_)
  have e : pos 1 (r.val / 4096) (4096 - (r.val % 4096 + 1)) = r.val := by unfold pos; rw [if_neg (by omega)]; omega
  rw [Nat.add_comm (r.val % 4096) 1, ← Nat.sub_sub] at e
  simp [tok, e, Fin.val_rev]

end Cert.GdnRef
-- ==== Proof.RefRun.lean ====
/- The loop of the reference as a sequence of states. One trip of its generated run, from a valuation that holds a state (the
   carried buffers, the values set up before the loop, the trip's number), leaves a valuation that holds the next state, the
   `step` of Gen/ReferenceIdeal/Step.lean; before the loop the valuation holds `init`; so the two results are read off
   state number 4096. -/
module

public import proofs.«01_k».proof.Proof.Gen.ReferenceIdeal.Run
public import proofs.«01_k».proof.Proof.Gen.ReferenceIdeal.Step

@[expose] public section

noncomputable section

namespace Cert.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_4 : V0 (Proc.devRef .tc main_v33_4) = s.main_v33_4
  f_5 : V0 (Proc.devRef .tc main_v33_5) = s.main_v33_5
  f_0 : V0 (Proc.devRef .tc main_v33_0) = s.main_v33_0
  f_1 : V0 (Proc.devRef .tc main_v33_1) = s.main_v33_1
  f_2 : V0 (Proc.devRef .tc main_v33_2) = s.main_v33_2
  n_3 : V0 (Proc.devRef .tc main_v33_3) = constantI S_ 32 (BitVec.ofNat 32 j)

variable {V0 s j}

set_option maxRecDepth 8192 in
theorem al_0 (h : Holds V0 s j) : (constantI S_ 32 0#32 : (Proc.devRef .tc main_while0b_call1_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call1_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call1_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call1_c_2 : DevRef τ sig).ty.Contents (Elt F)) = Cert.ReferenceIdeal.Step.b3 j s := by
  unfold Cert.ReferenceIdeal.Step.b3
  rfl
set_option maxRecDepth 8192 in
theorem al_4 (h : Holds V0 s j) : (constantI S_ 32 0#32 : (Proc.devRef .tc main_while0b_call1_c_3 : DevRef τ sig).ty.Contents (Elt F)) = Cert.ReferenceIdeal.Step.b4 j s := by
  unfold Cert.ReferenceIdeal.Step.b4
  rfl
set_option maxRecDepth 8192 in
theorem al_5 (h : Holds V0 s j) : (Host.dynamicSlice S1x2x8x3x4x128 (V0 (Proc.devRef .tc main_v33_0)) (fun k => (((![V0 (Proc.devRef .tc main_v33_3), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S4096x2x8x3x4x128_S1x2x8x3x4x128 : (Proc.devRef .tc main_while0b_call1_v0 : DevRef τ sig).ty.Contents (Elt F)) = Cert.ReferenceIdeal.Step.b5 j s := by
  unfold Cert.ReferenceIdeal.Step.b5
  rw [← al_0 h, ← al_1 h, ← al_2 h, ← al_3 h, ← al_4 h, h.f_0, h.n_3]
  try rfl
set_option maxRecDepth 8192 in
theorem al_6 (h : Holds V0 s j) : (res_main_while0b_v42 V0 : (Proc.devRef .tc main_while0b_v42 : DevRef τ sig).ty.Contents (Elt F)) = Cert.ReferenceIdeal.Step.b6 j s := by
  unfold res_main_while0b_v42 Cert.ReferenceIdeal.Step.b6
  rw [← al_5 h]
  try rfl
set_option maxRecDepth 8192 in
theorem al_7 (h : Holds V0 s j) : (constantI S_ 32 0#32 : (Proc.devRef .tc main_while0b_call2_c : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call2_c_0 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call2_c_1 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x2x8x4 (V0 (Proc.devRef .tc main_v33_1)) (fun k => (((![V0 (Proc.devRef .tc main_v33_3), constantI S_ 32 0#32, constantI S_ 32 0#32, constantI S_ 32 0#32] : Fin 4 → (⟨S_, .i32⟩ : BufTy).Contents (Elt F))) k (Shape.Idx.first h_S_)).toInt) sliceFits_S4096x2x8x4_S1x2x8x4 : (Proc.devRef .tc main_while0b_call2_v0 : DevRef τ sig).ty.Contents (Elt F)) = Cert.ReferenceIdeal.Step.b10 j s := by
  unfold Cert.ReferenceIdeal.Step.b10
  rw [← al_7 h, ← al_8 h, ← al_9 h, h.f_1, h.n_3]
  try rfl
set_option maxRecDepth 8192 in
theorem al_11 (h : Holds V0 s j) : (shapeCast S2x8x4 (Host.dynamicSlice S1x2x8x4 (V0 (Proc.devRef .tc main_v33_1)) (fun k => (((![V0 (Proc.devRef .tc main_v33_3), constantI S_ 32 0#32, constantI S_ 32 0#32, constantI S_ 32 0#32] : Fin 4 → (⟨S_, .i32⟩ : BufTy).Contents (Elt F))) k (Shape.Idx.first h_S_)).toInt) sliceFits_S4096x2x8x4_S1x2x8x4) shapeCasts_S1x2x8x4_S2x8x4 : (Proc.devRef .tc main_while0b_v43 : DevRef τ sig).ty.Contents (Elt F)) = Cert.ReferenceIdeal.Step.b11 j s := by
  unfold Cert.ReferenceIdeal.Step.b11
  rw [← al_10 h]
  try rfl
set_option maxRecDepth 8192 in
theorem al_12 (h : Holds V0 s j) : (constantI S_ 32 0#32 : (Proc.devRef .tc main_while0b_call3_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call3_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call3_c_1 : DevRef τ sig).ty.Contents (Elt F)) = Cert.ReferenceIdeal.Step.b14 j s := by
  unfold Cert.ReferenceIdeal.Step.b14
  rfl
set_option maxRecDepth 8192 in
theorem al_15 (h : Holds V0 s j) : (Host.dynamicSlice S1x2x8x4 (V0 (Proc.devRef .tc main_v33_2)) (fun k => (((![V0 (Proc.devRef .tc main_v33_3), constantI S_ 32 0#32, constantI S_ 32 0#32, constantI S_ 32 0#32] : Fin 4 → (⟨S_, .i32⟩ : BufTy).Contents (Elt F))) k (Shape.Idx.first h_S_)).toInt) sliceFits_S4096x2x8x4_S1x2x8x4 : (Proc.devRef .tc main_while0b_call3_v0 : DevRef τ sig).ty.Contents (Elt F)) = Cert.ReferenceIdeal.Step.b15 j s := by
  unfold Cert.ReferenceIdeal.Step.b15
  rw [← al_12 h, ← al_13 h, ← al_14 h, h.f_2, h.n_3]
  try rfl
set_option maxRecDepth 8192 in
theorem al_16 (h : Holds V0 s j) : (res_main_while0b_v44 V0 : (Proc.devRef .tc main_while0b_v44 : DevRef τ sig).ty.Contents (Elt F)) = Cert.ReferenceIdeal.Step.b16 j s := by
  unfold res_main_while0b_v44 Cert.ReferenceIdeal.Step.b16
  rw [← al_15 h]
  try rfl
set_option maxRecDepth 8192 in
theorem al_17 (h : Holds V0 s j) : (extractStridedSlice S2x8x1x4x128 ![0, 0, 0, 0, 0] (res_main_while0b_v42 V0) slices_S2x8x3x4x128_S2x8x1x4x128_0_0_0_0_0 : (Proc.devRef .tc main_while0b_v45 : DevRef τ sig).ty.Contents (Elt F)) = Cert.ReferenceIdeal.Step.b17 j s := by
  unfold Cert.ReferenceIdeal.Step.b17
  rw [← al_6 h]
  try rfl
set_option maxRecDepth 8192 in
theorem al_18 (h : Holds V0 s j) : (shapeCast S2x8x4x128 (extractStridedSlice S2x8x1x4x128 ![0, 0, 0, 0, 0] (res_main_while0b_v42 V0) slices_S2x8x3x4x128_S2x8x1x4x128_0_0_0_0_0) shapeCasts_S2x8x1x4x128_S2x8x4x128 : (Proc.devRef .tc main_while0b_v46 : DevRef τ sig).ty.Contents (Elt F)) = Cert.ReferenceIdeal.Step.b18 j s := by
  unfold Cert.ReferenceIdeal.Step.b18
  rw [← al_17 h]
  try rfl
set_option maxRecDepth 8192 in
theorem al_19 (h : Holds V0 s j) : (extractStridedSlice S2x8x1x4x128 ![0, 0, 1, 0, 0] (res_main_while0b_v42 V0) slices_S2x8x3x4x128_S2x8x1x4x128_0_0_1_0_0 : (Proc.devRef .tc main_while0b_v47 : DevRef τ sig).ty.Contents (Elt F)) = Cert.ReferenceIdeal.Step.b19 j s := by
  unfold Cert.ReferenceIdeal.Step.b19
  rw [← al_6 h]
  try rfl
set_option maxRecDepth 8192 in
theorem al_20 (h : Holds V0 s j) : (res_main_while0b_v48 V0 : (Proc.devRef .tc main_while0b_v48 : DevRef τ sig).ty.Contents (Elt F)) = Cert.ReferenceIdeal.Step.b20 j s := by
  unfold res_main_while0b_v48 Cert.ReferenceIdeal.Step.b20
  rw [← al_19 h]
  try rfl
set_option maxRecDepth 8192 in
theorem al_21 (h : Holds V0 s j) : (extractStridedSlice S2x8x1x4x128 ![0, 0, 2, 0, 0] (res_main_while0b_v42 V0) slices_S2x8x3x4x128_S2x8x1x4x128_0_0_2_0_0 : (Proc.devRef .tc main_while0b_v49 : DevRef τ sig).ty.Contents (Elt F)) = Cert.ReferenceIdeal.Step.b21 j s := by
  unfold Cert.ReferenceIdeal.Step.b21
  rw [← al_6 h]
  try rfl
set_option maxRecDepth 8192 in
theorem al_22 (h : Holds V0 s j) : (shapeCast S2x8x4x128 (extractStridedSlice S2x8x1x4x128 ![0, 0, 2, 0, 0] (res_main_while0b_v42 V0) slices_S2x8x3x4x128_S2x8x1x4x128_0_0_2_0_0) shapeCasts_S2x8x1x4x128_S2x8x4x128 : (Proc.devRef .tc main_while0b_v50 : DevRef τ sig).ty.Contents (Elt F)) = Cert.ReferenceIdeal.Step.b22 j s := by
  unfold Cert.ReferenceIdeal.Step.b22
  rw [← al_21 h]
  try rfl
set_option maxRecDepth 8192 in
theorem al_23 (h : Holds V0 s j) : (Host.exp (shapeCast S2x8x4 (Host.dynamicSlice S1x2x8x4 (V0 (Proc.devRef .tc main_v33_1)) (fun k => (((![V0 (Proc.devRef .tc main_v33_3), constantI S_ 32 0#32, constantI S_ 32 0#32, constantI S_ 32 0#32] : Fin 4 → (⟨S_, .i32⟩ : BufTy).Contents (Elt F))) k (Shape.Idx.first h_S_)).toInt) sliceFits_S4096x2x8x4_S1x2x8x4) shapeCasts_S1x2x8x4_S2x8x4) : (Proc.devRef .tc main_while0b_v51 : DevRef τ sig).ty.Contents (Elt F)) = Cert.ReferenceIdeal.Step.b23 j s := by
  unfold Cert.ReferenceIdeal.Step.b23
  rw [← al_11 h]
  try rfl
set_option maxRecDepth 8192 in
theorem al_24 (h : Holds V0 s j) : (broadcastInDim S2x8x4x1x1 ![0, 1, 2] bcast_S2x8x4_S2x8x4x1x1_0_1_2 (Host.exp (shapeCast S2x8x4 (Host.dynamicSlice S1x2x8x4 (V0 (Proc.devRef .tc main_v33_1)) (fun k => (((![V0 (Proc.devRef .tc main_v33_3), constantI S_ 32 0#32, constantI S_ 32 0#32, constantI S_ 32 0#32] : Fin 4 → (⟨S_, .i32⟩ : BufTy).Contents (Elt F))) k (Shape.Idx.first h_S_)).toInt) sliceFits_S4096x2x8x4_S1x2x8x4) shapeCasts_S1x2x8x4_S2x8x4)) : (Proc.devRef .tc main_while0b_v52 : DevRef τ sig).ty.Contents (Elt F)) = Cert.ReferenceIdeal.Step.b24 j s := by
  unfold Cert.ReferenceIdeal.Step.b24
  rw [← al_23 h]
  try rfl
set_option maxRecDepth 8192 in
theorem al_25 (h : Holds V0 s j) : (broadcastInDim S2x8x4x1x1 ![0, 1, 2] bcast_S2x8x4_S2x8x4x1x1_0_1_2 (res_main_while0b_v44 V0) : (Proc.devRef .tc main_while0b_v53 : DevRef τ sig).ty.Contents (Elt F)) = Cert.ReferenceIdeal.Step.b25 j s := by
  unfold Cert.ReferenceIdeal.Step.b25
  rw [← al_16 h]
  try rfl
set_option maxRecDepth 8192 in
theorem al_26 (h : Holds V0 s j) : (broadcastInDim S2x8x4x128x1 ![0, 1, 2, 3] bcast_S2x8x4x128_S2x8x4x128x1_0_1_2_3 (res_main_while0b_v48 V0) : (Proc.devRef .tc main_while0b_v54 : DevRef τ sig).ty.Contents (Elt F)) = Cert.ReferenceIdeal.Step.b26 j s := by
  unfold Cert.ReferenceIdeal.Step.b26
  rw [← al_20 h]
  try rfl
set_option maxRecDepth 8192 in
theorem al_27 (h : Holds V0 s j) : (broadcastInDim S2x8x4x128x1 ![0, 1, 2, 3, 4] bcast_S2x8x4x1x1_S2x8x4x128x1_0_1_2_3_4 (broadcastInDim S2x8x4x1x1 ![0, 1, 2] bcast_S2x8x4_S2x8x4x1x1_0_1_2 (res_main_while0b_v44 V0)) : (Proc.devRef .tc main_while0b_v55 : DevRef τ sig).ty.Contents (Elt F)) = Cert.ReferenceIdeal.Step.b27 j s := by
  unfold Cert.ReferenceIdeal.Step.b27
  rw [← al_25 h]
  try rfl
set_option maxRecDepth 8192 in
theorem al_28 (h : Holds V0 s j) : (mulf (broadcastInDim S2x8x4x128x1 ![0, 1, 2, 3, 4] bcast_S2x8x4x1x1_S2x8x4x128x1_0_1_2_3_4 (broadcastInDim S2x8x4x1x1 ![0, 1, 2] bcast_S2x8x4_S2x8x4x1x1_0_1_2 (res_main_while0b_v44 V0))) (broadcastInDim S2x8x4x128x1 ![0, 1, 2, 3] bcast_S2x8x4x128_S2x8x4x128x1_0_1_2_3 (res_main_while0b_v48 V0)) : (Proc.devRef .tc main_while0b_v56 : DevRef τ sig).ty.Contents (Elt F)) = Cert.ReferenceIdeal.Step.b28 j s := by
  unfold Cert.ReferenceIdeal.Step.b28
  rw [← al_27 h, ← al_26 h]
  try rfl
set_option maxRecDepth 8192 in
theorem al_29 (h : Holds V0 s j) : (Host.dotGeneral dot_S2x8x4x128_S2x8x4x128x128_S2x8x4x128_3_3_n_4_012_012 none (res_main_while0b_v48 V0) (V0 (Proc.devRef .tc main_v33_4)) : (Proc.devRef .tc main_while0b_v57 : DevRef τ sig).ty.Contents (Elt F)) = Cert.ReferenceIdeal.Step.b29 j s := by
  unfold Cert.ReferenceIdeal.Step.b29
  rw [← al_20 h, h.f_4]
  try rfl
set_option maxRecDepth 8192 in
theorem al_30 (h : Holds V0 s j) : (broadcastInDim S2x8x4x1x128 ![0, 1, 2, 4] bcast_S2x8x4x128_S2x8x4x1x128_0_1_2_4 (Host.dotGeneral dot_S2x8x4x128_S2x8x4x128x128_S2x8x4x128_3_3_n_4_012_012 none (res_main_while0b_v48 V0) (V0 (Proc.devRef .tc main_v33_4))) : (Proc.devRef .tc main_while0b_v58 : DevRef τ sig).ty.Contents (Elt F)) = Cert.ReferenceIdeal.Step.b30 j s := by
  unfold Cert.ReferenceIdeal.Step.b30
  rw [← al_29 h]
  try rfl
set_option maxRecDepth 8192 in
theorem al_31 (h : Holds V0 s j) : (broadcastInDim S2x8x4x128x128 ![0, 1, 2, 3, 4] bcast_S2x8x4x128x1_S2x8x4x128x128_0_1_2_3_4 (mulf (broadcastInDim S2x8x4x128x1 ![0, 1, 2, 3, 4] bcast_S2x8x4x1x1_S2x8x4x128x1_0_1_2_3_4 (broadcastInDim S2x8x4x1x1 ![0, 1, 2] bcast_S2x8x4_S2x8x4x1x1_0_1_2 (res_main_while0b_v44 V0))) (broadcastInDim S2x8x4x128x1 ![0, 1, 2, 3] bcast_S2x8x4x128_S2x8x4x128x1_0_1_2_3 (res_main_while0b_v48 V0))) : (Proc.devRef .tc main_while0b_v59 : DevRef τ sig).ty.Contents (Elt F)) = Cert.ReferenceIdeal.Step.b31 j s := by
  unfold Cert.ReferenceIdeal.Step.b31
  rw [← al_28 h]
  try rfl
set_option maxRecDepth 8192 in
theorem al_32 (h : Holds V0 s j) : (broadcastInDim S2x8x4x128x128 ![0, 1, 2, 3, 4] bcast_S2x8x4x1x128_S2x8x4x128x128_0_1_2_3_4 (broadcastInDim S2x8x4x1x128 ![0, 1, 2, 4] bcast_S2x8x4x128_S2x8x4x1x128_0_1_2_4 (Host.dotGeneral dot_S2x8x4x128_S2x8x4x128x128_S2x8x4x128_3_3_n_4_012_012 none (res_main_while0b_v48 V0) (V0 (Proc.devRef .tc main_v33_4)))) : (Proc.devRef .tc main_while0b_v60 : DevRef τ sig).ty.Contents (Elt F)) = Cert.ReferenceIdeal.Step.b32 j s := by
  unfold Cert.ReferenceIdeal.Step.b32
  rw [← al_30 h]
  try rfl
set_option maxRecDepth 8192 in
theorem al_33 (h : Holds V0 s j) : (mulf (broadcastInDim S2x8x4x128x128 ![0, 1, 2, 3, 4] bcast_S2x8x4x128x1_S2x8x4x128x128_0_1_2_3_4 (mulf (broadcastInDim S2x8x4x128x1 ![0, 1, 2, 3, 4] bcast_S2x8x4x1x1_S2x8x4x128x1_0_1_2_3_4 (broadcastInDim S2x8x4x1x1 ![0, 1, 2] bcast_S2x8x4_S2x8x4x1x1_0_1_2 (res_main_while0b_v44 V0))) (broadcastInDim S2x8x4x128x1 ![0, 1, 2, 3] bcast_S2x8x4x128_S2x8x4x128x1_0_1_2_3 (res_main_while0b_v48 V0)))) (broadcastInDim S2x8x4x128x128 ![0, 1, 2, 3, 4] bcast_S2x8x4x1x128_S2x8x4x128x128_0_1_2_3_4 (broadcastInDim S2x8x4x1x128 ![0, 1, 2, 4] bcast_S2x8x4x128_S2x8x4x1x128_0_1_2_4 (Host.dotGeneral dot_S2x8x4x128_S2x8x4x128x128_S2x8x4x128_3_3_n_4_012_012 none (res_main_while0b_v48 V0) (V0 (Proc.devRef .tc main_v33_4))))) : (Proc.devRef .tc main_while0b_v61 : DevRef τ sig).ty.Contents (Elt F)) = Cert.ReferenceIdeal.Step.b33 j s := by
  unfold Cert.ReferenceIdeal.Step.b33
  rw [← al_31 h, ← al_32 h]
  try rfl
set_option maxRecDepth 8192 in
theorem al_34 (h : Holds V0 s j) : (subf (V0 (Proc.devRef .tc main_v33_4)) (mulf (broadcastInDim S2x8x4x128x128 ![0, 1, 2, 3, 4] bcast_S2x8x4x128x1_S2x8x4x128x128_0_1_2_3_4 (mulf (broadcastInDim S2x8x4x128x1 ![0, 1, 2, 3, 4] bcast_S2x8x4x1x1_S2x8x4x128x1_0_1_2_3_4 (broadcastInDim S2x8x4x1x1 ![0, 1, 2] bcast_S2x8x4_S2x8x4x1x1_0_1_2 (res_main_while0b_v44 V0))) (broadcastInDim S2x8x4x128x1 ![0, 1, 2, 3] bcast_S2x8x4x128_S2x8x4x128x1_0_1_2_3 (res_main_while0b_v48 V0)))) (broadcastInDim S2x8x4x128x128 ![0, 1, 2, 3, 4] bcast_S2x8x4x1x128_S2x8x4x128x128_0_1_2_3_4 (broadcastInDim S2x8x4x1x128 ![0, 1, 2, 4] bcast_S2x8x4x128_S2x8x4x1x128_0_1_2_4 (Host.dotGeneral dot_S2x8x4x128_S2x8x4x128x128_S2x8x4x128_3_3_n_4_012_012 none (res_main_while0b_v48 V0) (V0 (Proc.devRef .tc main_v33_4)))))) : (Proc.devRef .tc main_while0b_v62 : DevRef τ sig).ty.Contents (Elt F)) = Cert.ReferenceIdeal.Step.b34 j s := by
  unfold Cert.ReferenceIdeal.Step.b34
  rw [← al_33 h, h.f_4]
  try rfl
set_option maxRecDepth 8192 in
theorem al_35 (h : Holds V0 s j) : (broadcastInDim S2x8x4x128x128 ![0, 1, 2, 3, 4] bcast_S2x8x4x1x1_S2x8x4x128x128_0_1_2_3_4 (broadcastInDim S2x8x4x1x1 ![0, 1, 2] bcast_S2x8x4_S2x8x4x1x1_0_1_2 (Host.exp (shapeCast S2x8x4 (Host.dynamicSlice S1x2x8x4 (V0 (Proc.devRef .tc main_v33_1)) (fun k => (((![V0 (Proc.devRef .tc main_v33_3), constantI S_ 32 0#32, constantI S_ 32 0#32, constantI S_ 32 0#32] : Fin 4 → (⟨S_, .i32⟩ : BufTy).Contents (Elt F))) k (Shape.Idx.first h_S_)).toInt) sliceFits_S4096x2x8x4_S1x2x8x4) shapeCasts_S1x2x8x4_S2x8x4))) : (Proc.devRef .tc main_while0b_v63 : DevRef τ sig).ty.Contents (Elt F)) = Cert.ReferenceIdeal.Step.b35 j s := by
  unfold Cert.ReferenceIdeal.Step.b35
  rw [← al_24 h]
  try rfl
set_option maxRecDepth 8192 in
theorem al_36 (h : Holds V0 s j) : (mulf (broadcastInDim S2x8x4x128x128 ![0, 1, 2, 3, 4] bcast_S2x8x4x1x1_S2x8x4x128x128_0_1_2_3_4 (broadcastInDim S2x8x4x1x1 ![0, 1, 2] bcast_S2x8x4_S2x8x4x1x1_0_1_2 (Host.exp (shapeCast S2x8x4 (Host.dynamicSlice S1x2x8x4 (V0 (Proc.devRef .tc main_v33_1)) (fun k => (((![V0 (Proc.devRef .tc main_v33_3), constantI S_ 32 0#32, constantI S_ 32 0#32, constantI S_ 32 0#32] : Fin 4 → (⟨S_, .i32⟩ : BufTy).Contents (Elt F))) k (Shape.Idx.first h_S_)).toInt) sliceFits_S4096x2x8x4_S1x2x8x4) shapeCasts_S1x2x8x4_S2x8x4)))) (subf (V0 (Proc.devRef .tc main_v33_4)) (mulf (broadcastInDim S2x8x4x128x128 ![0, 1, 2, 3, 4] bcast_S2x8x4x128x1_S2x8x4x128x128_0_1_2_3_4 (mulf (broadcastInDim S2x8x4x128x1 ![0, 1, 2, 3, 4] bcast_S2x8x4x1x1_S2x8x4x128x1_0_1_2_3_4 (broadcastInDim S2x8x4x1x1 ![0, 1, 2] bcast_S2x8x4_S2x8x4x1x1_0_1_2 (res_main_while0b_v44 V0))) (broadcastInDim S2x8x4x128x1 ![0, 1, 2, 3] bcast_S2x8x4x128_S2x8x4x128x1_0_1_2_3 (res_main_while0b_v48 V0)))) (broadcastInDim S2x8x4x128x128 ![0, 1, 2, 3, 4] bcast_S2x8x4x1x128_S2x8x4x128x128_0_1_2_3_4 (broadcastInDim S2x8x4x1x128 ![0, 1, 2, 4] bcast_S2x8x4x128_S2x8x4x1x128_0_1_2_4 (Host.dotGeneral dot_S2x8x4x128_S2x8x4x128x128_S2x8x4x128_3_3_n_4_012_012 none (res_main_while0b_v48 V0) (V0 (Proc.devRef .tc main_v33_4))))))) : (Proc.devRef .tc main_while0b_v64 : DevRef τ sig).ty.Contents (Elt F)) = Cert.ReferenceIdeal.Step.b36 j s := by
  unfold Cert.ReferenceIdeal.Step.b36
  rw [← al_35 h, ← al_34 h]
  try rfl
set_option maxRecDepth 8192 in
theorem al_37 (h : Holds V0 s j) : (broadcastInDim S2x8x4x1x1 ![0, 1, 2] bcast_S2x8x4_S2x8x4x1x1_0_1_2 (res_main_while0b_v44 V0) : (Proc.devRef .tc main_while0b_v65 : DevRef τ sig).ty.Contents (Elt F)) = Cert.ReferenceIdeal.Step.b37 j s := by
  unfold Cert.ReferenceIdeal.Step.b37
  rw [← al_16 h]
  try rfl
set_option maxRecDepth 8192 in
theorem al_38 (h : Holds V0 s j) : (broadcastInDim S2x8x4x128x1 ![0, 1, 2, 3] bcast_S2x8x4x128_S2x8x4x128x1_0_1_2_3 (res_main_while0b_v48 V0) : (Proc.devRef .tc main_while0b_v66 : DevRef τ sig).ty.Contents (Elt F)) = Cert.ReferenceIdeal.Step.b38 j s := by
  unfold Cert.ReferenceIdeal.Step.b38
  rw [← al_20 h]
  try rfl
set_option maxRecDepth 8192 in
theorem al_39 (h : Holds V0 s j) : (broadcastInDim S2x8x4x128x1 ![0, 1, 2, 3, 4] bcast_S2x8x4x1x1_S2x8x4x128x1_0_1_2_3_4 (broadcastInDim S2x8x4x1x1 ![0, 1, 2] bcast_S2x8x4_S2x8x4x1x1_0_1_2 (res_main_while0b_v44 V0)) : (Proc.devRef .tc main_while0b_v67 : DevRef τ sig).ty.Contents (Elt F)) = Cert.ReferenceIdeal.Step.b39 j s := by
  unfold Cert.ReferenceIdeal.Step.b39
  rw [← al_37 h]
  try rfl
set_option maxRecDepth 8192 in
theorem al_40 (h : Holds V0 s j) : (mulf (broadcastInDim S2x8x4x128x1 ![0, 1, 2, 3, 4] bcast_S2x8x4x1x1_S2x8x4x128x1_0_1_2_3_4 (broadcastInDim S2x8x4x1x1 ![0, 1, 2] bcast_S2x8x4_S2x8x4x1x1_0_1_2 (res_main_while0b_v44 V0))) (broadcastInDim S2x8x4x128x1 ![0, 1, 2, 3] bcast_S2x8x4x128_S2x8x4x128x1_0_1_2_3 (res_main_while0b_v48 V0)) : (Proc.devRef .tc main_while0b_v68 : DevRef τ sig).ty.Contents (Elt F)) = Cert.ReferenceIdeal.Step.b40 j s := by
  unfold Cert.ReferenceIdeal.Step.b40
  rw [← al_39 h, ← al_38 h]
  try rfl
set_option maxRecDepth 8192 in
theorem al_41 (h : Holds V0 s j) : (broadcastInDim S2x8x4x1x128 ![0, 1, 2, 4] bcast_S2x8x4x128_S2x8x4x1x128_0_1_2_4 (shapeCast S2x8x4x128 (extractStridedSlice S2x8x1x4x128 ![0, 0, 2, 0, 0] (res_main_while0b_v42 V0) slices_S2x8x3x4x128_S2x8x1x4x128_0_0_2_0_0) shapeCasts_S2x8x1x4x128_S2x8x4x128) : (Proc.devRef .tc main_while0b_v69 : DevRef τ sig).ty.Contents (Elt F)) = Cert.ReferenceIdeal.Step.b41 j s := by
  unfold Cert.ReferenceIdeal.Step.b41
  rw [← al_22 h]
  try rfl
set_option maxRecDepth 8192 in
theorem al_42 (h : Holds V0 s j) : (broadcastInDim S2x8x4x128x128 ![0, 1, 2, 3, 4] bcast_S2x8x4x128x1_S2x8x4x128x128_0_1_2_3_4 (mulf (broadcastInDim S2x8x4x128x1 ![0, 1, 2, 3, 4] bcast_S2x8x4x1x1_S2x8x4x128x1_0_1_2_3_4 (broadcastInDim S2x8x4x1x1 ![0, 1, 2] bcast_S2x8x4_S2x8x4x1x1_0_1_2 (res_main_while0b_v44 V0))) (broadcastInDim S2x8x4x128x1 ![0, 1, 2, 3] bcast_S2x8x4x128_S2x8x4x128x1_0_1_2_3 (res_main_while0b_v48 V0))) : (Proc.devRef .tc main_while0b_v70 : DevRef τ sig).ty.Contents (Elt F)) = Cert.ReferenceIdeal.Step.b42 j s := by
  unfold Cert.ReferenceIdeal.Step.b42
  rw [← al_40 h]
  try rfl
set_option maxRecDepth 8192 in
theorem al_43 (h : Holds V0 s j) : (broadcastInDim S2x8x4x128x128 ![0, 1, 2, 3, 4] bcast_S2x8x4x1x128_S2x8x4x128x128_0_1_2_3_4 (broadcastInDim S2x8x4x1x128 ![0, 1, 2, 4] bcast_S2x8x4x128_S2x8x4x1x128_0_1_2_4 (shapeCast S2x8x4x128 (extractStridedSlice S2x8x1x4x128 ![0, 0, 2, 0, 0] (res_main_while0b_v42 V0) slices_S2x8x3x4x128_S2x8x1x4x128_0_0_2_0_0) shapeCasts_S2x8x1x4x128_S2x8x4x128)) : (Proc.devRef .tc main_while0b_v71 : DevRef τ sig).ty.Contents (Elt F)) = Cert.ReferenceIdeal.Step.b43 j s := by
  unfold Cert.ReferenceIdeal.Step.b43
  rw [← al_41 h]
  try rfl
set_option maxRecDepth 8192 in
theorem al_44 (h : Holds V0 s j) : (mulf (broadcastInDim S2x8x4x128x128 ![0, 1, 2, 3, 4] bcast_S2x8x4x128x1_S2x8x4x128x128_0_1_2_3_4 (mulf (broadcastInDim S2x8x4x128x1 ![0, 1, 2, 3, 4] bcast_S2x8x4x1x1_S2x8x4x128x1_0_1_2_3_4 (broadcastInDim S2x8x4x1x1 ![0, 1, 2] bcast_S2x8x4_S2x8x4x1x1_0_1_2 (res_main_while0b_v44 V0))) (broadcastInDim S2x8x4x128x1 ![0, 1, 2, 3] bcast_S2x8x4x128_S2x8x4x128x1_0_1_2_3 (res_main_while0b_v48 V0)))) (broadcastInDim S2x8x4x128x128 ![0, 1, 2, 3, 4] bcast_S2x8x4x1x128_S2x8x4x128x128_0_1_2_3_4 (broadcastInDim S2x8x4x1x128 ![0, 1, 2, 4] bcast_S2x8x4x128_S2x8x4x1x128_0_1_2_4 (shapeCast S2x8x4x128 (extractStridedSlice S2x8x1x4x128 ![0, 0, 2, 0, 0] (res_main_while0b_v42 V0) slices_S2x8x3x4x128_S2x8x1x4x128_0_0_2_0_0) shapeCasts_S2x8x1x4x128_S2x8x4x128))) : (Proc.devRef .tc main_while0b_v72 : DevRef τ sig).ty.Contents (Elt F)) = Cert.ReferenceIdeal.Step.b44 j s := by
  unfold Cert.ReferenceIdeal.Step.b44
  rw [← al_42 h, ← al_43 h]
  try rfl
set_option maxRecDepth 8192 in
theorem al_45 (h : Holds V0 s j) : (res_main_while0b_v73 V0 : (Proc.devRef .tc main_while0b_v73 : DevRef τ sig).ty.Contents (Elt F)) = Cert.ReferenceIdeal.Step.b45 j s := by
  unfold res_main_while0b_v73 Cert.ReferenceIdeal.Step.b45
  rw [← al_36 h, ← al_44 h]
  try rfl
set_option maxRecDepth 8192 in
theorem al_46 (h : Holds V0 s j) : (Host.dotGeneral dot_S2x8x4x128_S2x8x4x128x128_S2x8x4x128_3_3_n_4_012_012 none (shapeCast S2x8x4x128 (extractStridedSlice S2x8x1x4x128 ![0, 0, 0, 0, 0] (res_main_while0b_v42 V0) slices_S2x8x3x4x128_S2x8x1x4x128_0_0_0_0_0) shapeCasts_S2x8x1x4x128_S2x8x4x128) (res_main_while0b_v73 V0) : (Proc.devRef .tc main_while0b_v74 : DevRef τ sig).ty.Contents (Elt F)) = Cert.ReferenceIdeal.Step.b46 j s := by
  unfold Cert.ReferenceIdeal.Step.b46
  rw [← al_18 h, ← al_45 h]
  try rfl
set_option maxRecDepth 8192 in
theorem al_47 (h : Holds V0 s j) : (broadcastInDim S1x2x8x4x128 ![1, 2, 3, 4] bcast_S2x8x4x128_S1x2x8x4x128_1_2_3_4 (Host.dotGeneral dot_S2x8x4x128_S2x8x4x128x128_S2x8x4x128_3_3_n_4_012_012 none (shapeCast S2x8x4x128 (extractStridedSlice S2x8x1x4x128 ![0, 0, 0, 0, 0] (res_main_while0b_v42 V0) slices_S2x8x3x4x128_S2x8x1x4x128_0_0_0_0_0) shapeCasts_S2x8x1x4x128_S2x8x4x128) (res_main_while0b_v73 V0)) : (Proc.devRef .tc main_while0b_call4_v0 : DevRef τ sig).ty.Contents (Elt F)) = Cert.ReferenceIdeal.Step.b47 j s := by
  unfold Cert.ReferenceIdeal.Step.b47
  rw [← al_46 h]
  try rfl
set_option maxRecDepth 8192 in
theorem al_48 (h : Holds V0 s j) : (constantI S_ 32 0#32 : (Proc.devRef .tc main_while0b_call4_c : DevRef τ sig).ty.Contents (Elt F)) = Cert.ReferenceIdeal.Step.b48 j s := by
  unfold Cert.ReferenceIdeal.Step.b48
  rfl
set_option maxRecDepth 8192 in
theorem al_49 (h : Holds V0 s j) : (constantI S_ 32 0#32 : (Proc.devRef .tc main_while0b_call4_c_0 : DevRef τ sig).ty.Contents (Elt F)) = Cert.ReferenceIdeal.Step.b49 j s := by
  unfold Cert.ReferenceIdeal.Step.b49
  rfl
set_option maxRecDepth 8192 in
theorem al_50 (h : Holds V0 s j) : (constantI S_ 32 0#32 : (Proc.devRef .tc main_while0b_call4_c_1 : DevRef τ sig).ty.Contents (Elt F)) = Cert.ReferenceIdeal.Step.b50 j s := by
  unfold Cert.ReferenceIdeal.Step.b50
  rfl
set_option maxRecDepth 8192 in
theorem al_51 (h : Holds V0 s j) : (constantI S_ 32 0#32 : (Proc.devRef .tc main_while0b_call4_c_2 : DevRef τ sig).ty.Contents (Elt F)) = Cert.ReferenceIdeal.Step.b51 j s := by
  unfold Cert.ReferenceIdeal.Step.b51
  rfl
set_option maxRecDepth 8192 in
theorem al_52 (h : Holds V0 s j) : (Host.dynamicUpdateSlice (V0 (Proc.devRef .tc main_v33_5)) (broadcastInDim S1x2x8x4x128 ![1, 2, 3, 4] bcast_S2x8x4x128_S1x2x8x4x128_1_2_3_4 (Host.dotGeneral dot_S2x8x4x128_S2x8x4x128x128_S2x8x4x128_3_3_n_4_012_012 none (shapeCast S2x8x4x128 (extractStridedSlice S2x8x1x4x128 ![0, 0, 0, 0, 0] (res_main_while0b_v42 V0) slices_S2x8x3x4x128_S2x8x1x4x128_0_0_0_0_0) shapeCasts_S2x8x1x4x128_S2x8x4x128) (res_main_while0b_v73 V0))) (fun k => (((![V0 (Proc.devRef .tc main_v33_3), constantI S_ 32 0#32, constantI S_ 32 0#32, constantI S_ 32 0#32, constantI S_ 32 0#32] : Fin 5 → (⟨S_, .i32⟩ : BufTy).Contents (Elt F))) k (Shape.Idx.first h_S_)).toInt) updateFits_S4096x2x8x4x128_S1x2x8x4x128 : (Proc.devRef .tc main_while0b_v75 : DevRef τ sig).ty.Contents (Elt F)) = Cert.ReferenceIdeal.Step.b52 j s := by
  unfold Cert.ReferenceIdeal.Step.b52
  rw [← al_47 h, ← al_48 h, ← al_49 h, ← al_50 h, ← al_51 h, h.f_5, h.n_3]
  try rfl

/-! One trip's step of the carried values is `step`, field by field; a counter steps to the next number. -/

theorem step_4 (h : Holds V0 s j) : step_main_v33_4 V0 = (step j s).main_v33_4 := by
  unfold step_main_v33_4 Cert.ReferenceIdeal.Step.step
  show id (res_main_while0b_v73 V0) = _
  rw [al_45 h]
  try rfl
theorem step_5 (h : Holds V0 s j) : step_main_v33_5 V0 = (step j s).main_v33_5 := by
  unfold step_main_v33_5 Cert.ReferenceIdeal.Step.step
  show id (Host.dynamicUpdateSlice (V0 (Proc.devRef .tc main_v33_5)) (broadcastInDim S1x2x8x4x128 ![1, 2, 3, 4] bcast_S2x8x4x128_S1x2x8x4x128_1_2_3_4 (Host.dotGeneral dot_S2x8x4x128_S2x8x4x128x128_S2x8x4x128_3_3_n_4_012_012 none (shapeCast S2x8x4x128 (extractStridedSlice S2x8x1x4x128 ![0, 0, 0, 0, 0] (res_main_while0b_v42 V0) slices_S2x8x3x4x128_S2x8x1x4x128_0_0_0_0_0) shapeCasts_S2x8x1x4x128_S2x8x4x128) (res_main_while0b_v73 V0))) (fun k => (((![V0 (Proc.devRef .tc main_v33_3), constantI S_ 32 0#32, constantI S_ 32 0#32, constantI S_ 32 0#32, constantI S_ 32 0#32] : Fin 5 → (⟨S_, .i32⟩ : BufTy).Contents (Elt F))) k (Shape.Idx.first h_S_)).toInt) updateFits_S4096x2x8x4x128_S1x2x8x4x128) = _
  exact al_52 h
theorem step_3 (h : Holds V0 s j) : step_main_v33_3 V0 = constantI S_ 32 (BitVec.ofNat 32 (j + 1)) := by
  unfold step_main_v33_3
  rw [h.n_3]
  funext i
  show BitVec.ofNat 32 j + 1#32 = BitVec.ofNat 32 (j + 1)
  simp only [BitVec.ofNat_add]

set_option maxRecDepth 8192 in
theorem out_main_v37_holds (h : Holds V0 s j) : out_main_v37 V0 = Cert.ReferenceIdeal.Step.R_main_v37 s := by
  unfold out_main_v37 Cert.ReferenceIdeal.Step.R_main_v37
  rw [h.f_5]
  try rfl

set_option maxRecDepth 8192 in
theorem out_main_v41_holds (h : Holds V0 s j) : out_main_v41 V0 = Cert.ReferenceIdeal.Step.R_main_v41 s := by
  unfold out_main_v41 Cert.ReferenceIdeal.Step.R_main_v41
  rw [h.f_5]
  try rfl

/-- One trip keeps the valuation holding: `step` of the state, the same set-up values, the next number. -/
theorem holds_step (h : Holds V0 s j) : Holds (STEP V0) (step j s) (j + 1) where
  f_4 := (STEP_main_v33_4 V0).trans (step_4 h)
  f_5 := (STEP_main_v33_5 V0).trans (step_5 h)
  n_3 := (STEP_main_v33_3 V0).trans (step_3 h)
  f_0 := (STEP_main_v33_0 V0).trans h.f_0
  f_1 := (STEP_main_v33_1 V0).trans h.f_1
  f_2 := (STEP_main_v33_2 V0).trans h.f_2

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1))

variable (m : (ℓ : Loc nD τ sig) → Buf (Elt F) ℓ) (c : Dev nD)

set_option maxRecDepth 65536 in
set_option maxHeartbeats 8000000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 4096 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v37) = Cert.ReferenceIdeal.Step.R_main_v37 (it c 4096)
      ∧ r.2.mem ((c.tc : Thread nD τ).loc main_v41) = Cert.ReferenceIdeal.Step.R_main_v41 (it c 4096)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    have hk := holds_iter m c (it c) (h0 c) (hs c) 4096
    ⟨(h c).1.trans (out_main_v37_holds hk), (h c).2.1.trans (out_main_v41_holds hk), (h c).2.2.1, (h c).2.2.2⟩) (Value.run m ρ)

end Cert.RefRun

end
-- ==== Proof.Cols.lean ====
/- Blocks stored and read back by columns. -/
module

public import Idealize.ShloMosaic.Lib.Pipeline.ValueKit
public import Idealize.ShloMosaic.Lib.Pipeline.CanonAppend
public import Idealize.ShloMosaic.Lib.Pointwise
public import Idealize.ShloMosaic.Lib.ValueIdx
public import Idealize.ShloMosaic.Lib.Tactic

@[expose] public section

noncomputable section

namespace Cert.Cols

open Idealize.ShloMosaic

variable {m n : ℕ}

/-- A matrix given by its entries. -/
def mk {α : Type} (g : Fin m → Fin n → α) : (⟨2, ![m, n]⟩ : Shape).Idx → α := fun y => g ⟨(y 0).val, (y 0).isLt⟩ ⟨(y 1).val, (y 1).isLt⟩

theorem mk_ix {α : Type} (g : Fin m → Fin n → α) (i : Fin m) (j : Fin n) : mk g (ix2 i j) = g i j := rfl

theorem ix2_eta (y : (⟨2, ![m, n]⟩ : Shape).Idx) : y = ix2 ⟨(y 0).val, (y 0).isLt⟩ ⟨(y 1).val, (y 1).isLt⟩ := by
  funext a
  match a with
  | ⟨0, _⟩ => rfl
  | ⟨1, _⟩ => rfl

theorem ext2 {α : Type} {f g : (⟨2, ![m, n]⟩ : Shape).Idx → α} (h : ∀ i j, f (ix2 i j) = g (ix2 i j)) : f = g := by
  funext y
  rw [ix2_eta y]
  exact h _ _

theorem colLt {k o : ℕ} (inb : ∀ a, (![0, o] : Fin 2 → ℕ) a + (![m, k] : Fin 2 → ℕ) a ≤ (⟨2, ![m, n]⟩ : Shape).size a) (q : Fin k) : o + q.val < n := by
  have h := inb 1
  have h' : o + k ≤ n := h
  omega

theorem emb_cols {k o : ℕ} (inb : ∀ a, (![0, o] : Fin 2 → ℕ) a + (![m, k] : Fin 2 → ℕ) a ≤ (⟨2, ![m, n]⟩ : Shape).size a) (r : Fin m) (q : Fin k) :
    (Rect.unit (s := (⟨2, ![m, n]⟩ : Shape)) ![0, o] ![m, k] inb).emb (ix2 r q) = ix2 r ⟨o + q.val, colLt inb q⟩ := by
  funext a
  match a with
  | ⟨0, _⟩ => exact Fin.ext ((ValueKit.rect_emb_unit_val (s := (⟨2, ![m, n]⟩ : Shape)) ![0, o] ![m, k] inb (ix2 r q) 0).trans (Nat.zero_add _))
  | ⟨1, _⟩ => exact Fin.ext (ValueKit.rect_emb_unit_val (s := (⟨2, ![m, n]⟩ : Shape)) ![0, o] ![m, k] inb (ix2 r q) 1)

/-- A range of columns read. -/
theorem ld_cols {Val : EltTy → Type} {e : EltTy} {k o : ℕ} (inb : ∀ a, (![0, o] : Fin 2 → ℕ) a + (![m, k] : Fin 2 → ℕ) a ≤ (⟨2, ![m, n]⟩ : Shape).size a)
    (X : (⟨2, ![m, n]⟩ : Shape).Idx → Val e) (r : Fin m) (q : Fin k) :
    View.ld X (Rect.unit (s := (⟨2, ![m, n]⟩ : Shape)) ![0, o] ![m, k] inb) (ix2 r q) = X (ix2 r ⟨o + q.val, colLt inb q⟩) :=
  congrArg X (emb_cols inb r q)

/-- A range of columns stored. -/
theorem piece_cols {α : Type} {k o : ℕ} (inb : ∀ a, (![0, o] : Fin 2 → ℕ) a + (![m, k] : Fin 2 → ℕ) a ≤ (⟨2, ![m, n]⟩ : Shape).size a)
    (G : (⟨2, ![m, n]⟩ : Shape).Idx → α) (w : (⟨2, ![m, k]⟩ : Shape).Idx → α) (h : ∀ r q, w (ix2 r q) = G (ix2 r ⟨o + q.val, colLt inb q⟩))
    (x : (⟨2, ![m, k]⟩ : Shape).Idx) : w x = G ((Rect.unit (s := (⟨2, ![m, n]⟩ : Shape)) ![0, o] ![m, k] inb).emb x) := by
  rw [ix2_eta x]
  exact (h _ _).trans (congrArg G (emb_cols inb _ _)).symm

/-- Other columns' stores do not matter to a range read back. -/
theorem readCov_skip {Val : EltTy → Type} [∀ e, Nonempty (Val e)] {e : EltTy} {sig : RefSig} {κ : Kind} {sp : Space} {k k' o o' : ℕ}
    (v : View sig κ sp (⟨2, ![m, n]⟩ : Shape) e)
    (inb : ∀ a, (![0, o] : Fin 2 → ℕ) a + (![m, k] : Fin 2 → ℕ) a ≤ (⟨2, ![m, n]⟩ : Shape).size a)
    (inb' : ∀ a, (![0, o'] : Fin 2 → ℕ) a + (![m, k'] : Fin 2 → ℕ) a ≤ (⟨2, ![m, n]⟩ : Shape).size a) (h : o + k ≤ o' ∨ o' + k' ≤ o)
    (w : (Rect.unit (s := (⟨2, ![m, n]⟩ : Shape)) ![0, o] ![m, k] inb).shape.Idx → Val e) (L : List (View.Piece Val (⟨2, ![m, n]⟩ : Shape) e)) :
    v.readCov (⟨Rect.unit (s := (⟨2, ![m, n]⟩ : Shape)) ![0, o] ![m, k] inb, w⟩ :: L) (Rect.unit (s := (⟨2, ![m, n]⟩ : Shape)) ![0, o'] ![m, k'] inb').toLoadRect =
      v.readCov L (Rect.unit (s := (⟨2, ![m, n]⟩ : Shape)) ![0, o'] ![m, k'] inb').toLoadRect := by
  refine View.readCov_cons_of_disjoint v _ L _ ?_
  refine Finset.disjoint_left.2 fun y hy hy' => ?_
  obtain ⟨x, rfl⟩ := (Rect.unit (s := (⟨2, ![m, n]⟩ : Shape)) ![0, o] ![m, k] inb).exists_idx_of_mem hy
  obtain ⟨x', e⟩ := (Rect.unit (s := (⟨2, ![m, n]⟩ : Shape)) ![0, o'] ![m, k'] inb').exists_idx_of_mem hy'
  have e1 := congrArg (fun z => (z 1).val) e
  have a1 := ValueKit.rect_emb_unit_val (s := (⟨2, ![m, n]⟩ : Shape)) ![0, o] ![m, k] inb x 1
  have a2 := ValueKit.rect_emb_unit_val (s := (⟨2, ![m, n]⟩ : Shape)) ![0, o'] ![m, k'] inb' x' 1
  have e2 : o' + (x' 1).val = o + (x 1).val := a2.symm.trans (e1.trans a1)
  have l1 : (x 1).val < k := (x 1).isLt
  have l2 : (x' 1).val < k' := (x' 1).isLt
  omega

/-- A range read back of a whole store. -/
theorem readCov_whole {Val : EltTy → Type} [∀ e, Nonempty (Val e)] {e : EltTy} {S : Shape} {sig : RefSig} {κ : Kind} {sp : Space}
    (v : View sig κ sp S e) (r : Rect S) {off : Fin S.rank → ℕ} (hz : off = fun _ => 0) (inb : ∀ a, off a + S.size a ≤ S.size a)
    (w : S.Idx → Val e) (L : List (View.Piece Val S e)) :
    v.readCov (⟨Rect.unit off S.size inb, w⟩ :: L) r.toLoadRect = View.ld w r := by
  rw [View.readCov_eq_canon', View.canon_cons_unit_zero hz]

/-- What covering stores that agree with one block leave is that block. -/
theorem canon_eq {Val : EltTy → Type} [∀ e, Nonempty (Val e)] {e : EltTy} {S : Shape} (G : S.Idx → Val e) (L : List (View.Piece Val S e))
    (h : ∀ p ∈ L, ∀ x : p.1.shape.Idx, p.2 x = G (p.1.emb x)) (hc : ∀ y, ∃ p ∈ L, y ∈ p.1.set) : View.canon L = G :=
  funext fun y => View.canon_apply_of_pieces _ _ h y (hc y)

/-- A matrix's entries, zero outside it. -/
def en {n k : ℕ} (x : (⟨2, ![n, k]⟩ : Shape).Idx → EReal) (r c : ℕ) : EReal := if h : r < n ∧ c < k then x (ix2 ⟨r, h.1⟩ ⟨c, h.2⟩) else 0

theorem en_eq {n k : ℕ} (x : (⟨2, ![n, k]⟩ : Shape).Idx → EReal) (y : (⟨2, ![n, k]⟩ : Shape).Idx) : x y = en x (y 0).val (y 1).val := by
  unfold en
  rw [dif_pos ⟨(y 0).isLt, (y 1).isLt⟩]
  exact congrArg x (ix2_eta y)

/-- A row's entries, zero outside it. -/
def en1 {n : ℕ} (x : (⟨1, ![n]⟩ : Shape).Idx → EReal) (r : ℕ) : EReal := if h : r < n then x (ix1 ⟨r, h⟩) else 0

theorem en1_eq {n : ℕ} (x : (⟨1, ![n]⟩ : Shape).Idx → EReal) (y : (⟨1, ![n]⟩ : Shape).Idx) : x y = en1 x (y 0).val := by
  unfold en1
  rw [dif_pos (show (y 0).val < n from (y 0).isLt)]
  refine congrArg x (funext fun a => ?_)
  match a with
  | ⟨0, _⟩ => rfl

/-- A row kept as a matrix of one row. -/
theorem row_cast {φ : FTy} {n : ℕ} (x : FVec Ideal (⟨1, ![n]⟩ : Shape) φ) (h) (y : (⟨2, ![1, n]⟩ : Shape).Idx) :
    shapeCast (⟨2, ![1, n]⟩ : Shape) x h y = en1 x (y 1).val := by
  have h0 : (y 0).val = 0 := by have h : (y 0).val < 1 := (y 0).isLt; omega
  rw [shapeCast_apply x _ y (ix1 ⟨(y 1).val, (y 1).isLt⟩) (by
    rw [Shape.rowMajor_val_two, Shape.rowMajor_val_one]; simp [ix1, h0]; rfl)]
  exact en1_eq x _

end Cert.Cols

end
-- ==== Proof.MlpPoint.lean ====
/- What a grid point of the feed-forward call leaves in its result block. -/
module

public import proofs.«01_k».proof.Proof.Gen.MlpIdeal.Value
public import proofs.«01_k».proof.Proof.Cols
public import Idealize.ShloMosaic.Lib.Pointwise
public import Idealize.ShloMosaic.Lib.MatmulPlain
public import Idealize.ShloMosaic.Lib.ValueIdx

@[expose] public section

set_option maxRecDepth 16384

noncomputable section

namespace Cert.MlpVal

open Idealize.ShloMosaic Idealize.ShloMosaic.TcCoe Idealize.ShloMosaic.Tactic Idealize.SL.Sem Cert.MlpIdeal Cert.MlpIdeal.Gen Cert.Cols Finset

theorem hz : (![0, 0] : Fin 2 → Nat) = fun _ => 0 := funext fun a => by fin_cases a <;> rfl

section
variable (x0 : Vec Ideal S512x2048 .f32) (x1 : Vec Ideal S512x2048 .bf16) (x2 : Vec Ideal S2048x1024 .bf16) (x3 : Vec Ideal S1024x2048 .bf16) (x4 : Vec Ideal S1x2048 .f32)

/-- A hidden unit: the squared positive part of a product. -/
def act (r : Fin 512) (k : Fin 1024) : EReal := max (∑ j : Fin 2048, x1 (ix2 r j) * x2 (ix2 j k)) 0 * max (∑ j : Fin 2048, x1 (ix2 r j) * x2 (ix2 j k)) 0

/-- What a point adds its share of the hidden units to a block. -/
def stepG : Vec Ideal S512x2048 .f32 := mk fun r c => x0 (ix2 r c) + ∑ k : Fin 1024, act x1 x2 r k * x3 (ix2 k c)

/-- A row's factor. -/
def fac (r : Fin 512) : EReal := Ideal.rsqrt (Ideal.div (∑ j : Fin 2048, x0 (ix2 r j) * x0 (ix2 r j)) (Ideal.ofBits .f32 0x45000000#32) + Ideal.ofBits .f32 0x358637BD#32)

/-- A block normed by rows. -/
def normG : Vec Ideal S512x2048 .f32 := mk fun r c => x0 (ix2 r c) * fac x0 r * x4 (ix2 0 c)

theorem pay5_at (u : Vec Ideal S512x512 .f32) (w : Vec Ideal S1024x512 .bf16) (r q : Fin 512) :
    k0_pay5 x1 x2 u w (ix2 r q) = u (ix2 r q) + ∑ k : Fin 1024, act x1 x2 r k * w (ix2 k q) := by
  pointwise [k0_pay5, k0_pay4, act]

theorem pay3_eq : k0_pay3 x0 x4 = normG x0 x4 := by
  refine ext2 fun r q => ?_
  unfold normG fac
  rw [mk_ix]
  pointwise [k0_pay3]

/-- A column range of a point's block. -/
theorem piece (o : ℕ) (inb : ∀ a, (![0, o] : Fin 2 → ℕ) a + (![512, 512] : Fin 2 → ℕ) a ≤ S512x2048.size a) (inb' : ∀ a, (![0, o] : Fin 2 → ℕ) a + (![1024, 512] : Fin 2 → ℕ) a ≤ S1024x2048.size a)
    (x : S512x512.Idx) :
    k0_pay5 x1 x2 (View.ld x0 (Rect.unit (s := S512x2048) ![0, o] ![512, 512] inb)) (View.ld x3 (Rect.unit (s := S1024x2048) ![0, o] ![1024, 512] inb')) x =
      stepG x0 x1 x2 x3 ((Rect.unit (s := S512x2048) ![0, o] ![512, 512] inb).emb x) :=
  piece_cols inb (stepG x0 x1 x2 x3) _ (fun r q => by
    rw [pay5_at]
    unfold stepG
    rw [mk_ix]
    refine congrArg₂ (· + ·) (ld_cols inb x0 r q) (sum_congr rfl fun k _ => congrArg (act x1 x2 r k * ·) (ld_cols inb' x3 k q))) x

/-- The four column ranges a point stores. -/
def cols : List (View.Piece (Elt Ideal) S512x2048 .f32) :=
  [⟨Rect.unit (s := S512x2048) ![0, 1536] ![512, 512] inb_S512x2048_S512x512_0_1536, k0_pay5 x1 x2 (View.ld x0 (Rect.unit (s := S512x2048) ![0, 1536] ![512, 512] inb_S512x2048_S512x512_0_1536)) (View.ld x3 (Rect.unit (s := S1024x2048) ![0, 1536] ![1024, 512] inb_S1024x2048_S1024x512_0_1536))⟩,
   ⟨Rect.unit (s := S512x2048) ![0, 1024] ![512, 512] inb_S512x2048_S512x512_0_1024, k0_pay5 x1 x2 (View.ld x0 (Rect.unit (s := S512x2048) ![0, 1024] ![512, 512] inb_S512x2048_S512x512_0_1024)) (View.ld x3 (Rect.unit (s := S1024x2048) ![0, 1024] ![1024, 512] inb_S1024x2048_S1024x512_0_1024))⟩,
   ⟨Rect.unit (s := S512x2048) ![0, 512] ![512, 512] inb_S512x2048_S512x512_0_512, k0_pay5 x1 x2 (View.ld x0 (Rect.unit (s := S512x2048) ![0, 512] ![512, 512] inb_S512x2048_S512x512_0_512)) (View.ld x3 (Rect.unit (s := S1024x2048) ![0, 512] ![1024, 512] inb_S1024x2048_S1024x512_0_512))⟩,
   ⟨Rect.unit (s := S512x2048) ![0, 0] ![512, 512] inb_S512x2048_S512x512_0_0, k0_pay5 x1 x2 (View.ld x0 (Rect.unit (s := S512x2048) ![0, 0] ![512, 512] inb_S512x2048_S512x512_0_0)) (View.ld x3 (Rect.unit (s := S1024x2048) ![0, 0] ![1024, 512] inb_S1024x2048_S1024x512_0_0))⟩]

theorem cols_cover (y : S512x2048.Idx) : ∃ p ∈ cols x0 x1 x2 x3, y ∈ p.1.set :=
  View.cover_of_tiledL (cols x0 x1 x2 x3) ![512, 512] (by sl_kernel_rfl) y

theorem cols_mem : ∀ p ∈ cols x0 x1 x2 x3, ∀ x : p.1.shape.Idx, p.2 x = stepG x0 x1 x2 x3 (p.1.emb x) := by
  simp only [cols, List.forall_mem_cons, List.not_mem_nil, false_imp_iff, implies_true, and_true]
  exact ⟨piece x0 x1 x2 x3 1536 _ _, piece x0 x1 x2 x3 1024 _ _, piece x0 x1 x2 x3 512 _ _, piece x0 x1 x2 x3 0 _ _⟩

theorem cols_canon : View.canon (cols x0 x1 x2 x3) = stepG x0 x1 x2 x3 := canon_eq _ _ (cols_mem x0 x1 x2 x3) (cols_cover x0 x1 x2 x3)

theorem cols_canon' (L : List (View.Piece (Elt Ideal) S512x2048 .f32)) : View.canon (cols x0 x1 x2 x3 ++ L) = stepG x0 x1 x2 x3 :=
  funext fun y => View.canon_append_of_pieces _ _ _ (cols_mem x0 x1 x2 x3) y (cols_cover x0 x1 x2 x3 y)
end

variable (c : Dev nD) (i : grid0.Coords) (a2 : Memref sig .tc .vmem S512x2048 .f32) (h2 : a2.IsWhole) (a3 : Memref sig .tc .vmem S512x2048 .bf16) (h3 : a3.IsWhole)
  (a4 : Memref sig .tc .vmem S2048x1024 .bf16) (h4 : a4.IsWhole) (a5 : Memref sig .tc .vmem S1024x2048 .bf16) (h5 : a5.IsWhole)
  (a6 : Memref sig .tc .vmem S1x2048 .f32) (h6 : a6.IsWhole) (a7 : Memref sig .tc .vmem S512x2048 .f32) (h7 : a7.IsWhole)
  (x0 : Vec Ideal S512x2048 .f32) (x1 : Vec Ideal S512x2048 .bf16) (x2 : Vec Ideal S2048x1024 .bf16) (x3 : Vec Ideal S1024x2048 .bf16) (x4 : Vec Ideal S1x2048 .f32) (xo : Vec Ideal S512x2048 .f32)

set_option maxHeartbeats 2000000 in
/-- A middle point adds its share. -/
theorem out_B (hc0 : ¬cond0_0 i) (hc1 : ¬cond0_1 i) :
    out0_B_5 c i a2 h2 a3 h3 a4 h4 a5 h5 a6 h6 a7 h7 hc0 hc1 x0 x1 x2 x3 x4 xo = stepG xo x1 x2 x3 := by
  unfold out0_B_5
  rw [View.read_writes_eq_canon _ _ _ (cover0_B_5 c i a2 h2 a3 h3 a4 h4 a5 h5 a6 h6 a7 h7 hc0 hc1 x0 x1 x2 x3 x4 xo)]
  unfold kernelRun0_B
  dsimp only
  sl_unfold_words
  simp only [View.readAt_eq_ld, h3.read_unread, h4.read_unread, h5.read_unread, h7.read_unread]
  simp only [View.ld_unit_zero (S := S512x2048) hz, View.ld_unit_zero (S := S2048x1024) hz]
  exact cols_canon xo x1 x2 x3

set_option maxHeartbeats 2000000 in
/-- A first point adds its share to the residual stream. -/
theorem out_A (hc0 : cond0_0 i) (hc1 : ¬cond0_1 i) :
    out0_A_5 c i a2 h2 a3 h3 a4 h4 a5 h5 a6 h6 a7 h7 hc0 hc1 x0 x1 x2 x3 x4 = stepG x0 x1 x2 x3 := by
  unfold out0_A_5
  rw [View.read_writes_eq_canon _ _ _ (cover0_A_5 c i a2 h2 a3 h3 a4 h4 a5 h5 a6 h6 a7 h7 hc0 hc1 x0 x1 x2 x3 x4)]
  unfold kernelRun0_A
  dsimp only
  sl_unfold_words
  simp only [View.readAt_eq_ld, h2.read_unread, h3.read_unread, h4.read_unread, h5.read_unread]
  simp only [View.ld_unit_zero (S := S512x2048) hz, View.ld_unit_zero (S := S2048x1024) hz]
  rw [readCov_skip _ _ _ (by omega), readCov_skip _ _ _ (by omega), readCov_skip _ _ _ (by omega), readCov_whole (S := S512x2048) _ _ hz, readCov_skip _ _ _ (by omega), readCov_skip _ _ _ (by omega), readCov_whole (S := S512x2048) _ _ hz, readCov_skip _ _ _ (by omega), readCov_whole (S := S512x2048) _ _ hz, readCov_whole (S := S512x2048) _ _ hz]
  exact cols_canon' x0 x1 x2 x3 [_]

set_option maxHeartbeats 2000000 in
/-- A last point adds its share and norms the rows. -/
theorem out_C (hc0 : ¬cond0_0 i) (hc1 : cond0_1 i) :
    out0_C_5 c i a2 h2 a3 h3 a4 h4 a5 h5 a6 h6 a7 h7 hc0 hc1 x0 x1 x2 x3 x4 xo = normG (stepG xo x1 x2 x3) x4 := by
  unfold out0_C_5
  rw [View.read_writes_eq_canon _ _ _ (cover0_C_5 c i a2 h2 a3 h3 a4 h4 a5 h5 a6 h6 a7 h7 hc0 hc1 x0 x1 x2 x3 x4 xo)]
  unfold kernelRun0_C
  dsimp only
  sl_unfold_words
  rw [View.canon_cons_unit_zero (S := S512x2048) hz]
  simp only [View.readAt_eq_ld, h3.read_unread, h4.read_unread, h5.read_unread, h6.read_unread, h7.read_unread]
  simp only [View.ld_unit_zero (S := S512x2048) hz, View.ld_unit_zero (S := S2048x1024) hz, View.ld_unit_zero (S := S1x2048) hz]
  rw [← pay3_eq]
  refine congrArg (fun z => k0_pay3 z x4) ?_
  refine (View.readCov_eq_canon_ld a7.view (cols xo x1 x2 x3) (Rect.unit (s := S512x2048) ![0, 0] S512x2048.size inb_S512x2048_S512x2048_0_0) (cols_cover xo x1 x2 x3)).trans ?_
  rw [View.ld_unit_zero (S := S512x2048) hz]
  exact cols_canon xo x1 x2 x3

end Cert.MlpVal

end
-- ==== Proof.MlpValue.lean ====
/- The feed-forward call's result array, entry by entry. -/
module

public import proofs.«01_k».proof.Proof.MlpPoint

@[expose] public section

set_option maxRecDepth 16384

noncomputable section

namespace Cert.MlpVal

open Idealize.ShloMosaic Idealize.ShloMosaic.TcCoe Idealize.ShloMosaic.Tactic Idealize.SL.Sem Cert.MlpIdeal Cert.MlpIdeal.Gen Cert.Cols Finset

section
variable (X H W V : ℕ → ℕ → EReal) (w : ℕ → EReal)

/-- A hidden unit of a token. -/
def hid (R K : ℕ) : EReal := max (∑ j : Fin 2048, H R j.val * W j.val K) 0 * max (∑ j : Fin 2048, H R j.val * W j.val K) 0

/-- The residual stream with the first `n` hidden units' share. -/
def acc (R C n : ℕ) : EReal := X R C + ∑ K ∈ range n, hid H W R K * V K C

/-- The normed result. -/
def res (R C : ℕ) : EReal :=
  acc X H W V R C 8192 * Ideal.rsqrt (Ideal.div (∑ j : Fin 2048, acc X H W V R j.val 8192 * acc X H W V R j.val 8192) (Ideal.ofBits .f32 0x45000000#32) + Ideal.ofBits .f32 0x358637BD#32) * w C

theorem acc_zero (R C : ℕ) : acc X H W V R C 0 = X R C := by simp [acc]

theorem acc_add (R C n k : ℕ) : acc X H W V R C (n + k) = acc X H W V R C n + ∑ K : Fin k, hid H W R (n + K.val) * V (n + K.val) C := by
  unfold acc
  rw [sum_range_add, add_assoc, ← Fin.sum_univ_eq_sum_range (fun K => hid H W R (n + K) * V (n + K) C)]

/-- A block after a point. -/
def accG (i n : ℕ) : Vec Ideal S512x2048 .f32 := mk fun r c => acc X H W V (512 * i + r.val) c.val n

variable {X H W V w} {x1 : Vec Ideal S512x2048 .bf16} {x2 : Vec Ideal S2048x1024 .bf16} {x3 : Vec Ideal S1024x2048 .bf16} {x4 : Vec Ideal S1x2048 .f32}

theorem step_acc (i n : ℕ) (h1 : ∀ r j, x1 (ix2 r j) = H (512 * i + r.val) j.val) (h2 : ∀ j k, x2 (ix2 j k) = W j.val (n + k.val)) (h3 : ∀ k c, x3 (ix2 k c) = V (n + k.val) c.val)
    (xo : Vec Ideal S512x2048 .f32) (ho : xo = accG X H W V i n) : stepG xo x1 x2 x3 = accG X H W V i (n + 1024) := by
  refine ext2 fun r c => ?_
  rw [ho]
  unfold stepG accG
  rw [mk_ix, mk_ix, mk_ix, acc_add]
  refine congrArg (acc X H W V (512 * i + r.val) c.val n + ·) (sum_congr rfl fun k _ => ?_)
  unfold act hid
  simp only [h1, h2, h3]

theorem norm_acc (i : ℕ) (h4 : ∀ c, x4 (ix2 0 c) = w c.val) : normG (accG X H W V i 8192) x4 = mk fun r c => res X H W V w (512 * i + r.val) c.val := by
  refine ext2 fun r c => ?_
  unfold normG fac res
  rw [mk_ix, mk_ix, h4]
  rfl
end

variable (m : (ℓ : Loc nD τ sig) → Buf (Elt Ideal) ℓ)

theorem ix_0 : ∀ t : Fin cfg0.N, win0_0.index t = ![t.val / 8, 0] := (by decide +kernel : ∀ t : Fin grid0.N, win0_0.index t = ![t.val / 8, 0])
theorem ix_1 : ∀ t : Fin cfg0.N, win0_1.index t = ![t.val / 8, 0] := (by decide +kernel : ∀ t : Fin grid0.N, win0_1.index t = ![t.val / 8, 0])
theorem ix_2 : ∀ t : Fin cfg0.N, win0_2.index t = ![0, t.val % 8] := (by decide +kernel : ∀ t : Fin grid0.N, win0_2.index t = ![0, t.val % 8])
theorem ix_3 : ∀ t : Fin cfg0.N, win0_3.index t = ![t.val % 8, 0] := (by decide +kernel : ∀ t : Fin grid0.N, win0_3.index t = ![t.val % 8, 0])
theorem ix_4 : ∀ t : Fin cfg0.N, win0_4.index t = ![0, 0] := (by decide +kernel : ∀ t : Fin grid0.N, win0_4.index t = ![0, 0])
theorem ix_5 : ∀ t : Fin cfg0.N, win0_5.index t = ![t.val / 8, 0] := (by decide +kernel : ∀ t : Fin grid0.N, win0_5.index t = ![t.val / 8, 0])
theorem fl_5 : ∀ t : Fin cfg0.N, win0_5.flush t = true → t.val % 8 = 7 := (by decide +kernel : ∀ t : Fin grid0.N, win0_5.flush t = true → t.val % 8 = 7)

variable (c : Dev nD)

/-- The residual stream. -/
def aX : ℕ → ℕ → EReal := en (n := 32768) (k := 2048) (m ((c.tc : Thread nD τ).loc main_arg0))
/-- The normed residual stream. -/
def aH : ℕ → ℕ → EReal := en (n := 32768) (k := 2048) (m ((c.tc : Thread nD τ).loc main_arg1))
/-- The first weight. -/
def aW : ℕ → ℕ → EReal := en (n := 2048) (k := 8192) (m ((c.tc : Thread nD τ).loc main_arg2))
/-- The second weight. -/
def aV : ℕ → ℕ → EReal := en (n := 8192) (k := 2048) (m ((c.tc : Thread nD τ).loc main_arg3))
/-- The norm's weight. -/
def aw : ℕ → EReal := en1 (n := 2048) (m ((c.tc : Thread nD τ).loc main_arg4))

/-- Window 0 at a point. -/
theorem blk0 (t : Fin cfg0.N) (i : Fin 512) (j : Fin 2048) : iblk m c 0 t (ix2 i j) = aX m c (512 * (t.val / 8) + i.val) j.val := by
  blk_simp [iblk]
  rw [V_main_arg0 m c]
  refine (en_eq (n := 32768) (k := 2048) _ _).trans ?_
  unfold aX
  congr 1
  · blk_simp [ix_0]
    simp [ix2, Nat.mul_comm]
  · blk_simp [ix_0]
/-- Window 1 at a point. -/
theorem blk1 (t : Fin cfg0.N) (i : Fin 512) (j : Fin 2048) : iblk m c 1 t (ix2 i j) = aH m c (512 * (t.val / 8) + i.val) j.val := by
  blk_simp [iblk]
  rw [V_main_arg1 m c]
  refine (en_eq (n := 32768) (k := 2048) _ _).trans ?_
  unfold aH
  congr 1
  · blk_simp [ix_1]
    simp [ix2, Nat.mul_comm]
  · blk_simp [ix_1]
/-- Window 2 at a point. -/
theorem blk2 (t : Fin cfg0.N) (i : Fin 2048) (j : Fin 1024) : iblk m c 2 t (ix2 i j) = aW m c i.val (1024 * (t.val % 8) + j.val) := by
  blk_simp [iblk]
  entry_read
  refine (en_eq (n := 2048) (k := 8192) (m ((c.tc : Thread nD τ).loc main_arg2)) _).trans ?_
  unfold aW
  congr 1
  · show (((win0_2.blk t).view.emb (ix2 i j)) 0).val = _
    blk_simp [ix_2]
  · show (((win0_2.blk t).view.emb (ix2 i j)) 1).val = _
    blk_simp [ix_2]
    simp [ix2, Nat.mul_comm]
/-- Window 3 at a point. -/
theorem blk3 (t : Fin cfg0.N) (i : Fin 1024) (j : Fin 2048) : iblk m c 3 t (ix2 i j) = aV m c (1024 * (t.val % 8) + i.val) j.val := by
  blk_simp [iblk]
  entry_read
  refine (en_eq (n := 8192) (k := 2048) (m ((c.tc : Thread nD τ).loc main_arg3)) _).trans ?_
  unfold aV
  congr 1
  · show (((win0_3.blk t).view.emb (ix2 i j)) 0).val = _
    blk_simp [ix_3]
    simp [ix2, Nat.mul_comm]
  · show (((win0_3.blk t).view.emb (ix2 i j)) 1).val = _
    blk_simp [ix_3]
/-- Window 4 at a point. -/
theorem blk4 (t : Fin cfg0.N) (j : Fin 2048) : iblk m c 4 t (ix2 0 j) = aw m c j.val := by
  blk_simp [iblk]
  entry_read
  refine (row_cast (φ := .f32) (n := 2048) (m ((c.tc : Thread nD τ).loc main_arg4)) _ _).trans ?_
  unfold aw
  congr 1
  show (((win0_4.blk t).view.emb (ix2 0 j)) 1).val = _
  blk_simp [ix_4]

/-- What a point leaves. -/
theorem outs : ∀ (n : ℕ) (hn : n < cfg0.N), outsAt0 m c n hn =
    if n % 8 = 7 then mk fun r q => res (aX m c) (aH m c) (aW m c) (aV m c) (aw m c) (512 * (n / 8) + r.val) q.val
    else accG (aX m c) (aH m c) (aW m c) (aV m c) (n / 8) (1024 * (n % 8) + 1024) := by
  intro n
  induction n using Nat.strong_induction_on with
  | _ n ih =>
  intro hn
  have hs := step_acc (X := aX m c) (n / 8) (1024 * (n % 8)) (blk1 m c ⟨n, hn⟩) (blk2 m c ⟨n, hn⟩) (blk3 m c ⟨n, hn⟩)
  by_cases h0 : n % 8 = 0
  · have h1 : ¬n % 8 = 7 := by omega
    rw [if_neg h1]
    refine (outsAt0_A m c ⟨n, hn⟩ h0 h1).trans ((out_A _ _ _ _ _ _ _ _ _ _ _ _ _ _ _ _ _ _ _ _ _).trans (hs _ (ext2 fun r q => ?_)))
    rw [blk0]
    unfold accG
    rw [mk_ix, h0, Nat.mul_zero, acc_zero]
  · have hp : outsAt0 m c (n - 1) (by omega) = accG (aX m c) (aH m c) (aW m c) (aV m c) (n / 8) (1024 * (n % 8)) := by
      rw [ih (n - 1) (by omega) (by omega), if_neg (by omega)]
      rw [show (n - 1) / 8 = n / 8 by omega, show 1024 * ((n - 1) % 8) + 1024 = 1024 * (n % 8) by omega]
    by_cases h1 : n % 8 = 7
    · rw [if_pos h1]
      refine (outsAt0_C m c ⟨n, hn⟩ h0 h1).trans ((out_C _ _ _ _ _ _ _ _ _ _ _ _ _ _ _ _ _ _ _ _ _ _).trans ?_)
      rw [hs _ hp, h1]
      exact norm_acc (n / 8) (blk4 m c ⟨n, hn⟩)
    · rw [if_neg h1]
      exact (outsAt0_B m c ⟨n, hn⟩ h0 h1).trans ((out_B _ _ _ _ _ _ _ _ _ _ _ _ _ _ _ _ _ _ _ _ _ _).trans (hs _ hp))

/-- The result array. -/
def arrG (X H W V : ℕ → ℕ → EReal) (w : ℕ → EReal) : Vec Ideal S32768x2048 .f32 := fun y => res X H W V w (y 0).val (y 1).val

/-- The result. -/
theorem arr5 : (dats m 0 c).arrAt 5 cfg0.N = arrG (aX m c) (aH m c) (aW m c) (aV m c) (aw m c) := by
  refine (dats m 0 c).arrAt_eq_of_covers 5 _ (by decide +kernel) fun t hf y => ?_
  have hf' : t.val % 8 = 7 := fl_5 t hf
  have e0 : ((((cfg0.win 5).blk t).view.emb y) 0).val = 512 * (t.val / 8) + (y 0).val := by
    blk_simp [ix_5]
    simp [Nat.mul_comm]
  have e1 : ((((cfg0.win 5).blk t).view.emb y) 1).val = (y 1).val := by
    blk_simp [ix_5]
  unfold arrG
  simp only [e0, e1]
  blk_simp
  rw [after0_5, outs m c t.val t.isLt, if_pos hf']
  rfl

end Cert.MlpVal

end
-- ==== Proof.MlpRef.lean ====
/- The feed-forward call's reference, entry by entry, and the two equal. -/
module

public import proofs.«01_k».proof.Proof.MlpValue
public import proofs.«01_k».proof.Proof.Gen.MlpRefIdeal.Run
public import proofs.«01_k».proof.Defs
public import Idealize.ShloMosaic.Lib.Quiescent
public import Idealize.ShloMosaic.Lib.IdealHost

@[expose] public section

set_option maxRecDepth 16384

noncomputable section

namespace Cert.MlpVal

open Idealize.ShloMosaic Idealize.ShloMosaic.Tactic Idealize.SL.Sem Cert.Cols Finset

section
open Cert.MlpRefIdeal Cert.MlpRefIdeal.Gen

variable (x : FVec Ideal S32768x2048 .f32) (h : FVec Ideal S32768x2048 .bf16) (w1 : FVec Ideal S2048x8192 .f32) (w2 : FVec Ideal S8192x2048 .f32) (w : FVec Ideal S2048 .f32)

/-- The stream after the feed-forward part. -/
def refY : FVec Ideal S32768x2048 .f32 :=
  addf x (Host.dotGeneral dot_S32768x8192_S8192x2048_S32768x2048_1_0_0_1_n_n none (mulf (maximumf (Host.dotGeneral dot_S32768x2048_S2048x8192_S32768x8192_1_0_0_1_n_n none (extf .f32 h bitsLt_bf16_f32) w1) (broadcastInDim S32768x8192 ![] bcast_S_S32768x8192 (constant S_ .f32 0x00000000#32))) (maximumf (Host.dotGeneral dot_S32768x2048_S2048x8192_S32768x8192_1_0_0_1_n_n none (extf .f32 h bitsLt_bf16_f32) w1) (broadcastInDim S32768x8192 ![] bcast_S_S32768x8192 (constant S_ .f32 0x00000000#32)))) w2)

theorem refY_at (r : Fin 32768) (q : Fin 2048) : refY x h w1 w2 (ix2 r q) = acc (en x) (en h) (en w1) (en w2) r.val q.val 8192 := by
  unfold acc
  rw [← Fin.sum_univ_eq_sum_range (fun K => hid (en h) (en w1) r.val K * en w2 K q.val)]
  have e0 (i : Fin 32768) (j : Fin 2048) : en x i.val j.val = x (ix2 i j) := (en_eq x (ix2 i j)).symm
  have e1 (i : Fin 32768) (j : Fin 2048) : en h i.val j.val = h (ix2 i j) := (en_eq h (ix2 i j)).symm
  have e2 (i : Fin 2048) (j : Fin 8192) : en w1 i.val j.val = w1 (ix2 i j) := (en_eq w1 (ix2 i j)).symm
  have e3 (i : Fin 8192) (j : Fin 2048) : en w2 i.val j.val = w2 (ix2 i j) := (en_eq w2 (ix2 i j)).symm
  unfold hid
  simp only [e0, e1, e2, e3]
  pointwise [refY]

/-- A stream normed by rows. -/
def refN (y : FVec Ideal S32768x2048 .f32) : FVec Ideal S32768x2048 .f32 :=
  mulf (mulf y (broadcastInDim S32768x2048 ![0, 1] bcast_S32768x1_S32768x2048_0_1 (Host.rsqrt (addf (Host.divf (broadcastInDim S32768x1 ![0] bcast_S32768_S32768x1_0 (Host.reduceAdd (mulf y y) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 w))

theorem refN_at (y : FVec Ideal S32768x2048 .f32) (r : Fin 32768) (q : Fin 2048) :
    refN w y (ix2 r q) = y (ix2 r q) * Ideal.rsqrt (Ideal.div (∑ j : Fin 2048, y (ix2 r j) * y (ix2 r j)) (Ideal.ofBits .f32 0x45000000#32) + Ideal.ofBits .f32 0x358637BD#32) * w (ix1 q) := by
  pointwise [refN]

theorem ref_eq : refN w (refY x h w1 w2) = arrG (en x) (en h) (en w1) (en w2) (en1 w) := by
  refine ext2 fun r q => ?_
  rw [refN_at]
  simp only [refY_at]
  unfold arrG res
  rw [en1_eq w (ix1 q)]
  rfl

end

/-- The call computes its mathematics over the extended reals. -/
theorem algebraic : Cert.algebraic_MlpIdeal_MlpRefIdeal (hMlpIdeal := Cert.MlpIdeal.Gen.facts) (hMlpRefIdeal := Cert.MlpRefIdeal.Gen.facts) := by
  intro m g m' g' _ hag
  refine ⟨fun c => arrG (aX m c) (aH m c) (aW m c) (aV m c) (aw m c), ?_, ?_⟩
  · refine (θ_run _ _ _).mono (fun r h c => ?_) (Cert.MlpIdeal.Value.run_blocks m g)
    exact ⟨(h c).1.trans (arr5 m c), (h c).2⟩
  · refine (θ_run _ _ _).mono (fun r h c => ?_) (Cert.MlpRefIdeal.Value.run m' g')
    refine ⟨(h c).1.trans ((ref_eq _ _ _ _ _).trans ?_), (h c).2⟩
    obtain ⟨e0, e1, e2, e3, e4⟩ := hag c
    exact congr (congr (congr (congr (congrArg arrG (congrArg (en (n := 32768) (k := 2048)) e0)) (congrArg (en (n := 32768) (k := 2048)) e1)) (congrArg (en (n := 2048) (k := 8192)) e2)) (congrArg (en (n := 8192) (k := 2048)) e3)) (congrArg (en1 (n := 2048)) e4)

/-- The reference leaves its arguments as they were. -/
theorem frame_ref : Cert.quiescent_MlpRefIdeal (hMlpRefIdeal := Cert.MlpRefIdeal.Gen.facts) := fun m g _ =>
  (θ_run _ _ _).mono (fun r h => ⟨fun c => (h c).2, sem_eq_zero_of_no_sems (by decide) r.2⟩) (Cert.MlpRefIdeal.Value.run m g)

end Cert.MlpVal

end
-- ==== Proof.OutValue.lean ====
/- The output projection's two result arrays, entry by entry, its reference, and the two equal. -/
module

public import proofs.«01_k».proof.Proof.Gen.OutIdeal.Value
public import proofs.«01_k».proof.Proof.Gen.OutRefIdeal.Run
public import proofs.«01_k».proof.Proof.Cols
public import proofs.«01_k».proof.Defs
public import Idealize.ShloMosaic.Lib.Pointwise
public import Idealize.ShloMosaic.Lib.MatmulPlain
public import Idealize.ShloMosaic.Lib.ValueIdx
public import Idealize.ShloMosaic.Lib.Quiescent
public import Idealize.ShloMosaic.Lib.IdealHost

@[expose] public section

set_option maxRecDepth 16384

noncomputable section

namespace Cert.OutVal

open Idealize.ShloMosaic Idealize.ShloMosaic.Tactic Idealize.SL.Sem Cert.Cols Finset

section
variable (X M W : ℕ → ℕ → EReal) (w : ℕ → EReal)

/-- The residual stream with the projection added. -/
def str (R C : ℕ) : EReal := X R C + ∑ K : Fin 2048, M R K.val * W K.val C

/-- Its norm. -/
def nrm (R C : ℕ) : EReal :=
  str X M W R C * Ideal.rsqrt (Ideal.div (∑ j : Fin 2048, str X M W R j.val * str X M W R j.val) (Ideal.ofBits .f32 0x45000000#32) + Ideal.ofBits .f32 0x358637BD#32) * w C

/-- The first result. -/
def arrS : FVec Ideal (⟨2, ![32768, 2048]⟩ : Shape) .f32 := fun y => str X M W (y 0).val (y 1).val
/-- The second result. -/
def arrN : FVec Ideal (⟨2, ![32768, 2048]⟩ : Shape) .bf16 := fun y => nrm X M W w (y 0).val (y 1).val
end

section
open Idealize.ShloMosaic.TcCoe Cert.OutIdeal Cert.OutIdeal.Gen

theorem hz : (![0, 0] : Fin 2 → Nat) = fun _ => 0 := funext fun a => by fin_cases a <;> rfl

section
variable {X M W : ℕ → ℕ → EReal} {w : ℕ → EReal} {x0 : Vec Ideal S512x2048 .f32} {x1 : Vec Ideal S512x2048 .bf16} {x2 : Vec Ideal S2048x2048 .bf16} {x3 : Vec Ideal S1x2048 .f32} (b : ℕ)
  (h0 : ∀ r j, x0 (ix2 r j) = X (512 * b + r.val) j.val) (h1 : ∀ r j, x1 (ix2 r j) = M (512 * b + r.val) j.val)
  (h2 : ∀ k c, x2 (ix2 k c) = W k.val c.val) (h3 : ∀ c, x3 (ix2 0 c) = w c.val)
include h0 h1 h2

theorem pay1_at (r : Fin 512) (q : Fin 2048) : k0_pay1 x0 x1 x2 (ix2 r q) = str X M W (512 * b + r.val) q.val := by
  unfold str
  simp only [← h0, ← h1, ← h2]
  pointwise [k0_pay1]

include h3 in
theorem pay2_at (r : Fin 512) (q : Fin 2048) : k0_pay2 x0 x1 x2 x3 (ix2 r q) = nrm X M W w (512 * b + r.val) q.val := by
  unfold nrm
  simp only [← pay1_at b h0 h1 h2, ← h3]
  pointwise [k0_pay2]

theorem out4 : out0_4 x0 x1 x2 x3 = mk fun r q => str X M W (512 * b + r.val) q.val := by
  unfold out0_4
  rw [View.canon_unit_zero (S := S512x2048) hz, View.ld_unit_zero (S := S512x2048) hz, View.ld_unit_zero (S := S512x2048) hz, View.ld_unit_zero (S := S2048x2048) hz]
  exact ext2 fun r q => pay1_at b h0 h1 h2 r q

include h3 in
theorem out5 : out0_5 x0 x1 x2 x3 = mk fun r q => nrm X M W w (512 * b + r.val) q.val := by
  unfold out0_5
  rw [View.canon_unit_zero (S := S512x2048) hz, View.ld_unit_zero (S := S512x2048) hz, View.ld_unit_zero (S := S512x2048) hz, View.ld_unit_zero (S := S2048x2048) hz, View.ld_unit_zero (S := S1x2048) hz]
  exact ext2 fun r q => pay2_at b h0 h1 h2 h3 r q
end

variable (m : (ℓ : Loc nD τ sig) → Buf (Elt Ideal) ℓ)

theorem ix_0 : ∀ t : Fin cfg0.N, win0_0.index t = ![t.val, 0] := (by decide +kernel : ∀ t : Fin grid0.N, win0_0.index t = ![t.val, 0])
theorem ix_1 : ∀ t : Fin cfg0.N, win0_1.index t = ![t.val, 0] := (by decide +kernel : ∀ t : Fin grid0.N, win0_1.index t = ![t.val, 0])
theorem ix_2 : ∀ t : Fin cfg0.N, win0_2.index t = ![0, 0] := (by decide +kernel : ∀ t : Fin grid0.N, win0_2.index t = ![0, 0])
theorem ix_3 : ∀ t : Fin cfg0.N, win0_3.index t = ![0, 0] := (by decide +kernel : ∀ t : Fin grid0.N, win0_3.index t = ![0, 0])
theorem ix_4 : ∀ t : Fin cfg0.N, win0_4.index t = ![t.val, 0] := (by decide +kernel : ∀ t : Fin grid0.N, win0_4.index t = ![t.val, 0])
theorem ix_5 : ∀ t : Fin cfg0.N, win0_5.index t = ![t.val, 0] := (by decide +kernel : ∀ t : Fin grid0.N, win0_5.index t = ![t.val, 0])

variable (c : Dev nD)

/-- The residual stream. -/
def aX : ℕ → ℕ → EReal := en (n := 32768) (k := 2048) (m ((c.tc : Thread nD τ).loc main_arg0))
/-- The merged mixers. -/
def aM : ℕ → ℕ → EReal := en (n := 32768) (k := 2048) (m ((c.tc : Thread nD τ).loc main_arg1))
/-- The weight. -/
def aW : ℕ → ℕ → EReal := en (n := 2048) (k := 2048) (m ((c.tc : Thread nD τ).loc main_arg2))
/-- The norm's weight. -/
def aw : ℕ → EReal := en1 (n := 2048) (m ((c.tc : Thread nD τ).loc main_arg3))

/-- Window 0 at a point. -/
theorem blk0 (t : Fin cfg0.N) (i : Fin 512) (j : Fin 2048) : iblk m c 0 t (ix2 i j) = aX m c (512 * t.val + i.val) j.val := by
  blk_simp [iblk]
  rw [V_main_arg0 m c]
  refine (en_eq (n := 32768) (k := 2048) _ _).trans ?_
  unfold aX
  congr 1
  · blk_simp [ix_0]
    simp [ix2, Nat.mul_comm]
  · blk_simp [ix_0]
/-- Window 1 at a point. -/
theorem blk1 (t : Fin cfg0.N) (i : Fin 512) (j : Fin 2048) : iblk m c 1 t (ix2 i j) = aM m c (512 * t.val + i.val) j.val := by
  blk_simp [iblk]
  rw [V_main_arg1 m c]
  refine (en_eq (n := 32768) (k := 2048) _ _).trans ?_
  unfold aM
  congr 1
  · blk_simp [ix_1]
    simp [ix2, Nat.mul_comm]
  · blk_simp [ix_1]
/-- Window 2 at a point. -/
theorem blk2 (t : Fin cfg0.N) (i : Fin 2048) (j : Fin 2048) : iblk m c 2 t (ix2 i j) = aW m c i.val j.val := by
  blk_simp [iblk]
  entry_read
  refine (en_eq (n := 2048) (k := 2048) (m ((c.tc : Thread nD τ).loc main_arg2)) _).trans ?_
  unfold aW
  congr 1
  · show (((win0_2.blk t).view.emb (ix2 i j)) 0).val = _
    blk_simp [ix_2]
  · show (((win0_2.blk t).view.emb (ix2 i j)) 1).val = _
    blk_simp [ix_2]
/-- Window 3 at a point. -/
theorem blk3 (t : Fin cfg0.N) (j : Fin 2048) : iblk m c 3 t (ix2 0 j) = aw m c j.val := by
  blk_simp [iblk]
  entry_read
  refine (row_cast (φ := .f32) (n := 2048) (m ((c.tc : Thread nD τ).loc main_arg3)) _ _).trans ?_
  unfold aw
  congr 1
  show (((win0_3.blk t).view.emb (ix2 0 j)) 1).val = _
  blk_simp [ix_3]

/-- The first result. -/
theorem arr4 : (dats m 0 c).arrAt 4 cfg0.N = arrS (aX m c) (aM m c) (aW m c) := by
  refine (dats m 0 c).arrAt_eq_of_covers 4 _ (by decide +kernel) fun t hf y => ?_
  have e0 : ((((cfg0.win 4).blk t).view.emb y) 0).val = 512 * t.val + (y 0).val := by
    blk_simp [ix_4]
    simp [Nat.mul_comm]
  have e1 : ((((cfg0.win 4).blk t).view.emb y) 1).val = (y 1).val := by
    blk_simp [ix_4]
  unfold arrS
  simp only [e0, e1]
  blk_simp
  rw [after0_4, out4 t.val (blk0 m c t) (blk1 m c t) (blk2 m c t)]
  rfl

/-- The second result. -/
theorem arr5 : (dats m 0 c).arrAt 5 cfg0.N = arrN (aX m c) (aM m c) (aW m c) (aw m c) := by
  refine (dats m 0 c).arrAt_eq_of_covers 5 _ (by decide +kernel) fun t hf y => ?_
  have e0 : ((((cfg0.win 5).blk t).view.emb y) 0).val = 512 * t.val + (y 0).val := by
    blk_simp [ix_5]
    simp [Nat.mul_comm]
  have e1 : ((((cfg0.win 5).blk t).view.emb y) 1).val = (y 1).val := by
    blk_simp [ix_5]
  unfold arrN
  simp only [e0, e1]
  blk_simp
  rw [after0_5, out5 t.val (blk0 m c t) (blk1 m c t) (blk2 m c t) (blk3 m c t)]
  rfl
end

section
open Cert.OutRefIdeal Cert.OutRefIdeal.Gen

variable (x : FVec Ideal S32768x2048 .f32) (h : FVec Ideal S32768x2048 .bf16) (w1 : FVec Ideal S2048x2048 .f32) (w : FVec Ideal S2048 .f32)

/-- The stream after the projection. -/
def refY : FVec Ideal S32768x2048 .f32 := addf x (Host.dotGeneral dot_S32768x2048_S2048x2048_S32768x2048_1_0_0_1_n_n none (extf .f32 h bitsLt_bf16_f32) w1)

theorem refY_at (r : Fin 32768) (q : Fin 2048) : refY x h w1 (ix2 r q) = str (en x) (en h) (en w1) r.val q.val := by
  have e0 (i : Fin 32768) (j : Fin 2048) : en x i.val j.val = x (ix2 i j) := (en_eq x (ix2 i j)).symm
  have e1 (i : Fin 32768) (j : Fin 2048) : en h i.val j.val = h (ix2 i j) := (en_eq h (ix2 i j)).symm
  have e2 (i : Fin 2048) (j : Fin 2048) : en w1 i.val j.val = w1 (ix2 i j) := (en_eq w1 (ix2 i j)).symm
  unfold str
  simp only [e0, e1, e2]
  pointwise [refY]

/-- A stream normed by rows. -/
def refN (y : FVec Ideal S32768x2048 .f32) : FVec Ideal S32768x2048 .bf16 :=
  truncf .bf16 (mulf (mulf y (broadcastInDim S32768x2048 ![0, 1] bcast_S32768x1_S32768x2048_0_1 (Host.rsqrt (addf (Host.divf (broadcastInDim S32768x1 ![0] bcast_S32768_S32768x1_0 (Host.reduceAdd (mulf y y) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 w))) bitsLt_bf16_f32

theorem refN_at (y : FVec Ideal S32768x2048 .f32) (r : Fin 32768) (q : Fin 2048) :
    refN w y (ix2 r q) = y (ix2 r q) * Ideal.rsqrt (Ideal.div (∑ j : Fin 2048, y (ix2 r j) * y (ix2 r j)) (Ideal.ofBits .f32 0x45000000#32) + Ideal.ofBits .f32 0x358637BD#32) * w (ix1 q) := by
  pointwise [refN]

theorem refY_eq : refY x h w1 = arrS (en x) (en h) (en w1) := ext2 fun r q => refY_at x h w1 r q

theorem refN_eq : refN w (refY x h w1) = arrN (en x) (en h) (en w1) (en1 w) := by
  refine ext2 fun r q => ?_
  rw [refN_at]
  simp only [refY_at]
  unfold arrN nrm
  rw [en1_eq w (ix1 q)]
  rfl
end

/-- The call computes its mathematics over the extended reals. -/
theorem algebraic : Cert.algebraic_OutIdeal_OutRefIdeal (hOutIdeal := Cert.OutIdeal.Gen.facts) (hOutRefIdeal := Cert.OutRefIdeal.Gen.facts) := by
  intro m g m' g' _ hag
  refine ⟨fun c => arrS (aX m c) (aM m c) (aW m c), fun c => arrN (aX m c) (aM m c) (aW m c) (aw m c), ?_, ?_⟩
  · refine (θ_run _ _ _).mono (fun r h c => ?_) (Cert.OutIdeal.Value.run_blocks m g)
    exact ⟨(h c).1.trans (arr4 m c), (h c).2.1.trans (arr5 m c), (h c).2.2⟩
  · refine (θ_run _ _ _).mono (fun r h c => ?_) (Cert.OutRefIdeal.Value.run m' g')
    obtain ⟨e0, e1, e2, e3⟩ := hag c
    have f0 := congrArg (en (n := 32768) (k := 2048)) e0
    have f1 := congrArg (en (n := 32768) (k := 2048)) e1
    have f2 := congrArg (en (n := 2048) (k := 2048)) e2
    refine ⟨(h c).1.trans ((refY_eq _ _ _).trans ?_), (h c).2.1.trans ((refN_eq _ _ _ _).trans ?_), (h c).2.2⟩
    · exact congr (congr (congrArg arrS f0) f1) f2
    · exact congr (congr (congr (congrArg arrN f0) f1) f2) (congrArg (en1 (n := 2048)) e3)

/-- The reference leaves its arguments as they were. -/
theorem frame_ref : Cert.quiescent_OutRefIdeal (hOutRefIdeal := Cert.OutRefIdeal.Gen.facts) := fun m g _ =>
  (θ_run _ _ _).mono (fun r h => ⟨fun c => (h c).2.2, sem_eq_zero_of_no_sems (by decide) r.2⟩) (Cert.OutRefIdeal.Value.run m g)

end Cert.OutVal

end
-- ==== Proof.MergePoint.lean ====
/- What a grid point of the merge leaves in its result block and in the gated mixer it keeps. -/
module

public import proofs.«01_k».proof.Proof.Gen.MergeIdeal.Value
public import proofs.«01_k».proof.Proof.Cols
public import Idealize.ShloMosaic.Lib.Pointwise
public import Idealize.ShloMosaic.Lib.MatmulPlain
public import Idealize.ShloMosaic.Lib.ValueIdx

@[expose] public section

set_option maxRecDepth 16384

noncomputable section

namespace Cert.MergeVal

open Idealize.ShloMosaic Idealize.ShloMosaic.TcCoe Idealize.ShloMosaic.Tactic Idealize.SL.Sem Cert.MergeIdeal Cert.MergeIdeal.Gen Cert.Cols Finset

theorem hz : (![0, 0] : Fin 2 → Nat) = fun _ => 0 := funext fun a => by fin_cases a <;> rfl

/-- The logistic function. -/
def sg (x : EReal) : EReal := Ideal.div (Ideal.ofBits .f32 0x3F800000#32) (Ideal.ofBits .f32 0x3F800000#32 + Ideal.exp (-x))

section
variable (x0 : Vec Ideal S512x2048 .bf16) (x1 xs x6 x7 x12 x13 x14 x15 : Vec Ideal S512x512 .bf16) (x8 x9 x10 x11 : Vec Ideal S2048x512 .bf16)

/-- One branch at an entry: its gate times its projection. -/
def brn (w : Vec Ideal S2048x512 .bf16) (u p : Vec Ideal S512x512 .bf16) (r q : Fin 512) : EReal :=
  sg (∑ K : Fin 2048, x0 (ix2 r K) * w (ix2 K q)) * ∑ k : Fin 512, u (ix2 r k) * p (ix2 k q)

/-- A point's result block. -/
def outG : Vec Ideal S512x512 .bf16 := mk fun r q => brn x0 x8 x1 x12 r q + brn x0 x9 xs x13 r q + brn x0 x10 x6 x14 r q + brn x0 x11 x7 x15 r q

theorem pay14_eq : k0_pay14 x0 (k0_pay11 x0 x8 x1 x12) (k0_pay12 x0 x9) xs (k0_pay13 x13) x10 x6 x14 x11 x7 x15 = outG x0 x1 xs x6 x7 x12 x13 x14 x15 x8 x9 x10 x11 := by
  refine ext2 fun r q => ?_
  unfold outG brn sg
  rw [mk_ix]
  simp only [← zero_sub]
  pointwise [k0_pay14, k0_pay11, k0_pay12, k0_pay13]
end

section
variable (x2 x3 x4 : Vec Ideal S512x512 .f32) (x5 : Vec Ideal S1x128 .f32)

/-- The index of an entry's head. -/
def hd (q : Fin 512) (j : Fin 128) : Fin 512 := ⟨q.val / 128 * 128 + j.val, by omega⟩

/-- The mixer's output at an entry: the two directions added, normed by head, gated. -/
def mbG : Vec Ideal S512x512 .bf16 := mk fun r q =>
  (x2 (ix2 r q) + x3 (ix2 r q)) * Ideal.rsqrt (Ideal.div (∑ j : Fin 128, (x2 (ix2 r (hd q j)) + x3 (ix2 r (hd q j))) * (x2 (ix2 r (hd q j)) + x3 (ix2 r (hd q j)))) (Ideal.ofBits .f32 0x43000000#32) + Ideal.ofBits .f32 0x358637BD#32)
    * x5 (ix2 0 ⟨q.val % 128, Nat.mod_lt _ (by norm_num)⟩) * (x4 (ix2 r q) * sg (x4 (ix2 r q)))

theorem pay1_at (u v z : Vec Ideal S512x128 .f32) (r : Fin 512) (q : Fin 128) (U V Z : Fin 128 → EReal) (hu : ∀ j, u (ix2 r j) = U j) (hv : ∀ j, v (ix2 r j) = V j) (hz : ∀ j, z (ix2 r j) = Z j) : k0_pay1 u v x5 z (ix2 r q) =
    (U q + V q) * Ideal.rsqrt (Ideal.div (∑ j : Fin 128, (U j + V j) * (U j + V j)) (Ideal.ofBits .f32 0x43000000#32) + Ideal.ofBits .f32 0x358637BD#32)
      * x5 (ix2 0 q) * (Z q * sg (Z q)) := by
  unfold sg
  simp only [← zero_sub, ← hu, ← hv, ← hz]
  pointwise [k0_pay1]

/-- A head's columns. -/
theorem piece {o : ℕ} (inb : ∀ a, (![0, o] : Fin 2 → ℕ) a + (![512, 128] : Fin 2 → ℕ) a ≤ S512x512.size a) (ho : o % 128 = 0) (x : S512x128.Idx) :
    k0_pay1 (View.ld x2 (Rect.unit (s := S512x512) ![0, o] ![512, 128] inb)) (View.ld x3 (Rect.unit (s := S512x512) ![0, o] ![512, 128] inb)) x5 (View.ld x4 (Rect.unit (s := S512x512) ![0, o] ![512, 128] inb)) x =
      mbG x2 x3 x4 x5 ((Rect.unit (s := S512x512) ![0, o] ![512, 128] inb).emb x) :=
  piece_cols (m := 512) (n := 512) inb (mbG x2 x3 x4 x5) _ (fun r q => by
    have l (y : Vec Ideal S512x512 .f32) (j : Fin 128) := ld_cols (m := 512) (n := 512) inb y r j
    have hj (j : Fin 128) : hd ⟨o + q.val, colLt (m := 512) (n := 512) inb q⟩ j = ⟨o + j.val, colLt (m := 512) (n := 512) inb j⟩ := Fin.ext (by
      show (o + q.val) / 128 * 128 + j.val = o + j.val
      omega)
    have hq : (⟨(o + q.val) % 128, Nat.mod_lt _ (by norm_num)⟩ : Fin 128) = q := Fin.ext (by
      show (o + q.val) % 128 = q.val
      omega)
    refine (pay1_at x5 _ _ _ r q _ _ _ (l x2) (l x3) (l x4)).trans ?_
    unfold mbG
    rw [mk_ix]
    simp only [hj, hq]) x

theorem mb_canon (L : List (View.Piece (Elt Ideal) S512x512 .bf16)) (h : ∀ p ∈ L, ∀ x : p.1.shape.Idx, p.2 x = mbG x2 x3 x4 x5 (p.1.emb x)) (hc : ∀ y, ∃ p ∈ L, y ∈ p.1.set) :
    View.canon L = mbG x2 x3 x4 x5 := canon_eq _ _ h hc

/-- The four heads a point stores. -/
def cols : List (View.Piece (Elt Ideal) S512x512 .bf16) :=
  [⟨Rect.unit (s := S512x512) ![0, 384] ![512, 128] inb_S512x512_S512x128_0_384, k0_pay1 (View.ld x2 (Rect.unit (s := S512x512) ![0, 384] ![512, 128] inb_S512x512_S512x128_0_384)) (View.ld x3 (Rect.unit (s := S512x512) ![0, 384] ![512, 128] inb_S512x512_S512x128_0_384)) x5 (View.ld x4 (Rect.unit (s := S512x512) ![0, 384] ![512, 128] inb_S512x512_S512x128_0_384))⟩, ⟨Rect.unit (s := S512x512) ![0, 256] ![512, 128] inb_S512x512_S512x128_0_256, k0_pay1 (View.ld x2 (Rect.unit (s := S512x512) ![0, 256] ![512, 128] inb_S512x512_S512x128_0_256)) (View.ld x3 (Rect.unit (s := S512x512) ![0, 256] ![512, 128] inb_S512x512_S512x128_0_256)) x5 (View.ld x4 (Rect.unit (s := S512x512) ![0, 256] ![512, 128] inb_S512x512_S512x128_0_256))⟩, ⟨Rect.unit (s := S512x512) ![0, 128] ![512, 128] inb_S512x512_S512x128_0_128, k0_pay1 (View.ld x2 (Rect.unit (s := S512x512) ![0, 128] ![512, 128] inb_S512x512_S512x128_0_128)) (View.ld x3 (Rect.unit (s := S512x512) ![0, 128] ![512, 128] inb_S512x512_S512x128_0_128)) x5 (View.ld x4 (Rect.unit (s := S512x512) ![0, 128] ![512, 128] inb_S512x512_S512x128_0_128))⟩, ⟨Rect.unit (s := S512x512) ![0, 0] ![512, 128] inb_S512x512_S512x128_0_0, k0_pay1 (View.ld x2 (Rect.unit (s := S512x512) ![0, 0] ![512, 128] inb_S512x512_S512x128_0_0)) (View.ld x3 (Rect.unit (s := S512x512) ![0, 0] ![512, 128] inb_S512x512_S512x128_0_0)) x5 (View.ld x4 (Rect.unit (s := S512x512) ![0, 0] ![512, 128] inb_S512x512_S512x128_0_0))⟩]

theorem cols_cover (y : S512x512.Idx) : ∃ p ∈ cols x2 x3 x4 x5, y ∈ p.1.set :=
  View.cover_of_tiledL (cols x2 x3 x4 x5) ![512, 128] (by sl_kernel_rfl) y

theorem cols_mem : ∀ p ∈ cols x2 x3 x4 x5, ∀ x : p.1.shape.Idx, p.2 x = mbG x2 x3 x4 x5 (p.1.emb x) := by
  simp only [cols, List.forall_mem_cons, List.not_mem_nil, false_imp_iff, implies_true, and_true]
  exact ⟨piece x2 x3 x4 x5 _ (by norm_num), piece x2 x3 x4 x5 _ (by norm_num), piece x2 x3 x4 x5 _ (by norm_num), piece x2 x3 x4 x5 _ (by norm_num)⟩

theorem cols_canon : View.canon (cols x2 x3 x4 x5) = mbG x2 x3 x4 x5 := canon_eq _ _ (cols_mem x2 x3 x4 x5) (cols_cover x2 x3 x4 x5)
end

variable (c : Dev nD) (i : grid0.Coords) (a2 : Memref sig .tc .vmem S512x2048 .bf16) (g2 : a2.IsWhole) (a3 : Memref sig .tc .vmem S512x512 .bf16) (g3 : a3.IsWhole) (a4 : Memref sig .tc .vmem S512x512 .f32) (g4 : a4.IsWhole) (a5 : Memref sig .tc .vmem S512x512 .f32) (g5 : a5.IsWhole) (a6 : Memref sig .tc .vmem S512x512 .f32) (g6 : a6.IsWhole) (a7 : Memref sig .tc .vmem S1x128 .f32) (g7 : a7.IsWhole) (a8 : Memref sig .tc .vmem S512x512 .bf16) (g8 : a8.IsWhole) (a9 : Memref sig .tc .vmem S512x512 .bf16) (g9 : a9.IsWhole) (a10 : Memref sig .tc .vmem S2048x512 .bf16) (g10 : a10.IsWhole) (a11 : Memref sig .tc .vmem S2048x512 .bf16) (g11 : a11.IsWhole) (a12 : Memref sig .tc .vmem S2048x512 .bf16) (g12 : a12.IsWhole) (a13 : Memref sig .tc .vmem S2048x512 .bf16) (g13 : a13.IsWhole) (a14 : Memref sig .tc .vmem S512x512 .bf16) (g14 : a14.IsWhole) (a15 : Memref sig .tc .vmem S512x512 .bf16) (g15 : a15.IsWhole) (a16 : Memref sig .tc .vmem S512x512 .bf16) (g16 : a16.IsWhole) (a17 : Memref sig .tc .vmem S512x512 .bf16) (g17 : a17.IsWhole) (a18 : Memref sig .tc .vmem S512x512 .bf16) (g18 : a18.IsWhole) (a19 : Memref sig .tc .vmem S512x512 .bf16) (g19 : a19.IsWhole)
  (x0 : Vec Ideal S512x2048 .bf16) (x1 : Vec Ideal S512x512 .bf16) (x2 : Vec Ideal S512x512 .f32) (x3 : Vec Ideal S512x512 .f32) (x4 : Vec Ideal S512x512 .f32) (x5 : Vec Ideal S1x128 .f32) (x6 : Vec Ideal S512x512 .bf16) (x7 : Vec Ideal S512x512 .bf16) (x8 : Vec Ideal S2048x512 .bf16) (x9 : Vec Ideal S2048x512 .bf16) (x10 : Vec Ideal S2048x512 .bf16) (x11 : Vec Ideal S2048x512 .bf16) (x12 : Vec Ideal S512x512 .bf16) (x13 : Vec Ideal S512x512 .bf16) (x14 : Vec Ideal S512x512 .bf16) (x15 : Vec Ideal S512x512 .bf16) (xs : Vec Ideal S512x512 .bf16)

set_option maxHeartbeats 2000000 in
/-- A first point keeps the gated mixer. -/
theorem sout_A (hc0 : cond0_0 i) : sout0_A_0 c i a2 g2 a3 g3 a4 g4 a5 g5 a6 g6 a7 g7 a8 g8 a9 g9 a10 g10 a11 g11 a12 g12 a13 g13 a14 g14 a15 g15 a16 g16 a17 g17 a18 g18 a19 g19 hc0 x0 x1 x2 x3 x4 x5 x6 x7 x8 x9 x10 x11 x12 x13 x14 x15 = mbG x2 x3 x4 x5 := by
  unfold sout0_A_0
  rw [View.read_writes_eq_canon _ _ _ (scover0_A_0 c i a2 g2 a3 g3 a4 g4 a5 g5 a6 g6 a7 g7 a8 g8 a9 g9 a10 g10 a11 g11 a12 g12 a13 g13 a14 g14 a15 g15 a16 g16 a17 g17 a18 g18 a19 g19 hc0 x0 x1 x2 x3 x4 x5 x6 x7 x8 x9 x10 x11 x12 x13 x14 x15)]
  unfold kernelRun0_A
  dsimp only
  sl_unfold_words
  simp only [View.readAt_eq_ld, g4.read_unread, g5.read_unread, g6.read_unread, g7.read_unread]
  simp only [View.ld_unit_zero (S := S1x128) hz]
  exact cols_canon x2 x3 x4 x5

set_option maxHeartbeats 2000000 in
/-- A first point's result. -/
theorem out_A (hc0 : cond0_0 i) : out0_A_16 c i a2 g2 a3 g3 a4 g4 a5 g5 a6 g6 a7 g7 a8 g8 a9 g9 a10 g10 a11 g11 a12 g12 a13 g13 a14 g14 a15 g15 a16 g16 a17 g17 a18 g18 a19 g19 hc0 x0 x1 x2 x3 x4 x5 x6 x7 x8 x9 x10 x11 x12 x13 x14 x15 = outG x0 x1 (mbG x2 x3 x4 x5) x6 x7 x12 x13 x14 x15 x8 x9 x10 x11 := by
  unfold out0_A_16
  rw [View.read_writes_eq_canon _ _ _ (cover0_A_16 c i a2 g2 a3 g3 a4 g4 a5 g5 a6 g6 a7 g7 a8 g8 a9 g9 a10 g10 a11 g11 a12 g12 a13 g13 a14 g14 a15 g15 a16 g16 a17 g17 a18 g18 a19 g19 hc0 x0 x1 x2 x3 x4 x5 x6 x7 x8 x9 x10 x11 x12 x13 x14 x15)]
  unfold kernelRun0_A
  dsimp only
  sl_unfold_words
  rw [View.canon_cons_unit_zero (S := S512x512) hz]
  simp only [View.readAt_eq_ld, g2.read_unread, g3.read_unread, g4.read_unread, g5.read_unread, g6.read_unread, g7.read_unread, g8.read_unread, g9.read_unread, g10.read_unread, g11.read_unread, g12.read_unread, g13.read_unread, g14.read_unread, g15.read_unread, g16.read_unread, g17.read_unread]
  simp only [View.ld_unit_zero (S := S512x2048) hz, View.ld_unit_zero (S := S2048x512) hz, View.ld_unit_zero (S := S512x512) hz, View.ld_unit_zero (S := S1x128) hz]
  rw [← pay14_eq]
  refine congrArg (fun z => k0_pay14 x0 (k0_pay11 x0 x8 x1 x12) (k0_pay12 x0 x9) z (k0_pay13 x13) x10 x6 x14 x11 x7 x15) ?_
  refine (View.readCov_eq_canon_ld a19.view (cols x2 x3 x4 x5) (Rect.unit (s := S512x512) ![0, 0] S512x512.size inb_S512x512_S512x512_0_0) (cols_cover x2 x3 x4 x5)).trans ?_
  rw [View.ld_unit_zero (S := S512x512) hz]
  exact cols_canon x2 x3 x4 x5

set_option maxHeartbeats 2000000 in
/-- A later point's result. -/
theorem out_B (hc0 : ¬cond0_0 i) : out0_B_16 c i a2 g2 a3 g3 a4 g4 a5 g5 a6 g6 a7 g7 a8 g8 a9 g9 a10 g10 a11 g11 a12 g12 a13 g13 a14 g14 a15 g15 a16 g16 a17 g17 a18 g18 a19 g19 hc0 x0 x1 x2 x3 x4 x5 x6 x7 x8 x9 x10 x11 x12 x13 x14 x15 xs = outG x0 x1 xs x6 x7 x12 x13 x14 x15 x8 x9 x10 x11 := by
  unfold out0_B_16
  rw [View.read_writes_eq_canon _ _ _ (cover0_B_16 c i a2 g2 a3 g3 a4 g4 a5 g5 a6 g6 a7 g7 a8 g8 a9 g9 a10 g10 a11 g11 a12 g12 a13 g13 a14 g14 a15 g15 a16 g16 a17 g17 a18 g18 a19 g19 hc0 x0 x1 x2 x3 x4 x5 x6 x7 x8 x9 x10 x11 x12 x13 x14 x15 xs)]
  unfold kernelRun0_B
  dsimp only
  sl_unfold_words
  rw [View.canon_cons_unit_zero (S := S512x512) hz]
  simp only [View.readAt_eq_ld, g2.read_unread, g3.read_unread, g4.read_unread, g5.read_unread, g6.read_unread, g7.read_unread, g8.read_unread, g9.read_unread, g10.read_unread, g11.read_unread, g12.read_unread, g13.read_unread, g14.read_unread, g15.read_unread, g16.read_unread, g17.read_unread, g19.read_unread]
  simp only [View.ld_unit_zero (S := S512x2048) hz, View.ld_unit_zero (S := S2048x512) hz, View.ld_unit_zero (S := S512x512) hz]
  exact pay14_eq x0 x1 xs x6 x7 x12 x13 x14 x15 x8 x9 x10 x11

end Cert.MergeVal

end
-- ==== Proof.MergeValue.lean ====
/- The merge's result array, entry by entry. -/
module

public import proofs.«01_k».proof.Proof.MergePoint

@[expose] public section

set_option maxRecDepth 16384

noncomputable section

namespace Cert.MergeVal

open Idealize.ShloMosaic Idealize.ShloMosaic.TcCoe Idealize.ShloMosaic.Tactic Idealize.SL.Sem Cert.MergeIdeal Cert.MergeIdeal.Gen Cert.Cols Finset

section
variable (H A F B Z C D G P0 P1 P2 P3 : ℕ → ℕ → EReal) (w : ℕ → EReal)

/-- The delta rule's output at an entry: the two directions added, normed by head, gated. -/
def mb (R K : ℕ) : EReal :=
  (F R K + B R K) * Ideal.rsqrt (Ideal.div (∑ j : Fin 128, (F R (K / 128 * 128 + j.val) + B R (K / 128 * 128 + j.val)) * (F R (K / 128 * 128 + j.val) + B R (K / 128 * 128 + j.val))) (Ideal.ofBits .f32 0x43000000#32) + Ideal.ofBits .f32 0x358637BD#32)
    * w (K % 128) * (Z R (4096 + K) * sg (Z R (4096 + K)))

/-- A branch at an entry: its gate, whose columns start at `o`, times its projection. -/
def br (U P : ℕ → ℕ → EReal) (o R Q : ℕ) : EReal := sg (∑ K : Fin 2048, H R K.val * G K.val (o + Q)) * ∑ k : Fin 512, U R k.val * P k.val Q

/-- The result at an entry. -/
def mrg (R Q : ℕ) : EReal := br H G A P0 4624 R Q + br H G (mb F B Z w) P1 6672 R Q + br H G C P2 8720 R Q + br H G D P3 10768 R Q

/-- The result array. -/
def arrG : FVec Ideal (⟨2, ![32768, 2048]⟩ : Shape) .bf16 := fun y => mrg H A F B Z C D G P0 P1 P2 P3 w (y 0).val (y 1).val
end

section
variable {H A F B Z C D G P0 P1 P2 P3 : ℕ → ℕ → EReal} {w : ℕ → EReal} {x0 : Vec Ideal S512x2048 .bf16} {x1 xs x6 x7 x12 x13 x14 x15 : Vec Ideal S512x512 .bf16} {x8 x9 x10 x11 : Vec Ideal S2048x512 .bf16} {x2 x3 x4 : Vec Ideal S512x512 .f32} {x5 : Vec Ideal S1x128 .f32} (i n : ℕ)

theorem mbG_mb (h2 : ∀ r q, x2 (ix2 r q) = F (512 * i + r.val) q.val) (h3 : ∀ r q, x3 (ix2 r q) = B (512 * i + r.val) q.val) (h4 : ∀ r q, x4 (ix2 r q) = Z (512 * i + r.val) (4096 + q.val)) (h5 : ∀ q, x5 (ix2 0 q) = w q.val) :
    mbG x2 x3 x4 x5 = mk fun r q => mb F B Z w (512 * i + r.val) q.val := by
  unfold mbG
  simp only [h2, h3, h4, h5]
  rfl

theorem brn_br {U P : ℕ → ℕ → EReal} {y : Vec Ideal S2048x512 .bf16} {u p : Vec Ideal S512x512 .bf16} (o : ℕ) (h0 : ∀ r q, x0 (ix2 r q) = H (512 * i + r.val) q.val) (hy : ∀ r q, y (ix2 r q) = G r.val (o + (n + q.val)))
    (hu : ∀ r q, u (ix2 r q) = U (512 * i + r.val) q.val) (hp : ∀ r q, p (ix2 r q) = P r.val (n + q.val)) (r q : Fin 512) : brn x0 y u p r q = br H G U P o (512 * i + r.val) (n + q.val) := by
  unfold brn br
  simp only [h0, hy, hu, hp]

theorem outG_mrg (h0 : ∀ r q, x0 (ix2 r q) = H (512 * i + r.val) q.val) (h1 : ∀ r q, x1 (ix2 r q) = A (512 * i + r.val) q.val) (h6 : ∀ r q, x6 (ix2 r q) = C (512 * i + r.val) q.val) (h7 : ∀ r q, x7 (ix2 r q) = D (512 * i + r.val) q.val)
    (h8 : ∀ r q, x8 (ix2 r q) = G r.val (4624 + (n + q.val))) (h9 : ∀ r q, x9 (ix2 r q) = G r.val (6672 + (n + q.val))) (h10 : ∀ r q, x10 (ix2 r q) = G r.val (8720 + (n + q.val))) (h11 : ∀ r q, x11 (ix2 r q) = G r.val (10768 + (n + q.val)))
    (h12 : ∀ r q, x12 (ix2 r q) = P0 r.val (n + q.val)) (h13 : ∀ r q, x13 (ix2 r q) = P1 r.val (n + q.val)) (h14 : ∀ r q, x14 (ix2 r q) = P2 r.val (n + q.val)) (h15 : ∀ r q, x15 (ix2 r q) = P3 r.val (n + q.val))
    (hs : xs = mk fun r q => mb F B Z w (512 * i + r.val) q.val) :
    outG x0 x1 xs x6 x7 x12 x13 x14 x15 x8 x9 x10 x11 = mk fun r q => mrg H A F B Z C D G P0 P1 P2 P3 w (512 * i + r.val) (n + q.val) := by
  refine ext2 fun r q => ?_
  unfold outG mrg
  rw [mk_ix, mk_ix, brn_br i n 4624 h0 h8 h1 h12, brn_br i n 6672 h0 h9 (U := mb F B Z w) (fun r q => by rw [hs, mk_ix]) h13, brn_br i n 8720 h0 h10 h6 h14, brn_br i n 10768 h0 h11 h7 h15]
end

variable (m : (ℓ : Loc nD τ sig) → Buf (Elt Ideal) ℓ)

theorem ix_0 : ∀ t : Fin cfg0.N, win0_0.index t = ![t.val / 4, 0] := (by decide +kernel : ∀ t : Fin grid0.N, win0_0.index t = ![t.val / 4, 0])
theorem ix_1 : ∀ t : Fin cfg0.N, win0_1.index t = ![t.val / 4, 0] := (by decide +kernel : ∀ t : Fin grid0.N, win0_1.index t = ![t.val / 4, 0])
theorem ix_2 : ∀ t : Fin cfg0.N, win0_2.index t = ![t.val / 4, 0] := (by decide +kernel : ∀ t : Fin grid0.N, win0_2.index t = ![t.val / 4, 0])
theorem ix_3 : ∀ t : Fin cfg0.N, win0_3.index t = ![t.val / 4, 0] := (by decide +kernel : ∀ t : Fin grid0.N, win0_3.index t = ![t.val / 4, 0])
theorem ix_4 : ∀ t : Fin cfg0.N, win0_4.index t = ![t.val / 4, 8] := (by decide +kernel : ∀ t : Fin grid0.N, win0_4.index t = ![t.val / 4, 8])
theorem ix_5 : ∀ t : Fin cfg0.N, win0_5.index t = ![0, 0] := (by decide +kernel : ∀ t : Fin grid0.N, win0_5.index t = ![0, 0])
theorem ix_6 : ∀ t : Fin cfg0.N, win0_6.index t = ![t.val / 4, 0] := (by decide +kernel : ∀ t : Fin grid0.N, win0_6.index t = ![t.val / 4, 0])
theorem ix_7 : ∀ t : Fin cfg0.N, win0_7.index t = ![t.val / 4, 0] := (by decide +kernel : ∀ t : Fin grid0.N, win0_7.index t = ![t.val / 4, 0])
theorem ix_8 : ∀ t : Fin cfg0.N, win0_8.index t = ![0, t.val % 4] := (by decide +kernel : ∀ t : Fin grid0.N, win0_8.index t = ![0, t.val % 4])
theorem ix_9 : ∀ t : Fin cfg0.N, win0_9.index t = ![0, 4 + t.val % 4] := (by decide +kernel : ∀ t : Fin grid0.N, win0_9.index t = ![0, 4 + t.val % 4])
theorem ix_10 : ∀ t : Fin cfg0.N, win0_10.index t = ![0, 8 + t.val % 4] := (by decide +kernel : ∀ t : Fin grid0.N, win0_10.index t = ![0, 8 + t.val % 4])
theorem ix_11 : ∀ t : Fin cfg0.N, win0_11.index t = ![0, 12 + t.val % 4] := (by decide +kernel : ∀ t : Fin grid0.N, win0_11.index t = ![0, 12 + t.val % 4])
theorem ix_12 : ∀ t : Fin cfg0.N, win0_12.index t = ![0, t.val % 4] := (by decide +kernel : ∀ t : Fin grid0.N, win0_12.index t = ![0, t.val % 4])
theorem ix_13 : ∀ t : Fin cfg0.N, win0_13.index t = ![0, t.val % 4] := (by decide +kernel : ∀ t : Fin grid0.N, win0_13.index t = ![0, t.val % 4])
theorem ix_14 : ∀ t : Fin cfg0.N, win0_14.index t = ![0, t.val % 4] := (by decide +kernel : ∀ t : Fin grid0.N, win0_14.index t = ![0, t.val % 4])
theorem ix_15 : ∀ t : Fin cfg0.N, win0_15.index t = ![0, t.val % 4] := (by decide +kernel : ∀ t : Fin grid0.N, win0_15.index t = ![0, t.val % 4])
theorem ix_16 : ∀ t : Fin cfg0.N, win0_16.index t = ![t.val / 4, t.val % 4] := (by decide +kernel : ∀ t : Fin grid0.N, win0_16.index t = ![t.val / 4, t.val % 4])

variable (c : Dev nD)

/-- The layer input, normed. -/
def aH : ℕ → ℕ → EReal := en (n := 32768) (k := 2048) (m ((c.tc : Thread nD τ).loc main_arg0))
/-- The attention mixer. -/
def aA : ℕ → ℕ → EReal := en (n := 32768) (k := 512) (m ((c.tc : Thread nD τ).loc main_arg1))
/-- The delta rule read forwards. -/
def aF : ℕ → ℕ → EReal := en (n := 32768) (k := 512) (m ((c.tc : Thread nD τ).loc main_arg2))
/-- The delta rule read backwards. -/
def aB : ℕ → ℕ → EReal := en (n := 32768) (k := 512) (m ((c.tc : Thread nD τ).loc main_arg3))
/-- The projected input. -/
def aZ : ℕ → ℕ → EReal := en (n := 32768) (k := 4736) (m ((c.tc : Thread nD τ).loc main_arg4))
/-- The convolution mixer. -/
def aC : ℕ → ℕ → EReal := en (n := 32768) (k := 512) (m ((c.tc : Thread nD τ).loc main_arg6))
/-- The pooled mixer. -/
def aD : ℕ → ℕ → EReal := en (n := 32768) (k := 512) (m ((c.tc : Thread nD τ).loc main_arg7))
/-- The input weight, whose last columns are the gates'. -/
def aG : ℕ → ℕ → EReal := en (n := 2048) (k := 12816) (m ((c.tc : Thread nD τ).loc main_arg8))
/-- The attention mixer's projection. -/
def aP0 : ℕ → ℕ → EReal := en (n := 512) (k := 2048) (m ((c.tc : Thread nD τ).loc main_arg9))
/-- The delta rule's projection. -/
def aP1 : ℕ → ℕ → EReal := en (n := 512) (k := 2048) (m ((c.tc : Thread nD τ).loc main_arg10))
/-- The convolution mixer's projection. -/
def aP2 : ℕ → ℕ → EReal := en (n := 512) (k := 2048) (m ((c.tc : Thread nD τ).loc main_arg11))
/-- The pooled mixer's projection. -/
def aP3 : ℕ → ℕ → EReal := en (n := 512) (k := 2048) (m ((c.tc : Thread nD τ).loc main_arg12))
/-- The head norm's weight. -/
def aw : ℕ → EReal := en1 (n := 128) (m ((c.tc : Thread nD τ).loc main_arg5))

/-- Window 0 at a point. -/
theorem blk0 (t : Fin cfg0.N) (i : Fin 512) (j : Fin 2048) : iblk m c 0 t (ix2 i j) = aH m c (512 * (t.val / 4) + i.val) j.val := by
  blk_simp [iblk]
  rw [V_main_arg0 m c]
  refine (en_eq (n := 32768) (k := 2048) _ _).trans ?_
  unfold aH
  congr 1
  · blk_simp [ix_0]
    simp [ix2, Nat.mul_comm]
  · blk_simp [ix_0]
/-- Window 1 at a point. -/
theorem blk1 (t : Fin cfg0.N) (i : Fin 512) (j : Fin 512) : iblk m c 1 t (ix2 i j) = aA m c (512 * (t.val / 4) + i.val) j.val := by
  blk_simp [iblk]
  rw [V_main_arg1 m c]
  refine (en_eq (n := 32768) (k := 512) _ _).trans ?_
  unfold aA
  congr 1
  · blk_simp [ix_1]
    simp [ix2, Nat.mul_comm]
  · blk_simp [ix_1]
/-- Window 2 at a point. -/
theorem blk2 (t : Fin cfg0.N) (i : Fin 512) (j : Fin 512) : iblk m c 2 t (ix2 i j) = aF m c (512 * (t.val / 4) + i.val) j.val := by
  blk_simp [iblk]
  rw [V_main_arg2 m c]
  refine (en_eq (n := 32768) (k := 512) _ _).trans ?_
  unfold aF
  congr 1
  · blk_simp [ix_2]
    simp [ix2, Nat.mul_comm]
  · blk_simp [ix_2]
/-- Window 3 at a point. -/
theorem blk3 (t : Fin cfg0.N) (i : Fin 512) (j : Fin 512) : iblk m c 3 t (ix2 i j) = aB m c (512 * (t.val / 4) + i.val) j.val := by
  blk_simp [iblk]
  rw [V_main_arg3 m c]
  refine (en_eq (n := 32768) (k := 512) _ _).trans ?_
  unfold aB
  congr 1
  · blk_simp [ix_3]
    simp [ix2, Nat.mul_comm]
  · blk_simp [ix_3]
/-- Window 6 at a point. -/
theorem blk6 (t : Fin cfg0.N) (i : Fin 512) (j : Fin 512) : iblk m c 6 t (ix2 i j) = aC m c (512 * (t.val / 4) + i.val) j.val := by
  blk_simp [iblk]
  rw [V_main_arg6 m c]
  refine (en_eq (n := 32768) (k := 512) _ _).trans ?_
  unfold aC
  congr 1
  · blk_simp [ix_6]
    simp [ix2, Nat.mul_comm]
  · blk_simp [ix_6]
/-- Window 7 at a point. -/
theorem blk7 (t : Fin cfg0.N) (i : Fin 512) (j : Fin 512) : iblk m c 7 t (ix2 i j) = aD m c (512 * (t.val / 4) + i.val) j.val := by
  blk_simp [iblk]
  rw [V_main_arg7 m c]
  refine (en_eq (n := 32768) (k := 512) _ _).trans ?_
  unfold aD
  congr 1
  · blk_simp [ix_7]
    simp [ix2, Nat.mul_comm]
  · blk_simp [ix_7]
/-- Window 4 at a point. -/
theorem blk4 (t : Fin cfg0.N) (i : Fin 512) (j : Fin 512) : X0_4 m c t (ix2 i j) = aZ m c (512 * (t.val / 4) + i.val) (4096 + j.val) := by
  unfold X0_4 Pipeline.Window.fill
  rw [dif_pos (moved0_4 t (ix2 i j))]
  blk_simp [iblk]
  rw [V_main_arg4 m c]
  refine (en_eq (n := 32768) (k := 4736) _ _).trans ?_
  unfold aZ
  congr 1
  · blk_simp [ix_4]
    simp [ix2, Nat.mul_comm]
  · blk_simp [ix_4]
/-- Window 5 at a point. -/
theorem blk5 (t : Fin cfg0.N) (j : Fin 128) : iblk m c 5 t (ix2 0 j) = aw m c j.val := by
  blk_simp [iblk]
  entry_read
  refine (row_cast (φ := .f32) (n := 128) (m ((c.tc : Thread nD τ).loc main_arg5)) _ _).trans ?_
  unfold aw
  congr 1
  show (((win0_5.blk t).view.emb (ix2 0 j)) 1).val = _
  blk_simp [ix_5]
/-- Window 8 at a point. -/
theorem blk8 (t : Fin cfg0.N) (i : Fin 2048) (j : Fin 512) : iblk m c 8 t (ix2 i j) = aG m c i.val (4624 + (512 * (t.val % 4) + j.val)) := by
  blk_simp [iblk]
  entry_read
  refine (en_eq (n := 2048) (k := 12816) (m ((c.tc : Thread nD τ).loc main_arg8)) _).trans ?_
  unfold aG
  congr 1
  · blk_simp [ix_8]
    show 0 * 2048 + i.val = i.val
    omega
  · blk_simp [ix_8]
    simp [ix2]
    omega
/-- Window 9 at a point. -/
theorem blk9 (t : Fin cfg0.N) (i : Fin 2048) (j : Fin 512) : iblk m c 9 t (ix2 i j) = aG m c i.val (6672 + (512 * (t.val % 4) + j.val)) := by
  blk_simp [iblk]
  entry_read
  refine (en_eq (n := 2048) (k := 12816) (m ((c.tc : Thread nD τ).loc main_arg8)) _).trans ?_
  unfold aG
  congr 1
  · blk_simp [ix_9]
    show 0 * 2048 + i.val = i.val
    omega
  · blk_simp [ix_9]
    simp [ix2]
    omega
/-- Window 10 at a point. -/
theorem blk10 (t : Fin cfg0.N) (i : Fin 2048) (j : Fin 512) : iblk m c 10 t (ix2 i j) = aG m c i.val (8720 + (512 * (t.val % 4) + j.val)) := by
  blk_simp [iblk]
  entry_read
  refine (en_eq (n := 2048) (k := 12816) (m ((c.tc : Thread nD τ).loc main_arg8)) _).trans ?_
  unfold aG
  congr 1
  · blk_simp [ix_10]
    show 0 * 2048 + i.val = i.val
    omega
  · blk_simp [ix_10]
    simp [ix2]
    omega
/-- Window 11 at a point. -/
theorem blk11 (t : Fin cfg0.N) (i : Fin 2048) (j : Fin 512) : iblk m c 11 t (ix2 i j) = aG m c i.val (10768 + (512 * (t.val % 4) + j.val)) := by
  blk_simp [iblk]
  entry_read
  refine (en_eq (n := 2048) (k := 12816) (m ((c.tc : Thread nD τ).loc main_arg8)) _).trans ?_
  unfold aG
  congr 1
  · blk_simp [ix_11]
    show 0 * 2048 + i.val = i.val
    omega
  · blk_simp [ix_11]
    simp [ix2]
    omega
/-- Window 12 at a point. -/
theorem blk12 (t : Fin cfg0.N) (i : Fin 512) (j : Fin 512) : iblk m c 12 t (ix2 i j) = aP0 m c i.val (512 * (t.val % 4) + j.val) := by
  blk_simp [iblk]
  entry_read
  refine (en_eq (n := 512) (k := 2048) (m ((c.tc : Thread nD τ).loc main_arg9)) _).trans ?_
  unfold aP0
  congr 1
  · show (((win0_12.blk t).view.emb (ix2 i j)) 0).val = _
    blk_simp [ix_12]
  · show (((win0_12.blk t).view.emb (ix2 i j)) 1).val = _
    blk_simp [ix_12]
    simp [ix2, Nat.mul_comm]
/-- Window 13 at a point. -/
theorem blk13 (t : Fin cfg0.N) (i : Fin 512) (j : Fin 512) : iblk m c 13 t (ix2 i j) = aP1 m c i.val (512 * (t.val % 4) + j.val) := by
  blk_simp [iblk]
  entry_read
  refine (en_eq (n := 512) (k := 2048) (m ((c.tc : Thread nD τ).loc main_arg10)) _).trans ?_
  unfold aP1
  congr 1
  · show (((win0_13.blk t).view.emb (ix2 i j)) 0).val = _
    blk_simp [ix_13]
  · show (((win0_13.blk t).view.emb (ix2 i j)) 1).val = _
    blk_simp [ix_13]
    simp [ix2, Nat.mul_comm]
/-- Window 14 at a point. -/
theorem blk14 (t : Fin cfg0.N) (i : Fin 512) (j : Fin 512) : iblk m c 14 t (ix2 i j) = aP2 m c i.val (512 * (t.val % 4) + j.val) := by
  blk_simp [iblk]
  entry_read
  refine (en_eq (n := 512) (k := 2048) (m ((c.tc : Thread nD τ).loc main_arg11)) _).trans ?_
  unfold aP2
  congr 1
  · show (((win0_14.blk t).view.emb (ix2 i j)) 0).val = _
    blk_simp [ix_14]
  · show (((win0_14.blk t).view.emb (ix2 i j)) 1).val = _
    blk_simp [ix_14]
    simp [ix2, Nat.mul_comm]
/-- Window 15 at a point. -/
theorem blk15 (t : Fin cfg0.N) (i : Fin 512) (j : Fin 512) : iblk m c 15 t (ix2 i j) = aP3 m c i.val (512 * (t.val % 4) + j.val) := by
  blk_simp [iblk]
  entry_read
  refine (en_eq (n := 512) (k := 2048) (m ((c.tc : Thread nD τ).loc main_arg12)) _).trans ?_
  unfold aP3
  congr 1
  · show (((win0_15.blk t).view.emb (ix2 i j)) 0).val = _
    blk_simp [ix_15]
  · show (((win0_15.blk t).view.emb (ix2 i j)) 1).val = _
    blk_simp [ix_15]
    simp [ix2, Nat.mul_comm]

/-- What the scratch holds after a point: the gated mixer of the point's rows. -/
theorem scr : ∀ (n : ℕ) (hn : n < cfg0.N), (outsAt0 m c n hn).2 = mk fun r q => mb (aF m c) (aB m c) (aZ m c) (aw m c) (512 * (n / 4) + r.val) q.val := by
  intro n
  induction n using Nat.strong_induction_on with
  | _ n ih =>
  intro hn
  by_cases h0 : n % 4 = 0
  · refine (congrArg Prod.snd (outsAt0_A m c ⟨n, hn⟩ h0)).trans ?_
    dsimp only
    rw [sout_A]
    exact mbG_mb (n / 4) (blk2 m c ⟨n, hn⟩) (blk3 m c ⟨n, hn⟩) (blk4 m c ⟨n, hn⟩) (blk5 m c ⟨n, hn⟩)
  · refine (congrArg Prod.snd (outsAt0_B m c ⟨n, hn⟩ h0)).trans ?_
    have hp := ih (n - 1) (by omega) (by omega)
    rw [show (n - 1) / 4 = n / 4 by omega] at hp
    exact hp

/-- What a point leaves in its result block. -/
theorem outs (n : ℕ) (hn : n < cfg0.N) : (outsAt0 m c n hn).1 =
    mk fun r q => mrg (aH m c) (aA m c) (aF m c) (aB m c) (aZ m c) (aC m c) (aD m c) (aG m c) (aP0 m c) (aP1 m c) (aP2 m c) (aP3 m c) (aw m c) (512 * (n / 4) + r.val) (512 * (n % 4) + q.val) := by
  have hm (xs : Vec Ideal S512x512 .bf16) (hs : xs = mk fun r q => mb (aF m c) (aB m c) (aZ m c) (aw m c) (512 * (n / 4) + r.val) q.val) :=
    outG_mrg (n / 4) (512 * (n % 4)) (blk0 m c ⟨n, hn⟩) (blk1 m c ⟨n, hn⟩) (blk6 m c ⟨n, hn⟩) (blk7 m c ⟨n, hn⟩) (blk8 m c ⟨n, hn⟩) (blk9 m c ⟨n, hn⟩) (blk10 m c ⟨n, hn⟩) (blk11 m c ⟨n, hn⟩) (blk12 m c ⟨n, hn⟩) (blk13 m c ⟨n, hn⟩) (blk14 m c ⟨n, hn⟩) (blk15 m c ⟨n, hn⟩) hs
  by_cases h0 : n % 4 = 0
  · refine (congrArg Prod.fst (outsAt0_A m c ⟨n, hn⟩ h0)).trans ?_
    dsimp only
    rw [out_A]
    refine hm _ ?_
    exact mbG_mb (n / 4) (blk2 m c ⟨n, hn⟩) (blk3 m c ⟨n, hn⟩) (blk4 m c ⟨n, hn⟩) (blk5 m c ⟨n, hn⟩)
  · refine (congrArg Prod.fst (outsAt0_B m c ⟨n, hn⟩ h0)).trans ?_
    dsimp only
    rw [out_B]
    refine hm _ ?_
    have hp := scr m c (n - 1) (by omega)
    rw [show (n - 1) / 4 = n / 4 by omega] at hp
    exact hp

/-- The result. -/
theorem arr16 : (dats m 0 c).arrAt 16 cfg0.N = arrG (aH m c) (aA m c) (aF m c) (aB m c) (aZ m c) (aC m c) (aD m c) (aG m c) (aP0 m c) (aP1 m c) (aP2 m c) (aP3 m c) (aw m c) := by
  refine (dats m 0 c).arrAt_eq_of_covers 16 _ (by decide +kernel) fun t hf y => ?_
  have e0 : ((((cfg0.win 16).blk t).view.emb y) 0).val = 512 * (t.val / 4) + (y 0).val := by
    blk_simp [ix_16]
    simp [Nat.mul_comm]
  have e1 : ((((cfg0.win 16).blk t).view.emb y) 1).val = 512 * (t.val % 4) + (y 1).val := by
    blk_simp [ix_16]
    simp [Nat.mul_comm]
  unfold arrG
  simp only [e0, e1]
  blk_simp
  rw [after0_16, outs m c t.val t.isLt]
  rfl

end Cert.MergeVal

end
-- ==== Proof.MergeRef.lean ====
/- The merge's reference, entry by entry, and the two equal. -/
module

public import proofs.«01_k».proof.Proof.MergeValue
public import proofs.«01_k».proof.Proof.Gen.MergeRefIdeal.Run
public import proofs.«01_k».proof.Defs
public import Idealize.ShloMosaic.Lib.Quiescent
public import Idealize.ShloMosaic.Lib.IdealHost

@[expose] public section

set_option maxRecDepth 16384

noncomputable section

namespace Cert.MergeVal

open Idealize.ShloMosaic Idealize.ShloMosaic.Tactic Idealize.SL.Sem Cert.Cols Finset

section
open Cert.MergeRefIdeal Cert.MergeRefIdeal.Gen

/-- A matrix's columns split into heads, at an entry. -/
theorem split_at {φ : FTy} (x : FVec Ideal S32768x512 φ) (r : Fin 32768) (h : Fin 4) (q : Fin 128) :
    shapeCast S32768x4x128 x shapeCasts_S32768x512_S32768x4x128 (ix3 r h q) = en x r.val (h.val * 128 + q.val) := by
  rw [shapeCast_apply x shapeCasts_S32768x512_S32768x4x128 (ix3 r h q) (ix2 r ⟨h.val * 128 + q.val, by omega⟩) (by
    simp only [Shape.rowMajor_val_two, Shape.rowMajor_val_three]
    show r.val * 512 + (h.val * 128 + q.val) = (r.val * 4 + h.val) * 128 + q.val
    omega)]
  exact en_eq x _

/-- Heads joined back, at an entry. -/
theorem join_at {φ : FTy} (x : FVec Ideal S32768x4x128 φ) (r : Fin 32768) (k : Fin 512) :
    shapeCast S32768x512 x shapeCasts_S32768x4x128_S32768x512 (ix2 r k) = x (ix3 r ⟨k.val / 128, by omega⟩ ⟨k.val % 128, Nat.mod_lt _ (by norm_num)⟩) := by
  refine shapeCast_apply x shapeCasts_S32768x4x128_S32768x512 (ix2 r k) _ (by
    simp only [Shape.rowMajor_val_two, Shape.rowMajor_val_three]
    show (r.val * 4 + k.val / 128) * 128 + k.val % 128 = r.val * 512 + k.val
    omega)

section
variable (f b : FVec Ideal S32768x512 .f32) (p : FVec Ideal S32768x4736 .f32) (w : FVec Ideal S128 .f32)

/-- The two directions added, by head. -/
def refO : FVec Ideal S32768x4x128 .f32 := shapeCast S32768x4x128 (addf f b) shapeCasts_S32768x512_S32768x4x128

/-- The gate's columns, by head. -/
def refZ : FVec Ideal S32768x4x128 .f32 := shapeCast S32768x4x128 (extractStridedSlice S32768x512 ![0, 4096] p slices_S32768x4736_S32768x512_0_4096) shapeCasts_S32768x512_S32768x4x128

/-- The gated mixer, by head. -/
def refM (o z : FVec Ideal S32768x4x128 .f32) : FVec Ideal S32768x4x128 .f32 :=
  mulf (mulf (mulf o (broadcastInDim S32768x4x128 ![0,1,2] bcast_S32768x4x1_S32768x4x128_0_1_2 (Host.rsqrt (addf (Host.divf (broadcastInDim S32768x4x1 ![0,1] bcast_S32768x4_S32768x4x1_0_1 (Host.reduceAdd (mulf o o) (constant S_ .f32 0x00000000#32) reducesTo_S32768x4x128_S32768x4_d2 h_S_)) (broadcastInDim S32768x4x1 ![] bcast_S_S32768x4x1 (constant S_ .f32 0x43000000#32))) (broadcastInDim S32768x4x1 ![] bcast_S_S32768x4x1 (constant S_ .f32 0x358637BD#32)))))) (broadcastInDim S32768x4x128 ![0,1,2] bcast_S1x1x128_S32768x4x128_0_1_2 (broadcastInDim S1x1x128 ![2] bcast_S128_S1x1x128_2 w)))
    (mulf z (Host.divf (broadcastInDim S32768x4x128 ![] bcast_S_S32768x4x128 (constant S_ .f32 0x3F800000#32)) (addf (broadcastInDim S32768x4x128 ![] bcast_S_S32768x4x128 (constant S_ .f32 0x3F800000#32)) (Host.exp (Host.negf z)))))

theorem refM_at (o z : FVec Ideal S32768x4x128 .f32) (r : Fin 32768) (h : Fin 4) (q : Fin 128) : refM w o z (ix3 r h q) =
    o (ix3 r h q) * Ideal.rsqrt (Ideal.div (∑ j : Fin 128, o (ix3 r h j) * o (ix3 r h j)) (Ideal.ofBits .f32 0x43000000#32) + Ideal.ofBits .f32 0x358637BD#32)
      * w (ix1 q) * (z (ix3 r h q) * sg (z (ix3 r h q))) := by
  unfold sg
  pointwise [refM]

theorem refO_at (r : Fin 32768) (h : Fin 4) (q : Fin 128) : refO f b (ix3 r h q) = en f r.val (h.val * 128 + q.val) + en b r.val (h.val * 128 + q.val) := by
  unfold refO
  rw [split_at]
  rw [show h.val * 128 + q.val = (⟨h.val * 128 + q.val, by omega⟩ : Fin 512).val from rfl]
  exact (en_eq _ (ix2 r ⟨h.val * 128 + q.val, by omega⟩)).symm.trans (congr (congrArg HAdd.hAdd (en_eq f (ix2 r ⟨h.val * 128 + q.val, by omega⟩))) (en_eq b (ix2 r ⟨h.val * 128 + q.val, by omega⟩)))

theorem slice_at (r : Fin 32768) (k : Fin 512) : extractStridedSlice S32768x512 ![0, 4096] p slices_S32768x4736_S32768x512_0_4096 (ix2 r k) = p (ix2 r ⟨4096 + k.val, by omega⟩) := by
  pointwise

theorem refZ_at (r : Fin 32768) (h : Fin 4) (q : Fin 128) : refZ p (ix3 r h q) = en p r.val (4096 + (h.val * 128 + q.val)) := by
  unfold refZ
  rw [split_at]
  exact (en_eq _ (ix2 r ⟨h.val * 128 + q.val, by omega⟩)).symm.trans ((slice_at p r _).trans (en_eq p _))

/-- The gated mixer. -/
def refB : FVec Ideal S32768x512 .f32 := shapeCast S32768x512 (refM w (refO f b) (refZ p)) shapeCasts_S32768x4x128_S32768x512

theorem refB_at (r : Fin 32768) (k : Fin 512) : refB f b p w (ix2 r k) = mb (en f) (en b) (en p) (en1 w) r.val k.val := by
  unfold refB
  rw [join_at, refM_at]
  simp only [refO_at, refZ_at]
  unfold mb
  have hk : k.val / 128 * 128 + k.val % 128 = k.val := by omega
  simp only [hk]
  rw [en1_eq w (ix1 ⟨k.val % 128, Nat.mod_lt _ (by norm_num)⟩)]
  rfl
end

section
variable (h : FVec Ideal S32768x2048 .bf16) (g : FVec Ideal S2048x12816 .f32)

/-- The four gates, side by side. -/
def refG : FVec Ideal S32768x8192 .f32 :=
  Host.divf (broadcastInDim S32768x8192 ![] bcast_S_S32768x8192 (constant S_ .f32 0x3F800000#32)) (addf (broadcastInDim S32768x8192 ![] bcast_S_S32768x8192 (constant S_ .f32 0x3F800000#32)) (Host.exp (Host.negf (Host.dotGeneral dot_S32768x2048_S2048x8192_S32768x8192_1_0_0_1_n_n none (extf .f32 h bitsLt_bf16_f32) (extractStridedSlice S2048x8192 ![0, 4624] g slices_S2048x12816_S2048x8192_0_4624)))))

theorem refG_at (r : Fin 32768) (q : Fin 8192) : refG h g (ix2 r q) = sg (∑ K : Fin 2048, en h r.val K.val * en g K.val (4624 + q.val)) := by
  have e0 (i : Fin 32768) (j : Fin 2048) : en h i.val j.val = h (ix2 i j) := (en_eq h (ix2 i j)).symm
  have e1 (i : Fin 2048) (j : Fin 8192) : en g i.val (4624 + j.val) = g (ix2 i ⟨4624 + j.val, by omega⟩) := (en_eq g (ix2 i ⟨4624 + j.val, by omega⟩)).symm
  unfold sg
  simp only [e0, e1]
  pointwise [refG]

/-- A gate: a quarter of the columns. -/
theorem quarter_at (x : FVec Ideal S32768x8192 .f32) (b : Fin 4) (hs : S32768x4x2048.Slices ![0, b.val, 0] S32768x1x2048) (r : Fin 32768) (q : Fin 2048) :
    shapeCast S32768x2048 (extractStridedSlice S32768x1x2048 ![0, b.val, 0] (shapeCast S32768x4x2048 x shapeCasts_S32768x8192_S32768x4x2048) hs) shapeCasts_S32768x1x2048_S32768x2048 (ix2 r q) =
      x (ix2 r ⟨b.val * 2048 + q.val, by omega⟩) := by
  rw [shapeCast_apply _ shapeCasts_S32768x1x2048_S32768x2048 (ix2 r q) (ix3 r 0 q) (by
    simp only [Shape.rowMajor_val_two, Shape.rowMajor_val_three]
    show (r.val * 1 + 0) * 2048 + q.val = r.val * 2048 + q.val
    omega)]
  refine Eq.trans (b := shapeCast S32768x4x2048 x shapeCasts_S32768x8192_S32768x4x2048 (ix3 r b q)) ?_ ?_
  · refine congrArg (shapeCast S32768x4x2048 x shapeCasts_S32768x8192_S32768x4x2048) (funext fun a => Fin.ext ?_)
    fin_cases a
    · show 0 + r.val = r.val
      omega
    · show b.val + 0 = b.val
      omega
    · show 0 + q.val = q.val
      omega
  · exact shapeCast_apply _ shapeCasts_S32768x8192_S32768x4x2048 (ix3 r b q) _ (by
      simp only [Shape.rowMajor_val_two, Shape.rowMajor_val_three]
      show r.val * 8192 + (b.val * 2048 + q.val) = (r.val * 4 + b.val) * 2048 + q.val
      omega)
end

/-- A branch before its gate. -/
def refY (u : FVec Ideal S32768x512 .f32) (p : FVec Ideal S512x2048 .f32) : FVec Ideal S32768x2048 .f32 :=
  Host.dotGeneral dot_S32768x512_S512x2048_S32768x2048_1_0_0_1_n_n none u p

theorem refY_at (u : FVec Ideal S32768x512 .f32) (p : FVec Ideal S512x2048 .f32) (U : ℕ → ℕ → EReal) (r : Fin 32768) (q : Fin 2048) (hu : ∀ k : Fin 512, u (ix2 r k) = U r.val k.val) :
    refY u p (ix2 r q) = ∑ k : Fin 512, U r.val k.val * en p k.val q.val := by
  have e1 (i : Fin 512) (j : Fin 2048) : en p i.val j.val = p (ix2 i j) := (en_eq p (ix2 i j)).symm
  simp only [← hu, e1]
  pointwise [refY]

/-- A gate, by its slice. -/
def refQ (x : FVec Ideal S32768x8192 .f32) (b : Fin 4) (hs : S32768x4x2048.Slices ![0, b.val, 0] S32768x1x2048) : FVec Ideal S32768x2048 .f32 :=
  shapeCast S32768x2048 (extractStridedSlice S32768x1x2048 ![0, b.val, 0] (shapeCast S32768x4x2048 x shapeCasts_S32768x8192_S32768x4x2048) hs) shapeCasts_S32768x1x2048_S32768x2048

section
variable (h : FVec Ideal S32768x2048 .bf16) (a : FVec Ideal S32768x512 .bf16) (f b : FVec Ideal S32768x512 .f32) (z : FVec Ideal S32768x4736 .f32) (w : FVec Ideal S128 .f32) (c d : FVec Ideal S32768x512 .bf16)
  (g : FVec Ideal S2048x12816 .f32) (p0 p1 p2 p3 : FVec Ideal S512x2048 .f32)

theorem br_at (u : FVec Ideal S32768x512 .f32) (p : FVec Ideal S512x2048 .f32) (U : ℕ → ℕ → EReal) (n : Fin 4) (o : ℕ) (ho : o = 4624 + n.val * 2048) (hs : S32768x4x2048.Slices ![0, n.val, 0] S32768x1x2048) (hu : ∀ r k, u (ix2 r k) = U r.val k.val) (r : Fin 32768) (q : Fin 2048) :
    refQ (refG h g) n hs (ix2 r q) * refY u p (ix2 r q) = br (en h) (en g) U (en p) o r.val q.val := by
  rw [show refQ (refG h g) n hs (ix2 r q) = _ from quarter_at _ n hs r q, refG_at, refY_at u p U r q (hu r)]
  unfold br
  rw [ho]
  simp only [Nat.add_assoc]

/-- The reference's result. -/
def refR : FVec Ideal S32768x2048 .bf16 :=
  truncf .bf16 (addf (addf (addf (mulf (refQ (refG h g) 0 slices_S32768x4x2048_S32768x1x2048_0_0_0) (refY (extf .f32 a bitsLt_bf16_f32) p0)) (mulf (refQ (refG h g) 1 slices_S32768x4x2048_S32768x1x2048_0_1_0) (refY (refB f b z w) p1)))
    (mulf (refQ (refG h g) 2 slices_S32768x4x2048_S32768x1x2048_0_2_0) (refY (extf .f32 c bitsLt_bf16_f32) p2))) (mulf (refQ (refG h g) 3 slices_S32768x4x2048_S32768x1x2048_0_3_0) (refY (extf .f32 d bitsLt_bf16_f32) p3))) bitsLt_bf16_f32

theorem ref_eq : refR h a f b z w c d g p0 p1 p2 p3 = arrG (en h) (en a) (en f) (en b) (en z) (en c) (en d) (en g) (en p0) (en p1) (en p2) (en p3) (en1 w) := by
  refine ext2 fun r q => ?_
  unfold arrG mrg
  show refQ (refG h g) 0 _ (ix2 r q) * refY _ p0 (ix2 r q) + refQ (refG h g) 1 _ (ix2 r q) * refY _ p1 (ix2 r q) + refQ (refG h g) 2 _ (ix2 r q) * refY _ p2 (ix2 r q) + refQ (refG h g) 3 _ (ix2 r q) * refY _ p3 (ix2 r q) = _
  rw [br_at h g (extf .f32 a bitsLt_bf16_f32) p0 (en a) 0 4624 rfl _ (fun r k => en_eq a (ix2 r k)), br_at h g (refB f b z w) p1 (mb (en f) (en b) (en z) (en1 w)) 1 6672 rfl _ (refB_at f b z w),
    br_at h g (extf .f32 c bitsLt_bf16_f32) p2 (en c) 2 8720 rfl _ (fun r k => en_eq c (ix2 r k)), br_at h g (extf .f32 d bitsLt_bf16_f32) p3 (en d) 3 10768 rfl _ (fun r k => en_eq d (ix2 r k))]
  rfl
end
end

/-- The call computes its mathematics over the extended reals. -/
theorem algebraic : Cert.algebraic_MergeIdeal_MergeRefIdeal (hMergeIdeal := Cert.MergeIdeal.Gen.facts) (hMergeRefIdeal := Cert.MergeRefIdeal.Gen.facts) := by
  intro m g m' g' _ hag
  refine ⟨fun c => arrG (aH m c) (aA m c) (aF m c) (aB m c) (aZ m c) (aC m c) (aD m c) (aG m c) (aP0 m c) (aP1 m c) (aP2 m c) (aP3 m c) (aw m c), ?_, ?_⟩
  · refine (θ_run _ _ _).mono (fun r h c => ?_) (Cert.MergeIdeal.Value.run_blocks m g)
    exact ⟨(h c).1.trans (arr16 m c), (h c).2⟩
  · refine (θ_run _ _ _).mono (fun r h c => ?_) (Cert.MergeRefIdeal.Value.run m' g')
    refine ⟨(h c).1.trans ((ref_eq _ _ _ _ _ _ _ _ _ _ _ _ _).trans ?_), (h c).2⟩
    obtain ⟨e0, e1, e2, e3, e4, e5, e6, e7, e8, e9, e10, e11, e12⟩ := hag c
    exact congr (congr (congr (congr (congr (congr (congr (congr (congr (congr (congr (congr (congrArg arrG (congrArg (en (n := 32768) (k := 2048)) e0)) (congrArg (en (n := 32768) (k := 512)) e1)) (congrArg (en (n := 32768) (k := 512)) e2)) (congrArg (en (n := 32768) (k := 512)) e3)) (congrArg (en (n := 32768) (k := 4736)) e4))
      (congrArg (en (n := 32768) (k := 512)) e6)) (congrArg (en (n := 32768) (k := 512)) e7)) (congrArg (en (n := 2048) (k := 12816)) e8)) (congrArg (en (n := 512) (k := 2048)) e9)) (congrArg (en (n := 512) (k := 2048)) e10)) (congrArg (en (n := 512) (k := 2048)) e11)) (congrArg (en (n := 512) (k := 2048)) e12)) (congrArg (en1 (n := 128)) e5)

/-- The reference leaves its arguments as they were. -/
theorem frame_ref : Cert.quiescent_MergeRefIdeal (hMergeRefIdeal := Cert.MergeRefIdeal.Gen.facts) := fun m g _ =>
  (θ_run _ _ _).mono (fun r h => ⟨fun c => (h c).2, sem_eq_zero_of_no_sems (by decide) r.2⟩) (Cert.MergeRefIdeal.Value.run m g)

end Cert.MergeVal

end
-- ==== Proof.InValue.lean ====
/- The input projection's two result arrays, entry by entry, its reference, and the two equal. -/
module

public import proofs.«01_k».proof.Proof.Gen.InIdeal.Value
public import proofs.«01_k».proof.Proof.Gen.InRefIdeal.Run
public import proofs.«01_k».proof.Proof.Cols
public import proofs.«01_k».proof.Defs
public import Idealize.ShloMosaic.Lib.Pointwise
public import Idealize.ShloMosaic.Lib.MatmulPlain
public import Idealize.ShloMosaic.Lib.ValueIdx
public import Idealize.ShloMosaic.Lib.Quiescent
public import Idealize.ShloMosaic.Lib.IdealHost

@[expose] public section

set_option maxRecDepth 16384

noncomputable section

namespace Cert.InVal

open Idealize.ShloMosaic Idealize.ShloMosaic.Tactic Idealize.SL.Sem Cert.Cols Finset

section
variable {m n : ℕ}

theorem rowLt2 {p o h k : ℕ} (inb : ∀ a, (![p, o] : Fin 2 → ℕ) a + (![h, k] : Fin 2 → ℕ) a ≤ (⟨2, ![m, n]⟩ : Shape).size a) (r : Fin h) : p + r.val < m := by
  have h0 : p + h ≤ m := inb 0
  omega

theorem colLt2 {p o h k : ℕ} (inb : ∀ a, (![p, o] : Fin 2 → ℕ) a + (![h, k] : Fin 2 → ℕ) a ≤ (⟨2, ![m, n]⟩ : Shape).size a) (q : Fin k) : o + q.val < n := by
  have h0 : o + k ≤ n := inb 1
  omega

theorem emb_box {p o h k : ℕ} (inb : ∀ a, (![p, o] : Fin 2 → ℕ) a + (![h, k] : Fin 2 → ℕ) a ≤ (⟨2, ![m, n]⟩ : Shape).size a) (r : Fin h) (q : Fin k) :
    (Rect.unit (s := (⟨2, ![m, n]⟩ : Shape)) ![p, o] ![h, k] inb).emb (ix2 r q) = ix2 ⟨p + r.val, rowLt2 inb r⟩ ⟨o + q.val, colLt2 inb q⟩ := by
  funext a
  match a with
  | ⟨0, _⟩ => exact Fin.ext (ValueKit.rect_emb_unit_val (s := (⟨2, ![m, n]⟩ : Shape)) ![p, o] ![h, k] inb (ix2 r q) 0)
  | ⟨1, _⟩ => exact Fin.ext (ValueKit.rect_emb_unit_val (s := (⟨2, ![m, n]⟩ : Shape)) ![p, o] ![h, k] inb (ix2 r q) 1)

/-- A box read. -/
theorem ld_box {Val : EltTy → Type} {e : EltTy} {p o h k : ℕ} (inb : ∀ a, (![p, o] : Fin 2 → ℕ) a + (![h, k] : Fin 2 → ℕ) a ≤ (⟨2, ![m, n]⟩ : Shape).size a)
    (X : (⟨2, ![m, n]⟩ : Shape).Idx → Val e) (r : Fin h) (q : Fin k) :
    View.ld X (Rect.unit (s := (⟨2, ![m, n]⟩ : Shape)) ![p, o] ![h, k] inb) (ix2 r q) = X (ix2 ⟨p + r.val, rowLt2 inb r⟩ ⟨o + q.val, colLt2 inb q⟩) :=
  congrArg X (emb_box inb r q)

/-- A box stored. -/
theorem piece_box {α : Type} {p o h k : ℕ} (inb : ∀ a, (![p, o] : Fin 2 → ℕ) a + (![h, k] : Fin 2 → ℕ) a ≤ (⟨2, ![m, n]⟩ : Shape).size a)
    (G : (⟨2, ![m, n]⟩ : Shape).Idx → α) (w : (⟨2, ![h, k]⟩ : Shape).Idx → α) (e : ∀ r q, w (ix2 r q) = G (ix2 ⟨p + r.val, rowLt2 inb r⟩ ⟨o + q.val, colLt2 inb q⟩))
    (x : (⟨2, ![h, k]⟩ : Shape).Idx) : w x = G ((Rect.unit (s := (⟨2, ![m, n]⟩ : Shape)) ![p, o] ![h, k] inb).emb x) := by
  rw [Cols.ix2_eta x]
  exact (e _ _).trans (congrArg G (emb_box inb _ _)).symm
end

section
variable (X P : ℕ → ℕ → EReal) (w : ℕ → EReal)

/-- The norm of the residual stream. -/
def nrm (R C : ℕ) : EReal :=
  X R C * Ideal.rsqrt (Ideal.div (∑ j : Fin 2048, X R j.val * X R j.val) (Ideal.ofBits .f32 0x45000000#32) + Ideal.ofBits .f32 0x358637BD#32) * w C

/-- Its projection. -/
def prj (R C : ℕ) : EReal := ∑ K : Fin 2048, nrm X w R K.val * P K.val C

/-- The projection array. -/
def arrP : FVec Ideal (⟨2, ![32768, 4736]⟩ : Shape) .f32 := fun y => prj X P w (y 0).val (y 1).val
/-- The norm array. -/
def arrH : FVec Ideal (⟨2, ![32768, 2048]⟩ : Shape) .bf16 := fun y => nrm X w (y 0).val (y 1).val

/-- The weight's columns in the call's order. -/
def pk (W : ℕ → ℕ → EReal) (k C : ℕ) : EReal :=
  if C < 1536 then W k (512 + C) else if C - 1536 < 512 then W k (C - 1536) else if C - 1536 - 512 < 1024 then W k (2576 + (C - 1536 - 512)) else
  if C - 1536 - 512 - 1024 < 1024 then W k (3600 + (C - 1536 - 512 - 1024)) else
  if C - 1536 - 512 - 1024 - 1024 < 512 then W k (2048 + (C - 1536 - 512 - 1024 - 1024)) else
  if C - 1536 - 512 - 1024 - 1024 - 512 < 16 then W k (2560 + (C - 1536 - 512 - 1024 - 1024 - 512)) else 0
end

section
open Idealize.ShloMosaic.TcCoe Cert.InIdeal Cert.InIdeal.Gen

theorem hz : (![0, 0] : Fin 2 → Nat) = fun _ => 0 := funext fun a => by fin_cases a <;> rfl

section
variable {X P : ℕ → ℕ → EReal} {w : ℕ → EReal} {v : Vec Ideal S256x2048 .f32} {x1 : Vec Ideal S1x2048 .f32} (b : ℕ)
  (h0 : ∀ r j, v (ix2 r j) = X (b + r.val) j.val) (h1 : ∀ c, x1 (ix2 0 c) = w c.val)
include h0 h1

theorem pay7_at (r : Fin 256) (q : Fin 2048) : k0_pay7 v x1 (ix2 r q) = nrm X w (b + r.val) q.val := by
  unfold nrm
  simp only [← h0, ← h1]
  pointwise [k0_pay7]

theorem pay14_at (r : Fin 256) (q : Fin 2048) : k0_pay14 v x1 (ix2 r q) = nrm X w (b + r.val) q.val := pay7_at b h0 h1 r q

variable (o : ℕ)

theorem pay8_at {u : Vec Ideal S2048x1536 .bf16} (h2 : ∀ k q, u (ix2 k q) = P k.val (o + q.val)) (r : Fin 256) (q : Fin 1536) :
    k0_pay8 v x1 u (ix2 r q) = prj X P w (b + r.val) (o + q.val) := by
  unfold prj
  simp only [← pay7_at b h0 h1, ← h2]
  pointwise [k0_pay8]
theorem pay9_at {u : Vec Ideal S2048x512 .bf16} (h2 : ∀ k q, u (ix2 k q) = P k.val (o + q.val)) (r : Fin 256) (q : Fin 512) :
    k0_pay9 v x1 u (ix2 r q) = prj X P w (b + r.val) (o + q.val) := by
  unfold prj
  simp only [← pay7_at b h0 h1, ← h2]
  pointwise [k0_pay9]
theorem pay10_at {u : Vec Ideal S2048x1024 .bf16} (h2 : ∀ k q, u (ix2 k q) = P k.val (o + q.val)) (r : Fin 256) (q : Fin 1024) :
    k0_pay10 v x1 u (ix2 r q) = prj X P w (b + r.val) (o + q.val) := by
  unfold prj
  simp only [← pay7_at b h0 h1, ← h2]
  pointwise [k0_pay10]
theorem pay13_at {u : Vec Ideal S2048x128 .bf16} (h2 : ∀ k q, u (ix2 k q) = P k.val (o + q.val)) (r : Fin 256) (q : Fin 128) :
    k0_pay13 (k0_pay7 v x1) u (ix2 r q) = prj X P w (b + r.val) (o + q.val) := by
  unfold prj
  simp only [← pay7_at b h0 h1, ← h2]
  pointwise [k0_pay13]
end

section
variable {X P : ℕ → ℕ → EReal} {w : ℕ → EReal} {x0 : Vec Ideal S512x2048 .f32} {x1 : Vec Ideal S1x2048 .f32} {x2 : Vec Ideal S2048x4736 .bf16} (b : ℕ)
  (h0 : ∀ r j, x0 (ix2 r j) = X (512 * b + r.val) j.val) (h1 : ∀ c, x1 (ix2 0 c) = w c.val) (h2 : ∀ k c, x2 (ix2 k c) = P k.val c.val)

include h0 in
theorem half {p : ℕ} (inb : ∀ a, (![p, 0] : Fin 2 → ℕ) a + (![256, 2048] : Fin 2 → ℕ) a ≤ S512x2048.size a) (r : Fin 256) (j : Fin 2048) :
    View.ld x0 (Rect.unit (s := S512x2048) ![p, 0] ![256, 2048] inb) (ix2 r j) = X (512 * b + p + r.val) j.val := by
  refine (ld_box (m := 512) (n := 2048) inb x0 r j).trans ((h0 _ _).trans ?_)
  simp [Nat.add_assoc]

include h2 in
theorem wcol {o k : ℕ} (inb : ∀ a, (![0, o] : Fin 2 → ℕ) a + (![2048, k] : Fin 2 → ℕ) a ≤ S2048x4736.size a) (r : Fin 2048) (j : Fin k) :
    View.ld x2 (Rect.unit (s := S2048x4736) ![0, o] ![2048, k] inb) (ix2 r j) = P r.val (o + j.val) := by
  refine (ld_cols (m := 2048) (n := 4736) inb x2 r j).trans (h2 _ _)

theorem at2 {p o h k : ℕ} (inb : ∀ a, (![p, o] : Fin 2 → ℕ) a + (![h, k] : Fin 2 → ℕ) a ≤ S512x4736.size a) (r : Fin h) (q : Fin k) :
    prj X P w (512 * b + p + r.val) (o + q.val) =
      mk (m := 512) (n := 4736) (fun r q => prj X P w (512 * b + r.val) q.val) (ix2 ⟨p + r.val, rowLt2 (m := 512) (n := 4736) inb r⟩ ⟨o + q.val, colLt2 (m := 512) (n := 4736) inb q⟩) := by
  rw [mk_ix]
  simp [Nat.add_assoc]

include h0 h1 h2

set_option maxHeartbeats 2000000 in
theorem out3 (c : Dev nD) (i : grid0.Coords) (a1 : Memref sig .tc .vmem S512x2048 .f32) (g1 : a1.IsWhole) (a2 : Memref sig .tc .vmem S1x2048 .f32) (g2 : a2.IsWhole)
    (a3 : Memref sig .tc .vmem S2048x4736 .bf16) (g3 : a3.IsWhole) (a4 : Memref sig .tc .vmem S512x4736 .f32) (g4 : a4.IsWhole) (a5 : Memref sig .tc .vmem S512x2048 .bf16) (g5 : a5.IsWhole) :
    out0_A_3 c i a1 g1 a2 g2 a3 g3 a4 g4 a5 g5 x0 x1 x2 = mk fun r q => prj X P w (512 * b + r.val) q.val := by
  unfold out0_A_3
  rw [View.read_writes_eq_canon _ _ _ (cover0_A_3 c i a1 g1 a2 g2 a3 g3 a4 g4 a5 g5 x0 x1 x2)]
  refine canon_eq _ _ ?_ (cover0_A_3 c i a1 g1 a2 g2 a3 g3 a4 g4 a5 g5 x0 x1 x2)
  unfold kernelRun0_A
  dsimp only
  sl_unfold_words
  simp only [View.readAt_eq_ld, g1.read_unread, g2.read_unread, g3.read_unread]
  simp only [View.ld_unit_zero (S := S1x2048) hz]
  refine List.forall_mem_cons.2 ⟨piece_box (m := 512) (n := 4736) inb_S512x4736_S256x128_256_4608 _ _ fun r q =>
    (pay13_at (512 * b + 256) (half b h0 inb_S512x2048_S256x2048_256_0) h1 4608 (wcol h2 inb_S2048x4736_S2048x128_0_4608) r q).trans (at2 b inb_S512x4736_S256x128_256_4608 r q), ?_⟩
  refine List.forall_mem_cons.2 ⟨piece_box (m := 512) (n := 4736) inb_S512x4736_S256x512_256_4096 _ _ fun r q =>
    (pay9_at (512 * b + 256) (half b h0 inb_S512x2048_S256x2048_256_0) h1 4096 (wcol h2 inb_S2048x4736_S2048x512_0_4096) r q).trans (at2 b inb_S512x4736_S256x512_256_4096 r q), ?_⟩
  refine List.forall_mem_cons.2 ⟨piece_box (m := 512) (n := 4736) inb_S512x4736_S256x1024_256_3072 _ _ fun r q =>
    (pay10_at (512 * b + 256) (half b h0 inb_S512x2048_S256x2048_256_0) h1 3072 (wcol h2 inb_S2048x4736_S2048x1024_0_3072) r q).trans (at2 b inb_S512x4736_S256x1024_256_3072 r q), ?_⟩
  refine List.forall_mem_cons.2 ⟨piece_box (m := 512) (n := 4736) inb_S512x4736_S256x1024_256_2048 _ _ fun r q =>
    (pay10_at (512 * b + 256) (half b h0 inb_S512x2048_S256x2048_256_0) h1 2048 (wcol h2 inb_S2048x4736_S2048x1024_0_2048) r q).trans (at2 b inb_S512x4736_S256x1024_256_2048 r q), ?_⟩
  refine List.forall_mem_cons.2 ⟨piece_box (m := 512) (n := 4736) inb_S512x4736_S256x512_256_1536 _ _ fun r q =>
    (pay9_at (512 * b + 256) (half b h0 inb_S512x2048_S256x2048_256_0) h1 1536 (wcol h2 inb_S2048x4736_S2048x512_0_1536) r q).trans (at2 b inb_S512x4736_S256x512_256_1536 r q), ?_⟩
  refine List.forall_mem_cons.2 ⟨piece_box (m := 512) (n := 4736) inb_S512x4736_S256x1536_256_0 _ _ fun r q =>
    (pay8_at (512 * b + 256) (half b h0 inb_S512x2048_S256x2048_256_0) h1 0 (wcol h2 inb_S2048x4736_S2048x1536_0_0) r q).trans (at2 b inb_S512x4736_S256x1536_256_0 r q), ?_⟩
  refine List.forall_mem_cons.2 ⟨piece_box (m := 512) (n := 4736) inb_S512x4736_S256x128_0_4608 _ _ fun r q =>
    (pay13_at (512 * b + 0) (half b h0 inb_S512x2048_S256x2048_0_0) h1 4608 (wcol h2 inb_S2048x4736_S2048x128_0_4608) r q).trans (at2 b inb_S512x4736_S256x128_0_4608 r q), ?_⟩
  refine List.forall_mem_cons.2 ⟨piece_box (m := 512) (n := 4736) inb_S512x4736_S256x512_0_4096 _ _ fun r q =>
    (pay9_at (512 * b + 0) (half b h0 inb_S512x2048_S256x2048_0_0) h1 4096 (wcol h2 inb_S2048x4736_S2048x512_0_4096) r q).trans (at2 b inb_S512x4736_S256x512_0_4096 r q), ?_⟩
  refine List.forall_mem_cons.2 ⟨piece_box (m := 512) (n := 4736) inb_S512x4736_S256x1024_0_3072 _ _ fun r q =>
    (pay10_at (512 * b + 0) (half b h0 inb_S512x2048_S256x2048_0_0) h1 3072 (wcol h2 inb_S2048x4736_S2048x1024_0_3072) r q).trans (at2 b inb_S512x4736_S256x1024_0_3072 r q), ?_⟩
  refine List.forall_mem_cons.2 ⟨piece_box (m := 512) (n := 4736) inb_S512x4736_S256x1024_0_2048 _ _ fun r q =>
    (pay10_at (512 * b + 0) (half b h0 inb_S512x2048_S256x2048_0_0) h1 2048 (wcol h2 inb_S2048x4736_S2048x1024_0_2048) r q).trans (at2 b inb_S512x4736_S256x1024_0_2048 r q), ?_⟩
  refine List.forall_mem_cons.2 ⟨piece_box (m := 512) (n := 4736) inb_S512x4736_S256x512_0_1536 _ _ fun r q =>
    (pay9_at (512 * b + 0) (half b h0 inb_S512x2048_S256x2048_0_0) h1 1536 (wcol h2 inb_S2048x4736_S2048x512_0_1536) r q).trans (at2 b inb_S512x4736_S256x512_0_1536 r q), ?_⟩
  refine List.forall_mem_cons.2 ⟨piece_box (m := 512) (n := 4736) inb_S512x4736_S256x1536_0_0 _ _ fun r q =>
    (pay8_at (512 * b + 0) (half b h0 inb_S512x2048_S256x2048_0_0) h1 0 (wcol h2 inb_S2048x4736_S2048x1536_0_0) r q).trans (at2 b inb_S512x4736_S256x1536_0_0 r q), ?_⟩
  exact fun _ h => absurd h List.not_mem_nil

set_option maxHeartbeats 2000000 in
theorem out4 (c : Dev nD) (i : grid0.Coords) (a1 : Memref sig .tc .vmem S512x2048 .f32) (g1 : a1.IsWhole) (a2 : Memref sig .tc .vmem S1x2048 .f32) (g2 : a2.IsWhole)
    (a3 : Memref sig .tc .vmem S2048x4736 .bf16) (g3 : a3.IsWhole) (a4 : Memref sig .tc .vmem S512x4736 .f32) (g4 : a4.IsWhole) (a5 : Memref sig .tc .vmem S512x2048 .bf16) (g5 : a5.IsWhole) :
    out0_A_4 c i a1 g1 a2 g2 a3 g3 a4 g4 a5 g5 x0 x1 x2 = mk fun r q => nrm X w (512 * b + r.val) q.val := by
  unfold out0_A_4
  rw [View.read_writes_eq_canon _ _ _ (cover0_A_4 c i a1 g1 a2 g2 a3 g3 a4 g4 a5 g5 x0 x1 x2)]
  refine canon_eq _ _ ?_ (cover0_A_4 c i a1 g1 a2 g2 a3 g3 a4 g4 a5 g5 x0 x1 x2)
  unfold kernelRun0_A
  dsimp only
  sl_unfold_words
  simp only [View.readAt_eq_ld, g1.read_unread, g2.read_unread, g3.read_unread]
  simp only [View.ld_unit_zero (S := S1x2048) hz]
  refine List.forall_mem_cons.2 ⟨piece_box (m := 512) (n := 2048) inb_S512x2048_S256x2048_256_0 _ _ fun r q =>
    (pay7_at (512 * b + 256) (half b h0 inb_S512x2048_S256x2048_256_0) h1 r q).trans (by rw [mk_ix]; simp [Nat.add_assoc]), ?_⟩
  refine List.forall_mem_cons.2 ⟨piece_box (m := 512) (n := 2048) inb_S512x2048_S256x2048_0_0 _ _ fun r q =>
    (pay7_at (512 * b + 0) (half b h0 inb_S512x2048_S256x2048_0_0) h1 r q).trans (by rw [mk_ix]; simp [Nat.add_assoc]), ?_⟩
  exact fun _ h => absurd h List.not_mem_nil
end

variable (m : (ℓ : Loc nD τ sig) → Buf (Elt Ideal) ℓ)

theorem ix_0 : ∀ t : Fin cfg0.N, win0_0.index t = ![t.val, 0] := (by decide +kernel : ∀ t : Fin grid0.N, win0_0.index t = ![t.val, 0])
theorem ix_1 : ∀ t : Fin cfg0.N, win0_1.index t = ![0, 0] := (by decide +kernel : ∀ t : Fin grid0.N, win0_1.index t = ![0, 0])
theorem ix_2 : ∀ t : Fin cfg0.N, win0_2.index t = ![0, 0] := (by decide +kernel : ∀ t : Fin grid0.N, win0_2.index t = ![0, 0])
theorem ix_3 : ∀ t : Fin cfg0.N, win0_3.index t = ![t.val, 0] := (by decide +kernel : ∀ t : Fin grid0.N, win0_3.index t = ![t.val, 0])
theorem ix_4 : ∀ t : Fin cfg0.N, win0_4.index t = ![t.val, 0] := (by decide +kernel : ∀ t : Fin grid0.N, win0_4.index t = ![t.val, 0])

variable (c : Dev nD)

/-- The residual stream. -/
def aX : ℕ → ℕ → EReal := en (n := 32768) (k := 2048) (m ((c.tc : Thread nD τ).loc main_arg0))
/-- The norm's weight. -/
def aw : ℕ → EReal := en1 (n := 2048) (m ((c.tc : Thread nD τ).loc main_arg1))
/-- The combined weight. -/
def aW : ℕ → ℕ → EReal := en (n := 2048) (k := 12816) (m ((c.tc : Thread nD τ).loc main_arg2))

/-- Window 0 at a point. -/
theorem blk0 (t : Fin cfg0.N) (i : Fin 512) (j : Fin 2048) : iblk m c 0 t (ix2 i j) = aX m c (512 * t.val + i.val) j.val := by
  blk_simp [iblk]
  rw [V_main_arg0 m c]
  refine (en_eq (n := 32768) (k := 2048) _ _).trans ?_
  unfold aX
  congr 1
  · blk_simp [ix_0]
    simp [ix2, Nat.mul_comm]
  · blk_simp [ix_0]
/-- Window 1 at a point. -/
theorem blk1 (t : Fin cfg0.N) (j : Fin 2048) : iblk m c 1 t (ix2 0 j) = aw m c j.val := by
  blk_simp [iblk]
  entry_read
  refine (row_cast (φ := .f32) (n := 2048) (m ((c.tc : Thread nD τ).loc main_arg1)) _ _).trans ?_
  unfold aw
  congr 1
  show (((win0_1.blk t).view.emb (ix2 0 j)) 1).val = _
  blk_simp [ix_1]

/-- The packed weight as the host leaves it. -/
def pkd (W : FVec Ideal S2048x12816 .f32) : FVec Ideal S2048x4736 .bf16 :=
  truncf .bf16 (concatenate S2048x4736 1 [⟨S2048x1536, extractStridedSlice S2048x1536 ![0, 512] W slices_S2048x12816_S2048x1536_0_512⟩, ⟨S2048x512, extractStridedSlice S2048x512 ![0, 0] W slices_S2048x12816_S2048x512_0_0⟩, ⟨S2048x1024, extractStridedSlice S2048x1024 ![0, 2576] W slices_S2048x12816_S2048x1024_0_2576⟩, ⟨S2048x1024, extractStridedSlice S2048x1024 ![0, 3600] W slices_S2048x12816_S2048x1024_0_3600⟩, ⟨S2048x512, extractStridedSlice S2048x512 ![0, 2048] W slices_S2048x12816_S2048x512_0_2048⟩, ⟨S2048x16, extractStridedSlice S2048x16 ![0, 2560] W slices_S2048x12816_S2048x16_0_2560⟩, ⟨S2048x112, broadcastInDim S2048x112 ![] bcast_S_S2048x112 (constant S_ .f32 0x00000000#32)⟩] concatenates_S2048x1536_S2048x512_S2048x1024_S2048x1024_S2048x512_S2048x16_S2048x112_S2048x4736_d1) bitsLt_bf16_f32

theorem pkd_at (W : FVec Ideal S2048x12816 .f32) (k : Fin 2048) (C : Fin 4736) : pkd W (ix2 k C) = pk (en W) k.val C.val := by
  pointwise [pkd]
  unfold pk
  split_ifs <;> first | rfl | exact en_eq (n := 2048) (k := 12816) W _

theorem V_main_v8 : V m c main_v8 = pkd (m ((c.tc : Thread nD τ).loc main_arg2)) := rfl

/-- Window 2 at a point. -/
theorem blk2 (t : Fin cfg0.N) (i : Fin 2048) (j : Fin 4736) : iblk m c 2 t (ix2 i j) = pk (aW m c) i.val j.val := by
  blk_simp [iblk]
  rw [V_main_v8 m c]
  have e : (win0_2.blk t).view.emb (ix2 i j) = ix2 i j := by
    funext a
    match a with
    | ⟨0, _⟩ =>
      refine Fin.ext ?_
      show (((win0_2.blk t).view.emb (ix2 i j)) 0).val = _
      blk_simp [ix_2]
    | ⟨1, _⟩ =>
      refine Fin.ext ?_
      show (((win0_2.blk t).view.emb (ix2 i j)) 1).val = _
      blk_simp [ix_2]
  exact (congrArg (pkd (m ((c.tc : Thread nD τ).loc main_arg2))) e).trans (pkd_at _ i j)

/-- The projection. -/
theorem arr3 : (dats m 0 c).arrAt 3 cfg0.N = arrP (aX m c) (pk (aW m c)) (aw m c) := by
  refine (dats m 0 c).arrAt_eq_of_covers 3 _ (by decide +kernel) fun t hf y => ?_
  have e0 : ((((cfg0.win 3).blk t).view.emb y) 0).val = 512 * t.val + (y 0).val := by
    blk_simp [ix_3]
    simp [Nat.mul_comm]
  have e1 : ((((cfg0.win 3).blk t).view.emb y) 1).val = (y 1).val := by
    blk_simp [ix_3]
  unfold arrP
  simp only [e0, e1]
  blk_simp
  rw [after0_3]
  unfold outsAt0
  dsimp only
  rw [out3 t.val (blk0 m c t) (blk1 m c t) (blk2 m c t)]
  rfl

/-- The norm. -/
theorem arr4 : (dats m 0 c).arrAt 4 cfg0.N = arrH (aX m c) (aw m c) := by
  refine (dats m 0 c).arrAt_eq_of_covers 4 _ (by decide +kernel) fun t hf y => ?_
  have e0 : ((((cfg0.win 4).blk t).view.emb y) 0).val = 512 * t.val + (y 0).val := by
    blk_simp [ix_4]
    simp [Nat.mul_comm]
  have e1 : ((((cfg0.win 4).blk t).view.emb y) 1).val = (y 1).val := by
    blk_simp [ix_4]
  unfold arrH
  simp only [e0, e1]
  blk_simp
  rw [after0_4]
  unfold outsAt0
  dsimp only
  rw [out4 t.val (blk0 m c t) (blk1 m c t) (blk2 m c t)]
  rfl
end

section
open Cert.InRefIdeal Cert.InRefIdeal.Gen

variable (x : FVec Ideal S32768x2048 .f32) (w : FVec Ideal S2048 .f32) (W : FVec Ideal S2048x12816 .f32)

/-- The stream normed by rows. -/
def refF : FVec Ideal S32768x2048 .f32 :=
  mulf (mulf x (broadcastInDim S32768x2048 ![0, 1] bcast_S32768x1_S32768x2048_0_1 (Host.rsqrt (addf (Host.divf (broadcastInDim S32768x1 ![0] bcast_S32768_S32768x1_0 (Host.reduceAdd (mulf x x) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 w))

theorem refF_at (r : Fin 32768) (q : Fin 2048) : refF x w (ix2 r q) = nrm (en x) (en1 w) r.val q.val := by
  have e0 (i : Fin 32768) (j : Fin 2048) : en x i.val j.val = x (ix2 i j) := (en_eq x (ix2 i j)).symm
  have e1 (i : Fin 2048) : en1 w i.val = w (ix1 i) := (en1_eq w (ix1 i)).symm
  unfold nrm
  simp only [e0, e1]
  pointwise [refF]

/-- The whole projection. -/
def refD (h : FVec Ideal S32768x2048 .f32) : FVec Ideal S32768x12816 .f32 := Host.dotGeneral dot_S32768x2048_S2048x12816_S32768x12816_1_0_0_1_n_n none h W

theorem refD_at (h : FVec Ideal S32768x2048 .f32) (r : Fin 32768) (q : Fin 12816) : refD W h (ix2 r q) = ∑ K : Fin 2048, h (ix2 r K) * W (ix2 K q) := by
  pointwise [refD]

/-- Its pieces side by side. -/
def refC (d : FVec Ideal S32768x12816 .f32) : FVec Ideal S32768x4736 .f32 :=
  concatenate S32768x4736 1 [⟨S32768x1536, extractStridedSlice S32768x1536 ![0, 512] d slices_S32768x12816_S32768x1536_0_512⟩, ⟨S32768x512, extractStridedSlice S32768x512 ![0, 0] d slices_S32768x12816_S32768x512_0_0⟩, ⟨S32768x1024, extractStridedSlice S32768x1024 ![0, 2576] d slices_S32768x12816_S32768x1024_0_2576⟩, ⟨S32768x1024, extractStridedSlice S32768x1024 ![0, 3600] d slices_S32768x12816_S32768x1024_0_3600⟩, ⟨S32768x512, extractStridedSlice S32768x512 ![0, 2048] d slices_S32768x12816_S32768x512_0_2048⟩, ⟨S32768x16, extractStridedSlice S32768x16 ![0, 2560] d slices_S32768x12816_S32768x16_0_2560⟩, ⟨S32768x112, broadcastInDim S32768x112 ![] bcast_S_S32768x112 (constant S_ .f32 0x00000000#32)⟩] concatenates_S32768x1536_S32768x512_S32768x1024_S32768x1024_S32768x512_S32768x16_S32768x112_S32768x4736_d1

theorem refC_at (d : FVec Ideal S32768x12816 .f32) (r : Fin 32768) (C : Fin 4736) : refC d (ix2 r C) = pk (en d) r.val C.val := by
  pointwise [refC]
  unfold pk
  split_ifs <;> first | rfl | exact en_eq (n := 32768) (k := 12816) d _

theorem pk_sum (d : FVec Ideal S32768x12816 .f32) (g : Fin 2048 → EReal) (r : Fin 32768) (e : ∀ q, d (ix2 r q) = ∑ K : Fin 2048, g K * W (ix2 K q)) (C : ℕ) :
    pk (en d) r.val C = ∑ K : Fin 2048, g K * pk (en W) K.val C := by
  have h (q : ℕ) (hq : q < 12816) : en d r.val q = ∑ K : Fin 2048, g K * en W K.val q :=
    (en_eq d (ix2 r ⟨q, hq⟩)).symm.trans ((e ⟨q, hq⟩).trans (sum_congr rfl fun K _ => congrArg (g K * ·) (en_eq W (ix2 K ⟨q, hq⟩))))
  unfold pk
  split_ifs
  · exact h _ (by omega)
  · exact h _ (by omega)
  · exact h _ (by omega)
  · exact h _ (by omega)
  · exact h _ (by omega)
  · exact h _ (by omega)
  · simp

theorem refC_eq : refC (refD W (refF x w)) = arrP (en x) (pk (en W)) (en1 w) := by
  refine ext2 fun r q => ?_
  rw [refC_at, pk_sum W _ _ r (refD_at W (refF x w) r)]
  simp only [refF_at]
  rfl

theorem refH_eq : truncf .bf16 (refF x w) bitsLt_bf16_f32 = arrH (en x) (en1 w) := ext2 fun r q => refF_at x w r q
end

/-- The call computes its mathematics over the extended reals. -/
theorem algebraic : Cert.algebraic_InIdeal_InRefIdeal (hInIdeal := Cert.InIdeal.Gen.facts) (hInRefIdeal := Cert.InRefIdeal.Gen.facts) := by
  intro m g m' g' _ hag
  refine ⟨fun c => arrP (aX m c) (pk (aW m c)) (aw m c), fun c => arrH (aX m c) (aw m c), ?_, ?_⟩
  · refine (θ_run _ _ _).mono (fun r h c => ?_) (Cert.InIdeal.Value.run_blocks m g)
    exact ⟨(h c).1.trans (arr3 m c), (h c).2.1.trans (arr4 m c), (h c).2.2⟩
  · refine (θ_run _ _ _).mono (fun r h c => ?_) (Cert.InRefIdeal.Value.run m' g')
    obtain ⟨e0, e1, e2⟩ := hag c
    have f0 := congrArg (en (n := 32768) (k := 2048)) e0
    have f1 := congrArg (en1 (n := 2048)) e1
    have f2 := congrArg (fun z => pk (en (n := 2048) (k := 12816) z)) e2
    refine ⟨(h c).1.trans ((refC_eq _ _ _).trans ?_), (h c).2.1.trans ((refH_eq _ _).trans ?_), (h c).2.2⟩
    · exact congr (congr (congrArg arrP f0) f2) f1
    · exact congr (congrArg arrH f0) f1

/-- The reference leaves its arguments as they were. -/
theorem frame_ref : Cert.quiescent_InRefIdeal (hInRefIdeal := Cert.InRefIdeal.Gen.facts) := fun m g _ =>
  (θ_run _ _ _).mono (fun r h => ⟨fun c => (h c).2.2, sem_eq_zero_of_no_sems (by decide) r.2⟩) (Cert.InRefIdeal.Value.run m g)

end Cert.InVal

end
-- ==== Proof.MixPoint.lean ====
/- The spatial gating unit of the mixers' call, entry by entry. -/
module

public import proofs.«01_k».proof.Proof.Gen.MixIdeal.Skeleton
public import proofs.«01_k».proof.Proof.Cols
public import Idealize.ShloMosaic.Lib.Pointwise
public import Idealize.ShloMosaic.Lib.MatmulPlain
public import Idealize.ShloMosaic.Lib.ValueIdx

@[expose] public section

set_option maxRecDepth 16384

noncomputable section

namespace Cert.MixVal

open Idealize.ShloMosaic Idealize.ShloMosaic.Tactic Idealize.SL.Sem Cert.Cols Finset

section
/-- The activation. -/
def gl (x : EReal) : EReal :=
  x * (Ideal.ofBits .f32 0x3F000000#32 * (Ideal.ofBits .f32 0x3F800000#32 +
    Ideal.tanh (Ideal.ofBits .f32 0x3F4C422A#32 * (x + Ideal.ofBits .f32 0x3D372713#32 * (x * (x * x))))))

variable (X : ℕ → ℕ → EReal) (w b : ℕ → EReal) (W : ℕ → ℕ → ℕ → EReal) (B : ℕ → ℕ → EReal)

/-- The activated columns. -/
def gu (R C : ℕ) : EReal := gl (X R (3072 + C))
/-- The gating half less its row's mean. -/
def dv (R C : ℕ) : EReal := gu X R (512 + C) - Ideal.div (∑ j : Fin 512, gu X R (512 + j.val)) (Ideal.ofBits .f32 0x44000000#32)
/-- The gating half normed. -/
def ln (R C : ℕ) : EReal :=
  dv X R C * Ideal.rsqrt (Ideal.div (∑ j : Fin 512, dv X R j.val * dv X R j.val) (Ideal.ofBits .f32 0x44000000#32) + Ideal.ofBits .f32 0x358637BD#32) * w C + b C
/-- The gated result: tokens mixed inside a chunk of 128, by groups of 128 columns. -/
def md (R C : ℕ) : EReal := gu X R C * (∑ k : Fin 128, W (C / 128) (R % 128) k.val * ln X w b (R / 128 * 128 + k.val) C + B (R % 128) C)
/-- The result array. -/
def arrM : FVec Ideal (⟨2, ![32768, 512]⟩ : Shape) .bf16 := fun y => md X w b W B (y 0).val (y 1).val
end

section
open Cert.MixIdeal Cert.MixIdeal.Gen

section
variable {X : ℕ → ℕ → EReal} {w b : ℕ → EReal} {x9 : Vec Ideal S512x1024 .f32} {x20 x21 : Vec Ideal S1x512 .f32} (n : ℕ)
  (h9 : ∀ r j, x9 (ix2 r j) = X (n + r.val) (3072 + j.val)) (h20 : ∀ c, x20 (ix2 0 c) = w c.val) (h21 : ∀ c, x21 (ix2 0 c) = b c.val)
include h9

theorem pay46_at (r : Fin 512) (q : Fin 1024) : k0_pay46 x9 (ix2 r q) = gu X (n + r.val) q.val := by
  unfold gu gl
  rw [← h9]
  pointwise [k0_pay46]

theorem pay47_at (r : Fin 512) (q : Fin 512) : k0_pay47 x9 (ix2 r q) = gu X (n + r.val) q.val := by
  rw [← pay46_at n h9 r ⟨q.val, by omega⟩]
  pointwise [k0_pay47]

theorem upper_at (r : Fin 512) (q : Fin 512) : extractStridedSlice S512x512 ![0, 512] (k0_pay46 x9) slices_S512x1024_o0_512_S512x512 (ix2 r q) = gu X (n + r.val) (512 + q.val) := by
  rw [← show _ = _ from pay46_at n h9 r ⟨512 + q.val, by omega⟩]
  pointwise

include h20 h21
theorem pay48_at (r : Fin 512) (q : Fin 512) : k0_pay48 x9 x20 x21 (ix2 r q) = ln X w b (n + r.val) q.val := by
  unfold ln dv
  simp only [← upper_at n h9, ← h20, ← h21]
  pointwise [k0_pay48]
end

/-- One chunk's group of columns, as the kernel stores it. -/
def sgu {p o : ℕ} (hs : S512x512.Slices ![p, o] S128x128) (u : FVec Ideal S512x512 .f32) (v : FVec Ideal S512x512 .bf16) (g : Vec Ideal S1x128x128 .bf16) (e : Vec Ideal S128x128 .f32) : FVec Ideal S128x128 .bf16 :=
  truncf .bf16 (mulf (extractStridedSlice S128x128 ![p, o] u hs) (addf (matmul dot_S128x128_S128x128_S128x128_1_0_0_1_n_n none (shapeCast S128x128 g shapeCasts_S1x128x128_S128x128 : FVec Ideal S128x128 .bf16)
    (extractStridedSlice S128x128 ![p, o] v hs) (constant S128x128 .f32 0x00000000#32)) e)) bitsLt_bf16_f32

theorem sgu_at {p o : ℕ} (hs : S512x512.Slices ![p, o] S128x128) (u : FVec Ideal S512x512 .f32) (v : FVec Ideal S512x512 .bf16) (g : Vec Ideal S1x128x128 .bf16) (e : Vec Ideal S128x128 .f32)
    (hp : p + 128 ≤ 512) (ho : o + 128 ≤ 512) (r q : Fin 128) :
    sgu hs u v g e (ix2 r q) = u (ix2 ⟨p + r.val, by omega⟩ ⟨o + q.val, by omega⟩) *
      (∑ k : Fin 128, g (ix3 0 r k) * v (ix2 ⟨p + k.val, by omega⟩ ⟨o + q.val, by omega⟩) + e (ix2 r q)) := by
  pointwise [sgu]
end

end Cert.MixVal

end
-- ==== Proof.MixBlocks.lean ====
/- The blocks the spatial gating unit reads of its arguments. -/
module

public import proofs.«01_k».proof.Proof.MixPoint
public import proofs.«01_k».proof.Proof.Gen.MixIdeal.Frame.Runs

@[expose] public section

set_option maxRecDepth 16384

noncomputable section

namespace Cert.MixVal

open Idealize.ShloMosaic Idealize.ShloMosaic.Tactic Idealize.SL.Sem Cert.Cols Finset

/-- A stack of matrices' entries, zero outside it. -/
def en3 {l n k : ℕ} (x : (⟨3, ![l, n, k]⟩ : Shape).Idx → EReal) (g r c : ℕ) : EReal :=
  if h : g < l ∧ r < n ∧ c < k then x (ix3 ⟨g, h.1⟩ ⟨r, h.2.1⟩ ⟨c, h.2.2⟩) else 0

theorem en3_ix {l n k : ℕ} (x : (⟨3, ![l, n, k]⟩ : Shape).Idx → EReal) (g : Fin l) (r : Fin n) (c : Fin k) : x (ix3 g r c) = en3 x g.val r.val c.val := by
  unfold en3
  rw [dif_pos ⟨g.isLt, r.isLt, c.isLt⟩]

theorem en3_eq {l n k : ℕ} (x : (⟨3, ![l, n, k]⟩ : Shape).Idx → EReal) (y : (⟨3, ![l, n, k]⟩ : Shape).Idx) : x y = en3 x (y 0).val (y 1).val (y 2).val := by
  refine (congrArg x (funext fun a => ?_)).trans (en3_ix x (y 0) (y 1) (y 2))
  match a with
  | ⟨0, _⟩ => rfl
  | ⟨1, _⟩ => rfl
  | ⟨2, _⟩ => rfl

section
open Idealize.ShloMosaic.TcCoe Cert.MixIdeal Cert.MixIdeal.Gen

theorem hz : (![0, 0] : Fin 2 → Nat) = fun _ => 0 := funext fun a => by fin_cases a <;> rfl

variable (m : (ℓ : Loc nD τ sig) → Buf (Elt Ideal) ℓ)

theorem ix_9 : ∀ t : Fin cfg0.N, win0_9.index t = ![t.val, 3] := (by decide +kernel : ∀ t : Fin grid0.N, win0_9.index t = ![t.val, 3])
theorem ix_20 : ∀ t : Fin cfg0.N, win0_20.index t = ![0, 0] := (by decide +kernel : ∀ t : Fin grid0.N, win0_20.index t = ![0, 0])
theorem ix_21 : ∀ t : Fin cfg0.N, win0_21.index t = ![0, 0] := (by decide +kernel : ∀ t : Fin grid0.N, win0_21.index t = ![0, 0])
theorem ix_22 : ∀ t : Fin cfg0.N, win0_22.index t = ![0, 0, 0] := (by decide +kernel : ∀ t : Fin grid0.N, win0_22.index t = ![0, 0, 0])
theorem ix_23 : ∀ t : Fin cfg0.N, win0_23.index t = ![0, 0] := (by decide +kernel : ∀ t : Fin grid0.N, win0_23.index t = ![0, 0])
theorem ix_26 : ∀ t : Fin cfg0.N, win0_26.index t = ![t.val, 0] := (by decide +kernel : ∀ t : Fin grid0.N, win0_26.index t = ![t.val, 0])

variable (c : Dev nD)

/-- The packed projection. -/
def aX : ℕ → ℕ → EReal := en (n := 32768) (k := 4736) (m ((c.tc : Thread nD τ).loc main_arg0))
/-- The norm's weight. -/
def aw : ℕ → EReal := en (n := 1) (k := 512) (m ((c.tc : Thread nD τ).loc main_arg10)) 0
/-- The norm's shift. -/
def ab : ℕ → EReal := en (n := 1) (k := 512) (m ((c.tc : Thread nD τ).loc main_arg11)) 0
/-- The mixing weights, by group. -/
def aW : ℕ → ℕ → ℕ → EReal := en3 (l := 4) (n := 128) (k := 128) (m ((c.tc : Thread nD τ).loc main_arg12))
/-- The shift of the mixed rows. -/
def aB : ℕ → ℕ → EReal := en (n := 128) (k := 512) (m ((c.tc : Thread nD τ).loc main_arg13))

/-- Window 9 at a point. -/
theorem blk9 (t : Fin cfg0.N) (i : Fin 512) (j : Fin 1024) : X0_9 m c t (ix2 i j) = aX m c (512 * t.val + i.val) (3072 + j.val) := by
  unfold X0_9 Pipeline.Window.fill
  rw [dif_pos (moved0_9 t (ix2 i j))]
  blk_simp [iblk]
  rw [V_main_arg0 m c]
  refine (en_eq (n := 32768) (k := 4736) _ _).trans ?_
  unfold aX
  congr 1
  · blk_simp [ix_9]
    simp [ix2, Nat.mul_comm]
  · blk_simp [ix_9]
/-- Window 20 at a point. -/
theorem blk20 (t : Fin cfg0.N) (j : Fin 512) : iblk m c 20 t (ix2 0 j) = aw m c j.val := by
  blk_simp [iblk]
  rw [V_main_arg10 m c]
  refine (en_eq (n := 1) (k := 512) _ _).trans ?_
  unfold aw
  congr 1
  blk_simp [ix_20]
/-- Window 21 at a point. -/
theorem blk21 (t : Fin cfg0.N) (j : Fin 512) : iblk m c 21 t (ix2 0 j) = ab m c j.val := by
  blk_simp [iblk]
  rw [V_main_arg11 m c]
  refine (en_eq (n := 1) (k := 512) _ _).trans ?_
  unfold ab
  congr 1
  blk_simp [ix_21]
/-- Window 22 at a point. -/
theorem blk22 (t : Fin cfg0.N) (g : Fin 4) (i j : Fin 128) : iblk m c 22 t (ix3 g i j) = aW m c g.val i.val j.val := by
  blk_simp [iblk]
  rw [V_main_arg12 m c]
  refine (en3_eq (l := 4) (n := 128) (k := 128) _ _).trans ?_
  unfold aW
  congr 1
  · blk_simp [ix_22]
  · blk_simp [ix_22]
  · blk_simp [ix_22]
/-- Window 23 at a point. -/
theorem blk23 (t : Fin cfg0.N) (i : Fin 128) (j : Fin 512) : iblk m c 23 t (ix2 i j) = aB m c i.val j.val := by
  blk_simp [iblk]
  rw [V_main_arg13 m c]
  refine (en_eq (n := 128) (k := 512) _ _).trans ?_
  unfold aB
  congr 1
  · blk_simp [ix_23]
  · blk_simp [ix_23]
end

end Cert.MixVal

end
-- ==== Proof.MixIRun.lean ====
/- What the body of the idealized mixers' call stores, from a generated run. -/
module

public import proofs.«01_k».proof.Proof.Gen.MixIdeal.Frame.Runs

@[expose] public section

set_option maxRecDepth 16384

noncomputable section

namespace Cert.MixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 12000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S512x1536 .f32) (harg1 : arg1.IsWhole) (arg2 : Memref sig .tc .vmem S16x1536 .f32) (harg2 : arg2.IsWhole) (arg3 : Memref sig .tc .vmem S16x1536 .f32) (harg3 : arg3.IsWhole) (arg4 : Memref sig .tc .vmem S512x512 .f32) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1024 .f32) (harg7 : arg7.IsWhole) (arg8 : Memref sig .tc .vmem S16x1024 .f32) (harg8 : arg8.IsWhole) (arg9 : Memref sig .tc .vmem S16x1024 .f32) (harg9 : arg9.IsWhole) (arg10 : Memref sig .tc .vmem S512x1024 .f32) (harg10 : arg10.IsWhole) (arg11 : Memref sig .tc .vmem S512x128 .f32) (harg11 : arg11.IsWhole) (arg12 : Memref sig .tc .vmem S4x128x128 .bf16) (harg12 : arg12.IsWhole) (arg13 : Memref sig .tc .vmem S1x512 .f32) (harg13 : arg13.IsWhole) (arg14 : Memref sig .tc .vmem S4x1536 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S31x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S1x512 .f32) (harg22 : arg22.IsWhole) (arg23 : Memref sig .tc .vmem S4x128x128 .bf16) (harg23 : arg23.IsWhole) (arg24 : Memref sig .tc .vmem S128x512 .f32) (harg24 : arg24.IsWhole) (arg25 : Memref sig .tc .vmem S512x512 .bf16) (harg25 : arg25.IsWhole) (arg26 : Memref sig .tc .vmem S512x512 .bf16) (harg26 : arg26.IsWhole) (arg27 : Memref sig .tc .vmem S512x512 .bf16) (harg27 : arg27.IsWhole) (arg28 : Memref sig .tc .vmem S512x1536 .f32) (harg28 : arg28.IsWhole) (arg29 : Memref sig .tc .vmem S512x128 .f32) (harg29 : arg29.IsWhole) (arg30 : Memref sig .tc .vmem S128x512 .f32) (harg30 : arg30.IsWhole) (arg31 : Memref sig .tc .vmem S544x1536 .f32) (harg31 : arg31.IsWhole) (arg32 : Memref sig .tc .vmem S544x512 .f32) (harg32 : arg32.IsWhole) (arg33 : Memref sig .tc .vmem S544x512 .f32) (harg33 : arg33.IsWhole) (arg34 : Memref sig .tc .vmem S7x536x512 .f32) (harg34 : arg34.IsWhole)
    (x0 : Vec F S512x1536 .f32) (x1 : Vec F S16x1536 .f32) (x2 : Vec F S16x1536 .f32) (x3 : Vec F S512x512 .f32) (x4 : Vec F S16x512 .f32) (x5 : Vec F S16x512 .f32) (x6 : Vec F S512x1024 .f32) (x7 : Vec F S16x1024 .f32) (x8 : Vec F S16x1024 .f32) (x9 : Vec F S512x1024 .f32) (x10 : Vec F S512x128 .f32) (x11 : Vec F S4x128x128 .bf16) (x12 : Vec F S1x512 .f32) (x13 : Vec F S4x1536 .f32) (x14 : Vec F S1x128 .f32) (x15 : Vec F S1x128 .f32) (x16 : Vec F S31x512 .f32) (x17 : Vec F S1x512 .f32) (x18 : Vec F S1x512 .f32) (x19 : Vec F S1x512 .f32) (x20 : Vec F S1x512 .f32) (x21 : Vec F S1x512 .f32) (x22 : Vec F S4x128x128 .bf16) (x23 : Vec F S128x512 .f32) :
    Σ' (L24 : List (View.Piece (Elt F) S512x512 .bf16)), Σ' (L25 : List (View.Piece (Elt F) S512x512 .bf16)), Σ' (L26 : List (View.Piece (Elt F) S512x512 .bf16)), Σ' (L27 : List (View.Piece (Elt F) S512x1536 .f32)), Σ' (L28 : List (View.Piece (Elt F) S512x128 .f32)), Σ' (L29 : List (View.Piece (Elt F) S128x512 .f32)), Σ' (LT0 : List (View.Piece (Elt F) S544x1536 .f32)), Σ' (LT1 : List (View.Piece (Elt F) S544x512 .f32)), Σ' (LT2 : List (View.Piece (Elt F) S544x512 .f32)), { LT3 : List (View.Piece (Elt F) S7x536x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f L28) ∗ (∃ f, arg30.view.loc (c : Thread nD τ) ↦[arg30.view.set]{fullShare} arg30.view.writes (Elt F) f L29) ∗ (∃ f, arg31.view.loc (c : Thread nD τ) ↦[arg31.view.set]{fullShare} arg31.view.writes (Elt F) f LT0) ∗ (∃ f, arg32.view.loc (c : Thread nD τ) ↦[arg32.view.set]{fullShare} arg32.view.writes (Elt F) f LT1) ∗ (∃ f, arg33.view.loc (c : Thread nD τ) ↦[arg33.view.set]{fullShare} arg33.view.writes (Elt F) f LT2) ∗ (∃ f, arg34.view.loc (c : Thread nD τ) ↦[arg34.view.set]{fullShare} arg34.view.writes (Elt F) f LT3)) -∗ K ⟨⟩))
          ⊢ wp frame (wpE (defs₀ (F := F)) Variants.none c none) E (cc0_mix i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K } := by
  refine ⟨?_, ?_, ?_, ?_, ?_, ?_, ?_, ?_, ?_, ?_, fun E K => ?run⟩
  case run =>
    simp only [cc0_mix_eq_skeleton]; unfold cc0_mix_skel
    simp only [k0_part29_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [HS0]; · iexists _; iexact HS0
    isplitl [HS1]; · iexists _; iexact HS1
    isplitl [HS2]; · iexists _; iexact HS2
    iexists _; iexact HS3

end Cert.MixIdeal.Gen

end
-- ==== Proof.MixIFrame.lean ====
/- The frame of the idealized mixers' call, from a generated one. -/
module

public import proofs.«01_k».proof.Proof.MixIRun
public import Idealize.ShloMosaic.Lib.Claim

@[expose] public section

set_option maxRecDepth 16384

noncomputable section

namespace Cert.MixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 24 tile its block (4 stores of `S512x128`), so they cover it. -/
theorem cover0_A_24 (c : Dev nD) (i : grid0.Coords) (arg1 : Memref sig .tc .vmem S512x1536 .f32) (harg1 : arg1.IsWhole) (arg2 : Memref sig .tc .vmem S16x1536 .f32) (harg2 : arg2.IsWhole) (arg3 : Memref sig .tc .vmem S16x1536 .f32) (harg3 : arg3.IsWhole) (arg4 : Memref sig .tc .vmem S512x512 .f32) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1024 .f32) (harg7 : arg7.IsWhole) (arg8 : Memref sig .tc .vmem S16x1024 .f32) (harg8 : arg8.IsWhole) (arg9 : Memref sig .tc .vmem S16x1024 .f32) (harg9 : arg9.IsWhole) (arg10 : Memref sig .tc .vmem S512x1024 .f32) (harg10 : arg10.IsWhole) (arg11 : Memref sig .tc .vmem S512x128 .f32) (harg11 : arg11.IsWhole) (arg12 : Memref sig .tc .vmem S4x128x128 .bf16) (harg12 : arg12.IsWhole) (arg13 : Memref sig .tc .vmem S1x512 .f32) (harg13 : arg13.IsWhole) (arg14 : Memref sig .tc .vmem S4x1536 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S31x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S1x512 .f32) (harg22 : arg22.IsWhole) (arg23 : Memref sig .tc .vmem S4x128x128 .bf16) (harg23 : arg23.IsWhole) (arg24 : Memref sig .tc .vmem S128x512 .f32) (harg24 : arg24.IsWhole) (arg25 : Memref sig .tc .vmem S512x512 .bf16) (harg25 : arg25.IsWhole) (arg26 : Memref sig .tc .vmem S512x512 .bf16) (harg26 : arg26.IsWhole) (arg27 : Memref sig .tc .vmem S512x512 .bf16) (harg27 : arg27.IsWhole) (arg28 : Memref sig .tc .vmem S512x1536 .f32) (harg28 : arg28.IsWhole) (arg29 : Memref sig .tc .vmem S512x128 .f32) (harg29 : arg29.IsWhole) (arg30 : Memref sig .tc .vmem S128x512 .f32) (harg30 : arg30.IsWhole) (arg31 : Memref sig .tc .vmem S544x1536 .f32) (harg31 : arg31.IsWhole) (arg32 : Memref sig .tc .vmem S544x512 .f32) (harg32 : arg32.IsWhole) (arg33 : Memref sig .tc .vmem S544x512 .f32) (harg33 : arg33.IsWhole) (arg34 : Memref sig .tc .vmem S7x536x512 .f32) (harg34 : arg34.IsWhole)
    (x0 : Vec F S512x1536 .f32) (x1 : Vec F S16x1536 .f32) (x2 : Vec F S16x1536 .f32) (x3 : Vec F S512x512 .f32) (x4 : Vec F S16x512 .f32) (x5 : Vec F S16x512 .f32) (x6 : Vec F S512x1024 .f32) (x7 : Vec F S16x1024 .f32) (x8 : Vec F S16x1024 .f32) (x9 : Vec F S512x1024 .f32) (x10 : Vec F S512x128 .f32) (x11 : Vec F S4x128x128 .bf16) (x12 : Vec F S1x512 .f32) (x13 : Vec F S4x1536 .f32) (x14 : Vec F S1x128 .f32) (x15 : Vec F S1x128 .f32) (x16 : Vec F S31x512 .f32) (x17 : Vec F S1x512 .f32) (x18 : Vec F S1x512 .f32) (x19 : Vec F S1x512 .f32) (x20 : Vec F S1x512 .f32) (x21 : Vec F S1x512 .f32) (x22 : Vec F S4x128x128 .bf16) (x23 : Vec F S128x512 .f32) (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23).1 S512x128.size (by sl_kernel_rfl) y

/-- What the run leaves in output 24's staging buffer: its pieces read back over junk. -/
def out0_A_24 (c : Dev nD) (i : grid0.Coords) (arg1 : Memref sig .tc .vmem S512x1536 .f32) (harg1 : arg1.IsWhole) (arg2 : Memref sig .tc .vmem S16x1536 .f32) (harg2 : arg2.IsWhole) (arg3 : Memref sig .tc .vmem S16x1536 .f32) (harg3 : arg3.IsWhole) (arg4 : Memref sig .tc .vmem S512x512 .f32) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1024 .f32) (harg7 : arg7.IsWhole) (arg8 : Memref sig .tc .vmem S16x1024 .f32) (harg8 : arg8.IsWhole) (arg9 : Memref sig .tc .vmem S16x1024 .f32) (harg9 : arg9.IsWhole) (arg10 : Memref sig .tc .vmem S512x1024 .f32) (harg10 : arg10.IsWhole) (arg11 : Memref sig .tc .vmem S512x128 .f32) (harg11 : arg11.IsWhole) (arg12 : Memref sig .tc .vmem S4x128x128 .bf16) (harg12 : arg12.IsWhole) (arg13 : Memref sig .tc .vmem S1x512 .f32) (harg13 : arg13.IsWhole) (arg14 : Memref sig .tc .vmem S4x1536 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S31x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S1x512 .f32) (harg22 : arg22.IsWhole) (arg23 : Memref sig .tc .vmem S4x128x128 .bf16) (harg23 : arg23.IsWhole) (arg24 : Memref sig .tc .vmem S128x512 .f32) (harg24 : arg24.IsWhole) (arg25 : Memref sig .tc .vmem S512x512 .bf16) (harg25 : arg25.IsWhole) (arg26 : Memref sig .tc .vmem S512x512 .bf16) (harg26 : arg26.IsWhole) (arg27 : Memref sig .tc .vmem S512x512 .bf16) (harg27 : arg27.IsWhole) (arg28 : Memref sig .tc .vmem S512x1536 .f32) (harg28 : arg28.IsWhole) (arg29 : Memref sig .tc .vmem S512x128 .f32) (harg29 : arg29.IsWhole) (arg30 : Memref sig .tc .vmem S128x512 .f32) (harg30 : arg30.IsWhole) (arg31 : Memref sig .tc .vmem S544x1536 .f32) (harg31 : arg31.IsWhole) (arg32 : Memref sig .tc .vmem S544x512 .f32) (harg32 : arg32.IsWhole) (arg33 : Memref sig .tc .vmem S544x512 .f32) (harg33 : arg33.IsWhole) (arg34 : Memref sig .tc .vmem S7x536x512 .f32) (harg34 : arg34.IsWhole)
    (x0 : Vec F S512x1536 .f32) (x1 : Vec F S16x1536 .f32) (x2 : Vec F S16x1536 .f32) (x3 : Vec F S512x512 .f32) (x4 : Vec F S16x512 .f32) (x5 : Vec F S16x512 .f32) (x6 : Vec F S512x1024 .f32) (x7 : Vec F S16x1024 .f32) (x8 : Vec F S16x1024 .f32) (x9 : Vec F S512x1024 .f32) (x10 : Vec F S512x128 .f32) (x11 : Vec F S4x128x128 .bf16) (x12 : Vec F S1x512 .f32) (x13 : Vec F S4x1536 .f32) (x14 : Vec F S1x128 .f32) (x15 : Vec F S1x128 .f32) (x16 : Vec F S31x512 .f32) (x17 : Vec F S1x512 .f32) (x18 : Vec F S1x512 .f32) (x19 : Vec F S1x512 .f32) (x20 : Vec F S1x512 .f32) (x21 : Vec F S1x512 .f32) (x22 : Vec F S4x128x128 .bf16) (x23 : Vec F S128x512 .f32) : Vec F S512x512 .bf16 :=
  VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23).1)

/-- The run's pieces for output 25 tile its block (1 store of `S512x512`), so they cover it. -/
theorem cover0_A_25 (c : Dev nD) (i : grid0.Coords) (arg1 : Memref sig .tc .vmem S512x1536 .f32) (harg1 : arg1.IsWhole) (arg2 : Memref sig .tc .vmem S16x1536 .f32) (harg2 : arg2.IsWhole) (arg3 : Memref sig .tc .vmem S16x1536 .f32) (harg3 : arg3.IsWhole) (arg4 : Memref sig .tc .vmem S512x512 .f32) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1024 .f32) (harg7 : arg7.IsWhole) (arg8 : Memref sig .tc .vmem S16x1024 .f32) (harg8 : arg8.IsWhole) (arg9 : Memref sig .tc .vmem S16x1024 .f32) (harg9 : arg9.IsWhole) (arg10 : Memref sig .tc .vmem S512x1024 .f32) (harg10 : arg10.IsWhole) (arg11 : Memref sig .tc .vmem S512x128 .f32) (harg11 : arg11.IsWhole) (arg12 : Memref sig .tc .vmem S4x128x128 .bf16) (harg12 : arg12.IsWhole) (arg13 : Memref sig .tc .vmem S1x512 .f32) (harg13 : arg13.IsWhole) (arg14 : Memref sig .tc .vmem S4x1536 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S31x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S1x512 .f32) (harg22 : arg22.IsWhole) (arg23 : Memref sig .tc .vmem S4x128x128 .bf16) (harg23 : arg23.IsWhole) (arg24 : Memref sig .tc .vmem S128x512 .f32) (harg24 : arg24.IsWhole) (arg25 : Memref sig .tc .vmem S512x512 .bf16) (harg25 : arg25.IsWhole) (arg26 : Memref sig .tc .vmem S512x512 .bf16) (harg26 : arg26.IsWhole) (arg27 : Memref sig .tc .vmem S512x512 .bf16) (harg27 : arg27.IsWhole) (arg28 : Memref sig .tc .vmem S512x1536 .f32) (harg28 : arg28.IsWhole) (arg29 : Memref sig .tc .vmem S512x128 .f32) (harg29 : arg29.IsWhole) (arg30 : Memref sig .tc .vmem S128x512 .f32) (harg30 : arg30.IsWhole) (arg31 : Memref sig .tc .vmem S544x1536 .f32) (harg31 : arg31.IsWhole) (arg32 : Memref sig .tc .vmem S544x512 .f32) (harg32 : arg32.IsWhole) (arg33 : Memref sig .tc .vmem S544x512 .f32) (harg33 : arg33.IsWhole) (arg34 : Memref sig .tc .vmem S7x536x512 .f32) (harg34 : arg34.IsWhole)
    (x0 : Vec F S512x1536 .f32) (x1 : Vec F S16x1536 .f32) (x2 : Vec F S16x1536 .f32) (x3 : Vec F S512x512 .f32) (x4 : Vec F S16x512 .f32) (x5 : Vec F S16x512 .f32) (x6 : Vec F S512x1024 .f32) (x7 : Vec F S16x1024 .f32) (x8 : Vec F S16x1024 .f32) (x9 : Vec F S512x1024 .f32) (x10 : Vec F S512x128 .f32) (x11 : Vec F S4x128x128 .bf16) (x12 : Vec F S1x512 .f32) (x13 : Vec F S4x1536 .f32) (x14 : Vec F S1x128 .f32) (x15 : Vec F S1x128 .f32) (x16 : Vec F S31x512 .f32) (x17 : Vec F S1x512 .f32) (x18 : Vec F S1x512 .f32) (x19 : Vec F S1x512 .f32) (x20 : Vec F S1x512 .f32) (x21 : Vec F S1x512 .f32) (x22 : Vec F S4x128x128 .bf16) (x23 : Vec F S128x512 .f32) (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23).2.1 S512x512.size (by sl_kernel_rfl) y

/-- What the run leaves in output 25's staging buffer: its pieces read back over junk. -/
def out0_A_25 (c : Dev nD) (i : grid0.Coords) (arg1 : Memref sig .tc .vmem S512x1536 .f32) (harg1 : arg1.IsWhole) (arg2 : Memref sig .tc .vmem S16x1536 .f32) (harg2 : arg2.IsWhole) (arg3 : Memref sig .tc .vmem S16x1536 .f32) (harg3 : arg3.IsWhole) (arg4 : Memref sig .tc .vmem S512x512 .f32) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1024 .f32) (harg7 : arg7.IsWhole) (arg8 : Memref sig .tc .vmem S16x1024 .f32) (harg8 : arg8.IsWhole) (arg9 : Memref sig .tc .vmem S16x1024 .f32) (harg9 : arg9.IsWhole) (arg10 : Memref sig .tc .vmem S512x1024 .f32) (harg10 : arg10.IsWhole) (arg11 : Memref sig .tc .vmem S512x128 .f32) (harg11 : arg11.IsWhole) (arg12 : Memref sig .tc .vmem S4x128x128 .bf16) (harg12 : arg12.IsWhole) (arg13 : Memref sig .tc .vmem S1x512 .f32) (harg13 : arg13.IsWhole) (arg14 : Memref sig .tc .vmem S4x1536 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S31x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S1x512 .f32) (harg22 : arg22.IsWhole) (arg23 : Memref sig .tc .vmem S4x128x128 .bf16) (harg23 : arg23.IsWhole) (arg24 : Memref sig .tc .vmem S128x512 .f32) (harg24 : arg24.IsWhole) (arg25 : Memref sig .tc .vmem S512x512 .bf16) (harg25 : arg25.IsWhole) (arg26 : Memref sig .tc .vmem S512x512 .bf16) (harg26 : arg26.IsWhole) (arg27 : Memref sig .tc .vmem S512x512 .bf16) (harg27 : arg27.IsWhole) (arg28 : Memref sig .tc .vmem S512x1536 .f32) (harg28 : arg28.IsWhole) (arg29 : Memref sig .tc .vmem S512x128 .f32) (harg29 : arg29.IsWhole) (arg30 : Memref sig .tc .vmem S128x512 .f32) (harg30 : arg30.IsWhole) (arg31 : Memref sig .tc .vmem S544x1536 .f32) (harg31 : arg31.IsWhole) (arg32 : Memref sig .tc .vmem S544x512 .f32) (harg32 : arg32.IsWhole) (arg33 : Memref sig .tc .vmem S544x512 .f32) (harg33 : arg33.IsWhole) (arg34 : Memref sig .tc .vmem S7x536x512 .f32) (harg34 : arg34.IsWhole)
    (x0 : Vec F S512x1536 .f32) (x1 : Vec F S16x1536 .f32) (x2 : Vec F S16x1536 .f32) (x3 : Vec F S512x512 .f32) (x4 : Vec F S16x512 .f32) (x5 : Vec F S16x512 .f32) (x6 : Vec F S512x1024 .f32) (x7 : Vec F S16x1024 .f32) (x8 : Vec F S16x1024 .f32) (x9 : Vec F S512x1024 .f32) (x10 : Vec F S512x128 .f32) (x11 : Vec F S4x128x128 .bf16) (x12 : Vec F S1x512 .f32) (x13 : Vec F S4x1536 .f32) (x14 : Vec F S1x128 .f32) (x15 : Vec F S1x128 .f32) (x16 : Vec F S31x512 .f32) (x17 : Vec F S1x512 .f32) (x18 : Vec F S1x512 .f32) (x19 : Vec F S1x512 .f32) (x20 : Vec F S1x512 .f32) (x21 : Vec F S1x512 .f32) (x22 : Vec F S4x128x128 .bf16) (x23 : Vec F S128x512 .f32) : Vec F S512x512 .bf16 :=
  VO0_25.read (Elt F) (VO0_25.writes (Elt F) VO0_25.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23).2.1)

/-- The run's pieces for output 26 tile its block (16 stores of `S128x128`), so they cover it. -/
theorem cover0_A_26 (c : Dev nD) (i : grid0.Coords) (arg1 : Memref sig .tc .vmem S512x1536 .f32) (harg1 : arg1.IsWhole) (arg2 : Memref sig .tc .vmem S16x1536 .f32) (harg2 : arg2.IsWhole) (arg3 : Memref sig .tc .vmem S16x1536 .f32) (harg3 : arg3.IsWhole) (arg4 : Memref sig .tc .vmem S512x512 .f32) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1024 .f32) (harg7 : arg7.IsWhole) (arg8 : Memref sig .tc .vmem S16x1024 .f32) (harg8 : arg8.IsWhole) (arg9 : Memref sig .tc .vmem S16x1024 .f32) (harg9 : arg9.IsWhole) (arg10 : Memref sig .tc .vmem S512x1024 .f32) (harg10 : arg10.IsWhole) (arg11 : Memref sig .tc .vmem S512x128 .f32) (harg11 : arg11.IsWhole) (arg12 : Memref sig .tc .vmem S4x128x128 .bf16) (harg12 : arg12.IsWhole) (arg13 : Memref sig .tc .vmem S1x512 .f32) (harg13 : arg13.IsWhole) (arg14 : Memref sig .tc .vmem S4x1536 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S31x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S1x512 .f32) (harg22 : arg22.IsWhole) (arg23 : Memref sig .tc .vmem S4x128x128 .bf16) (harg23 : arg23.IsWhole) (arg24 : Memref sig .tc .vmem S128x512 .f32) (harg24 : arg24.IsWhole) (arg25 : Memref sig .tc .vmem S512x512 .bf16) (harg25 : arg25.IsWhole) (arg26 : Memref sig .tc .vmem S512x512 .bf16) (harg26 : arg26.IsWhole) (arg27 : Memref sig .tc .vmem S512x512 .bf16) (harg27 : arg27.IsWhole) (arg28 : Memref sig .tc .vmem S512x1536 .f32) (harg28 : arg28.IsWhole) (arg29 : Memref sig .tc .vmem S512x128 .f32) (harg29 : arg29.IsWhole) (arg30 : Memref sig .tc .vmem S128x512 .f32) (harg30 : arg30.IsWhole) (arg31 : Memref sig .tc .vmem S544x1536 .f32) (harg31 : arg31.IsWhole) (arg32 : Memref sig .tc .vmem S544x512 .f32) (harg32 : arg32.IsWhole) (arg33 : Memref sig .tc .vmem S544x512 .f32) (harg33 : arg33.IsWhole) (arg34 : Memref sig .tc .vmem S7x536x512 .f32) (harg34 : arg34.IsWhole)
    (x0 : Vec F S512x1536 .f32) (x1 : Vec F S16x1536 .f32) (x2 : Vec F S16x1536 .f32) (x3 : Vec F S512x512 .f32) (x4 : Vec F S16x512 .f32) (x5 : Vec F S16x512 .f32) (x6 : Vec F S512x1024 .f32) (x7 : Vec F S16x1024 .f32) (x8 : Vec F S16x1024 .f32) (x9 : Vec F S512x1024 .f32) (x10 : Vec F S512x128 .f32) (x11 : Vec F S4x128x128 .bf16) (x12 : Vec F S1x512 .f32) (x13 : Vec F S4x1536 .f32) (x14 : Vec F S1x128 .f32) (x15 : Vec F S1x128 .f32) (x16 : Vec F S31x512 .f32) (x17 : Vec F S1x512 .f32) (x18 : Vec F S1x512 .f32) (x19 : Vec F S1x512 .f32) (x20 : Vec F S1x512 .f32) (x21 : Vec F S1x512 .f32) (x22 : Vec F S4x128x128 .bf16) (x23 : Vec F S128x512 .f32) (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23).2.2.1 S128x128.size (by sl_kernel_rfl) y

/-- What the run leaves in output 26's staging buffer: its pieces read back over junk. -/
def out0_A_26 (c : Dev nD) (i : grid0.Coords) (arg1 : Memref sig .tc .vmem S512x1536 .f32) (harg1 : arg1.IsWhole) (arg2 : Memref sig .tc .vmem S16x1536 .f32) (harg2 : arg2.IsWhole) (arg3 : Memref sig .tc .vmem S16x1536 .f32) (harg3 : arg3.IsWhole) (arg4 : Memref sig .tc .vmem S512x512 .f32) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1024 .f32) (harg7 : arg7.IsWhole) (arg8 : Memref sig .tc .vmem S16x1024 .f32) (harg8 : arg8.IsWhole) (arg9 : Memref sig .tc .vmem S16x1024 .f32) (harg9 : arg9.IsWhole) (arg10 : Memref sig .tc .vmem S512x1024 .f32) (harg10 : arg10.IsWhole) (arg11 : Memref sig .tc .vmem S512x128 .f32) (harg11 : arg11.IsWhole) (arg12 : Memref sig .tc .vmem S4x128x128 .bf16) (harg12 : arg12.IsWhole) (arg13 : Memref sig .tc .vmem S1x512 .f32) (harg13 : arg13.IsWhole) (arg14 : Memref sig .tc .vmem S4x1536 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S31x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S1x512 .f32) (harg22 : arg22.IsWhole) (arg23 : Memref sig .tc .vmem S4x128x128 .bf16) (harg23 : arg23.IsWhole) (arg24 : Memref sig .tc .vmem S128x512 .f32) (harg24 : arg24.IsWhole) (arg25 : Memref sig .tc .vmem S512x512 .bf16) (harg25 : arg25.IsWhole) (arg26 : Memref sig .tc .vmem S512x512 .bf16) (harg26 : arg26.IsWhole) (arg27 : Memref sig .tc .vmem S512x512 .bf16) (harg27 : arg27.IsWhole) (arg28 : Memref sig .tc .vmem S512x1536 .f32) (harg28 : arg28.IsWhole) (arg29 : Memref sig .tc .vmem S512x128 .f32) (harg29 : arg29.IsWhole) (arg30 : Memref sig .tc .vmem S128x512 .f32) (harg30 : arg30.IsWhole) (arg31 : Memref sig .tc .vmem S544x1536 .f32) (harg31 : arg31.IsWhole) (arg32 : Memref sig .tc .vmem S544x512 .f32) (harg32 : arg32.IsWhole) (arg33 : Memref sig .tc .vmem S544x512 .f32) (harg33 : arg33.IsWhole) (arg34 : Memref sig .tc .vmem S7x536x512 .f32) (harg34 : arg34.IsWhole)
    (x0 : Vec F S512x1536 .f32) (x1 : Vec F S16x1536 .f32) (x2 : Vec F S16x1536 .f32) (x3 : Vec F S512x512 .f32) (x4 : Vec F S16x512 .f32) (x5 : Vec F S16x512 .f32) (x6 : Vec F S512x1024 .f32) (x7 : Vec F S16x1024 .f32) (x8 : Vec F S16x1024 .f32) (x9 : Vec F S512x1024 .f32) (x10 : Vec F S512x128 .f32) (x11 : Vec F S4x128x128 .bf16) (x12 : Vec F S1x512 .f32) (x13 : Vec F S4x1536 .f32) (x14 : Vec F S1x128 .f32) (x15 : Vec F S1x128 .f32) (x16 : Vec F S31x512 .f32) (x17 : Vec F S1x512 .f32) (x18 : Vec F S1x512 .f32) (x19 : Vec F S1x512 .f32) (x20 : Vec F S1x512 .f32) (x21 : Vec F S1x512 .f32) (x22 : Vec F S4x128x128 .bf16) (x23 : Vec F S128x512 .f32) : Vec F S512x512 .bf16 :=
  VO0_26.read (Elt F) (VO0_26.writes (Elt F) VO0_26.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23).2.2.1)

/-- The run's pieces for output 27 are of SEVERAL sizes (9 stores of `S512x128`, `S512x512`): cut into blocks of `![512, 128]` they tile its block, so they cover it. -/
theorem cover0_A_27 (c : Dev nD) (i : grid0.Coords) (arg1 : Memref sig .tc .vmem S512x1536 .f32) (harg1 : arg1.IsWhole) (arg2 : Memref sig .tc .vmem S16x1536 .f32) (harg2 : arg2.IsWhole) (arg3 : Memref sig .tc .vmem S16x1536 .f32) (harg3 : arg3.IsWhole) (arg4 : Memref sig .tc .vmem S512x512 .f32) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1024 .f32) (harg7 : arg7.IsWhole) (arg8 : Memref sig .tc .vmem S16x1024 .f32) (harg8 : arg8.IsWhole) (arg9 : Memref sig .tc .vmem S16x1024 .f32) (harg9 : arg9.IsWhole) (arg10 : Memref sig .tc .vmem S512x1024 .f32) (harg10 : arg10.IsWhole) (arg11 : Memref sig .tc .vmem S512x128 .f32) (harg11 : arg11.IsWhole) (arg12 : Memref sig .tc .vmem S4x128x128 .bf16) (harg12 : arg12.IsWhole) (arg13 : Memref sig .tc .vmem S1x512 .f32) (harg13 : arg13.IsWhole) (arg14 : Memref sig .tc .vmem S4x1536 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S31x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S1x512 .f32) (harg22 : arg22.IsWhole) (arg23 : Memref sig .tc .vmem S4x128x128 .bf16) (harg23 : arg23.IsWhole) (arg24 : Memref sig .tc .vmem S128x512 .f32) (harg24 : arg24.IsWhole) (arg25 : Memref sig .tc .vmem S512x512 .bf16) (harg25 : arg25.IsWhole) (arg26 : Memref sig .tc .vmem S512x512 .bf16) (harg26 : arg26.IsWhole) (arg27 : Memref sig .tc .vmem S512x512 .bf16) (harg27 : arg27.IsWhole) (arg28 : Memref sig .tc .vmem S512x1536 .f32) (harg28 : arg28.IsWhole) (arg29 : Memref sig .tc .vmem S512x128 .f32) (harg29 : arg29.IsWhole) (arg30 : Memref sig .tc .vmem S128x512 .f32) (harg30 : arg30.IsWhole) (arg31 : Memref sig .tc .vmem S544x1536 .f32) (harg31 : arg31.IsWhole) (arg32 : Memref sig .tc .vmem S544x512 .f32) (harg32 : arg32.IsWhole) (arg33 : Memref sig .tc .vmem S544x512 .f32) (harg33 : arg33.IsWhole) (arg34 : Memref sig .tc .vmem S7x536x512 .f32) (harg34 : arg34.IsWhole)
    (x0 : Vec F S512x1536 .f32) (x1 : Vec F S16x1536 .f32) (x2 : Vec F S16x1536 .f32) (x3 : Vec F S512x512 .f32) (x4 : Vec F S16x512 .f32) (x5 : Vec F S16x512 .f32) (x6 : Vec F S512x1024 .f32) (x7 : Vec F S16x1024 .f32) (x8 : Vec F S16x1024 .f32) (x9 : Vec F S512x1024 .f32) (x10 : Vec F S512x128 .f32) (x11 : Vec F S4x128x128 .bf16) (x12 : Vec F S1x512 .f32) (x13 : Vec F S4x1536 .f32) (x14 : Vec F S1x128 .f32) (x15 : Vec F S1x128 .f32) (x16 : Vec F S31x512 .f32) (x17 : Vec F S1x512 .f32) (x18 : Vec F S1x512 .f32) (x19 : Vec F S1x512 .f32) (x20 : Vec F S1x512 .f32) (x21 : Vec F S1x512 .f32) (x22 : Vec F S4x128x128 .bf16) (x23 : Vec F S128x512 .f32) (y : S512x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23).2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23).2.2.2.1 ![512, 128] (by sl_kernel_rfl) y

/-- What the run leaves in output 27's staging buffer: its pieces read back over junk. -/
def out0_A_27 (c : Dev nD) (i : grid0.Coords) (arg1 : Memref sig .tc .vmem S512x1536 .f32) (harg1 : arg1.IsWhole) (arg2 : Memref sig .tc .vmem S16x1536 .f32) (harg2 : arg2.IsWhole) (arg3 : Memref sig .tc .vmem S16x1536 .f32) (harg3 : arg3.IsWhole) (arg4 : Memref sig .tc .vmem S512x512 .f32) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1024 .f32) (harg7 : arg7.IsWhole) (arg8 : Memref sig .tc .vmem S16x1024 .f32) (harg8 : arg8.IsWhole) (arg9 : Memref sig .tc .vmem S16x1024 .f32) (harg9 : arg9.IsWhole) (arg10 : Memref sig .tc .vmem S512x1024 .f32) (harg10 : arg10.IsWhole) (arg11 : Memref sig .tc .vmem S512x128 .f32) (harg11 : arg11.IsWhole) (arg12 : Memref sig .tc .vmem S4x128x128 .bf16) (harg12 : arg12.IsWhole) (arg13 : Memref sig .tc .vmem S1x512 .f32) (harg13 : arg13.IsWhole) (arg14 : Memref sig .tc .vmem S4x1536 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S31x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S1x512 .f32) (harg22 : arg22.IsWhole) (arg23 : Memref sig .tc .vmem S4x128x128 .bf16) (harg23 : arg23.IsWhole) (arg24 : Memref sig .tc .vmem S128x512 .f32) (harg24 : arg24.IsWhole) (arg25 : Memref sig .tc .vmem S512x512 .bf16) (harg25 : arg25.IsWhole) (arg26 : Memref sig .tc .vmem S512x512 .bf16) (harg26 : arg26.IsWhole) (arg27 : Memref sig .tc .vmem S512x512 .bf16) (harg27 : arg27.IsWhole) (arg28 : Memref sig .tc .vmem S512x1536 .f32) (harg28 : arg28.IsWhole) (arg29 : Memref sig .tc .vmem S512x128 .f32) (harg29 : arg29.IsWhole) (arg30 : Memref sig .tc .vmem S128x512 .f32) (harg30 : arg30.IsWhole) (arg31 : Memref sig .tc .vmem S544x1536 .f32) (harg31 : arg31.IsWhole) (arg32 : Memref sig .tc .vmem S544x512 .f32) (harg32 : arg32.IsWhole) (arg33 : Memref sig .tc .vmem S544x512 .f32) (harg33 : arg33.IsWhole) (arg34 : Memref sig .tc .vmem S7x536x512 .f32) (harg34 : arg34.IsWhole)
    (x0 : Vec F S512x1536 .f32) (x1 : Vec F S16x1536 .f32) (x2 : Vec F S16x1536 .f32) (x3 : Vec F S512x512 .f32) (x4 : Vec F S16x512 .f32) (x5 : Vec F S16x512 .f32) (x6 : Vec F S512x1024 .f32) (x7 : Vec F S16x1024 .f32) (x8 : Vec F S16x1024 .f32) (x9 : Vec F S512x1024 .f32) (x10 : Vec F S512x128 .f32) (x11 : Vec F S4x128x128 .bf16) (x12 : Vec F S1x512 .f32) (x13 : Vec F S4x1536 .f32) (x14 : Vec F S1x128 .f32) (x15 : Vec F S1x128 .f32) (x16 : Vec F S31x512 .f32) (x17 : Vec F S1x512 .f32) (x18 : Vec F S1x512 .f32) (x19 : Vec F S1x512 .f32) (x20 : Vec F S1x512 .f32) (x21 : Vec F S1x512 .f32) (x22 : Vec F S4x128x128 .bf16) (x23 : Vec F S128x512 .f32) : Vec F S512x1536 .f32 :=
  VO0_27.read (Elt F) (VO0_27.writes (Elt F) VO0_27.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23).2.2.2.1)

/-- The run's pieces for output 28 tile its block (4 stores of `S128x128`), so they cover it. -/
theorem cover0_A_28 (c : Dev nD) (i : grid0.Coords) (arg1 : Memref sig .tc .vmem S512x1536 .f32) (harg1 : arg1.IsWhole) (arg2 : Memref sig .tc .vmem S16x1536 .f32) (harg2 : arg2.IsWhole) (arg3 : Memref sig .tc .vmem S16x1536 .f32) (harg3 : arg3.IsWhole) (arg4 : Memref sig .tc .vmem S512x512 .f32) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1024 .f32) (harg7 : arg7.IsWhole) (arg8 : Memref sig .tc .vmem S16x1024 .f32) (harg8 : arg8.IsWhole) (arg9 : Memref sig .tc .vmem S16x1024 .f32) (harg9 : arg9.IsWhole) (arg10 : Memref sig .tc .vmem S512x1024 .f32) (harg10 : arg10.IsWhole) (arg11 : Memref sig .tc .vmem S512x128 .f32) (harg11 : arg11.IsWhole) (arg12 : Memref sig .tc .vmem S4x128x128 .bf16) (harg12 : arg12.IsWhole) (arg13 : Memref sig .tc .vmem S1x512 .f32) (harg13 : arg13.IsWhole) (arg14 : Memref sig .tc .vmem S4x1536 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S31x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S1x512 .f32) (harg22 : arg22.IsWhole) (arg23 : Memref sig .tc .vmem S4x128x128 .bf16) (harg23 : arg23.IsWhole) (arg24 : Memref sig .tc .vmem S128x512 .f32) (harg24 : arg24.IsWhole) (arg25 : Memref sig .tc .vmem S512x512 .bf16) (harg25 : arg25.IsWhole) (arg26 : Memref sig .tc .vmem S512x512 .bf16) (harg26 : arg26.IsWhole) (arg27 : Memref sig .tc .vmem S512x512 .bf16) (harg27 : arg27.IsWhole) (arg28 : Memref sig .tc .vmem S512x1536 .f32) (harg28 : arg28.IsWhole) (arg29 : Memref sig .tc .vmem S512x128 .f32) (harg29 : arg29.IsWhole) (arg30 : Memref sig .tc .vmem S128x512 .f32) (harg30 : arg30.IsWhole) (arg31 : Memref sig .tc .vmem S544x1536 .f32) (harg31 : arg31.IsWhole) (arg32 : Memref sig .tc .vmem S544x512 .f32) (harg32 : arg32.IsWhole) (arg33 : Memref sig .tc .vmem S544x512 .f32) (harg33 : arg33.IsWhole) (arg34 : Memref sig .tc .vmem S7x536x512 .f32) (harg34 : arg34.IsWhole)
    (x0 : Vec F S512x1536 .f32) (x1 : Vec F S16x1536 .f32) (x2 : Vec F S16x1536 .f32) (x3 : Vec F S512x512 .f32) (x4 : Vec F S16x512 .f32) (x5 : Vec F S16x512 .f32) (x6 : Vec F S512x1024 .f32) (x7 : Vec F S16x1024 .f32) (x8 : Vec F S16x1024 .f32) (x9 : Vec F S512x1024 .f32) (x10 : Vec F S512x128 .f32) (x11 : Vec F S4x128x128 .bf16) (x12 : Vec F S1x512 .f32) (x13 : Vec F S4x1536 .f32) (x14 : Vec F S1x128 .f32) (x15 : Vec F S1x128 .f32) (x16 : Vec F S31x512 .f32) (x17 : Vec F S1x512 .f32) (x18 : Vec F S1x512 .f32) (x19 : Vec F S1x512 .f32) (x20 : Vec F S1x512 .f32) (x21 : Vec F S1x512 .f32) (x22 : Vec F S4x128x128 .bf16) (x23 : Vec F S128x512 .f32) (y : S512x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23).2.2.2.2.1 S128x128.size (by sl_kernel_rfl) y

/-- What the run leaves in output 28's staging buffer: its pieces read back over junk. -/
def out0_A_28 (c : Dev nD) (i : grid0.Coords) (arg1 : Memref sig .tc .vmem S512x1536 .f32) (harg1 : arg1.IsWhole) (arg2 : Memref sig .tc .vmem S16x1536 .f32) (harg2 : arg2.IsWhole) (arg3 : Memref sig .tc .vmem S16x1536 .f32) (harg3 : arg3.IsWhole) (arg4 : Memref sig .tc .vmem S512x512 .f32) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1024 .f32) (harg7 : arg7.IsWhole) (arg8 : Memref sig .tc .vmem S16x1024 .f32) (harg8 : arg8.IsWhole) (arg9 : Memref sig .tc .vmem S16x1024 .f32) (harg9 : arg9.IsWhole) (arg10 : Memref sig .tc .vmem S512x1024 .f32) (harg10 : arg10.IsWhole) (arg11 : Memref sig .tc .vmem S512x128 .f32) (harg11 : arg11.IsWhole) (arg12 : Memref sig .tc .vmem S4x128x128 .bf16) (harg12 : arg12.IsWhole) (arg13 : Memref sig .tc .vmem S1x512 .f32) (harg13 : arg13.IsWhole) (arg14 : Memref sig .tc .vmem S4x1536 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S31x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S1x512 .f32) (harg22 : arg22.IsWhole) (arg23 : Memref sig .tc .vmem S4x128x128 .bf16) (harg23 : arg23.IsWhole) (arg24 : Memref sig .tc .vmem S128x512 .f32) (harg24 : arg24.IsWhole) (arg25 : Memref sig .tc .vmem S512x512 .bf16) (harg25 : arg25.IsWhole) (arg26 : Memref sig .tc .vmem S512x512 .bf16) (harg26 : arg26.IsWhole) (arg27 : Memref sig .tc .vmem S512x512 .bf16) (harg27 : arg27.IsWhole) (arg28 : Memref sig .tc .vmem S512x1536 .f32) (harg28 : arg28.IsWhole) (arg29 : Memref sig .tc .vmem S512x128 .f32) (harg29 : arg29.IsWhole) (arg30 : Memref sig .tc .vmem S128x512 .f32) (harg30 : arg30.IsWhole) (arg31 : Memref sig .tc .vmem S544x1536 .f32) (harg31 : arg31.IsWhole) (arg32 : Memref sig .tc .vmem S544x512 .f32) (harg32 : arg32.IsWhole) (arg33 : Memref sig .tc .vmem S544x512 .f32) (harg33 : arg33.IsWhole) (arg34 : Memref sig .tc .vmem S7x536x512 .f32) (harg34 : arg34.IsWhole)
    (x0 : Vec F S512x1536 .f32) (x1 : Vec F S16x1536 .f32) (x2 : Vec F S16x1536 .f32) (x3 : Vec F S512x512 .f32) (x4 : Vec F S16x512 .f32) (x5 : Vec F S16x512 .f32) (x6 : Vec F S512x1024 .f32) (x7 : Vec F S16x1024 .f32) (x8 : Vec F S16x1024 .f32) (x9 : Vec F S512x1024 .f32) (x10 : Vec F S512x128 .f32) (x11 : Vec F S4x128x128 .bf16) (x12 : Vec F S1x512 .f32) (x13 : Vec F S4x1536 .f32) (x14 : Vec F S1x128 .f32) (x15 : Vec F S1x128 .f32) (x16 : Vec F S31x512 .f32) (x17 : Vec F S1x512 .f32) (x18 : Vec F S1x512 .f32) (x19 : Vec F S1x512 .f32) (x20 : Vec F S1x512 .f32) (x21 : Vec F S1x512 .f32) (x22 : Vec F S4x128x128 .bf16) (x23 : Vec F S128x512 .f32) : Vec F S512x128 .f32 :=
  VO0_28.read (Elt F) (VO0_28.writes (Elt F) VO0_28.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23).2.2.2.2.1)

/-- The run's pieces for output 29 tile its block (4 stores of `S128x128`), so they cover it. -/
theorem cover0_A_29 (c : Dev nD) (i : grid0.Coords) (arg1 : Memref sig .tc .vmem S512x1536 .f32) (harg1 : arg1.IsWhole) (arg2 : Memref sig .tc .vmem S16x1536 .f32) (harg2 : arg2.IsWhole) (arg3 : Memref sig .tc .vmem S16x1536 .f32) (harg3 : arg3.IsWhole) (arg4 : Memref sig .tc .vmem S512x512 .f32) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1024 .f32) (harg7 : arg7.IsWhole) (arg8 : Memref sig .tc .vmem S16x1024 .f32) (harg8 : arg8.IsWhole) (arg9 : Memref sig .tc .vmem S16x1024 .f32) (harg9 : arg9.IsWhole) (arg10 : Memref sig .tc .vmem S512x1024 .f32) (harg10 : arg10.IsWhole) (arg11 : Memref sig .tc .vmem S512x128 .f32) (harg11 : arg11.IsWhole) (arg12 : Memref sig .tc .vmem S4x128x128 .bf16) (harg12 : arg12.IsWhole) (arg13 : Memref sig .tc .vmem S1x512 .f32) (harg13 : arg13.IsWhole) (arg14 : Memref sig .tc .vmem S4x1536 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S31x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S1x512 .f32) (harg22 : arg22.IsWhole) (arg23 : Memref sig .tc .vmem S4x128x128 .bf16) (harg23 : arg23.IsWhole) (arg24 : Memref sig .tc .vmem S128x512 .f32) (harg24 : arg24.IsWhole) (arg25 : Memref sig .tc .vmem S512x512 .bf16) (harg25 : arg25.IsWhole) (arg26 : Memref sig .tc .vmem S512x512 .bf16) (harg26 : arg26.IsWhole) (arg27 : Memref sig .tc .vmem S512x512 .bf16) (harg27 : arg27.IsWhole) (arg28 : Memref sig .tc .vmem S512x1536 .f32) (harg28 : arg28.IsWhole) (arg29 : Memref sig .tc .vmem S512x128 .f32) (harg29 : arg29.IsWhole) (arg30 : Memref sig .tc .vmem S128x512 .f32) (harg30 : arg30.IsWhole) (arg31 : Memref sig .tc .vmem S544x1536 .f32) (harg31 : arg31.IsWhole) (arg32 : Memref sig .tc .vmem S544x512 .f32) (harg32 : arg32.IsWhole) (arg33 : Memref sig .tc .vmem S544x512 .f32) (harg33 : arg33.IsWhole) (arg34 : Memref sig .tc .vmem S7x536x512 .f32) (harg34 : arg34.IsWhole)
    (x0 : Vec F S512x1536 .f32) (x1 : Vec F S16x1536 .f32) (x2 : Vec F S16x1536 .f32) (x3 : Vec F S512x512 .f32) (x4 : Vec F S16x512 .f32) (x5 : Vec F S16x512 .f32) (x6 : Vec F S512x1024 .f32) (x7 : Vec F S16x1024 .f32) (x8 : Vec F S16x1024 .f32) (x9 : Vec F S512x1024 .f32) (x10 : Vec F S512x128 .f32) (x11 : Vec F S4x128x128 .bf16) (x12 : Vec F S1x512 .f32) (x13 : Vec F S4x1536 .f32) (x14 : Vec F S1x128 .f32) (x15 : Vec F S1x128 .f32) (x16 : Vec F S31x512 .f32) (x17 : Vec F S1x512 .f32) (x18 : Vec F S1x512 .f32) (x19 : Vec F S1x512 .f32) (x20 : Vec F S1x512 .f32) (x21 : Vec F S1x512 .f32) (x22 : Vec F S4x128x128 .bf16) (x23 : Vec F S128x512 .f32) (y : S128x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23).2.2.2.2.2.1 S128x128.size (by sl_kernel_rfl) y

/-- What the run leaves in output 29's staging buffer: its pieces read back over junk. -/
def out0_A_29 (c : Dev nD) (i : grid0.Coords) (arg1 : Memref sig .tc .vmem S512x1536 .f32) (harg1 : arg1.IsWhole) (arg2 : Memref sig .tc .vmem S16x1536 .f32) (harg2 : arg2.IsWhole) (arg3 : Memref sig .tc .vmem S16x1536 .f32) (harg3 : arg3.IsWhole) (arg4 : Memref sig .tc .vmem S512x512 .f32) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1024 .f32) (harg7 : arg7.IsWhole) (arg8 : Memref sig .tc .vmem S16x1024 .f32) (harg8 : arg8.IsWhole) (arg9 : Memref sig .tc .vmem S16x1024 .f32) (harg9 : arg9.IsWhole) (arg10 : Memref sig .tc .vmem S512x1024 .f32) (harg10 : arg10.IsWhole) (arg11 : Memref sig .tc .vmem S512x128 .f32) (harg11 : arg11.IsWhole) (arg12 : Memref sig .tc .vmem S4x128x128 .bf16) (harg12 : arg12.IsWhole) (arg13 : Memref sig .tc .vmem S1x512 .f32) (harg13 : arg13.IsWhole) (arg14 : Memref sig .tc .vmem S4x1536 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S31x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S1x512 .f32) (harg22 : arg22.IsWhole) (arg23 : Memref sig .tc .vmem S4x128x128 .bf16) (harg23 : arg23.IsWhole) (arg24 : Memref sig .tc .vmem S128x512 .f32) (harg24 : arg24.IsWhole) (arg25 : Memref sig .tc .vmem S512x512 .bf16) (harg25 : arg25.IsWhole) (arg26 : Memref sig .tc .vmem S512x512 .bf16) (harg26 : arg26.IsWhole) (arg27 : Memref sig .tc .vmem S512x512 .bf16) (harg27 : arg27.IsWhole) (arg28 : Memref sig .tc .vmem S512x1536 .f32) (harg28 : arg28.IsWhole) (arg29 : Memref sig .tc .vmem S512x128 .f32) (harg29 : arg29.IsWhole) (arg30 : Memref sig .tc .vmem S128x512 .f32) (harg30 : arg30.IsWhole) (arg31 : Memref sig .tc .vmem S544x1536 .f32) (harg31 : arg31.IsWhole) (arg32 : Memref sig .tc .vmem S544x512 .f32) (harg32 : arg32.IsWhole) (arg33 : Memref sig .tc .vmem S544x512 .f32) (harg33 : arg33.IsWhole) (arg34 : Memref sig .tc .vmem S7x536x512 .f32) (harg34 : arg34.IsWhole)
    (x0 : Vec F S512x1536 .f32) (x1 : Vec F S16x1536 .f32) (x2 : Vec F S16x1536 .f32) (x3 : Vec F S512x512 .f32) (x4 : Vec F S16x512 .f32) (x5 : Vec F S16x512 .f32) (x6 : Vec F S512x1024 .f32) (x7 : Vec F S16x1024 .f32) (x8 : Vec F S16x1024 .f32) (x9 : Vec F S512x1024 .f32) (x10 : Vec F S512x128 .f32) (x11 : Vec F S4x128x128 .bf16) (x12 : Vec F S1x512 .f32) (x13 : Vec F S4x1536 .f32) (x14 : Vec F S1x128 .f32) (x15 : Vec F S1x128 .f32) (x16 : Vec F S31x512 .f32) (x17 : Vec F S1x512 .f32) (x18 : Vec F S1x512 .f32) (x19 : Vec F S1x512 .f32) (x20 : Vec F S1x512 .f32) (x21 : Vec F S1x512 .f32) (x22 : Vec F S4x128x128 .bf16) (x23 : Vec F S128x512 .f32) : Vec F S128x512 .f32 :=
  VO0_29.read (Elt F) (VO0_29.writes (Elt F) VO0_29.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23).2.2.2.2.2.1)

/-! ## What the outputs hold after each point -/

/-- What the outputs' staging buffers hold after the body at point `t` (as a tuple, in window order): the run's contents at
    the point's memrefs and input blocks. -/
def outsAt0 (c : Dev nD) (t : Fin cfg0.N) : Vec F S512x512 .bf16 × Vec F S512x512 .bf16 × Vec F S512x512 .bf16 × Vec F S512x1536 .f32 × Vec F S512x128 .f32 × Vec F S128x512 .f32 :=
  (out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) scM0_3 (Memref.isWhole_whole _) (X0_0 m c t) (X0_1 m c t) (X0_2 m c t) (X0_3 m c t) (X0_4 m c t) (X0_5 m c t) (X0_6 m c t) (X0_7 m c t) (X0_8 m c t) (X0_9 m c t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) scM0_3 (Memref.isWhole_whole _) (X0_0 m c t) (X0_1 m c t) (X0_2 m c t) (X0_3 m c t) (X0_4 m c t) (X0_5 m c t) (X0_6 m c t) (X0_7 m c t) (X0_8 m c t) (X0_9 m c t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t), out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) scM0_3 (Memref.isWhole_whole _) (X0_0 m c t) (X0_1 m c t) (X0_2 m c t) (X0_3 m c t) (X0_4 m c t) (X0_5 m c t) (X0_6 m c t) (X0_7 m c t) (X0_8 m c t) (X0_9 m c t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t), out0_A_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) scM0_3 (Memref.isWhole_whole _) (X0_0 m c t) (X0_1 m c t) (X0_2 m c t) (X0_3 m c t) (X0_4 m c t) (X0_5 m c t) (X0_6 m c t) (X0_7 m c t) (X0_8 m c t) (X0_9 m c t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t), out0_A_28 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) scM0_3 (Memref.isWhole_whole _) (X0_0 m c t) (X0_1 m c t) (X0_2 m c t) (X0_3 m c t) (X0_4 m c t) (X0_5 m c t) (X0_6 m c t) (X0_7 m c t) (X0_8 m c t) (X0_9 m c t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t), out0_A_29 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) scM0_3 (Memref.isWhole_whole _) (X0_0 m c t) (X0_1 m c t) (X0_2 m c t) (X0_3 m c t) (X0_4 m c t) (X0_5 m c t) (X0_6 m c t) (X0_7 m c t) (X0_8 m c t) (X0_9 m c t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => X0_4 m c t
    | ⟨5, _⟩ => X0_5 m c t
    | ⟨6, _⟩ => X0_6 m c t
    | ⟨7, _⟩ => X0_7 m c t
    | ⟨8, _⟩ => X0_8 m c t
    | ⟨9, _⟩ => X0_9 m c t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => (outsAt0 m c t).1
    | ⟨25, _⟩ => (outsAt0 m c t).2.1
    | ⟨26, _⟩ => (outsAt0 m c t).2.2.1
    | ⟨27, _⟩ => (outsAt0 m c t).2.2.2.1
    | ⟨28, _⟩ => (outsAt0 m c t).2.2.2.2.1
    | ⟨29, _⟩ => (outsAt0 m c t).2.2.2.2.2
    | ⟨_ + 30, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = X0_6 m c t := by dsimp only [dats]
theorem after0_7 (c : Dev nD) (t : Fin cfg0.N) : (dats m 0 c).after 7 t = X0_7 m c t := by dsimp only [dats]
theorem after0_8 (c : Dev nD) (t : Fin cfg0.N) : (dats m 0 c).after 8 t = X0_8 m c t := by dsimp only [dats]
theorem after0_9 (c : Dev nD) (t : Fin cfg0.N) : (dats m 0 c).after 9 t = X0_9 m c t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = (outsAt0 m c t).1 := by dsimp only [dats]
theorem after0_25 (c : Dev nD) (t : Fin cfg0.N) : (dats m 0 c).after 25 t = (outsAt0 m c t).2.1 := by dsimp only [dats]
theorem after0_26 (c : Dev nD) (t : Fin cfg0.N) : (dats m 0 c).after 26 t = (outsAt0 m c t).2.2.1 := by dsimp only [dats]
theorem after0_27 (c : Dev nD) (t : Fin cfg0.N) : (dats m 0 c).after 27 t = (outsAt0 m c t).2.2.2.1 := by dsimp only [dats]
theorem after0_28 (c : Dev nD) (t : Fin cfg0.N) : (dats m 0 c).after 28 t = (outsAt0 m c t).2.2.2.2.1 := by dsimp only [dats]
theorem after0_29 (c : Dev nD) (t : Fin cfg0.N) : (dats m 0 c).after 29 t = (outsAt0 m c t).2.2.2.2.2 := by dsimp only [dats]

/-- Each input's current staging buffer holds its block at every point, fetched there or not (`beforeK_W_of`). -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d
theorem before0_6 (c : Dev nD) (t : Fin cfg0.N) (d) : (dats m 0 c).before 6 t d = X0_6 m c t :=
  before0_6_of m (dats m 0 c) (A_eq m c 6) (after0_6 m c) t d
theorem before0_7 (c : Dev nD) (t : Fin cfg0.N) (d) : (dats m 0 c).before 7 t d = X0_7 m c t :=
  before0_7_of m (dats m 0 c) (A_eq m c 7) (after0_7 m c) t d
theorem before0_8 (c : Dev nD) (t : Fin cfg0.N) (d) : (dats m 0 c).before 8 t d = X0_8 m c t :=
  before0_8_of m (dats m 0 c) (A_eq m c 8) (after0_8 m c) t d
theorem before0_9 (c : Dev nD) (t : Fin cfg0.N) (d) : (dats m 0 c).before 9 t d = X0_9 m c t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t))

set_option maxHeartbeats 3200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29]
  rw [show (dats m 0 c).Φ t.castSucc = Pipeline.ΦA spec0 c from rfl, PhiA0_eq]
  unfold outsAt0
  unfold out0_A_24 out0_A_25 out0_A_26 out0_A_27 out0_A_28 out0_A_29; (try dsimp only)
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (X0_0 m c t) (X0_1 m c t) (X0_2 m c t) (X0_3 m c t) (X0_4 m c t) (X0_5 m c t) (X0_6 m c t) (X0_7 m c t) (X0_8 m c t) (X0_9 m c t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)).2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, H16, H17, H18, H19, H20, H21, H22, H23, ⟨%e24, H24⟩, ⟨%e25, H25⟩, ⟨%e26, H26⟩, ⟨%e27, H27⟩, ⟨%e28, H28⟩, ⟨%e29, H29⟩, ⟨%fT0, HS0⟩, ⟨%fT1, HS1⟩, ⟨%fT2, HS2⟩, ⟨%fT3, HS3⟩⟩
  isplitl [HS0 HS1 HS2 HS3 Hg]
  · isplitl [HS0 HS1 HS2 HS3]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      iexists _; unfold owns; iexists _; isplitr
      swap; · iexact HS3
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]
  · unfold owns; iexists _; isplitr
    swap; · iexact H24
    ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H25]
  · unfold owns; iexists _; isplitr
    swap; · iexact H25
    ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H26]
  · unfold owns; iexists _; isplitr
    swap; · iexact H26
    ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H27]
  · unfold owns; iexists _; isplitr
    swap; · iexact H27
    ipureintro; exact View.read_writes_of_cover _ _ _ _ _ (cover0_A_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H28]
  · unfold owns; iexists _; isplitr
    swap; · iexact H28
    ipureintro; exact View.read_writes_of_cover _ _ _ _ _ (cover0_A_28 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H29
  ipureintro; exact View.read_writes_of_cover _ _ _ _ _ (cover0_A_29 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 6400000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 6400000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

/-- THE FRAME: `Cert.quiescent_MixIdeal`'s statement (Defs.lean) at any `F` — Proof.lean cites it at `Bits`:
    `theorem Cert.Proof.claim : Cert.Claim := ⟨Cert.MixIdeal.Gen.facts, fun m ρ _ => Cert.MixIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.MixIdeal.Gen

end
-- ==== Proof.MixOut.lean ====
/- What the spatial gating unit leaves in a block of its result. -/
module

public import proofs.«01_k».proof.Proof.MixBlocks
public import proofs.«01_k».proof.Proof.InValue
public import proofs.«01_k».proof.Proof.MixIFrame

@[expose] public section

set_option maxRecDepth 16384

noncomputable section

namespace Cert.MixVal

open Idealize.ShloMosaic Idealize.ShloMosaic.Tactic Idealize.SL.Sem Cert.Cols Finset

section
open Idealize.ShloMosaic.TcCoe Cert.MixIdeal Cert.MixIdeal.Gen

section
variable {X : ℕ → ℕ → EReal} {w b : ℕ → EReal} {W : ℕ → ℕ → ℕ → EReal} {B : ℕ → ℕ → EReal} {n : ℕ} {x9 : Vec Ideal S512x1024 .f32} {x20 x21 : Vec Ideal S1x512 .f32}
  {x22 : Vec Ideal S4x128x128 .bf16} {x23 : Vec Ideal S128x512 .f32}
  (h9 : ∀ r j, x9 (ix2 r j) = X (512 * n + r.val) (3072 + j.val)) (h20 : ∀ c, x20 (ix2 0 c) = w c.val) (h21 : ∀ c, x21 (ix2 0 c) = b c.val)
  (h22 : ∀ g i j, x22 (ix3 g i j) = W g.val i.val j.val) (h23 : ∀ i j, x23 (ix2 i j) = B i.val j.val)

include h22 in
/-- A group's weights read. -/
theorem wld (g : Fin 4) (inb : ∀ a, (![g.val, 0, 0] : Fin 3 → ℕ) a + S1x128x128.size a ≤ S4x128x128.size a) (i j : Fin 128) :
    View.ld x22 (Rect.unit (s := S4x128x128) ![g.val, 0, 0] S1x128x128.size inb) (ix3 0 i j) = W g.val i.val j.val := by
  refine Eq.trans (congrArg x22 (funext fun a => Fin.ext ?_)) (h22 g i j)
  refine (ValueKit.rect_emb_unit_val (s := S4x128x128) ![g.val, 0, 0] S1x128x128.size inb (ix3 0 i j) a).trans ?_
  match a with
  | ⟨0, _⟩ => rfl
  | ⟨1, _⟩ => exact Nat.zero_add _
  | ⟨2, _⟩ => exact Nat.zero_add _

include h9 h20 h21 h22 h23

/-- A chunk's group of columns is its part of the result. -/
theorem piece (a g : Fin 4) (hs : S512x512.Slices ![128 * a.val, 128 * g.val] S128x128) (inb : ∀ d, (![128 * a.val, 128 * g.val] : Fin 2 → ℕ) d + S128x128.size d ≤ S512x512.size d)
    (inw : ∀ d, (![g.val, 0, 0] : Fin 3 → ℕ) d + S1x128x128.size d ≤ S4x128x128.size d) (ine : ∀ d, (![0, 128 * g.val] : Fin 2 → ℕ) d + S128x128.size d ≤ S128x512.size d) (x : S128x128.Idx) :
    sgu hs (k0_pay47 x9) (k0_pay48 x9 x20 x21) (View.ld x22 (Rect.unit (s := S4x128x128) ![g.val, 0, 0] S1x128x128.size inw)) (View.ld x23 (Rect.unit (s := S128x512) ![0, 128 * g.val] S128x128.size ine)) x =
      mk (m := 512) (n := 512) (fun r q => md X w b W B (512 * n + r.val) q.val) ((Rect.unit (s := S512x512) ![128 * a.val, 128 * g.val] S128x128.size inb).emb x) := by
  refine InVal.piece_box (m := 512) (n := 512) (h := 128) (k := 128) inb _ _ (fun r q => ?_) x
  rw [sgu_at hs _ _ _ _ (by omega) (by omega), mk_ix, pay47_at (512 * n) h9]
  simp only [pay48_at (512 * n) h9 h20 h21, wld h22 g inw]
  have e : View.ld x23 (Rect.unit (s := S128x512) ![0, 128 * g.val] S128x128.size ine) (ix2 r q) = B r.val (128 * g.val + q.val) :=
    (ld_cols (m := 128) (n := 512) (k := 128) ine x23 r q).trans (h23 _ _)
  rw [e]
  unfold md
  have c1 : (128 * g.val + q.val) / 128 = g.val := by omega
  have c2 : (512 * n + (128 * a.val + r.val)) % 128 = r.val := by omega
  have c3 : (512 * n + (128 * a.val + r.val)) / 128 * 128 = 512 * n + 128 * a.val := by omega
  simp only [c1, c2, c3, Nat.add_assoc]
end

variable (m : (ℓ : Loc nD τ sig) → Buf (Elt Ideal) ℓ) (c : Dev nD)

set_option maxHeartbeats 4000000 in
/-- What a point leaves in its result block. -/
theorem outs (t : Fin cfg0.N) : (outsAt0 m c t).2.2.1 = mk fun r q => md (aX m c) (aw m c) (ab m c) (aW m c) (aB m c) (512 * t.val + r.val) q.val := by
  have h9 := blk9 m c t
  have h20 := blk20 m c t
  have h21 := blk21 m c t
  have h22 := blk22 m c t
  have h23 := blk23 m c t
  unfold outsAt0
  dsimp only
  unfold out0_A_26
  refine (View.read_writes_eq_canon _ _ _ fun y => ?_).trans ?_
  · exact cover0_A_26 ..
  refine canon_eq _ _ ?_ fun y => ?_
  swap
  · exact cover0_A_26 ..
  unfold kernelRun0_A
  dsimp only
  sl_unfold_words
  simp only [View.readAt_eq_ld, (hs0_9 t).read_unread, (hs0_20 t).read_unread, (hs0_21 t).read_unread, (hs0_22 t).read_unread, (hs0_23 t).read_unread]
  simp only [View.ld_unit_zero (S := S512x1024) hz, View.ld_unit_zero (S := S1x512) hz]
  refine List.forall_mem_cons.2 ⟨piece h9 h20 h21 h22 h23 ⟨3, by norm_num⟩ 3 slices_S512x512_o384_384_S128x128 inb_S512x512_S128x128_384_384 inb_S4x128x128_S1x128x128_3_0_0 inb_S128x512_S128x128_0_384, ?_⟩
  refine List.forall_mem_cons.2 ⟨piece h9 h20 h21 h22 h23 ⟨3, by norm_num⟩ 2 slices_S512x512_o384_256_S128x128 inb_S512x512_S128x128_384_256 inb_S4x128x128_S1x128x128_2_0_0 inb_S128x512_S128x128_0_256, ?_⟩
  refine List.forall_mem_cons.2 ⟨piece h9 h20 h21 h22 h23 ⟨3, by norm_num⟩ 1 slices_S512x512_o384_128_S128x128 inb_S512x512_S128x128_384_128 inb_S4x128x128_S1x128x128_1_0_0 inb_S128x512_S128x128_0_128, ?_⟩
  refine List.forall_mem_cons.2 ⟨piece h9 h20 h21 h22 h23 ⟨3, by norm_num⟩ 0 slices_S512x512_o384_0_S128x128 inb_S512x512_S128x128_384_0 inb_S4x128x128_S1x128x128_0_0_0 inb_S128x512_S128x128_0_0, ?_⟩
  refine List.forall_mem_cons.2 ⟨piece h9 h20 h21 h22 h23 ⟨2, by norm_num⟩ 3 slices_S512x512_o256_384_S128x128 inb_S512x512_S128x128_256_384 inb_S4x128x128_S1x128x128_3_0_0 inb_S128x512_S128x128_0_384, ?_⟩
  refine List.forall_mem_cons.2 ⟨piece h9 h20 h21 h22 h23 ⟨2, by norm_num⟩ 2 slices_S512x512_o256_256_S128x128 inb_S512x512_S128x128_256_256 inb_S4x128x128_S1x128x128_2_0_0 inb_S128x512_S128x128_0_256, ?_⟩
  refine List.forall_mem_cons.2 ⟨piece h9 h20 h21 h22 h23 ⟨2, by norm_num⟩ 1 slices_S512x512_o256_128_S128x128 inb_S512x512_S128x128_256_128 inb_S4x128x128_S1x128x128_1_0_0 inb_S128x512_S128x128_0_128, ?_⟩
  refine List.forall_mem_cons.2 ⟨piece h9 h20 h21 h22 h23 ⟨2, by norm_num⟩ 0 slices_S512x512_o256_0_S128x128 inb_S512x512_S128x128_256_0 inb_S4x128x128_S1x128x128_0_0_0 inb_S128x512_S128x128_0_0, ?_⟩
  refine List.forall_mem_cons.2 ⟨piece h9 h20 h21 h22 h23 ⟨1, by norm_num⟩ 3 slices_S512x512_o128_384_S128x128 inb_S512x512_S128x128_128_384 inb_S4x128x128_S1x128x128_3_0_0 inb_S128x512_S128x128_0_384, ?_⟩
  refine List.forall_mem_cons.2 ⟨piece h9 h20 h21 h22 h23 ⟨1, by norm_num⟩ 2 slices_S512x512_o128_256_S128x128 inb_S512x512_S128x128_128_256 inb_S4x128x128_S1x128x128_2_0_0 inb_S128x512_S128x128_0_256, ?_⟩
  refine List.forall_mem_cons.2 ⟨piece h9 h20 h21 h22 h23 ⟨1, by norm_num⟩ 1 slices_S512x512_o128_128_S128x128 inb_S512x512_S128x128_128_128 inb_S4x128x128_S1x128x128_1_0_0 inb_S128x512_S128x128_0_128, ?_⟩
  refine List.forall_mem_cons.2 ⟨piece h9 h20 h21 h22 h23 ⟨1, by norm_num⟩ 0 slices_S512x512_o128_0_S128x128 inb_S512x512_S128x128_128_0 inb_S4x128x128_S1x128x128_0_0_0 inb_S128x512_S128x128_0_0, ?_⟩
  refine List.forall_mem_cons.2 ⟨piece h9 h20 h21 h22 h23 ⟨0, by norm_num⟩ 3 slices_S512x512_o0_384_S128x128 inb_S512x512_S128x128_0_384 inb_S4x128x128_S1x128x128_3_0_0 inb_S128x512_S128x128_0_384, ?_⟩
  refine List.forall_mem_cons.2 ⟨piece h9 h20 h21 h22 h23 ⟨0, by norm_num⟩ 2 slices_S512x512_o0_256_S128x128 inb_S512x512_S128x128_0_256 inb_S4x128x128_S1x128x128_2_0_0 inb_S128x512_S128x128_0_256, ?_⟩
  refine List.forall_mem_cons.2 ⟨piece h9 h20 h21 h22 h23 ⟨0, by norm_num⟩ 1 slices_S512x512_o0_128_S128x128 inb_S512x512_S128x128_0_128 inb_S4x128x128_S1x128x128_1_0_0 inb_S128x512_S128x128_0_128, ?_⟩
  refine List.forall_mem_cons.2 ⟨piece h9 h20 h21 h22 h23 ⟨0, by norm_num⟩ 0 slices_S512x512_o0_0_S128x128 inb_S512x512_S128x128_0_0 inb_S4x128x128_S1x128x128_0_0_0 inb_S128x512_S128x128_0_0, ?_⟩
  exact fun _ h => absurd h List.not_mem_nil

/-- The result. -/
theorem arr26 : (dats m 0 c).arrAt 26 cfg0.N = arrM (aX m c) (aw m c) (ab m c) (aW m c) (aB m c) := by
  refine (dats m 0 c).arrAt_eq_of_covers 26 _ (by decide +kernel) fun t hf y => ?_
  have e0 : ((((cfg0.win 26).blk t).view.emb y) 0).val = 512 * t.val + (y 0).val := by
    blk_simp [ix_26]
    simp [Nat.mul_comm]
  have e1 : ((((cfg0.win 26).blk t).view.emb y) 1).val = (y 1).val := by
    blk_simp [ix_26]
  unfold arrM
  simp only [e0, e1]
  blk_simp
  rw [after0_26, outs m c t]
  rfl
end

end Cert.MixVal

end
-- ==== Proof.MixRef.lean ====
/- The spatial gating unit's reference, entry by entry. -/
module

public import proofs.«01_k».proof.Proof.MixBlocks
public import proofs.«01_k».proof.Proof.Gen.MixRefIdeal.Run
public import Idealize.ShloMosaic.Lib.IdealHost

@[expose] public section

set_option maxRecDepth 16384

noncomputable section

namespace Cert.MixVal

open Idealize.ShloMosaic Idealize.ShloMosaic.Tactic Idealize.SL.Sem Cert.Cols Finset

section
open Cert.MixRefIdeal Cert.MixRefIdeal.Gen

variable (p : FVec Ideal S32768x4736 .f32) (w b : FVec Ideal S1x512 .f32) (W : FVec Ideal S4x128x128 .bf16) (B : FVec Ideal S128x512 .f32)

/-- The activation of a matrix. -/
def refA (x : FVec Ideal S32768x1024 .f32) : FVec Ideal S32768x1024 .f32 :=
  mulf x (mulf (broadcastInDim S32768x1024 ![] bcast_S_S32768x1024 (constant S_ .f32 0x3F000000#32)) (addf (broadcastInDim S32768x1024 ![] bcast_S_S32768x1024 (constant S_ .f32 0x3F800000#32))
    (Host.tanh (mulf (broadcastInDim S32768x1024 ![] bcast_S_S32768x1024 (constant S_ .f32 0x3F4C422A#32)) (addf x (mulf (broadcastInDim S32768x1024 ![] bcast_S_S32768x1024 (constant S_ .f32 0x3D372713#32)) (mulf (mulf x x) x)))))))

theorem refA_at (x : FVec Ideal S32768x1024 .f32) (r : Fin 32768) (q : Fin 1024) : refA x (ix2 r q) = gl (x (ix2 r q)) := by
  unfold gl
  rw [mul_comm (x (ix2 r q)) (x (ix2 r q) * x (ix2 r q))]
  pointwise [refA]

/-- The activated columns. -/
def refG : FVec Ideal S32768x1024 .f32 := refA (extractStridedSlice S32768x1024 ![0, 3072] p slices_S32768x4736_S32768x1024_0_3072)

theorem slice_at (r : Fin 32768) (q : Fin 1024) : extractStridedSlice S32768x1024 ![0, 3072] p slices_S32768x4736_S32768x1024_0_3072 (ix2 r q) = p (ix2 r ⟨3072 + q.val, by omega⟩) := by
  pointwise

theorem refG_at (r : Fin 32768) (q : Fin 1024) : refG p (ix2 r q) = gu (en p) r.val q.val := by
  unfold refG
  rw [refA_at, slice_at, en_eq p]
  rfl

/-- The half the gate multiplies. -/
def refU : FVec Ideal S32768x512 .f32 := extractStridedSlice S32768x512 ![0, 0] (refG p) slices_S32768x1024_S32768x512_0_0

theorem refU_at (r : Fin 32768) (q : Fin 512) : refU p (ix2 r q) = gu (en p) r.val q.val := by
  rw [← show _ = _ from refG_at p r ⟨q.val, by omega⟩]
  pointwise [refU]

/-- The gating half. -/
def refH : FVec Ideal S32768x512 .f32 := extractStridedSlice S32768x512 ![0, 512] (refG p) slices_S32768x1024_S32768x512_0_512

theorem refH_at (r : Fin 32768) (q : Fin 512) : refH p (ix2 r q) = gu (en p) r.val (512 + q.val) := by
  rw [← show _ = _ from refG_at p r ⟨512 + q.val, by omega⟩]
  pointwise [refH]

/-- A matrix less its rows' means. -/
def refC (v : FVec Ideal S32768x512 .f32) : FVec Ideal S32768x512 .f32 :=
  subf v (broadcastInDim S32768x512 ![0, 1] bcast_S32768x1_S32768x512_0_1 (Host.divf (broadcastInDim S32768x1 ![0] bcast_S32768_S32768x1_0 (Host.reduceAdd v (constant S_ .f32 0x00000000#32) reducesTo_S32768x512_S32768_d1 h_S_))
    (broadcastInDim S32768x1 ![] bcast_S_S32768x1 (constant S_ .f32 0x44000000#32))))

theorem refC_at (r : Fin 32768) (q : Fin 512) : refC (refH p) (ix2 r q) = dv (en p) r.val q.val := by
  unfold dv
  simp only [← refH_at p]
  pointwise [refC]

/-- A matrix divided by its rows' deviations, scaled and shifted. -/
def refN (v : FVec Ideal S32768x512 .f32) : FVec Ideal S32768x512 .f32 :=
  addf (mulf (mulf v (broadcastInDim S32768x512 ![0, 1] bcast_S32768x1_S32768x512_0_1 (Host.rsqrt (addf (Host.divf (broadcastInDim S32768x1 ![0] bcast_S32768_S32768x1_0
    (Host.reduceAdd (mulf v v) (constant S_ .f32 0x00000000#32) reducesTo_S32768x512_S32768_d1 h_S_)) (broadcastInDim S32768x1 ![] bcast_S_S32768x1 (constant S_ .f32 0x44000000#32)))
    (broadcastInDim S32768x1 ![] bcast_S_S32768x1 (constant S_ .f32 0x358637BD#32)))))) (broadcastInDim S32768x512 ![0, 1] bcast_S1x512_S32768x512_0_1 w)) (broadcastInDim S32768x512 ![0, 1] bcast_S1x512_S32768x512_0_1 b)

theorem refN_at (r : Fin 32768) (q : Fin 512) : refN w b (refC (refH p)) (ix2 r q) = ln (en p) (en w 0) (en b 0) r.val q.val := by
  have e0 (i : Fin 512) : en w 0 i.val = w (ix2 0 i) := (en_eq w (ix2 0 i)).symm
  have e1 (i : Fin 512) : en b 0 i.val = b (ix2 0 i) := (en_eq b (ix2 0 i)).symm
  unfold ln
  simp only [← refC_at p, e0, e1]
  pointwise [refN]

/-- Rows mixed inside their chunk, by groups of columns. -/
def refM (v : FVec Ideal S256x128x4x128 .f32) : FVec Ideal S256x128x4x128 .f32 :=
  transpose S256x128x4x128 [1, 3, 0, 2] (Host.dotGeneral dot_S256x128x4x128_S4x128x128_S4x256x128x128_1_2_03_1_2_0 none v (extf .f32 W bitsLt_bf16_f32)) transposes_S4x256x128x128_S256x128x4x128_1_3_0_2

theorem refM_at (v : FVec Ideal S256x128x4x128 .f32) (n : Fin 256) (i : Fin 128) (g : Fin 4) (c : Fin 128) :
    refM W v (ix4 n i g c) = ∑ k : Fin 128, v (ix4 n k g c) * W (ix3 g i k) := by
  pointwise [refM]

/-- The gate, row by row. -/
def refS (v : FVec Ideal S32768x512 .f32) : FVec Ideal S32768x512 .f32 :=
  shapeCast _ (addf (shapeCast _ (refM W (shapeCast _ v shapeCasts_S32768x512_S256x128x4x128)) shapeCasts_S256x128x4x128_S256x128x512)
    (broadcastInDim S256x128x512 ![0, 1, 2] bcast_S1x128x512_S256x128x512_0_1_2 (broadcastInDim S1x128x512 ![1, 2] bcast_S128x512_S1x128x512_1_2 B))) shapeCasts_S256x128x512_S32768x512

theorem bias_at (n : Fin 256) (i : Fin 128) (q : Fin 512) :
    broadcastInDim S256x128x512 ![0, 1, 2] bcast_S1x128x512_S256x128x512_0_1_2 (broadcastInDim S1x128x512 ![1, 2] bcast_S128x512_S1x128x512_1_2 B) (ix3 n i q) = B (ix2 i q) := by
  pointwise

theorem chunk_at (v : FVec Ideal S32768x512 .f32) (n : Fin 256) (k : Fin 128) (g : Fin 4) (c : Fin 128) :
    shapeCast S256x128x4x128 v shapeCasts_S32768x512_S256x128x4x128 (ix4 n k g c) = v (ix2 ⟨n.val * 128 + k.val, by omega⟩ ⟨g.val * 128 + c.val, by omega⟩) :=
  shapeCast_apply v _ (ix4 n k g c) _ (by
    simp only [Shape.rowMajor_val_two, Shape.rowMajor_val_four]
    show (n.val * 128 + k.val) * 512 + (g.val * 128 + c.val) = ((n.val * 128 + k.val) * 4 + g.val) * 128 + c.val
    omega)

theorem refS_at (v : FVec Ideal S32768x512 .f32) (V : ℕ → ℕ → EReal) (hv : ∀ r q, v (ix2 r q) = V r.val q.val) (r : Fin 32768) (q : Fin 512) :
    refS W B v (ix2 r q) = ∑ k : Fin 128, en3 W (q.val / 128) (r.val % 128) k.val * V (r.val / 128 * 128 + k.val) q.val + en B (r.val % 128) q.val := by
  have hr : r.val % 128 < 128 := Nat.mod_lt _ (by norm_num)
  have hq : q.val % 128 < 128 := Nat.mod_lt _ (by norm_num)
  unfold refS
  rw [shapeCast_apply _ shapeCasts_S256x128x512_S32768x512 (ix2 r q) (ix3 ⟨r.val / 128, by omega⟩ ⟨r.val % 128, hr⟩ q) (by
    simp only [Shape.rowMajor_val_two, Shape.rowMajor_val_three]
    show (r.val / 128 * 128 + r.val % 128) * 512 + q.val = r.val * 512 + q.val
    omega)]
  refine congr (congrArg HAdd.hAdd ?_) ((bias_at B _ _ _).trans (en_eq B _))
  rw [shapeCast_apply _ shapeCasts_S256x128x4x128_S256x128x512 (ix3 ⟨r.val / 128, by omega⟩ ⟨r.val % 128, hr⟩ q) (ix4 ⟨r.val / 128, by omega⟩ ⟨r.val % 128, hr⟩ ⟨q.val / 128, by omega⟩ ⟨q.val % 128, hq⟩) (by
    simp only [Shape.rowMajor_val_three, Shape.rowMajor_val_four]
    show ((r.val / 128 * 128 + r.val % 128) * 4 + q.val / 128) * 128 + q.val % 128 = (r.val / 128 * 128 + r.val % 128) * 512 + q.val
    omega), refM_at]
  refine sum_congr rfl fun k _ => ?_
  rw [chunk_at, hv, mul_comm, en3_ix W]
  show _ * V (r.val / 128 * 128 + k.val) (q.val / 128 * 128 + q.val % 128) = _
  rw [show q.val / 128 * 128 + q.val % 128 = q.val by omega]

/-- The reference's result. -/
def refR : FVec Ideal S32768x512 .bf16 := truncf .bf16 (mulf (refU p) (refS W B (refN w b (refC (refH p))))) bitsLt_bf16_f32

theorem ref_eq : refR p w b W B = arrM (en p) (en w 0) (en b 0) (en3 W) (en B) := by
  refine ext2 fun r q => ?_
  unfold arrM md
  show refU p (ix2 r q) * refS W B _ (ix2 r q) = _
  rw [refU_at, refS_at W B _ _ (refN_at p w b) r q]
  rfl
end

end Cert.MixVal

end
-- ==== Proof.MixIValue.lean ====
/- The arrays after the idealized mixers' call, from a generated run. -/
module

public import proofs.«01_k».proof.Proof.MixIFrame
public import Idealize.ShloMosaic.Lib.Pipeline.Value

@[expose] public section

noncomputable section

namespace Cert.MixIdeal.Value

open Cert.MixIdeal Cert.MixIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 24's array: the run's contents for that window after the body (`Gen.outsAt0`: its component 0), read through the window's block. -/
theorem flushed24 (c : Dev nD) (t : Fin cfg0.N) :
    (dats m 0 c).flushed 24 t = (cfg0.win 24).cut (grid0.coords t) ((outsAt0 m c t).1) := by
  show (cfg0.win 24).cut (grid0.coords t) ((dats m 0 c).after 24 t) = _
  rw [after0_24]

/-- … so at a point where case A runs, what its write-back would write is that case's NAMED TERM for the window (`Gen.out0_A_24`: the pieces
    its run found, read back) at the point's memrefs and input blocks, and for an output the case reads back what the point before left (`Gen.outsAt0` at `t - 1`) — the kernel's one case, `Gen.outsAt0` by definition. -/
theorem flushed24_A (c : Dev nD) (t : Fin cfg0.N) :
    (dats m 0 c).flushed 24 t = (cfg0.win 24).cut (grid0.coords t) (out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) scM0_3 (Memref.isWhole_whole _) (X0_0 m c t) (X0_1 m c t) (X0_2 m c t) (X0_3 m c t) (X0_4 m c t) (X0_5 m c t) (X0_6 m c t) (X0_7 m c t) (X0_8 m c t) (X0_9 m c t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) := by
  simp only [flushed24, outsAt0]

/-- The index map sends distinct grid points to distinct block indices (decided over the 64 points). -/
theorem idx_inj24 : ∀ t t' : Fin cfg0.N, win0_24.index t = win0_24.index t' → t = t' :=
  (by decide +kernel : ∀ t t' : Fin grid0.N, win0_24.index t = win0_24.index t' → t = t')

/-- So two flushing points' blocks share no array index (Lib/Pipeline/Cells.lean `Window.disjoint_blk`). -/
theorem disjoint24 : ∀ t t' : Fin cfg0.N, (cfg0.win 24).flush t = true → (cfg0.win 24).flush t' = true → t ≠ t' →
    Disjoint ((cfg0.win 24).blk t).view.set ((cfg0.win 24).blk t').view.set :=
  fun t t' _ _ hne => (cfg0.win 24).disjoint_blk fun h => hne (idx_inj24 t t' h)

/-- BLOCK `t` OF THE FINAL ARRAY, read back through the window, is what point `t` wrote back (`flushed24`), for every
    point that writes back: no other point's block meets it. -/
theorem blocks24 (c : Dev nD) (t : Fin cfg0.N) (hf : (cfg0.win 24).flush t = true) :
    ((cfg0.win 24).blk t).view.read (Elt F) ((dats m 0 c).arrAt 24 cfg0.N) = (dats m 0 c).flushed 24 t :=
  (dats m 0 c).read_blk_arrAt_eq_flushed 24 disjoint24 cfg0.N t t.isLt hf

/-- An index that no flushing point's block covers keeps output window 24's array contents at region entry. -/
theorem entry24 (c : Dev nD) (i : S32768x512.Idx) (h : ∀ t : Fin cfg0.N, (cfg0.win 24).flush t = true → i ∉ ((cfg0.win 24).blk t).view.set) :
    (dats m 0 c).arrAt 24 cfg0.N i = V m c (Pipeline.arrRef spec0 24) i := by
  rw [(dats m 0 c).arrAt_apply_of_forall_not_mem 24 cfg0.N i (fun t _ hf => h t hf), A_eq]

/-- WHAT POINT `t` WRITES BACK to output window 25's array: the run's contents for that window after the body (`Gen.outsAt0`: its component 1), read through the window's block. -/
theorem flushed25 (c : Dev nD) (t : Fin cfg0.N) :
    (dats m 0 c).flushed 25 t = (cfg0.win 25).cut (grid0.coords t) ((outsAt0 m c t).2.1) := by
  show (cfg0.win 25).cut (grid0.coords t) ((dats m 0 c).after 25 t) = _
  rw [after0_25]

/-- … so at a point where case A runs, what its write-back would write is that case's NAMED TERM for the window (`Gen.out0_A_25`: the pieces
    its run found, read back) at the point's memrefs and input blocks, and for an output the case reads back what the point before left (`Gen.outsAt0` at `t - 1`) — the kernel's one case, `Gen.outsAt0` by definition. -/
theorem flushed25_A (c : Dev nD) (t : Fin cfg0.N) :
    (dats m 0 c).flushed 25 t = (cfg0.win 25).cut (grid0.coords t) (out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) scM0_3 (Memref.isWhole_whole _) (X0_0 m c t) (X0_1 m c t) (X0_2 m c t) (X0_3 m c t) (X0_4 m c t) (X0_5 m c t) (X0_6 m c t) (X0_7 m c t) (X0_8 m c t) (X0_9 m c t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) := by
  simp only [flushed25, outsAt0]

/-- The index map sends distinct grid points to distinct block indices (decided over the 64 points). -/
theorem idx_inj25 : ∀ t t' : Fin cfg0.N, win0_25.index t = win0_25.index t' → t = t' :=
  (by decide +kernel : ∀ t t' : Fin grid0.N, win0_25.index t = win0_25.index t' → t = t')

/-- So two flushing points' blocks share no array index (Lib/Pipeline/Cells.lean `Window.disjoint_blk`). -/
theorem disjoint25 : ∀ t t' : Fin cfg0.N, (cfg0.win 25).flush t = true → (cfg0.win 25).flush t' = true → t ≠ t' →
    Disjoint ((cfg0.win 25).blk t).view.set ((cfg0.win 25).blk t').view.set :=
  fun t t' _ _ hne => (cfg0.win 25).disjoint_blk fun h => hne (idx_inj25 t t' h)

/-- BLOCK `t` OF THE FINAL ARRAY, read back through the window, is what point `t` wrote back (`flushed25`), for every
    point that writes back: no other point's block meets it. -/
theorem blocks25 (c : Dev nD) (t : Fin cfg0.N) (hf : (cfg0.win 25).flush t = true) :
    ((cfg0.win 25).blk t).view.read (Elt F) ((dats m 0 c).arrAt 25 cfg0.N) = (dats m 0 c).flushed 25 t :=
  (dats m 0 c).read_blk_arrAt_eq_flushed 25 disjoint25 cfg0.N t t.isLt hf

/-- An index that no flushing point's block covers keeps output window 25's array contents at region entry. -/
theorem entry25 (c : Dev nD) (i : S32768x512.Idx) (h : ∀ t : Fin cfg0.N, (cfg0.win 25).flush t = true → i ∉ ((cfg0.win 25).blk t).view.set) :
    (dats m 0 c).arrAt 25 cfg0.N i = V m c (Pipeline.arrRef spec0 25) i := by
  rw [(dats m 0 c).arrAt_apply_of_forall_not_mem 25 cfg0.N i (fun t _ hf => h t hf), A_eq]

/-- WHAT POINT `t` WRITES BACK to output window 26's array: the run's contents for that window after the body (`Gen.outsAt0`: its component 2), read through the window's block. -/
theorem flushed26 (c : Dev nD) (t : Fin cfg0.N) :
    (dats m 0 c).flushed 26 t = (cfg0.win 26).cut (grid0.coords t) ((outsAt0 m c t).2.2.1) := by
  show (cfg0.win 26).cut (grid0.coords t) ((dats m 0 c).after 26 t) = _
  rw [after0_26]

/-- … so at a point where case A runs, what its write-back would write is that case's NAMED TERM for the window (`Gen.out0_A_26`: the pieces
    its run found, read back) at the point's memrefs and input blocks, and for an output the case reads back what the point before left (`Gen.outsAt0` at `t - 1`) — the kernel's one case, `Gen.outsAt0` by definition. -/
theorem flushed26_A (c : Dev nD) (t : Fin cfg0.N) :
    (dats m 0 c).flushed 26 t = (cfg0.win 26).cut (grid0.coords t) (out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) scM0_3 (Memref.isWhole_whole _) (X0_0 m c t) (X0_1 m c t) (X0_2 m c t) (X0_3 m c t) (X0_4 m c t) (X0_5 m c t) (X0_6 m c t) (X0_7 m c t) (X0_8 m c t) (X0_9 m c t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) := by
  simp only [flushed26, outsAt0]

/-- The index map sends distinct grid points to distinct block indices (decided over the 64 points). -/
theorem idx_inj26 : ∀ t t' : Fin cfg0.N, win0_26.index t = win0_26.index t' → t = t' :=
  (by decide +kernel : ∀ t t' : Fin grid0.N, win0_26.index t = win0_26.index t' → t = t')

/-- So two flushing points' blocks share no array index (Lib/Pipeline/Cells.lean `Window.disjoint_blk`). -/
theorem disjoint26 : ∀ t t' : Fin cfg0.N, (cfg0.win 26).flush t = true → (cfg0.win 26).flush t' = true → t ≠ t' →
    Disjoint ((cfg0.win 26).blk t).view.set ((cfg0.win 26).blk t').view.set :=
  fun t t' _ _ hne => (cfg0.win 26).disjoint_blk fun h => hne (idx_inj26 t t' h)

/-- BLOCK `t` OF THE FINAL ARRAY, read back through the window, is what point `t` wrote back (`flushed26`), for every
    point that writes back: no other point's block meets it. -/
theorem blocks26 (c : Dev nD) (t : Fin cfg0.N) (hf : (cfg0.win 26).flush t = true) :
    ((cfg0.win 26).blk t).view.read (Elt F) ((dats m 0 c).arrAt 26 cfg0.N) = (dats m 0 c).flushed 26 t :=
  (dats m 0 c).read_blk_arrAt_eq_flushed 26 disjoint26 cfg0.N t t.isLt hf

/-- An index that no flushing point's block covers keeps output window 26's array contents at region entry. -/
theorem entry26 (c : Dev nD) (i : S32768x512.Idx) (h : ∀ t : Fin cfg0.N, (cfg0.win 26).flush t = true → i ∉ ((cfg0.win 26).blk t).view.set) :
    (dats m 0 c).arrAt 26 cfg0.N i = V m c (Pipeline.arrRef spec0 26) i := by
  rw [(dats m 0 c).arrAt_apply_of_forall_not_mem 26 cfg0.N i (fun t _ hf => h t hf), A_eq]

/-- WHAT POINT `t` WRITES BACK to output window 27's array: the run's contents for that window after the body (`Gen.outsAt0`: its component 3), read through the window's block. -/
theorem flushed27 (c : Dev nD) (t : Fin cfg0.N) :
    (dats m 0 c).flushed 27 t = (cfg0.win 27).cut (grid0.coords t) ((outsAt0 m c t).2.2.2.1) := by
  show (cfg0.win 27).cut (grid0.coords t) ((dats m 0 c).after 27 t) = _
  rw [after0_27]

/-- … so at a point where case A runs, what its write-back would write is that case's NAMED TERM for the window (`Gen.out0_A_27`: the pieces
    its run found, read back) at the point's memrefs and input blocks, and for an output the case reads back what the point before left (`Gen.outsAt0` at `t - 1`) — the kernel's one case, `Gen.outsAt0` by definition. -/
theorem flushed27_A (c : Dev nD) (t : Fin cfg0.N) :
    (dats m 0 c).flushed 27 t = (cfg0.win 27).cut (grid0.coords t) (out0_A_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) scM0_3 (Memref.isWhole_whole _) (X0_0 m c t) (X0_1 m c t) (X0_2 m c t) (X0_3 m c t) (X0_4 m c t) (X0_5 m c t) (X0_6 m c t) (X0_7 m c t) (X0_8 m c t) (X0_9 m c t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) := by
  simp only [flushed27, outsAt0]

/-- The index map sends distinct grid points to distinct block indices (decided over the 64 points). -/
theorem idx_inj27 : ∀ t t' : Fin cfg0.N, win0_27.index t = win0_27.index t' → t = t' :=
  (by decide +kernel : ∀ t t' : Fin grid0.N, win0_27.index t = win0_27.index t' → t = t')

/-- So two flushing points' blocks share no array index (Lib/Pipeline/Cells.lean `Window.disjoint_blk`). -/
theorem disjoint27 : ∀ t t' : Fin cfg0.N, (cfg0.win 27).flush t = true → (cfg0.win 27).flush t' = true → t ≠ t' →
    Disjoint ((cfg0.win 27).blk t).view.set ((cfg0.win 27).blk t').view.set :=
  fun t t' _ _ hne => (cfg0.win 27).disjoint_blk fun h => hne (idx_inj27 t t' h)

/-- BLOCK `t` OF THE FINAL ARRAY, read back through the window, is what point `t` wrote back (`flushed27`), for every
    point that writes back: no other point's block meets it. -/
theorem blocks27 (c : Dev nD) (t : Fin cfg0.N) (hf : (cfg0.win 27).flush t = true) :
    ((cfg0.win 27).blk t).view.read (Elt F) ((dats m 0 c).arrAt 27 cfg0.N) = (dats m 0 c).flushed 27 t :=
  (dats m 0 c).read_blk_arrAt_eq_flushed 27 disjoint27 cfg0.N t t.isLt hf

/-- An index that no flushing point's block covers keeps output window 27's array contents at region entry. -/
theorem entry27 (c : Dev nD) (i : S32768x1536.Idx) (h : ∀ t : Fin cfg0.N, (cfg0.win 27).flush t = true → i ∉ ((cfg0.win 27).blk t).view.set) :
    (dats m 0 c).arrAt 27 cfg0.N i = V m c (Pipeline.arrRef spec0 27) i := by
  rw [(dats m 0 c).arrAt_apply_of_forall_not_mem 27 cfg0.N i (fun t _ hf => h t hf), A_eq]

/-- WHAT POINT `t` WRITES BACK to output window 28's array: the run's contents for that window after the body (`Gen.outsAt0`: its component 4), read through the window's block. -/
theorem flushed28 (c : Dev nD) (t : Fin cfg0.N) :
    (dats m 0 c).flushed 28 t = (cfg0.win 28).cut (grid0.coords t) ((outsAt0 m c t).2.2.2.2.1) := by
  show (cfg0.win 28).cut (grid0.coords t) ((dats m 0 c).after 28 t) = _
  rw [after0_28]

/-- … so at a point where case A runs, what its write-back would write is that case's NAMED TERM for the window (`Gen.out0_A_28`: the pieces
    its run found, read back) at the point's memrefs and input blocks, and for an output the case reads back what the point before left (`Gen.outsAt0` at `t - 1`) — the kernel's one case, `Gen.outsAt0` by definition. -/
theorem flushed28_A (c : Dev nD) (t : Fin cfg0.N) :
    (dats m 0 c).flushed 28 t = (cfg0.win 28).cut (grid0.coords t) (out0_A_28 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) scM0_3 (Memref.isWhole_whole _) (X0_0 m c t) (X0_1 m c t) (X0_2 m c t) (X0_3 m c t) (X0_4 m c t) (X0_5 m c t) (X0_6 m c t) (X0_7 m c t) (X0_8 m c t) (X0_9 m c t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) := by
  simp only [flushed28, outsAt0]

/-- The index map sends distinct grid points to distinct block indices (decided over the 64 points). -/
theorem idx_inj28 : ∀ t t' : Fin cfg0.N, win0_28.index t = win0_28.index t' → t = t' :=
  (by decide +kernel : ∀ t t' : Fin grid0.N, win0_28.index t = win0_28.index t' → t = t')

/-- So two flushing points' blocks share no array index (Lib/Pipeline/Cells.lean `Window.disjoint_blk`). -/
theorem disjoint28 : ∀ t t' : Fin cfg0.N, (cfg0.win 28).flush t = true → (cfg0.win 28).flush t' = true → t ≠ t' →
    Disjoint ((cfg0.win 28).blk t).view.set ((cfg0.win 28).blk t').view.set :=
  fun t t' _ _ hne => (cfg0.win 28).disjoint_blk fun h => hne (idx_inj28 t t' h)

/-- BLOCK `t` OF THE FINAL ARRAY, read back through the window, is what point `t` wrote back (`flushed28`), for every
    point that writes back: no other point's block meets it. -/
theorem blocks28 (c : Dev nD) (t : Fin cfg0.N) (hf : (cfg0.win 28).flush t = true) :
    ((cfg0.win 28).blk t).view.read (Elt F) ((dats m 0 c).arrAt 28 cfg0.N) = (dats m 0 c).flushed 28 t :=
  (dats m 0 c).read_blk_arrAt_eq_flushed 28 disjoint28 cfg0.N t t.isLt hf

/-- An index that no flushing point's block covers keeps output window 28's array contents at region entry. -/
theorem entry28 (c : Dev nD) (i : S32768x128.Idx) (h : ∀ t : Fin cfg0.N, (cfg0.win 28).flush t = true → i ∉ ((cfg0.win 28).blk t).view.set) :
    (dats m 0 c).arrAt 28 cfg0.N i = V m c (Pipeline.arrRef spec0 28) i := by
  rw [(dats m 0 c).arrAt_apply_of_forall_not_mem 28 cfg0.N i (fun t _ hf => h t hf), A_eq]

/-- WHAT POINT `t` WRITES BACK to output window 29's array: the run's contents for that window after the body (`Gen.outsAt0`: its component 5), read through the window's block. -/
theorem flushed29 (c : Dev nD) (t : Fin cfg0.N) :
    (dats m 0 c).flushed 29 t = (cfg0.win 29).cut (grid0.coords t) ((outsAt0 m c t).2.2.2.2.2) := by
  show (cfg0.win 29).cut (grid0.coords t) ((dats m 0 c).after 29 t) = _
  rw [after0_29]

/-- … so at a point where case A runs, what its write-back would write is that case's NAMED TERM for the window (`Gen.out0_A_29`: the pieces
    its run found, read back) at the point's memrefs and input blocks, and for an output the case reads back what the point before left (`Gen.outsAt0` at `t - 1`) — the kernel's one case, `Gen.outsAt0` by definition. -/
theorem flushed29_A (c : Dev nD) (t : Fin cfg0.N) :
    (dats m 0 c).flushed 29 t = (cfg0.win 29).cut (grid0.coords t) (out0_A_29 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) scM0_3 (Memref.isWhole_whole _) (X0_0 m c t) (X0_1 m c t) (X0_2 m c t) (X0_3 m c t) (X0_4 m c t) (X0_5 m c t) (X0_6 m c t) (X0_7 m c t) (X0_8 m c t) (X0_9 m c t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) := by
  simp only [flushed29, outsAt0]

/-- The index map sends distinct grid points to distinct block indices (decided over the 64 points). -/
theorem idx_inj29 : ∀ t t' : Fin cfg0.N, win0_29.index t = win0_29.index t' → t = t' :=
  (by decide +kernel : ∀ t t' : Fin grid0.N, win0_29.index t = win0_29.index t' → t = t')

/-- So two flushing points' blocks share no array index (Lib/Pipeline/Cells.lean `Window.disjoint_blk`). -/
theorem disjoint29 : ∀ t t' : Fin cfg0.N, (cfg0.win 29).flush t = true → (cfg0.win 29).flush t' = true → t ≠ t' →
    Disjoint ((cfg0.win 29).blk t).view.set ((cfg0.win 29).blk t').view.set :=
  fun t t' _ _ hne => (cfg0.win 29).disjoint_blk fun h => hne (idx_inj29 t t' h)

/-- BLOCK `t` OF THE FINAL ARRAY, read back through the window, is what point `t` wrote back (`flushed29`), for every
    point that writes back: no other point's block meets it. -/
theorem blocks29 (c : Dev nD) (t : Fin cfg0.N) (hf : (cfg0.win 29).flush t = true) :
    ((cfg0.win 29).blk t).view.read (Elt F) ((dats m 0 c).arrAt 29 cfg0.N) = (dats m 0 c).flushed 29 t :=
  (dats m 0 c).read_blk_arrAt_eq_flushed 29 disjoint29 cfg0.N t t.isLt hf

/-- An index that no flushing point's block covers keeps output window 29's array contents at region entry. -/
theorem entry29 (c : Dev nD) (i : S128x32768.Idx) (h : ∀ t : Fin cfg0.N, (cfg0.win 29).flush t = true → i ∉ ((cfg0.win 29).blk t).view.set) :
    (dats m 0 c).arrAt 29 cfg0.N i = V m c (Pipeline.arrRef spec0 29) i := by
  rw [(dats m 0 c).arrAt_apply_of_forall_not_mem 29 cfg0.N i (fun t _ hf => h t hf), A_eq]

/-- After the frame run, output window 24's array is `(dats m 0 c).arrAt 24 N`. -/
theorem post24 (r : PUnit × MemSt nD τ sig (Elt F)) (h : Pipeline.FramePost cfgs (dats m) 0 (V m) r) (c : Dev nD) :
    r.2.mem ((c : Thread nD τ).loc main_v0_0) = (dats m 0 c).arrAt 24 cfg0.N :=
  (h c).1 24

/-- After the frame run, output window 25's array is `(dats m 0 c).arrAt 25 N`. -/
theorem post25 (r : PUnit × MemSt nD τ sig (Elt F)) (h : Pipeline.FramePost cfgs (dats m) 0 (V m) r) (c : Dev nD) :
    r.2.mem ((c : Thread nD τ).loc main_v0_1) = (dats m 0 c).arrAt 25 cfg0.N :=
  (h c).1 25

/-- After the frame run, output window 26's array is `(dats m 0 c).arrAt 26 N`. -/
theorem post26 (r : PUnit × MemSt nD τ sig (Elt F)) (h : Pipeline.FramePost cfgs (dats m) 0 (V m) r) (c : Dev nD) :
    r.2.mem ((c : Thread nD τ).loc main_v0_2) = (dats m 0 c).arrAt 26 cfg0.N :=
  (h c).1 26

/-- After the frame run, output window 27's array is `(dats m 0 c).arrAt 27 N`. -/
theorem post27 (r : PUnit × MemSt nD τ sig (Elt F)) (h : Pipeline.FramePost cfgs (dats m) 0 (V m) r) (c : Dev nD) :
    r.2.mem ((c : Thread nD τ).loc main_v0_3) = (dats m 0 c).arrAt 27 cfg0.N :=
  (h c).1 27

/-- After the frame run, output window 28's array is `(dats m 0 c).arrAt 28 N`. -/
theorem post28 (r : PUnit × MemSt nD τ sig (Elt F)) (h : Pipeline.FramePost cfgs (dats m) 0 (V m) r) (c : Dev nD) :
    r.2.mem ((c : Thread nD τ).loc main_v0_4) = (dats m 0 c).arrAt 28 cfg0.N :=
  (h c).1 28

/-- After the frame run, output window 29's array is `(dats m 0 c).arrAt 29 N`. -/
theorem post29 (r : PUnit × MemSt nD τ sig (Elt F)) (h : Pipeline.FramePost cfgs (dats m) 0 (V m) r) (c : Dev nD) :
    r.2.mem ((c : Thread nD τ).loc main_v0_5) = (dats m 0 c).arrAt 29 cfg0.N :=
  (h c).1 29

/-- After the frame run, argument `main_arg0` is as launched: input window 10 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 10).trans (((dats m 0 c).arrAt_in 10 rfl _).trans ((A_eq m c 10).trans (V_main_arg0 m c)))

/-- After the frame run, argument `main_arg1` is as launched: input window 11 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 11).trans (((dats m 0 c).arrAt_in 11 rfl _).trans ((A_eq m c 11).trans (V_main_arg1 m c)))

/-- After the frame run, argument `main_arg2` is as launched: input window 12 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 12).trans (((dats m 0 c).arrAt_in 12 rfl _).trans ((A_eq m c 12).trans (V_main_arg2 m c)))

/-- After the frame run, argument `main_arg3` is as launched: input window 13 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 13).trans (((dats m 0 c).arrAt_in 13 rfl _).trans ((A_eq m c 13).trans (V_main_arg3 m c)))

/-- After the frame run, argument `main_arg4` is as launched: input window 14 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 14).trans (((dats m 0 c).arrAt_in 14 rfl _).trans ((A_eq m c 14).trans (V_main_arg4 m c)))

/-- After the frame run, argument `main_arg5` is as launched: input window 15 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 15).trans (((dats m 0 c).arrAt_in 15 rfl _).trans ((A_eq m c 15).trans (V_main_arg5 m c)))

/-- After the frame run, argument `main_arg6` is as launched: input window 16 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 16).trans (((dats m 0 c).arrAt_in 16 rfl _).trans ((A_eq m c 16).trans (V_main_arg6 m c)))

/-- After the frame run, argument `main_arg7` is as launched: input window 17 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 17).trans (((dats m 0 c).arrAt_in 17 rfl _).trans ((A_eq m c 17).trans (V_main_arg7 m c)))

/-- After the frame run, argument `main_arg8` is as launched: input window 18 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 18).trans (((dats m 0 c).arrAt_in 18 rfl _).trans ((A_eq m c 18).trans (V_main_arg8 m c)))

/-- After the frame run, argument `main_arg9` is as launched: input window 19 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 19).trans (((dats m 0 c).arrAt_in 19 rfl _).trans ((A_eq m c 19).trans (V_main_arg9 m c)))

/-- After the frame run, argument `main_arg10` is as launched: input window 20 stages it and never writes it back. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 20).trans (((dats m 0 c).arrAt_in 20 rfl _).trans ((A_eq m c 20).trans (V_main_arg10 m c)))

/-- After the frame run, argument `main_arg11` is as launched: input window 21 stages it and never writes it back. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 21).trans (((dats m 0 c).arrAt_in 21 rfl _).trans ((A_eq m c 21).trans (V_main_arg11 m c)))

/-- After the frame run, argument `main_arg12` is as launched: input window 22 stages it and never writes it back. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).1 22).trans (((dats m 0 c).arrAt_in 22 rfl _).trans ((A_eq m c 22).trans (V_main_arg12 m c)))

/-- After the frame run, argument `main_arg13` is as launched: input window 23 stages it and never writes it back. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).1 23).trans (((dats m 0 c).arrAt_in 23 rfl _).trans ((A_eq m c 23).trans (V_main_arg13 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 24 cfg0.N
      ∧ r.2.mem ((c : Thread nD τ).loc main_v0_1) = (dats m 0 c).arrAt 25 cfg0.N
      ∧ r.2.mem ((c : Thread nD τ).loc main_v0_2) = (dats m 0 c).arrAt 26 cfg0.N
      ∧ r.2.mem ((c : Thread nD τ).loc main_v0_3) = (dats m 0 c).arrAt 27 cfg0.N
      ∧ r.2.mem ((c : Thread nD τ).loc main_v0_4) = (dats m 0 c).arrAt 28 cfg0.N
      ∧ r.2.mem ((c : Thread nD τ).loc main_v0_5) = (dats m 0 c).arrAt 29 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨post24 m r h c,
      post25 m r h c,
      post26 m r h c,
      post27 m r h c,
      post28 m r h c,
      post29 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c⟩)
    (run_main m ρ)

end Cert.MixIdeal.Value

end
-- ==== Proof.MixValue.lean ====
/- The spatial gating unit of the mixers' call computes its reference. -/
module

public import proofs.«01_k».proof.Proof.MixOut
public import proofs.«01_k».proof.Proof.MixRef
public import proofs.«01_k».proof.Proof.MixIValue
public import proofs.«01_k».proof.Defs
public import Idealize.ShloMosaic.Lib.Quiescent

@[expose] public section

set_option maxRecDepth 16384

noncomputable section

namespace Cert.MixVal

open Idealize.ShloMosaic Idealize.ShloMosaic.Tactic Idealize.SL.Sem Cert.Cols Finset

/-- The call computes its mathematics over the extended reals. -/
theorem algebraic : Cert.algebraic_MixIdeal_MixRefIdeal (hMixIdeal := Cert.MixIdeal.Gen.facts) (hMixRefIdeal := Cert.MixRefIdeal.Gen.facts) := by
  intro m g m' g' _ hag
  refine ⟨fun c => arrM (aX m c) (aw m c) (ab m c) (aW m c) (aB m c), ?_, ?_⟩
  · refine (θ_run _ _ _).mono (fun r h c => ?_) (Cert.MixIdeal.Value.run_blocks m g)
    obtain ⟨_, _, h2, _, _, _, hr⟩ := h c
    exact ⟨h2.trans (arr26 m c), hr⟩
  · refine (θ_run _ _ _).mono (fun r h c => ?_) (Cert.MixRefIdeal.Value.run m' g')
    refine ⟨(h c).1.trans ((ref_eq _ _ _ _ _).trans ?_), (h c).2⟩
    obtain ⟨e0, e1, e2, e3, e4, e5, e6, e7, e8, e9, e10, e11, e12, e13⟩ := hag c
    exact congr (congr (congr (congr (congrArg arrM (congrArg (en (n := 32768) (k := 4736)) e0)) (congrArg (fun z => en (n := 1) (k := 512) z 0) e10)) (congrArg (fun z => en (n := 1) (k := 512) z 0) e11))
      (congrArg (en3 (l := 4) (n := 128) (k := 128)) e12)) (congrArg (en (n := 128) (k := 512)) e13)

/-- The reference leaves its arguments as they were. -/
theorem frame_ref : Cert.quiescent_MixRefIdeal (hMixRefIdeal := Cert.MixRefIdeal.Gen.facts) := fun m g _ =>
  (θ_run _ _ _).mono (fun r h => ⟨fun c => (h c).2, sem_eq_zero_of_no_sems (by decide) r.2⟩) (Cert.MixRefIdeal.Value.run m g)

end Cert.MixVal

end
-- ==== Proof.lean ====
/- The claims, put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpIdeal.Value
public import proofs.«01_k».proof.Proof.Gen.MlpRefIdeal
public import proofs.«01_k».proof.Proof.Gen.MlpRefIdeal.Run
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InIdeal.Value
public import proofs.«01_k».proof.Proof.Gen.InRefIdeal
public import proofs.«01_k».proof.Proof.Gen.InRefIdeal.Run
public import proofs.«01_k».proof.Proof.Gen.Mix
public import proofs.«01_k».proof.Proof.Gen.MixIdeal
public import proofs.«01_k».proof.Proof.Gen.MixRefIdeal
public import proofs.«01_k».proof.Proof.Gen.MixRefIdeal.Run
public import proofs.«01_k».proof.Proof.KValue
public import proofs.«01_k».proof.Proof.RefValue
public import proofs.«01_k».proof.Proof.RefRun
public import proofs.«01_k».proof.Proof.MlpRef
public import proofs.«01_k».proof.Proof.OutValue
public import proofs.«01_k».proof.Proof.MergeRef
public import proofs.«01_k».proof.Proof.InValue
public import proofs.«01_k».proof.Proof.MixKFrame
public import proofs.«01_k».proof.Proof.MixValue
public import Idealize.ShloMosaic.Lib.Quiescent
public import Idealize.ShloMosaic.Lib.ReduceAll
public import Idealize.ShloMosaic.Lib.IdealHost
public import Idealize.ShloMosaic.Adequacy
public import Idealize.ShloMosaic.Init

@[expose] public section

noncomputable section

namespace Cert.Proof

open Idealize.ShloMosaic Idealize.SL.Sem

/-- An extended real whose absolute value is below infinity is real. -/
theorem real_of_lt {x : EReal} (h : Ideal.cmp .olt (max x (-x)) (Ideal.ofBits .f32 0x7F800000#32) = 1#1) : x = ((x.toReal : ℝ) : EReal) := by
  have htop : Ideal.ofBits .f32 0x7F800000#32 = ⊤ := by simp [Ideal.ofBits, Ideal.ieee]
  rw [htop] at h
  have hlt : max x (-x) < ⊤ := by
    by_contra hn
    simp [Ideal.cmp, hn] at h
  refine (EReal.coe_toReal ?_ ?_).symm
  · rintro rfl
    simp at hlt
  · rintro rfl
    simp at hlt

/-- The precondition says that every element of both arguments is real. -/
theorem finite_real (x : FVec Ideal Cert.Pre_finite.S32768x1536 .f32) (a : FVec Ideal Cert.Pre_finite.S32768x128 .f32)
    (h : Cert.Pre_finite.fn (F := Ideal) x a = fun _ => 1#1) :
    (∀ y, (x y : EReal) = (((x y : EReal).toReal : ℝ) : EReal)) ∧ (∀ y, (a y : EReal) = (((a y : EReal).toReal : ℝ) : EReal)) := by
  have hs : Subsingleton Cert.Pre_finite.S_.Idx := ⟨fun p q => funext fun i => i.elim0⟩
  have h0 := congrFun h (Shape.Idx.first Cert.Pre_finite.Facts.h_S_)
  unfold Cert.Pre_finite.fn at h0
  have h1 := IntOp.andi_eq_one.1 h0
  exact ⟨fun y => real_of_lt (Host.reduce_andi_all _ _ _ _ _ h1.1 y), fun y => real_of_lt (Host.reduce_andi_all _ _ _ _ _ h1.2 y)⟩

/-- A matrix's entries as real numbers, zero outside it. -/
def entries {n k : ℕ} (x : Vec Ideal ⟨2, ![n, k]⟩ .f32) (r c : ℕ) : ℝ :=
  if h : r < n ∧ c < k then (x (ix2 ⟨r, h.1⟩ ⟨c, h.2⟩) : EReal).toReal else 0

theorem entries_eq {n k : ℕ} (x : Vec Ideal ⟨2, ![n, k]⟩ .f32) (hx : ∀ y, (x y : EReal) = (((x y : EReal).toReal : ℝ) : EReal))
    (y : (⟨2, ![n, k]⟩ : Shape).Idx) : (x y : EReal) = ((entries x (y 0).val (y 1).val : ℝ) : EReal) := by
  have e : ix2 (⟨(y 0).val, (y 0).isLt⟩ : Fin n) (⟨(y 1).val, (y 1).isLt⟩ : Fin k) = y := by
    funext i
    fin_cases i <;> rfl
  unfold entries
  rw [dif_pos ⟨(y 0).isLt, (y 1).isLt⟩, e]
  exact hx y

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hag
  letI := Cert.Pre_finite.Gen.facts
  let X (c : Dev Cert.KernelIdeal.nD) : ℕ → ℕ → ℝ := entries (n := 32768) (k := 1536) (m ((c.tc : Thread Cert.KernelIdeal.nD Cert.KernelIdeal.τ).loc Cert.KernelIdeal.main_arg0))
  let A (c : Dev Cert.KernelIdeal.nD) : ℕ → ℕ → ℝ := entries (n := 32768) (k := 128) (m ((c.tc : Thread Cert.KernelIdeal.nD Cert.KernelIdeal.τ).loc Cert.KernelIdeal.main_arg1))
  have hk (c : Dev Cert.KernelIdeal.nD) : Cert.GdnItem.Real2 m (X c) (A c) c := ⟨entries_eq _ (finite_real _ _ (hpre c)).1, entries_eq _ (finite_real _ _ (hpre c)).2⟩
  have hr (c : Dev Cert.ReferenceIdeal.nD) : Cert.GdnRef.Real2 (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) (X c) (A c) :=
    ⟨fun r k => (congrFun (hag c).1 _).trans ((hk c).x _), fun r k => (congrFun (hag c).2 _).trans ((hk c).a _)⟩
  let it (c : Dev Cert.ReferenceIdeal.nD) (n : ℕ) : Cert.ReferenceIdeal.Step.State Ideal :=
    Nat.rec (Cert.RefRun.initState m' c) (fun j s => Cert.ReferenceIdeal.Step.step j s) n
  have hi (c : Dev Cert.ReferenceIdeal.nD) : Cert.GdnRef.Inv (X c) (A c) 4096 (it c 4096) := Cert.GdnRef.inv_iter (hr c) (it c) rfl (fun _ => rfl) 4096 le_rfl
  refine ⟨fun c => Cert.GdnItem.arrG (X c) (A c) 0, fun c => Cert.GdnItem.arrG (X c) (A c) 1, ?_, ?_⟩
  · refine (θ_run _ _ _).mono (fun r h c => ?_) (Cert.KernelIdeal.Value.run_blocks m g)
    exact ⟨(h c).1.trans (Cert.GdnItem.arr6 (hk c)), (h c).2.1.trans (Cert.GdnItem.arr7 (hk c)), (h c).2.2.1, (h c).2.2.2⟩
  · refine (θ_run _ _ _).mono (fun r h c => ?_) (Cert.RefRun.run_iter m' g' it (fun _ => rfl) (fun _ _ => rfl))
    refine ⟨(h c).1.trans ?_, (h c).2.1.trans ?_, (h c).2.2.1, (h c).2.2.2⟩
    · funext y
      have e : ix2 (⟨(y 0).val, (y 0).isLt⟩ : Fin 32768) (⟨(y 1).val, (y 1).isLt⟩ : Fin 512) = y := by
        funext i
        fin_cases i <;> rfl
      exact (congrArg _ e.symm).trans (Cert.GdnRef.res37 (hi c) _ _)
    · funext y
      have e : ix2 (⟨(y 0).val, (y 0).isLt⟩ : Fin 32768) (⟨(y 1).val, (y 1).isLt⟩ : Fin 512) = y := by
        funext i
        fin_cases i <;> rfl
      exact (congrArg _ e.symm).trans (Cert.GdnRef.res41 (hi c) _ _)

theorem frame_ref (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r h => ⟨fun c => (h c).2.2, sem_eq_zero_of_no_sems (by decide) r.2⟩) (Cert.ReferenceIdeal.Value.run m g)

theorem claim : Cert.Claim := ⟨Cert.Kernel.Gen.facts, Cert.KernelIdeal.Gen.facts, Cert.ReferenceIdeal.Gen.facts, Cert.Mlp.Gen.facts, Cert.MlpIdeal.Gen.facts, Cert.MlpRefIdeal.Gen.facts, Cert.Out.Gen.facts, Cert.OutIdeal.Gen.facts, Cert.OutRefIdeal.Gen.facts, Cert.Merge.Gen.facts, Cert.MergeIdeal.Gen.facts, Cert.MergeRefIdeal.Gen.facts, Cert.In.Gen.facts, Cert.InIdeal.Gen.facts, Cert.InRefIdeal.Gen.facts, Cert.Mix.Gen.facts, Cert.MixIdeal.Gen.facts, Cert.MixRefIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => frame_ref m ρ, fun m ρ _ => frame_ref m ρ,
  fun m ρ _ => Cert.Mlp.Gen.frame m ρ, fun m ρ _ => Cert.MlpIdeal.Gen.frame m ρ, Cert.MlpVal.frame_ref,
  fun m ρ _ => Cert.Out.Gen.frame m ρ, fun m ρ _ => Cert.OutIdeal.Gen.frame m ρ, Cert.OutVal.frame_ref,
  fun m ρ _ => Cert.Merge.Gen.frame m ρ, fun m ρ _ => Cert.MergeIdeal.Gen.frame m ρ, Cert.MergeVal.frame_ref,
  fun m ρ _ => Cert.In.Gen.frame m ρ, fun m ρ _ => Cert.InIdeal.Gen.frame m ρ, Cert.InVal.frame_ref,
  fun m ρ _ => Cert.Mix.Gen.frame m ρ, fun m ρ _ => Cert.MixIdeal.Gen.frame m ρ, Cert.MixVal.frame_ref,
  trivial, algebraic, trivial, Cert.MlpVal.algebraic, trivial, Cert.OutVal.algebraic, trivial, Cert.MergeVal.algebraic, trivial, Cert.InVal.algebraic, trivial, Cert.MixVal.algebraic⟩

end Cert.Proof

end
